-- ==== Defs.lean ====
def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdRefIdeal (m : (ℓ : Loc Cert.FwdRefIdeal.nD Cert.FwdRefIdeal.τ Cert.FwdRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_PoolDw (m : (ℓ : Loc Cert.PoolDw.nD Cert.PoolDw.τ Cert.PoolDw.sig) → Buf (Elt Bits) ℓ) : Prop :=
  True

def Pre_PoolDwIdeal (m : (ℓ : Loc Cert.PoolDwIdeal.nD Cert.PoolDwIdeal.τ Cert.PoolDwIdeal.sig) → Buf (Elt Ideal) ℓ) : Prop :=
  True

def Pre_PoolDwRefIdeal (m : (ℓ : Loc Cert.PoolDwRefIdeal.nD Cert.PoolDwRefIdeal.τ Cert.PoolDwRefIdeal.sig) → Buf (Elt Ideal) ℓ) : Prop :=
  True

def Pre_QkvDw (m : (ℓ : Loc Cert.QkvDw.nD Cert.QkvDw.τ Cert.QkvDw.sig) → Buf (Elt Bits) ℓ) : Prop :=
  True

def Pre_QkvDwIdeal (m : (ℓ : Loc Cert.QkvDwIdeal.nD Cert.QkvDwIdeal.τ Cert.QkvDwIdeal.sig) → Buf (Elt Ideal) ℓ) : Prop :=
  True

def Pre_QkvDwRefIdeal (m : (ℓ : Loc Cert.QkvDwRefIdeal.nD Cert.QkvDwRefIdeal.τ Cert.QkvDwRefIdeal.sig) → Buf (Elt Ideal) ℓ) : Prop :=
  True

def Pre_RestDw (m : (ℓ : Loc Cert.RestDw.nD Cert.RestDw.τ Cert.RestDw.sig) → Buf (Elt Bits) ℓ) : Prop :=
  True

def Pre_RestDwIdeal (m : (ℓ : Loc Cert.RestDwIdeal.nD Cert.RestDwIdeal.τ Cert.RestDwIdeal.sig) → Buf (Elt Ideal) ℓ) : Prop :=
  True

def Pre_RestDwRefIdeal (m : (ℓ : Loc Cert.RestDwRefIdeal.nD Cert.RestDwRefIdeal.τ Cert.RestDwRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InAdam (m : (ℓ : Loc Cert.InAdam.nD Cert.InAdam.τ Cert.InAdam.sig) → Buf (Elt Bits) ℓ) : Prop :=
  True

def Pre_InAdamIdeal (m : (ℓ : Loc Cert.InAdamIdeal.nD Cert.InAdamIdeal.τ Cert.InAdamIdeal.sig) → Buf (Elt Ideal) ℓ) : Prop :=
  True

def Pre_InAdamRefIdeal (m : (ℓ : Loc Cert.InAdamRefIdeal.nD Cert.InAdamRefIdeal.τ Cert.InAdamRefIdeal.sig) → Buf (Elt Ideal) ℓ) : Prop :=
  True

def Pre_UpAdam (m : (ℓ : Loc Cert.UpAdam.nD Cert.UpAdam.τ Cert.UpAdam.sig) → Buf (Elt Bits) ℓ) : Prop :=
  True

def Pre_UpAdamIdeal (m : (ℓ : Loc Cert.UpAdamIdeal.nD Cert.UpAdamIdeal.τ Cert.UpAdamIdeal.sig) → Buf (Elt Ideal) ℓ) : Prop :=
  True

def Pre_UpAdamRefIdeal (m : (ℓ : Loc Cert.UpAdamRefIdeal.nD Cert.UpAdamRefIdeal.τ Cert.UpAdamRefIdeal.sig) → Buf (Elt Ideal) ℓ) : Prop :=
  True

def Pre_PoolAdam (m : (ℓ : Loc Cert.PoolAdam.nD Cert.PoolAdam.τ Cert.PoolAdam.sig) → Buf (Elt Bits) ℓ) : Prop :=
  True

def Pre_PoolAdamIdeal (m : (ℓ : Loc Cert.PoolAdamIdeal.nD Cert.PoolAdamIdeal.τ Cert.PoolAdamIdeal.sig) → Buf (Elt Ideal) ℓ) : Prop :=
  True

def Pre_PoolAdamRefIdeal (m : (ℓ : Loc Cert.PoolAdamRefIdeal.nD Cert.PoolAdamRefIdeal.τ Cert.PoolAdamRefIdeal.sig) → Buf (Elt Ideal) ℓ) : Prop :=
  True

def Pre_OutAdam (m : (ℓ : Loc Cert.OutAdam.nD Cert.OutAdam.τ Cert.OutAdam.sig) → Buf (Elt Bits) ℓ) : Prop :=
  True

def Pre_OutAdamIdeal (m : (ℓ : Loc Cert.OutAdamIdeal.nD Cert.OutAdamIdeal.τ Cert.OutAdamIdeal.sig) → Buf (Elt Ideal) ℓ) : Prop :=
  True

def Pre_OutAdamRefIdeal (m : (ℓ : Loc Cert.OutAdamRefIdeal.nD Cert.OutAdamRefIdeal.τ Cert.OutAdamRefIdeal.sig) → Buf (Elt Ideal) ℓ) : Prop :=
  True

def Pre_DownAdam (m : (ℓ : Loc Cert.DownAdam.nD Cert.DownAdam.τ Cert.DownAdam.sig) → Buf (Elt Bits) ℓ) : Prop :=
  True

def Pre_DownAdamIdeal (m : (ℓ : Loc Cert.DownAdamIdeal.nD Cert.DownAdamIdeal.τ Cert.DownAdamIdeal.sig) → Buf (Elt Ideal) ℓ) : Prop :=
  True

def Pre_DownAdamRefIdeal (m : (ℓ : Loc Cert.DownAdamRefIdeal.nD Cert.DownAdamRefIdeal.τ Cert.DownAdamRefIdeal.sig) → Buf (Elt Ideal) ℓ) : Prop :=
  True

def Pre_SsdConvAdam (m : (ℓ : Loc Cert.SsdConvAdam.nD Cert.SsdConvAdam.τ Cert.SsdConvAdam.sig) → Buf (Elt Bits) ℓ) : Prop :=
  True

def Pre_SsdConvAdamIdeal (m : (ℓ : Loc Cert.SsdConvAdamIdeal.nD Cert.SsdConvAdamIdeal.τ Cert.SsdConvAdamIdeal.sig) → Buf (Elt Ideal) ℓ) : Prop :=
  True

def Pre_SsdConvAdamRefIdeal (m : (ℓ : Loc Cert.SsdConvAdamRefIdeal.nD Cert.SsdConvAdamRefIdeal.τ Cert.SsdConvAdamRefIdeal.sig) → Buf (Elt Ideal) ℓ) : Prop :=
  True

def Pre_FfnConvAdam (m : (ℓ : Loc Cert.FfnConvAdam.nD Cert.FfnConvAdam.τ Cert.FfnConvAdam.sig) → Buf (Elt Bits) ℓ) : Prop :=
  True

def Pre_FfnConvAdamIdeal (m : (ℓ : Loc Cert.FfnConvAdamIdeal.nD Cert.FfnConvAdamIdeal.τ Cert.FfnConvAdamIdeal.sig) → Buf (Elt Ideal) ℓ) : Prop :=
  True

def Pre_FfnConvAdamRefIdeal (m : (ℓ : Loc Cert.FfnConvAdamRefIdeal.nD Cert.FfnConvAdamRefIdeal.τ Cert.FfnConvAdamRefIdeal.sig) → Buf (Elt Ideal) ℓ) : Prop :=
  True

def Pre_RepAdam (m : (ℓ : Loc Cert.RepAdam.nD Cert.RepAdam.τ Cert.RepAdam.sig) → Buf (Elt Bits) ℓ) : Prop :=
  True

def Pre_RepAdamIdeal (m : (ℓ : Loc Cert.RepAdamIdeal.nD Cert.RepAdamIdeal.τ Cert.RepAdamIdeal.sig) → Buf (Elt Ideal) ℓ) : Prop :=
  True

def Pre_RepAdamRefIdeal (m : (ℓ : Loc Cert.RepAdamRefIdeal.nD Cert.RepAdamRefIdeal.τ Cert.RepAdamRefIdeal.sig) → Buf (Elt Ideal) ℓ) : Prop :=
  True

def Pre_RepSum (m : (ℓ : Loc Cert.RepSum.nD Cert.RepSum.τ Cert.RepSum.sig) → Buf (Elt Bits) ℓ) : Prop :=
  True

def Pre_RepSumIdeal (m : (ℓ : Loc Cert.RepSumIdeal.nD Cert.RepSumIdeal.τ Cert.RepSumIdeal.sig) → Buf (Elt Ideal) ℓ) : Prop :=
  True

def Pre_RepSumRefIdeal (m : (ℓ : Loc Cert.RepSumRefIdeal.nD Cert.RepSumRefIdeal.τ Cert.RepSumRefIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdIdeal_rms_finite [hPre_rms_finite : Cert.Pre_rms_finite.Facts] (m : (ℓ : Loc Cert.RmsBwdIdeal.nD Cert.RmsBwdIdeal.τ Cert.RmsBwdIdeal.sig) → Buf (Elt Ideal) ℓ) : Prop :=
  ∀ c : Dev Cert.RmsBwdIdeal.nD,
    (Cert.Pre_rms_finite.fn (F := Ideal) (m ((c.tc : Thread Cert.RmsBwdIdeal.nD Cert.RmsBwdIdeal.τ).loc Cert.RmsBwdIdeal.main_arg0)) (m ((c.tc : Thread Cert.RmsBwdIdeal.nD Cert.RmsBwdIdeal.τ).loc Cert.RmsBwdIdeal.main_arg1)) (m ((c.tc : Thread Cert.RmsBwdIdeal.nD Cert.RmsBwdIdeal.τ).loc Cert.RmsBwdIdeal.main_arg2)) (m ((c.tc : Thread Cert.RmsBwdIdeal.nD Cert.RmsBwdIdeal.τ).loc Cert.RmsBwdIdeal.main_arg3))) = (fun _ => 1#1)

def Pre_RmsBwdRefIdeal (m : (ℓ : Loc Cert.RmsBwdRefIdeal.nD Cert.RmsBwdRefIdeal.τ Cert.RmsBwdRefIdeal.sig) → Buf (Elt Ideal) ℓ) : Prop :=
  True

def Pre_RmsBwdRefIdeal_rms_finite [hPre_rms_finite : Cert.Pre_rms_finite.Facts] (m : (ℓ : Loc Cert.RmsBwdRefIdeal.nD Cert.RmsBwdRefIdeal.τ Cert.RmsBwdRefIdeal.sig) → Buf (Elt Ideal) ℓ) : Prop :=
  ∀ c : Dev Cert.RmsBwdRefIdeal.nD,
    (Cert.Pre_rms_finite.fn (F := Ideal) (m ((c.tc : Thread Cert.RmsBwdRefIdeal.nD Cert.RmsBwdRefIdeal.τ).loc Cert.RmsBwdRefIdeal.main_arg0)) (m ((c.tc : Thread Cert.RmsBwdRefIdeal.nD Cert.RmsBwdRefIdeal.τ).loc Cert.RmsBwdRefIdeal.main_arg1)) (m ((c.tc : Thread Cert.RmsBwdRefIdeal.nD Cert.RmsBwdRefIdeal.τ).loc Cert.RmsBwdRefIdeal.main_arg2)) (m ((c.tc : Thread Cert.RmsBwdRefIdeal.nD Cert.RmsBwdRefIdeal.τ).loc Cert.RmsBwdRefIdeal.main_arg3))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4)
      ∧ r.2.mem ((c.tc : Thread Cert.Dx.nD Cert.Dx.τ).loc Cert.Dx.main_arg5) = m ((c.tc : Thread Cert.Dx.nD Cert.Dx.τ).loc Cert.Dx.main_arg5)
      ∧ r.2.mem ((c.tc : Thread Cert.Dx.nD Cert.Dx.τ).loc Cert.Dx.main_arg6) = m ((c.tc : Thread Cert.Dx.nD Cert.Dx.τ).loc Cert.Dx.main_arg6)
      ∧ r.2.mem ((c.tc : Thread Cert.Dx.nD Cert.Dx.τ).loc Cert.Dx.main_arg7) = m ((c.tc : Thread Cert.Dx.nD Cert.Dx.τ).loc Cert.Dx.main_arg7)
      ∧ r.2.mem ((c.tc : Thread Cert.Dx.nD Cert.Dx.τ).loc Cert.Dx.main_arg8) = m ((c.tc : Thread Cert.Dx.nD Cert.Dx.τ).loc Cert.Dx.main_arg8)
      ∧ r.2.mem ((c.tc : Thread Cert.Dx.nD Cert.Dx.τ).loc Cert.Dx.main_arg9) = m ((c.tc : Thread Cert.Dx.nD Cert.Dx.τ).loc Cert.Dx.main_arg9)
      ∧ r.2.mem ((c.tc : Thread Cert.Dx.nD Cert.Dx.τ).loc Cert.Dx.main_arg10) = m ((c.tc : Thread Cert.Dx.nD Cert.Dx.τ).loc Cert.Dx.main_arg10)
      ∧ r.2.mem ((c.tc : Thread Cert.Dx.nD Cert.Dx.τ).loc Cert.Dx.main_arg11) = m ((c.tc : Thread Cert.Dx.nD Cert.Dx.τ).loc Cert.Dx.main_arg11)
      ∧ r.2.mem ((c.tc : Thread Cert.Dx.nD Cert.Dx.τ).loc Cert.Dx.main_arg12) = m ((c.tc : Thread Cert.Dx.nD Cert.Dx.τ).loc Cert.Dx.main_arg12)
      ∧ r.2.mem ((c.tc : Thread Cert.Dx.nD Cert.Dx.τ).loc Cert.Dx.main_arg13) = m ((c.tc : Thread Cert.Dx.nD Cert.Dx.τ).loc Cert.Dx.main_arg13)
      ∧ r.2.mem ((c.tc : Thread Cert.Dx.nD Cert.Dx.τ).loc Cert.Dx.main_arg14) = m ((c.tc : Thread Cert.Dx.nD Cert.Dx.τ).loc Cert.Dx.main_arg14)
      ∧ r.2.mem ((c.tc : Thread Cert.Dx.nD Cert.Dx.τ).loc Cert.Dx.main_arg15) = m ((c.tc : Thread Cert.Dx.nD Cert.Dx.τ).loc Cert.Dx.main_arg15))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
      ∧ r.2.mem ((c.tc : Thread Cert.DxIdeal.nD Cert.DxIdeal.τ).loc Cert.DxIdeal.main_arg6) = m ((c.tc : Thread Cert.DxIdeal.nD Cert.DxIdeal.τ).loc Cert.DxIdeal.main_arg6)
      ∧ r.2.mem ((c.tc : Thread Cert.DxIdeal.nD Cert.DxIdeal.τ).loc Cert.DxIdeal.main_arg7) = m ((c.tc : Thread Cert.DxIdeal.nD Cert.DxIdeal.τ).loc Cert.DxIdeal.main_arg7)
      ∧ r.2.mem ((c.tc : Thread Cert.DxIdeal.nD Cert.DxIdeal.τ).loc Cert.DxIdeal.main_arg8) = m ((c.tc : Thread Cert.DxIdeal.nD Cert.DxIdeal.τ).loc Cert.DxIdeal.main_arg8)
      ∧ r.2.mem ((c.tc : Thread Cert.DxIdeal.nD Cert.DxIdeal.τ).loc Cert.DxIdeal.main_arg9) = m ((c.tc : Thread Cert.DxIdeal.nD Cert.DxIdeal.τ).loc Cert.DxIdeal.main_arg9)
      ∧ r.2.mem ((c.tc : Thread Cert.DxIdeal.nD Cert.DxIdeal.τ).loc Cert.DxIdeal.main_arg10) = m ((c.tc : Thread Cert.DxIdeal.nD Cert.DxIdeal.τ).loc Cert.DxIdeal.main_arg10)
      ∧ r.2.mem ((c.tc : Thread Cert.DxIdeal.nD Cert.DxIdeal.τ).loc Cert.DxIdeal.main_arg11) = m ((c.tc : Thread Cert.DxIdeal.nD Cert.DxIdeal.τ).loc Cert.DxIdeal.main_arg11)
      ∧ r.2.mem ((c.tc : Thread Cert.DxIdeal.nD Cert.DxIdeal.τ).loc Cert.DxIdeal.main_arg12) = m ((c.tc : Thread Cert.DxIdeal.nD Cert.DxIdeal.τ).loc Cert.DxIdeal.main_arg12)
      ∧ r.2.mem ((c.tc : Thread Cert.DxIdeal.nD Cert.DxIdeal.τ).loc Cert.DxIdeal.main_arg13) = m ((c.tc : Thread Cert.DxIdeal.nD Cert.DxIdeal.τ).loc Cert.DxIdeal.main_arg13)
      ∧ r.2.mem ((c.tc : Thread Cert.DxIdeal.nD Cert.DxIdeal.τ).loc Cert.DxIdeal.main_arg14) = m ((c.tc : Thread Cert.DxIdeal.nD Cert.DxIdeal.τ).loc Cert.DxIdeal.main_arg14)
      ∧ r.2.mem ((c.tc : Thread Cert.DxIdeal.nD Cert.DxIdeal.τ).loc Cert.DxIdeal.main_arg15) = m ((c.tc : Thread Cert.DxIdeal.nD Cert.DxIdeal.τ).loc Cert.DxIdeal.main_arg15))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4)
      ∧ r.2.mem ((c.tc : Thread Cert.DxRefIdeal.nD Cert.DxRefIdeal.τ).loc Cert.DxRefIdeal.main_arg5) = m ((c.tc : Thread Cert.DxRefIdeal.nD Cert.DxRefIdeal.τ).loc Cert.DxRefIdeal.main_arg5)
      ∧ r.2.mem ((c.tc : Thread Cert.DxRefIdeal.nD Cert.DxRefIdeal.τ).loc Cert.DxRefIdeal.main_arg6) = m ((c.tc : Thread Cert.DxRefIdeal.nD Cert.DxRefIdeal.τ).loc Cert.DxRefIdeal.main_arg6)
      ∧ r.2.mem ((c.tc : Thread Cert.DxRefIdeal.nD Cert.DxRefIdeal.τ).loc Cert.DxRefIdeal.main_arg7) = m ((c.tc : Thread Cert.DxRefIdeal.nD Cert.DxRefIdeal.τ).loc Cert.DxRefIdeal.main_arg7)
      ∧ r.2.mem ((c.tc : Thread Cert.DxRefIdeal.nD Cert.DxRefIdeal.τ).loc Cert.DxRefIdeal.main_arg8) = m ((c.tc : Thread Cert.DxRefIdeal.nD Cert.DxRefIdeal.τ).loc Cert.DxRefIdeal.main_arg8)
      ∧ r.2.mem ((c.tc : Thread Cert.DxRefIdeal.nD Cert.DxRefIdeal.τ).loc Cert.DxRefIdeal.main_arg9) = m ((c.tc : Thread Cert.DxRefIdeal.nD Cert.DxRefIdeal.τ).loc Cert.DxRefIdeal.main_arg9)
      ∧ r.2.mem ((c.tc : Thread Cert.DxRefIdeal.nD Cert.DxRefIdeal.τ).loc Cert.DxRefIdeal.main_arg10) = m ((c.tc : Thread Cert.DxRefIdeal.nD Cert.DxRefIdeal.τ).loc Cert.DxRefIdeal.main_arg10)
      ∧ r.2.mem ((c.tc : Thread Cert.DxRefIdeal.nD Cert.DxRefIdeal.τ).loc Cert.DxRefIdeal.main_arg11) = m ((c.tc : Thread Cert.DxRefIdeal.nD Cert.DxRefIdeal.τ).loc Cert.DxRefIdeal.main_arg11)
      ∧ r.2.mem ((c.tc : Thread Cert.DxRefIdeal.nD Cert.DxRefIdeal.τ).loc Cert.DxRefIdeal.main_arg12) = m ((c.tc : Thread Cert.DxRefIdeal.nD Cert.DxRefIdeal.τ).loc Cert.DxRefIdeal.main_arg12)
      ∧ r.2.mem ((c.tc : Thread Cert.DxRefIdeal.nD Cert.DxRefIdeal.τ).loc Cert.DxRefIdeal.main_arg13) = m ((c.tc : Thread Cert.DxRefIdeal.nD Cert.DxRefIdeal.τ).loc Cert.DxRefIdeal.main_arg13)
      ∧ r.2.mem ((c.tc : Thread Cert.DxRefIdeal.nD Cert.DxRefIdeal.τ).loc Cert.DxRefIdeal.main_arg14) = m ((c.tc : Thread Cert.DxRefIdeal.nD Cert.DxRefIdeal.τ).loc Cert.DxRefIdeal.main_arg14)
      ∧ r.2.mem ((c.tc : Thread Cert.DxRefIdeal.nD Cert.DxRefIdeal.τ).loc Cert.DxRefIdeal.main_arg15) = m ((c.tc : Thread Cert.DxRefIdeal.nD Cert.DxRefIdeal.τ).loc Cert.DxRefIdeal.main_arg15))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4)
      ∧ r.2.mem ((c.tc : Thread Cert.Fwd.nD Cert.Fwd.τ).loc Cert.Fwd.main_arg5) = m ((c.tc : Thread Cert.Fwd.nD Cert.Fwd.τ).loc Cert.Fwd.main_arg5)
      ∧ r.2.mem ((c.tc : Thread Cert.Fwd.nD Cert.Fwd.τ).loc Cert.Fwd.main_arg6) = m ((c.tc : Thread Cert.Fwd.nD Cert.Fwd.τ).loc Cert.Fwd.main_arg6)
      ∧ r.2.mem ((c.tc : Thread Cert.Fwd.nD Cert.Fwd.τ).loc Cert.Fwd.main_arg7) = m ((c.tc : Thread Cert.Fwd.nD Cert.Fwd.τ).loc Cert.Fwd.main_arg7)
      ∧ r.2.mem ((c.tc : Thread Cert.Fwd.nD Cert.Fwd.τ).loc Cert.Fwd.main_arg8) = m ((c.tc : Thread Cert.Fwd.nD Cert.Fwd.τ).loc Cert.Fwd.main_arg8)
      ∧ r.2.mem ((c.tc : Thread Cert.Fwd.nD Cert.Fwd.τ).loc Cert.Fwd.main_arg9) = m ((c.tc : Thread Cert.Fwd.nD Cert.Fwd.τ).loc Cert.Fwd.main_arg9)
      ∧ r.2.mem ((c.tc : Thread Cert.Fwd.nD Cert.Fwd.τ).loc Cert.Fwd.main_arg10) = m ((c.tc : Thread Cert.Fwd.nD Cert.Fwd.τ).loc Cert.Fwd.main_arg10)
      ∧ r.2.mem ((c.tc : Thread Cert.Fwd.nD Cert.Fwd.τ).loc Cert.Fwd.main_arg11) = m ((c.tc : Thread Cert.Fwd.nD Cert.Fwd.τ).loc Cert.Fwd.main_arg11)
      ∧ r.2.mem ((c.tc : Thread Cert.Fwd.nD Cert.Fwd.τ).loc Cert.Fwd.main_arg12) = m ((c.tc : Thread Cert.Fwd.nD Cert.Fwd.τ).loc Cert.Fwd.main_arg12)
      ∧ r.2.mem ((c.tc : Thread Cert.Fwd.nD Cert.Fwd.τ).loc Cert.Fwd.main_arg13) = m ((c.tc : Thread Cert.Fwd.nD Cert.Fwd.τ).loc Cert.Fwd.main_arg13)
      ∧ r.2.mem ((c.tc : Thread Cert.Fwd.nD Cert.Fwd.τ).loc Cert.Fwd.main_arg14) = m ((c.tc : Thread Cert.Fwd.nD Cert.Fwd.τ).loc Cert.Fwd.main_arg14)
      ∧ r.2.mem ((c.tc : Thread Cert.Fwd.nD Cert.Fwd.τ).loc Cert.Fwd.main_arg15) = m ((c.tc : Thread Cert.Fwd.nD Cert.Fwd.τ).loc Cert.Fwd.main_arg15))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
      ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
      ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
      ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7)
      ∧ r.2.mem ((c.tc : Thread Cert.FwdIdeal.nD Cert.FwdIdeal.τ).loc Cert.FwdIdeal.main_arg8) = m ((c.tc : Thread Cert.FwdIdeal.nD Cert.FwdIdeal.τ).loc Cert.FwdIdeal.main_arg8)
      ∧ r.2.mem ((c.tc : Thread Cert.FwdIdeal.nD Cert.FwdIdeal.τ).loc Cert.FwdIdeal.main_arg9) = m ((c.tc : Thread Cert.FwdIdeal.nD Cert.FwdIdeal.τ).loc Cert.FwdIdeal.main_arg9)
      ∧ r.2.mem ((c.tc : Thread Cert.FwdIdeal.nD Cert.FwdIdeal.τ).loc Cert.FwdIdeal.main_arg10) = m ((c.tc : Thread Cert.FwdIdeal.nD Cert.FwdIdeal.τ).loc Cert.FwdIdeal.main_arg10)
      ∧ r.2.mem ((c.tc : Thread Cert.FwdIdeal.nD Cert.FwdIdeal.τ).loc Cert.FwdIdeal.main_arg11) = m ((c.tc : Thread Cert.FwdIdeal.nD Cert.FwdIdeal.τ).loc Cert.FwdIdeal.main_arg11)
      ∧ r.2.mem ((c.tc : Thread Cert.FwdIdeal.nD Cert.FwdIdeal.τ).loc Cert.FwdIdeal.main_arg12) = m ((c.tc : Thread Cert.FwdIdeal.nD Cert.FwdIdeal.τ).loc Cert.FwdIdeal.main_arg12)
      ∧ r.2.mem ((c.tc : Thread Cert.FwdIdeal.nD Cert.FwdIdeal.τ).loc Cert.FwdIdeal.main_arg13) = m ((c.tc : Thread Cert.FwdIdeal.nD Cert.FwdIdeal.τ).loc Cert.FwdIdeal.main_arg13)
      ∧ r.2.mem ((c.tc : Thread Cert.FwdIdeal.nD Cert.FwdIdeal.τ).loc Cert.FwdIdeal.main_arg14) = m ((c.tc : Thread Cert.FwdIdeal.nD Cert.FwdIdeal.τ).loc Cert.FwdIdeal.main_arg14)
      ∧ r.2.mem ((c.tc : Thread Cert.FwdIdeal.nD Cert.FwdIdeal.τ).loc Cert.FwdIdeal.main_arg15) = m ((c.tc : Thread Cert.FwdIdeal.nD Cert.FwdIdeal.τ).loc Cert.FwdIdeal.main_arg15))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4)
      ∧ r.2.mem ((c.tc : Thread Cert.FwdRefIdeal.nD Cert.FwdRefIdeal.τ).loc Cert.FwdRefIdeal.main_arg5) = m ((c.tc : Thread Cert.FwdRefIdeal.nD Cert.FwdRefIdeal.τ).loc Cert.FwdRefIdeal.main_arg5)
      ∧ r.2.mem ((c.tc : Thread Cert.FwdRefIdeal.nD Cert.FwdRefIdeal.τ).loc Cert.FwdRefIdeal.main_arg6) = m ((c.tc : Thread Cert.FwdRefIdeal.nD Cert.FwdRefIdeal.τ).loc Cert.FwdRefIdeal.main_arg6)
      ∧ r.2.mem ((c.tc : Thread Cert.FwdRefIdeal.nD Cert.FwdRefIdeal.τ).loc Cert.FwdRefIdeal.main_arg7) = m ((c.tc : Thread Cert.FwdRefIdeal.nD Cert.FwdRefIdeal.τ).loc Cert.FwdRefIdeal.main_arg7)
      ∧ r.2.mem ((c.tc : Thread Cert.FwdRefIdeal.nD Cert.FwdRefIdeal.τ).loc Cert.FwdRefIdeal.main_arg8) = m ((c.tc : Thread Cert.FwdRefIdeal.nD Cert.FwdRefIdeal.τ).loc Cert.FwdRefIdeal.main_arg8)
      ∧ r.2.mem ((c.tc : Thread Cert.FwdRefIdeal.nD Cert.FwdRefIdeal.τ).loc Cert.FwdRefIdeal.main_arg9) = m ((c.tc : Thread Cert.FwdRefIdeal.nD Cert.FwdRefIdeal.τ).loc Cert.FwdRefIdeal.main_arg9)
      ∧ r.2.mem ((c.tc : Thread Cert.FwdRefIdeal.nD Cert.FwdRefIdeal.τ).loc Cert.FwdRefIdeal.main_arg10) = m ((c.tc : Thread Cert.FwdRefIdeal.nD Cert.FwdRefIdeal.τ).loc Cert.FwdRefIdeal.main_arg10)
      ∧ r.2.mem ((c.tc : Thread Cert.FwdRefIdeal.nD Cert.FwdRefIdeal.τ).loc Cert.FwdRefIdeal.main_arg11) = m ((c.tc : Thread Cert.FwdRefIdeal.nD Cert.FwdRefIdeal.τ).loc Cert.FwdRefIdeal.main_arg11)
      ∧ r.2.mem ((c.tc : Thread Cert.FwdRefIdeal.nD Cert.FwdRefIdeal.τ).loc Cert.FwdRefIdeal.main_arg12) = m ((c.tc : Thread Cert.FwdRefIdeal.nD Cert.FwdRefIdeal.τ).loc Cert.FwdRefIdeal.main_arg12)
      ∧ r.2.mem ((c.tc : Thread Cert.FwdRefIdeal.nD Cert.FwdRefIdeal.τ).loc Cert.FwdRefIdeal.main_arg13) = m ((c.tc : Thread Cert.FwdRefIdeal.nD Cert.FwdRefIdeal.τ).loc Cert.FwdRefIdeal.main_arg13)
      ∧ r.2.mem ((c.tc : Thread Cert.FwdRefIdeal.nD Cert.FwdRefIdeal.τ).loc Cert.FwdRefIdeal.main_arg14) = m ((c.tc : Thread Cert.FwdRefIdeal.nD Cert.FwdRefIdeal.τ).loc Cert.FwdRefIdeal.main_arg14)
      ∧ r.2.mem ((c.tc : Thread Cert.FwdRefIdeal.nD Cert.FwdRefIdeal.τ).loc Cert.FwdRefIdeal.main_arg15) = m ((c.tc : Thread Cert.FwdRefIdeal.nD Cert.FwdRefIdeal.τ).loc Cert.FwdRefIdeal.main_arg15))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_PoolDw [hPoolDw : Cert.PoolDw.Facts] : Prop :=
  ∀ (m : (ℓ : Loc Cert.PoolDw.nD Cert.PoolDw.τ Cert.PoolDw.sig) → Buf (Elt Bits) ℓ) (g : Dev Cert.PoolDw.nD → PrngReg), Pre_PoolDw m →
    θ_run (Cert.PoolDw.defs (F := Bits)) (onTc (τ := Cert.PoolDw.τ) (Cert.PoolDw.main (F := Bits))) ⟨m, fun _ => 0, g⟩ (fun r => (∀ c : Dev Cert.PoolDw.nD,
      r.2.mem ((c.tc : Thread Cert.PoolDw.nD Cert.PoolDw.τ).loc Cert.PoolDw.main_arg0) = m ((c.tc : Thread Cert.PoolDw.nD Cert.PoolDw.τ).loc Cert.PoolDw.main_arg0)
      ∧ r.2.mem ((c.tc : Thread Cert.PoolDw.nD Cert.PoolDw.τ).loc Cert.PoolDw.main_arg1) = m ((c.tc : Thread Cert.PoolDw.nD Cert.PoolDw.τ).loc Cert.PoolDw.main_arg1))
      ∧ r.2.sem = fun _ => 0)

def quiescent_PoolDwIdeal [hPoolDwIdeal : Cert.PoolDwIdeal.Facts] : Prop :=
  ∀ (m : (ℓ : Loc Cert.PoolDwIdeal.nD Cert.PoolDwIdeal.τ Cert.PoolDwIdeal.sig) → Buf (Elt Ideal) ℓ) (g : Dev Cert.PoolDwIdeal.nD → PrngReg), Pre_PoolDwIdeal m →
    θ_run (Cert.PoolDwIdeal.defs (F := Ideal)) (onTc (τ := Cert.PoolDwIdeal.τ) (Cert.PoolDwIdeal.main (F := Ideal))) ⟨m, fun _ => 0, g⟩ (fun r => (∀ c : Dev Cert.PoolDwIdeal.nD,
      r.2.mem ((c.tc : Thread Cert.PoolDwIdeal.nD Cert.PoolDwIdeal.τ).loc Cert.PoolDwIdeal.main_arg0) = m ((c.tc : Thread Cert.PoolDwIdeal.nD Cert.PoolDwIdeal.τ).loc Cert.PoolDwIdeal.main_arg0)
      ∧ r.2.mem ((c.tc : Thread Cert.PoolDwIdeal.nD Cert.PoolDwIdeal.τ).loc Cert.PoolDwIdeal.main_arg1) = m ((c.tc : Thread Cert.PoolDwIdeal.nD Cert.PoolDwIdeal.τ).loc Cert.PoolDwIdeal.main_arg1))
      ∧ r.2.sem = fun _ => 0)

def quiescent_PoolDwRefIdeal [hPoolDwRefIdeal : Cert.PoolDwRefIdeal.Facts] : Prop :=
  ∀ (m : (ℓ : Loc Cert.PoolDwRefIdeal.nD Cert.PoolDwRefIdeal.τ Cert.PoolDwRefIdeal.sig) → Buf (Elt Ideal) ℓ) (g : Dev Cert.PoolDwRefIdeal.nD → PrngReg), Pre_PoolDwRefIdeal m →
    θ_run (Cert.PoolDwRefIdeal.defs (F := Ideal)) (onTc (τ := Cert.PoolDwRefIdeal.τ) (Cert.PoolDwRefIdeal.main (F := Ideal))) ⟨m, fun _ => 0, g⟩ (fun r => (∀ c : Dev Cert.PoolDwRefIdeal.nD,
      r.2.mem ((c.tc : Thread Cert.PoolDwRefIdeal.nD Cert.PoolDwRefIdeal.τ).loc Cert.PoolDwRefIdeal.main_arg0) = m ((c.tc : Thread Cert.PoolDwRefIdeal.nD Cert.PoolDwRefIdeal.τ).loc Cert.PoolDwRefIdeal.main_arg0)
      ∧ r.2.mem ((c.tc : Thread Cert.PoolDwRefIdeal.nD Cert.PoolDwRefIdeal.τ).loc Cert.PoolDwRefIdeal.main_arg1) = m ((c.tc : Thread Cert.PoolDwRefIdeal.nD Cert.PoolDwRefIdeal.τ).loc Cert.PoolDwRefIdeal.main_arg1))
      ∧ r.2.sem = fun _ => 0)

def quiescent_QkvDw [hQkvDw : Cert.QkvDw.Facts] : Prop :=
  ∀ (m : (ℓ : Loc Cert.QkvDw.nD Cert.QkvDw.τ Cert.QkvDw.sig) → Buf (Elt Bits) ℓ) (g : Dev Cert.QkvDw.nD → PrngReg), Pre_QkvDw m →
    θ_run (Cert.QkvDw.defs (F := Bits)) (onTc (τ := Cert.QkvDw.τ) (Cert.QkvDw.main (F := Bits))) ⟨m, fun _ => 0, g⟩ (fun r => (∀ c : Dev Cert.QkvDw.nD,
      r.2.mem ((c.tc : Thread Cert.QkvDw.nD Cert.QkvDw.τ).loc Cert.QkvDw.main_arg0) = m ((c.tc : Thread Cert.QkvDw.nD Cert.QkvDw.τ).loc Cert.QkvDw.main_arg0)
      ∧ r.2.mem ((c.tc : Thread Cert.QkvDw.nD Cert.QkvDw.τ).loc Cert.QkvDw.main_arg1) = m ((c.tc : Thread Cert.QkvDw.nD Cert.QkvDw.τ).loc Cert.QkvDw.main_arg1))
      ∧ r.2.sem = fun _ => 0)

def quiescent_QkvDwIdeal [hQkvDwIdeal : Cert.QkvDwIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg), Pre_QkvDwIdeal m →
    θ_run (Cert.QkvDwIdeal.defs (F := Ideal)) (onTc (τ := Cert.QkvDwIdeal.τ) (Cert.QkvDwIdeal.main (F := Ideal))) ⟨m, fun _ => 0, g⟩ (fun r => (∀ c : Dev Cert.QkvDwIdeal.nD,
      r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
      ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1))
      ∧ r.2.sem = fun _ => 0)

def quiescent_QkvDwRefIdeal [hQkvDwRefIdeal : Cert.QkvDwRefIdeal.Facts] : Prop :=
  ∀ (m : (ℓ : Loc Cert.QkvDwRefIdeal.nD Cert.QkvDwRefIdeal.τ Cert.QkvDwRefIdeal.sig) → Buf (Elt Ideal) ℓ) (g : Dev Cert.QkvDwRefIdeal.nD → PrngReg), Pre_QkvDwRefIdeal m →
    θ_run (Cert.QkvDwRefIdeal.defs (F := Ideal)) (onTc (τ := Cert.QkvDwRefIdeal.τ) (Cert.QkvDwRefIdeal.main (F := Ideal))) ⟨m, fun _ => 0, g⟩ (fun r => (∀ c : Dev Cert.QkvDwRefIdeal.nD,
      r.2.mem ((c.tc : Thread Cert.QkvDwRefIdeal.nD Cert.QkvDwRefIdeal.τ).loc Cert.QkvDwRefIdeal.main_arg0) = m ((c.tc : Thread Cert.QkvDwRefIdeal.nD Cert.QkvDwRefIdeal.τ).loc Cert.QkvDwRefIdeal.main_arg0)
      ∧ r.2.mem ((c.tc : Thread Cert.QkvDwRefIdeal.nD Cert.QkvDwRefIdeal.τ).loc Cert.QkvDwRefIdeal.main_arg1) = m ((c.tc : Thread Cert.QkvDwRefIdeal.nD Cert.QkvDwRefIdeal.τ).loc Cert.QkvDwRefIdeal.main_arg1))
      ∧ r.2.sem = fun _ => 0)

def quiescent_RestDw [hRestDw : Cert.RestDw.Facts] : Prop :=
  ∀ (m : (ℓ : Loc Cert.RestDw.nD Cert.RestDw.τ Cert.RestDw.sig) → Buf (Elt Bits) ℓ) (g : Dev Cert.RestDw.nD → PrngReg), Pre_RestDw m →
    θ_run (Cert.RestDw.defs (F := Bits)) (onTc (τ := Cert.RestDw.τ) (Cert.RestDw.main (F := Bits))) ⟨m, fun _ => 0, g⟩ (fun r => (∀ c : Dev Cert.RestDw.nD,
      r.2.mem ((c.tc : Thread Cert.RestDw.nD Cert.RestDw.τ).loc Cert.RestDw.main_arg0) = m ((c.tc : Thread Cert.RestDw.nD Cert.RestDw.τ).loc Cert.RestDw.main_arg0)
      ∧ r.2.mem ((c.tc : Thread Cert.RestDw.nD Cert.RestDw.τ).loc Cert.RestDw.main_arg1) = m ((c.tc : Thread Cert.RestDw.nD Cert.RestDw.τ).loc Cert.RestDw.main_arg1))
      ∧ r.2.sem = fun _ => 0)

def quiescent_RestDwIdeal [hRestDwIdeal : Cert.RestDwIdeal.Facts] : Prop :=
  ∀ (m : (ℓ : Loc Cert.RestDwIdeal.nD Cert.RestDwIdeal.τ Cert.RestDwIdeal.sig) → Buf (Elt Ideal) ℓ) (g : Dev Cert.RestDwIdeal.nD → PrngReg), Pre_RestDwIdeal m →
    θ_run (Cert.RestDwIdeal.defs (F := Ideal)) (onTc (τ := Cert.RestDwIdeal.τ) (Cert.RestDwIdeal.main (F := Ideal))) ⟨m, fun _ => 0, g⟩ (fun r => (∀ c : Dev Cert.RestDwIdeal.nD,
      r.2.mem ((c.tc : Thread Cert.RestDwIdeal.nD Cert.RestDwIdeal.τ).loc Cert.RestDwIdeal.main_arg0) = m ((c.tc : Thread Cert.RestDwIdeal.nD Cert.RestDwIdeal.τ).loc Cert.RestDwIdeal.main_arg0)
      ∧ r.2.mem ((c.tc : Thread Cert.RestDwIdeal.nD Cert.RestDwIdeal.τ).loc Cert.RestDwIdeal.main_arg1) = m ((c.tc : Thread Cert.RestDwIdeal.nD Cert.RestDwIdeal.τ).loc Cert.RestDwIdeal.main_arg1))
      ∧ r.2.sem = fun _ => 0)

def quiescent_RestDwRefIdeal [hRestDwRefIdeal : Cert.RestDwRefIdeal.Facts] : Prop :=
  ∀ (m : (ℓ : Loc Cert.RestDwRefIdeal.nD Cert.RestDwRefIdeal.τ Cert.RestDwRefIdeal.sig) → Buf (Elt Ideal) ℓ) (g : Dev Cert.RestDwRefIdeal.nD → PrngReg), Pre_RestDwRefIdeal m →
    θ_run (Cert.RestDwRefIdeal.defs (F := Ideal)) (onTc (τ := Cert.RestDwRefIdeal.τ) (Cert.RestDwRefIdeal.main (F := Ideal))) ⟨m, fun _ => 0, g⟩ (fun r => (∀ c : Dev Cert.RestDwRefIdeal.nD,
      r.2.mem ((c.tc : Thread Cert.RestDwRefIdeal.nD Cert.RestDwRefIdeal.τ).loc Cert.RestDwRefIdeal.main_arg0) = m ((c.tc : Thread Cert.RestDwRefIdeal.nD Cert.RestDwRefIdeal.τ).loc Cert.RestDwRefIdeal.main_arg0)
      ∧ r.2.mem ((c.tc : Thread Cert.RestDwRefIdeal.nD Cert.RestDwRefIdeal.τ).loc Cert.RestDwRefIdeal.main_arg1) = m ((c.tc : Thread Cert.RestDwRefIdeal.nD Cert.RestDwRefIdeal.τ).loc Cert.RestDwRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_InAdam [hInAdam : Cert.InAdam.Facts] : Prop :=
  ∀ (m : (ℓ : Loc Cert.InAdam.nD Cert.InAdam.τ Cert.InAdam.sig) → Buf (Elt Bits) ℓ) (g : Dev Cert.InAdam.nD → PrngReg), Pre_InAdam m →
    θ_run (Cert.InAdam.defs (F := Bits)) (onTc (τ := Cert.InAdam.τ) (Cert.InAdam.main (F := Bits))) ⟨m, fun _ => 0, g⟩ (fun r => (∀ c : Dev Cert.InAdam.nD,
      r.2.mem ((c.tc : Thread Cert.InAdam.nD Cert.InAdam.τ).loc Cert.InAdam.main_arg0) = m ((c.tc : Thread Cert.InAdam.nD Cert.InAdam.τ).loc Cert.InAdam.main_arg0)
      ∧ r.2.mem ((c.tc : Thread Cert.InAdam.nD Cert.InAdam.τ).loc Cert.InAdam.main_arg1) = m ((c.tc : Thread Cert.InAdam.nD Cert.InAdam.τ).loc Cert.InAdam.main_arg1)
      ∧ r.2.mem ((c.tc : Thread Cert.InAdam.nD Cert.InAdam.τ).loc Cert.InAdam.main_arg2) = m ((c.tc : Thread Cert.InAdam.nD Cert.InAdam.τ).loc Cert.InAdam.main_arg2)
      ∧ r.2.mem ((c.tc : Thread Cert.InAdam.nD Cert.InAdam.τ).loc Cert.InAdam.main_arg3) = m ((c.tc : Thread Cert.InAdam.nD Cert.InAdam.τ).loc Cert.InAdam.main_arg3)
      ∧ r.2.mem ((c.tc : Thread Cert.InAdam.nD Cert.InAdam.τ).loc Cert.InAdam.main_arg4) = m ((c.tc : Thread Cert.InAdam.nD Cert.InAdam.τ).loc Cert.InAdam.main_arg4))
      ∧ r.2.sem = fun _ => 0)

def quiescent_InAdamIdeal [hInAdamIdeal : Cert.InAdamIdeal.Facts] : Prop :=
  ∀ (m : (ℓ : Loc Cert.InAdamIdeal.nD Cert.InAdamIdeal.τ Cert.InAdamIdeal.sig) → Buf (Elt Ideal) ℓ) (g : Dev Cert.InAdamIdeal.nD → PrngReg), Pre_InAdamIdeal m →
    θ_run (Cert.InAdamIdeal.defs (F := Ideal)) (onTc (τ := Cert.InAdamIdeal.τ) (Cert.InAdamIdeal.main (F := Ideal))) ⟨m, fun _ => 0, g⟩ (fun r => (∀ c : Dev Cert.InAdamIdeal.nD,
      r.2.mem ((c.tc : Thread Cert.InAdamIdeal.nD Cert.InAdamIdeal.τ).loc Cert.InAdamIdeal.main_arg0) = m ((c.tc : Thread Cert.InAdamIdeal.nD Cert.InAdamIdeal.τ).loc Cert.InAdamIdeal.main_arg0)
      ∧ r.2.mem ((c.tc : Thread Cert.InAdamIdeal.nD Cert.InAdamIdeal.τ).loc Cert.InAdamIdeal.main_arg1) = m ((c.tc : Thread Cert.InAdamIdeal.nD Cert.InAdamIdeal.τ).loc Cert.InAdamIdeal.main_arg1)
      ∧ r.2.mem ((c.tc : Thread Cert.InAdamIdeal.nD Cert.InAdamIdeal.τ).loc Cert.InAdamIdeal.main_arg2) = m ((c.tc : Thread Cert.InAdamIdeal.nD Cert.InAdamIdeal.τ).loc Cert.InAdamIdeal.main_arg2)
      ∧ r.2.mem ((c.tc : Thread Cert.InAdamIdeal.nD Cert.InAdamIdeal.τ).loc Cert.InAdamIdeal.main_arg3) = m ((c.tc : Thread Cert.InAdamIdeal.nD Cert.InAdamIdeal.τ).loc Cert.InAdamIdeal.main_arg3)
      ∧ r.2.mem ((c.tc : Thread Cert.InAdamIdeal.nD Cert.InAdamIdeal.τ).loc Cert.InAdamIdeal.main_arg4) = m ((c.tc : Thread Cert.InAdamIdeal.nD Cert.InAdamIdeal.τ).loc Cert.InAdamIdeal.main_arg4))
      ∧ r.2.sem = fun _ => 0)

def quiescent_InAdamRefIdeal [hInAdamRefIdeal : Cert.InAdamRefIdeal.Facts] : Prop :=
  ∀ (m : (ℓ : Loc Cert.InAdamRefIdeal.nD Cert.InAdamRefIdeal.τ Cert.InAdamRefIdeal.sig) → Buf (Elt Ideal) ℓ) (g : Dev Cert.InAdamRefIdeal.nD → PrngReg), Pre_InAdamRefIdeal m →
    θ_run (Cert.InAdamRefIdeal.defs (F := Ideal)) (onTc (τ := Cert.InAdamRefIdeal.τ) (Cert.InAdamRefIdeal.main (F := Ideal))) ⟨m, fun _ => 0, g⟩ (fun r => (∀ c : Dev Cert.InAdamRefIdeal.nD,
      r.2.mem ((c.tc : Thread Cert.InAdamRefIdeal.nD Cert.InAdamRefIdeal.τ).loc Cert.InAdamRefIdeal.main_arg0) = m ((c.tc : Thread Cert.InAdamRefIdeal.nD Cert.InAdamRefIdeal.τ).loc Cert.InAdamRefIdeal.main_arg0)
      ∧ r.2.mem ((c.tc : Thread Cert.InAdamRefIdeal.nD Cert.InAdamRefIdeal.τ).loc Cert.InAdamRefIdeal.main_arg1) = m ((c.tc : Thread Cert.InAdamRefIdeal.nD Cert.InAdamRefIdeal.τ).loc Cert.InAdamRefIdeal.main_arg1)
      ∧ r.2.mem ((c.tc : Thread Cert.InAdamRefIdeal.nD Cert.InAdamRefIdeal.τ).loc Cert.InAdamRefIdeal.main_arg2) = m ((c.tc : Thread Cert.InAdamRefIdeal.nD Cert.InAdamRefIdeal.τ).loc Cert.InAdamRefIdeal.main_arg2)
      ∧ r.2.mem ((c.tc : Thread Cert.InAdamRefIdeal.nD Cert.InAdamRefIdeal.τ).loc Cert.InAdamRefIdeal.main_arg3) = m ((c.tc : Thread Cert.InAdamRefIdeal.nD Cert.InAdamRefIdeal.τ).loc Cert.InAdamRefIdeal.main_arg3)
      ∧ r.2.mem ((c.tc : Thread Cert.InAdamRefIdeal.nD Cert.InAdamRefIdeal.τ).loc Cert.InAdamRefIdeal.main_arg4) = m ((c.tc : Thread Cert.InAdamRefIdeal.nD Cert.InAdamRefIdeal.τ).loc Cert.InAdamRefIdeal.main_arg4))
      ∧ r.2.sem = fun _ => 0)

def quiescent_UpAdam [hUpAdam : Cert.UpAdam.Facts] : Prop :=
  ∀ (m : (ℓ : Loc Cert.UpAdam.nD Cert.UpAdam.τ Cert.UpAdam.sig) → Buf (Elt Bits) ℓ) (g : Dev Cert.UpAdam.nD → PrngReg), Pre_UpAdam m →
    θ_run (Cert.UpAdam.defs (F := Bits)) (onTc (τ := Cert.UpAdam.τ) (Cert.UpAdam.main (F := Bits))) ⟨m, fun _ => 0, g⟩ (fun r => (∀ c : Dev Cert.UpAdam.nD,
      r.2.mem ((c.tc : Thread Cert.UpAdam.nD Cert.UpAdam.τ).loc Cert.UpAdam.main_arg0) = m ((c.tc : Thread Cert.UpAdam.nD Cert.UpAdam.τ).loc Cert.UpAdam.main_arg0)
      ∧ r.2.mem ((c.tc : Thread Cert.UpAdam.nD Cert.UpAdam.τ).loc Cert.UpAdam.main_arg1) = m ((c.tc : Thread Cert.UpAdam.nD Cert.UpAdam.τ).loc Cert.UpAdam.main_arg1)
      ∧ r.2.mem ((c.tc : Thread Cert.UpAdam.nD Cert.UpAdam.τ).loc Cert.UpAdam.main_arg2) = m ((c.tc : Thread Cert.UpAdam.nD Cert.UpAdam.τ).loc Cert.UpAdam.main_arg2)
      ∧ r.2.mem ((c.tc : Thread Cert.UpAdam.nD Cert.UpAdam.τ).loc Cert.UpAdam.main_arg3) = m ((c.tc : Thread Cert.UpAdam.nD Cert.UpAdam.τ).loc Cert.UpAdam.main_arg3)
      ∧ r.2.mem ((c.tc : Thread Cert.UpAdam.nD Cert.UpAdam.τ).loc Cert.UpAdam.main_arg4) = m ((c.tc : Thread Cert.UpAdam.nD Cert.UpAdam.τ).loc Cert.UpAdam.main_arg4))
      ∧ r.2.sem = fun _ => 0)

def quiescent_UpAdamIdeal [hUpAdamIdeal : Cert.UpAdamIdeal.Facts] : Prop :=
  ∀ (m : (ℓ : Loc Cert.UpAdamIdeal.nD Cert.UpAdamIdeal.τ Cert.UpAdamIdeal.sig) → Buf (Elt Ideal) ℓ) (g : Dev Cert.UpAdamIdeal.nD → PrngReg), Pre_UpAdamIdeal m →
    θ_run (Cert.UpAdamIdeal.defs (F := Ideal)) (onTc (τ := Cert.UpAdamIdeal.τ) (Cert.UpAdamIdeal.main (F := Ideal))) ⟨m, fun _ => 0, g⟩ (fun r => (∀ c : Dev Cert.UpAdamIdeal.nD,
      r.2.mem ((c.tc : Thread Cert.UpAdamIdeal.nD Cert.UpAdamIdeal.τ).loc Cert.UpAdamIdeal.main_arg0) = m ((c.tc : Thread Cert.UpAdamIdeal.nD Cert.UpAdamIdeal.τ).loc Cert.UpAdamIdeal.main_arg0)
      ∧ r.2.mem ((c.tc : Thread Cert.UpAdamIdeal.nD Cert.UpAdamIdeal.τ).loc Cert.UpAdamIdeal.main_arg1) = m ((c.tc : Thread Cert.UpAdamIdeal.nD Cert.UpAdamIdeal.τ).loc Cert.UpAdamIdeal.main_arg1)
      ∧ r.2.mem ((c.tc : Thread Cert.UpAdamIdeal.nD Cert.UpAdamIdeal.τ).loc Cert.UpAdamIdeal.main_arg2) = m ((c.tc : Thread Cert.UpAdamIdeal.nD Cert.UpAdamIdeal.τ).loc Cert.UpAdamIdeal.main_arg2)
      ∧ r.2.mem ((c.tc : Thread Cert.UpAdamIdeal.nD Cert.UpAdamIdeal.τ).loc Cert.UpAdamIdeal.main_arg3) = m ((c.tc : Thread Cert.UpAdamIdeal.nD Cert.UpAdamIdeal.τ).loc Cert.UpAdamIdeal.main_arg3)
      ∧ r.2.mem ((c.tc : Thread Cert.UpAdamIdeal.nD Cert.UpAdamIdeal.τ).loc Cert.UpAdamIdeal.main_arg4) = m ((c.tc : Thread Cert.UpAdamIdeal.nD Cert.UpAdamIdeal.τ).loc Cert.UpAdamIdeal.main_arg4))
      ∧ r.2.sem = fun _ => 0)

def quiescent_UpAdamRefIdeal [hUpAdamRefIdeal : Cert.UpAdamRefIdeal.Facts] : Prop :=
  ∀ (m : (ℓ : Loc Cert.UpAdamRefIdeal.nD Cert.UpAdamRefIdeal.τ Cert.UpAdamRefIdeal.sig) → Buf (Elt Ideal) ℓ) (g : Dev Cert.UpAdamRefIdeal.nD → PrngReg), Pre_UpAdamRefIdeal m →
    θ_run (Cert.UpAdamRefIdeal.defs (F := Ideal)) (onTc (τ := Cert.UpAdamRefIdeal.τ) (Cert.UpAdamRefIdeal.main (F := Ideal))) ⟨m, fun _ => 0, g⟩ (fun r => (∀ c : Dev Cert.UpAdamRefIdeal.nD,
      r.2.mem ((c.tc : Thread Cert.UpAdamRefIdeal.nD Cert.UpAdamRefIdeal.τ).loc Cert.UpAdamRefIdeal.main_arg0) = m ((c.tc : Thread Cert.UpAdamRefIdeal.nD Cert.UpAdamRefIdeal.τ).loc Cert.UpAdamRefIdeal.main_arg0)
      ∧ r.2.mem ((c.tc : Thread Cert.UpAdamRefIdeal.nD Cert.UpAdamRefIdeal.τ).loc Cert.UpAdamRefIdeal.main_arg1) = m ((c.tc : Thread Cert.UpAdamRefIdeal.nD Cert.UpAdamRefIdeal.τ).loc Cert.UpAdamRefIdeal.main_arg1)
      ∧ r.2.mem ((c.tc : Thread Cert.UpAdamRefIdeal.nD Cert.UpAdamRefIdeal.τ).loc Cert.UpAdamRefIdeal.main_arg2) = m ((c.tc : Thread Cert.UpAdamRefIdeal.nD Cert.UpAdamRefIdeal.τ).loc Cert.UpAdamRefIdeal.main_arg2)
      ∧ r.2.mem ((c.tc : Thread Cert.UpAdamRefIdeal.nD Cert.UpAdamRefIdeal.τ).loc Cert.UpAdamRefIdeal.main_arg3) = m ((c.tc : Thread Cert.UpAdamRefIdeal.nD Cert.UpAdamRefIdeal.τ).loc Cert.UpAdamRefIdeal.main_arg3)
      ∧ r.2.mem ((c.tc : Thread Cert.UpAdamRefIdeal.nD Cert.UpAdamRefIdeal.τ).loc Cert.UpAdamRefIdeal.main_arg4) = m ((c.tc : Thread Cert.UpAdamRefIdeal.nD Cert.UpAdamRefIdeal.τ).loc Cert.UpAdamRefIdeal.main_arg4))
      ∧ r.2.sem = fun _ => 0)

def quiescent_PoolAdam [hPoolAdam : Cert.PoolAdam.Facts] : Prop :=
  ∀ (m : (ℓ : Loc Cert.PoolAdam.nD Cert.PoolAdam.τ Cert.PoolAdam.sig) → Buf (Elt Bits) ℓ) (g : Dev Cert.PoolAdam.nD → PrngReg), Pre_PoolAdam m →
    θ_run (Cert.PoolAdam.defs (F := Bits)) (onTc (τ := Cert.PoolAdam.τ) (Cert.PoolAdam.main (F := Bits))) ⟨m, fun _ => 0, g⟩ (fun r => (∀ c : Dev Cert.PoolAdam.nD,
      r.2.mem ((c.tc : Thread Cert.PoolAdam.nD Cert.PoolAdam.τ).loc Cert.PoolAdam.main_arg0) = m ((c.tc : Thread Cert.PoolAdam.nD Cert.PoolAdam.τ).loc Cert.PoolAdam.main_arg0)
      ∧ r.2.mem ((c.tc : Thread Cert.PoolAdam.nD Cert.PoolAdam.τ).loc Cert.PoolAdam.main_arg1) = m ((c.tc : Thread Cert.PoolAdam.nD Cert.PoolAdam.τ).loc Cert.PoolAdam.main_arg1)
      ∧ r.2.mem ((c.tc : Thread Cert.PoolAdam.nD Cert.PoolAdam.τ).loc Cert.PoolAdam.main_arg2) = m ((c.tc : Thread Cert.PoolAdam.nD Cert.PoolAdam.τ).loc Cert.PoolAdam.main_arg2)
      ∧ r.2.mem ((c.tc : Thread Cert.PoolAdam.nD Cert.PoolAdam.τ).loc Cert.PoolAdam.main_arg3) = m ((c.tc : Thread Cert.PoolAdam.nD Cert.PoolAdam.τ).loc Cert.PoolAdam.main_arg3)
      ∧ r.2.mem ((c.tc : Thread Cert.PoolAdam.nD Cert.PoolAdam.τ).loc Cert.PoolAdam.main_arg4) = m ((c.tc : Thread Cert.PoolAdam.nD Cert.PoolAdam.τ).loc Cert.PoolAdam.main_arg4))
      ∧ r.2.sem = fun _ => 0)

def quiescent_PoolAdamIdeal [hPoolAdamIdeal : Cert.PoolAdamIdeal.Facts] : Prop :=
  ∀ (m : (ℓ : Loc Cert.PoolAdamIdeal.nD Cert.PoolAdamIdeal.τ Cert.PoolAdamIdeal.sig) → Buf (Elt Ideal) ℓ) (g : Dev Cert.PoolAdamIdeal.nD → PrngReg), Pre_PoolAdamIdeal m →
    θ_run (Cert.PoolAdamIdeal.defs (F := Ideal)) (onTc (τ := Cert.PoolAdamIdeal.τ) (Cert.PoolAdamIdeal.main (F := Ideal))) ⟨m, fun _ => 0, g⟩ (fun r => (∀ c : Dev Cert.PoolAdamIdeal.nD,
      r.2.mem ((c.tc : Thread Cert.PoolAdamIdeal.nD Cert.PoolAdamIdeal.τ).loc Cert.PoolAdamIdeal.main_arg0) = m ((c.tc : Thread Cert.PoolAdamIdeal.nD Cert.PoolAdamIdeal.τ).loc Cert.PoolAdamIdeal.main_arg0)
      ∧ r.2.mem ((c.tc : Thread Cert.PoolAdamIdeal.nD Cert.PoolAdamIdeal.τ).loc Cert.PoolAdamIdeal.main_arg1) = m ((c.tc : Thread Cert.PoolAdamIdeal.nD Cert.PoolAdamIdeal.τ).loc Cert.PoolAdamIdeal.main_arg1)
      ∧ r.2.mem ((c.tc : Thread Cert.PoolAdamIdeal.nD Cert.PoolAdamIdeal.τ).loc Cert.PoolAdamIdeal.main_arg2) = m ((c.tc : Thread Cert.PoolAdamIdeal.nD Cert.PoolAdamIdeal.τ).loc Cert.PoolAdamIdeal.main_arg2)
      ∧ r.2.mem ((c.tc : Thread Cert.PoolAdamIdeal.nD Cert.PoolAdamIdeal.τ).loc Cert.PoolAdamIdeal.main_arg3) = m ((c.tc : Thread Cert.PoolAdamIdeal.nD Cert.PoolAdamIdeal.τ).loc Cert.PoolAdamIdeal.main_arg3)
      ∧ r.2.mem ((c.tc : Thread Cert.PoolAdamIdeal.nD Cert.PoolAdamIdeal.τ).loc Cert.PoolAdamIdeal.main_arg4) = m ((c.tc : Thread Cert.PoolAdamIdeal.nD Cert.PoolAdamIdeal.τ).loc Cert.PoolAdamIdeal.main_arg4))
      ∧ r.2.sem = fun _ => 0)

def quiescent_PoolAdamRefIdeal [hPoolAdamRefIdeal : Cert.PoolAdamRefIdeal.Facts] : Prop :=
  ∀ (m : (ℓ : Loc Cert.PoolAdamRefIdeal.nD Cert.PoolAdamRefIdeal.τ Cert.PoolAdamRefIdeal.sig) → Buf (Elt Ideal) ℓ) (g : Dev Cert.PoolAdamRefIdeal.nD → PrngReg), Pre_PoolAdamRefIdeal m →
    θ_run (Cert.PoolAdamRefIdeal.defs (F := Ideal)) (onTc (τ := Cert.PoolAdamRefIdeal.τ) (Cert.PoolAdamRefIdeal.main (F := Ideal))) ⟨m, fun _ => 0, g⟩ (fun r => (∀ c : Dev Cert.PoolAdamRefIdeal.nD,
      r.2.mem ((c.tc : Thread Cert.PoolAdamRefIdeal.nD Cert.PoolAdamRefIdeal.τ).loc Cert.PoolAdamRefIdeal.main_arg0) = m ((c.tc : Thread Cert.PoolAdamRefIdeal.nD Cert.PoolAdamRefIdeal.τ).loc Cert.PoolAdamRefIdeal.main_arg0)
      ∧ r.2.mem ((c.tc : Thread Cert.PoolAdamRefIdeal.nD Cert.PoolAdamRefIdeal.τ).loc Cert.PoolAdamRefIdeal.main_arg1) = m ((c.tc : Thread Cert.PoolAdamRefIdeal.nD Cert.PoolAdamRefIdeal.τ).loc Cert.PoolAdamRefIdeal.main_arg1)
      ∧ r.2.mem ((c.tc : Thread Cert.PoolAdamRefIdeal.nD Cert.PoolAdamRefIdeal.τ).loc Cert.PoolAdamRefIdeal.main_arg2) = m ((c.tc : Thread Cert.PoolAdamRefIdeal.nD Cert.PoolAdamRefIdeal.τ).loc Cert.PoolAdamRefIdeal.main_arg2)
      ∧ r.2.mem ((c.tc : Thread Cert.PoolAdamRefIdeal.nD Cert.PoolAdamRefIdeal.τ).loc Cert.PoolAdamRefIdeal.main_arg3) = m ((c.tc : Thread Cert.PoolAdamRefIdeal.nD Cert.PoolAdamRefIdeal.τ).loc Cert.PoolAdamRefIdeal.main_arg3)
      ∧ r.2.mem ((c.tc : Thread Cert.PoolAdamRefIdeal.nD Cert.PoolAdamRefIdeal.τ).loc Cert.PoolAdamRefIdeal.main_arg4) = m ((c.tc : Thread Cert.PoolAdamRefIdeal.nD Cert.PoolAdamRefIdeal.τ).loc Cert.PoolAdamRefIdeal.main_arg4))
      ∧ r.2.sem = fun _ => 0)

def quiescent_OutAdam [hOutAdam : Cert.OutAdam.Facts] : Prop :=
  ∀ (m : (ℓ : Loc Cert.OutAdam.nD Cert.OutAdam.τ Cert.OutAdam.sig) → Buf (Elt Bits) ℓ) (g : Dev Cert.OutAdam.nD → PrngReg), Pre_OutAdam m →
    θ_run (Cert.OutAdam.defs (F := Bits)) (onTc (τ := Cert.OutAdam.τ) (Cert.OutAdam.main (F := Bits))) ⟨m, fun _ => 0, g⟩ (fun r => (∀ c : Dev Cert.OutAdam.nD,
      r.2.mem ((c.tc : Thread Cert.OutAdam.nD Cert.OutAdam.τ).loc Cert.OutAdam.main_arg0) = m ((c.tc : Thread Cert.OutAdam.nD Cert.OutAdam.τ).loc Cert.OutAdam.main_arg0)
      ∧ r.2.mem ((c.tc : Thread Cert.OutAdam.nD Cert.OutAdam.τ).loc Cert.OutAdam.main_arg1) = m ((c.tc : Thread Cert.OutAdam.nD Cert.OutAdam.τ).loc Cert.OutAdam.main_arg1)
      ∧ r.2.mem ((c.tc : Thread Cert.OutAdam.nD Cert.OutAdam.τ).loc Cert.OutAdam.main_arg2) = m ((c.tc : Thread Cert.OutAdam.nD Cert.OutAdam.τ).loc Cert.OutAdam.main_arg2)
      ∧ r.2.mem ((c.tc : Thread Cert.OutAdam.nD Cert.OutAdam.τ).loc Cert.OutAdam.main_arg3) = m ((c.tc : Thread Cert.OutAdam.nD Cert.OutAdam.τ).loc Cert.OutAdam.main_arg3)
      ∧ r.2.mem ((c.tc : Thread Cert.OutAdam.nD Cert.OutAdam.τ).loc Cert.OutAdam.main_arg4) = m ((c.tc : Thread Cert.OutAdam.nD Cert.OutAdam.τ).loc Cert.OutAdam.main_arg4))
      ∧ r.2.sem = fun _ => 0)

def quiescent_OutAdamIdeal [hOutAdamIdeal : Cert.OutAdamIdeal.Facts] : Prop :=
  ∀ (m : (ℓ : Loc Cert.OutAdamIdeal.nD Cert.OutAdamIdeal.τ Cert.OutAdamIdeal.sig) → Buf (Elt Ideal) ℓ) (g : Dev Cert.OutAdamIdeal.nD → PrngReg), Pre_OutAdamIdeal m →
    θ_run (Cert.OutAdamIdeal.defs (F := Ideal)) (onTc (τ := Cert.OutAdamIdeal.τ) (Cert.OutAdamIdeal.main (F := Ideal))) ⟨m, fun _ => 0, g⟩ (fun r => (∀ c : Dev Cert.OutAdamIdeal.nD,
      r.2.mem ((c.tc : Thread Cert.OutAdamIdeal.nD Cert.OutAdamIdeal.τ).loc Cert.OutAdamIdeal.main_arg0) = m ((c.tc : Thread Cert.OutAdamIdeal.nD Cert.OutAdamIdeal.τ).loc Cert.OutAdamIdeal.main_arg0)
      ∧ r.2.mem ((c.tc : Thread Cert.OutAdamIdeal.nD Cert.OutAdamIdeal.τ).loc Cert.OutAdamIdeal.main_arg1) = m ((c.tc : Thread Cert.OutAdamIdeal.nD Cert.OutAdamIdeal.τ).loc Cert.OutAdamIdeal.main_arg1)
      ∧ r.2.mem ((c.tc : Thread Cert.OutAdamIdeal.nD Cert.OutAdamIdeal.τ).loc Cert.OutAdamIdeal.main_arg2) = m ((c.tc : Thread Cert.OutAdamIdeal.nD Cert.OutAdamIdeal.τ).loc Cert.OutAdamIdeal.main_arg2)
      ∧ r.2.mem ((c.tc : Thread Cert.OutAdamIdeal.nD Cert.OutAdamIdeal.τ).loc Cert.OutAdamIdeal.main_arg3) = m ((c.tc : Thread Cert.OutAdamIdeal.nD Cert.OutAdamIdeal.τ).loc Cert.OutAdamIdeal.main_arg3)
      ∧ r.2.mem ((c.tc : Thread Cert.OutAdamIdeal.nD Cert.OutAdamIdeal.τ).loc Cert.OutAdamIdeal.main_arg4) = m ((c.tc : Thread Cert.OutAdamIdeal.nD Cert.OutAdamIdeal.τ).loc Cert.OutAdamIdeal.main_arg4))
      ∧ r.2.sem = fun _ => 0)

def quiescent_OutAdamRefIdeal [hOutAdamRefIdeal : Cert.OutAdamRefIdeal.Facts] : Prop :=
  ∀ (m : (ℓ : Loc Cert.OutAdamRefIdeal.nD Cert.OutAdamRefIdeal.τ Cert.OutAdamRefIdeal.sig) → Buf (Elt Ideal) ℓ) (g : Dev Cert.OutAdamRefIdeal.nD → PrngReg), Pre_OutAdamRefIdeal m →
    θ_run (Cert.OutAdamRefIdeal.defs (F := Ideal)) (onTc (τ := Cert.OutAdamRefIdeal.τ) (Cert.OutAdamRefIdeal.main (F := Ideal))) ⟨m, fun _ => 0, g⟩ (fun r => (∀ c : Dev Cert.OutAdamRefIdeal.nD,
      r.2.mem ((c.tc : Thread Cert.OutAdamRefIdeal.nD Cert.OutAdamRefIdeal.τ).loc Cert.OutAdamRefIdeal.main_arg0) = m ((c.tc : Thread Cert.OutAdamRefIdeal.nD Cert.OutAdamRefIdeal.τ).loc Cert.OutAdamRefIdeal.main_arg0)
      ∧ r.2.mem ((c.tc : Thread Cert.OutAdamRefIdeal.nD Cert.OutAdamRefIdeal.τ).loc Cert.OutAdamRefIdeal.main_arg1) = m ((c.tc : Thread Cert.OutAdamRefIdeal.nD Cert.OutAdamRefIdeal.τ).loc Cert.OutAdamRefIdeal.main_arg1)
      ∧ r.2.mem ((c.tc : Thread Cert.OutAdamRefIdeal.nD Cert.OutAdamRefIdeal.τ).loc Cert.OutAdamRefIdeal.main_arg2) = m ((c.tc : Thread Cert.OutAdamRefIdeal.nD Cert.OutAdamRefIdeal.τ).loc Cert.OutAdamRefIdeal.main_arg2)
      ∧ r.2.mem ((c.tc : Thread Cert.OutAdamRefIdeal.nD Cert.OutAdamRefIdeal.τ).loc Cert.OutAdamRefIdeal.main_arg3) = m ((c.tc : Thread Cert.OutAdamRefIdeal.nD Cert.OutAdamRefIdeal.τ).loc Cert.OutAdamRefIdeal.main_arg3)
      ∧ r.2.mem ((c.tc : Thread Cert.OutAdamRefIdeal.nD Cert.OutAdamRefIdeal.τ).loc Cert.OutAdamRefIdeal.main_arg4) = m ((c.tc : Thread Cert.OutAdamRefIdeal.nD Cert.OutAdamRefIdeal.τ).loc Cert.OutAdamRefIdeal.main_arg4))
      ∧ r.2.sem = fun _ => 0)

def quiescent_DownAdam [hDownAdam : Cert.DownAdam.Facts] : Prop :=
  ∀ (m : (ℓ : Loc Cert.DownAdam.nD Cert.DownAdam.τ Cert.DownAdam.sig) → Buf (Elt Bits) ℓ) (g : Dev Cert.DownAdam.nD → PrngReg), Pre_DownAdam m →
    θ_run (Cert.DownAdam.defs (F := Bits)) (onTc (τ := Cert.DownAdam.τ) (Cert.DownAdam.main (F := Bits))) ⟨m, fun _ => 0, g⟩ (fun r => (∀ c : Dev Cert.DownAdam.nD,
      r.2.mem ((c.tc : Thread Cert.DownAdam.nD Cert.DownAdam.τ).loc Cert.DownAdam.main_arg0) = m ((c.tc : Thread Cert.DownAdam.nD Cert.DownAdam.τ).loc Cert.DownAdam.main_arg0)
      ∧ r.2.mem ((c.tc : Thread Cert.DownAdam.nD Cert.DownAdam.τ).loc Cert.DownAdam.main_arg1) = m ((c.tc : Thread Cert.DownAdam.nD Cert.DownAdam.τ).loc Cert.DownAdam.main_arg1)
      ∧ r.2.mem ((c.tc : Thread Cert.DownAdam.nD Cert.DownAdam.τ).loc Cert.DownAdam.main_arg2) = m ((c.tc : Thread Cert.DownAdam.nD Cert.DownAdam.τ).loc Cert.DownAdam.main_arg2)
      ∧ r.2.mem ((c.tc : Thread Cert.DownAdam.nD Cert.DownAdam.τ).loc Cert.DownAdam.main_arg3) = m ((c.tc : Thread Cert.DownAdam.nD Cert.DownAdam.τ).loc Cert.DownAdam.main_arg3)
      ∧ r.2.mem ((c.tc : Thread Cert.DownAdam.nD Cert.DownAdam.τ).loc Cert.DownAdam.main_arg4) = m ((c.tc : Thread Cert.DownAdam.nD Cert.DownAdam.τ).loc Cert.DownAdam.main_arg4))
      ∧ r.2.sem = fun _ => 0)

def quiescent_DownAdamIdeal [hDownAdamIdeal : Cert.DownAdamIdeal.Facts] : Prop :=
  ∀ (m : (ℓ : Loc Cert.DownAdamIdeal.nD Cert.DownAdamIdeal.τ Cert.DownAdamIdeal.sig) → Buf (Elt Ideal) ℓ) (g : Dev Cert.DownAdamIdeal.nD → PrngReg), Pre_DownAdamIdeal m →
    θ_run (Cert.DownAdamIdeal.defs (F := Ideal)) (onTc (τ := Cert.DownAdamIdeal.τ) (Cert.DownAdamIdeal.main (F := Ideal))) ⟨m, fun _ => 0, g⟩ (fun r => (∀ c : Dev Cert.DownAdamIdeal.nD,
      r.2.mem ((c.tc : Thread Cert.DownAdamIdeal.nD Cert.DownAdamIdeal.τ).loc Cert.DownAdamIdeal.main_arg0) = m ((c.tc : Thread Cert.DownAdamIdeal.nD Cert.DownAdamIdeal.τ).loc Cert.DownAdamIdeal.main_arg0)
      ∧ r.2.mem ((c.tc : Thread Cert.DownAdamIdeal.nD Cert.DownAdamIdeal.τ).loc Cert.DownAdamIdeal.main_arg1) = m ((c.tc : Thread Cert.DownAdamIdeal.nD Cert.DownAdamIdeal.τ).loc Cert.DownAdamIdeal.main_arg1)
      ∧ r.2.mem ((c.tc : Thread Cert.DownAdamIdeal.nD Cert.DownAdamIdeal.τ).loc Cert.DownAdamIdeal.main_arg2) = m ((c.tc : Thread Cert.DownAdamIdeal.nD Cert.DownAdamIdeal.τ).loc Cert.DownAdamIdeal.main_arg2)
      ∧ r.2.mem ((c.tc : Thread Cert.DownAdamIdeal.nD Cert.DownAdamIdeal.τ).loc Cert.DownAdamIdeal.main_arg3) = m ((c.tc : Thread Cert.DownAdamIdeal.nD Cert.DownAdamIdeal.τ).loc Cert.DownAdamIdeal.main_arg3)
      ∧ r.2.mem ((c.tc : Thread Cert.DownAdamIdeal.nD Cert.DownAdamIdeal.τ).loc Cert.DownAdamIdeal.main_arg4) = m ((c.tc : Thread Cert.DownAdamIdeal.nD Cert.DownAdamIdeal.τ).loc Cert.DownAdamIdeal.main_arg4))
      ∧ r.2.sem = fun _ => 0)

def quiescent_DownAdamRefIdeal [hDownAdamRefIdeal : Cert.DownAdamRefIdeal.Facts] : Prop :=
  ∀ (m : (ℓ : Loc Cert.DownAdamRefIdeal.nD Cert.DownAdamRefIdeal.τ Cert.DownAdamRefIdeal.sig) → Buf (Elt Ideal) ℓ) (g : Dev Cert.DownAdamRefIdeal.nD → PrngReg), Pre_DownAdamRefIdeal m →
    θ_run (Cert.DownAdamRefIdeal.defs (F := Ideal)) (onTc (τ := Cert.DownAdamRefIdeal.τ) (Cert.DownAdamRefIdeal.main (F := Ideal))) ⟨m, fun _ => 0, g⟩ (fun r => (∀ c : Dev Cert.DownAdamRefIdeal.nD,
      r.2.mem ((c.tc : Thread Cert.DownAdamRefIdeal.nD Cert.DownAdamRefIdeal.τ).loc Cert.DownAdamRefIdeal.main_arg0) = m ((c.tc : Thread Cert.DownAdamRefIdeal.nD Cert.DownAdamRefIdeal.τ).loc Cert.DownAdamRefIdeal.main_arg0)
      ∧ r.2.mem ((c.tc : Thread Cert.DownAdamRefIdeal.nD Cert.DownAdamRefIdeal.τ).loc Cert.DownAdamRefIdeal.main_arg1) = m ((c.tc : Thread Cert.DownAdamRefIdeal.nD Cert.DownAdamRefIdeal.τ).loc Cert.DownAdamRefIdeal.main_arg1)
      ∧ r.2.mem ((c.tc : Thread Cert.DownAdamRefIdeal.nD Cert.DownAdamRefIdeal.τ).loc Cert.DownAdamRefIdeal.main_arg2) = m ((c.tc : Thread Cert.DownAdamRefIdeal.nD Cert.DownAdamRefIdeal.τ).loc Cert.DownAdamRefIdeal.main_arg2)
      ∧ r.2.mem ((c.tc : Thread Cert.DownAdamRefIdeal.nD Cert.DownAdamRefIdeal.τ).loc Cert.DownAdamRefIdeal.main_arg3) = m ((c.tc : Thread Cert.DownAdamRefIdeal.nD Cert.DownAdamRefIdeal.τ).loc Cert.DownAdamRefIdeal.main_arg3)
      ∧ r.2.mem ((c.tc : Thread Cert.DownAdamRefIdeal.nD Cert.DownAdamRefIdeal.τ).loc Cert.DownAdamRefIdeal.main_arg4) = m ((c.tc : Thread Cert.DownAdamRefIdeal.nD Cert.DownAdamRefIdeal.τ).loc Cert.DownAdamRefIdeal.main_arg4))
      ∧ r.2.sem = fun _ => 0)

def quiescent_SsdConvAdam [hSsdConvAdam : Cert.SsdConvAdam.Facts] : Prop :=
  ∀ (m : (ℓ : Loc Cert.SsdConvAdam.nD Cert.SsdConvAdam.τ Cert.SsdConvAdam.sig) → Buf (Elt Bits) ℓ) (g : Dev Cert.SsdConvAdam.nD → PrngReg), Pre_SsdConvAdam m →
    θ_run (Cert.SsdConvAdam.defs (F := Bits)) (onTc (τ := Cert.SsdConvAdam.τ) (Cert.SsdConvAdam.main (F := Bits))) ⟨m, fun _ => 0, g⟩ (fun r => (∀ c : Dev Cert.SsdConvAdam.nD,
      r.2.mem ((c.tc : Thread Cert.SsdConvAdam.nD Cert.SsdConvAdam.τ).loc Cert.SsdConvAdam.main_arg0) = m ((c.tc : Thread Cert.SsdConvAdam.nD Cert.SsdConvAdam.τ).loc Cert.SsdConvAdam.main_arg0)
      ∧ r.2.mem ((c.tc : Thread Cert.SsdConvAdam.nD Cert.SsdConvAdam.τ).loc Cert.SsdConvAdam.main_arg1) = m ((c.tc : Thread Cert.SsdConvAdam.nD Cert.SsdConvAdam.τ).loc Cert.SsdConvAdam.main_arg1)
      ∧ r.2.mem ((c.tc : Thread Cert.SsdConvAdam.nD Cert.SsdConvAdam.τ).loc Cert.SsdConvAdam.main_arg2) = m ((c.tc : Thread Cert.SsdConvAdam.nD Cert.SsdConvAdam.τ).loc Cert.SsdConvAdam.main_arg2)
      ∧ r.2.mem ((c.tc : Thread Cert.SsdConvAdam.nD Cert.SsdConvAdam.τ).loc Cert.SsdConvAdam.main_arg3) = m ((c.tc : Thread Cert.SsdConvAdam.nD Cert.SsdConvAdam.τ).loc Cert.SsdConvAdam.main_arg3)
      ∧ r.2.mem ((c.tc : Thread Cert.SsdConvAdam.nD Cert.SsdConvAdam.τ).loc Cert.SsdConvAdam.main_arg4) = m ((c.tc : Thread Cert.SsdConvAdam.nD Cert.SsdConvAdam.τ).loc Cert.SsdConvAdam.main_arg4))
      ∧ r.2.sem = fun _ => 0)

def quiescent_SsdConvAdamIdeal [hSsdConvAdamIdeal : Cert.SsdConvAdamIdeal.Facts] : Prop :=
  ∀ (m : (ℓ : Loc Cert.SsdConvAdamIdeal.nD Cert.SsdConvAdamIdeal.τ Cert.SsdConvAdamIdeal.sig) → Buf (Elt Ideal) ℓ) (g : Dev Cert.SsdConvAdamIdeal.nD → PrngReg), Pre_SsdConvAdamIdeal m →
    θ_run (Cert.SsdConvAdamIdeal.defs (F := Ideal)) (onTc (τ := Cert.SsdConvAdamIdeal.τ) (Cert.SsdConvAdamIdeal.main (F := Ideal))) ⟨m, fun _ => 0, g⟩ (fun r => (∀ c : Dev Cert.SsdConvAdamIdeal.nD,
      r.2.mem ((c.tc : Thread Cert.SsdConvAdamIdeal.nD Cert.SsdConvAdamIdeal.τ).loc Cert.SsdConvAdamIdeal.main_arg0) = m ((c.tc : Thread Cert.SsdConvAdamIdeal.nD Cert.SsdConvAdamIdeal.τ).loc Cert.SsdConvAdamIdeal.main_arg0)
      ∧ r.2.mem ((c.tc : Thread Cert.SsdConvAdamIdeal.nD Cert.SsdConvAdamIdeal.τ).loc Cert.SsdConvAdamIdeal.main_arg1) = m ((c.tc : Thread Cert.SsdConvAdamIdeal.nD Cert.SsdConvAdamIdeal.τ).loc Cert.SsdConvAdamIdeal.main_arg1)
      ∧ r.2.mem ((c.tc : Thread Cert.SsdConvAdamIdeal.nD Cert.SsdConvAdamIdeal.τ).loc Cert.SsdConvAdamIdeal.main_arg2) = m ((c.tc : Thread Cert.SsdConvAdamIdeal.nD Cert.SsdConvAdamIdeal.τ).loc Cert.SsdConvAdamIdeal.main_arg2)
      ∧ r.2.mem ((c.tc : Thread Cert.SsdConvAdamIdeal.nD Cert.SsdConvAdamIdeal.τ).loc Cert.SsdConvAdamIdeal.main_arg3) = m ((c.tc : Thread Cert.SsdConvAdamIdeal.nD Cert.SsdConvAdamIdeal.τ).loc Cert.SsdConvAdamIdeal.main_arg3)
      ∧ r.2.mem ((c.tc : Thread Cert.SsdConvAdamIdeal.nD Cert.SsdConvAdamIdeal.τ).loc Cert.SsdConvAdamIdeal.main_arg4) = m ((c.tc : Thread Cert.SsdConvAdamIdeal.nD Cert.SsdConvAdamIdeal.τ).loc Cert.SsdConvAdamIdeal.main_arg4))
      ∧ r.2.sem = fun _ => 0)

def quiescent_SsdConvAdamRefIdeal [hSsdConvAdamRefIdeal : Cert.SsdConvAdamRefIdeal.Facts] : Prop :=
  ∀ (m : (ℓ : Loc Cert.SsdConvAdamRefIdeal.nD Cert.SsdConvAdamRefIdeal.τ Cert.SsdConvAdamRefIdeal.sig) → Buf (Elt Ideal) ℓ) (g : Dev Cert.SsdConvAdamRefIdeal.nD → PrngReg), Pre_SsdConvAdamRefIdeal m →
    θ_run (Cert.SsdConvAdamRefIdeal.defs (F := Ideal)) (onTc (τ := Cert.SsdConvAdamRefIdeal.τ) (Cert.SsdConvAdamRefIdeal.main (F := Ideal))) ⟨m, fun _ => 0, g⟩ (fun r => (∀ c : Dev Cert.SsdConvAdamRefIdeal.nD,
      r.2.mem ((c.tc : Thread Cert.SsdConvAdamRefIdeal.nD Cert.SsdConvAdamRefIdeal.τ).loc Cert.SsdConvAdamRefIdeal.main_arg0) = m ((c.tc : Thread Cert.SsdConvAdamRefIdeal.nD Cert.SsdConvAdamRefIdeal.τ).loc Cert.SsdConvAdamRefIdeal.main_arg0)
      ∧ r.2.mem ((c.tc : Thread Cert.SsdConvAdamRefIdeal.nD Cert.SsdConvAdamRefIdeal.τ).loc Cert.SsdConvAdamRefIdeal.main_arg1) = m ((c.tc : Thread Cert.SsdConvAdamRefIdeal.nD Cert.SsdConvAdamRefIdeal.τ).loc Cert.SsdConvAdamRefIdeal.main_arg1)
      ∧ r.2.mem ((c.tc : Thread Cert.SsdConvAdamRefIdeal.nD Cert.SsdConvAdamRefIdeal.τ).loc Cert.SsdConvAdamRefIdeal.main_arg2) = m ((c.tc : Thread Cert.SsdConvAdamRefIdeal.nD Cert.SsdConvAdamRefIdeal.τ).loc Cert.SsdConvAdamRefIdeal.main_arg2)
      ∧ r.2.mem ((c.tc : Thread Cert.SsdConvAdamRefIdeal.nD Cert.SsdConvAdamRefIdeal.τ).loc Cert.SsdConvAdamRefIdeal.main_arg3) = m ((c.tc : Thread Cert.SsdConvAdamRefIdeal.nD Cert.SsdConvAdamRefIdeal.τ).loc Cert.SsdConvAdamRefIdeal.main_arg3)
      ∧ r.2.mem ((c.tc : Thread Cert.SsdConvAdamRefIdeal.nD Cert.SsdConvAdamRefIdeal.τ).loc Cert.SsdConvAdamRefIdeal.main_arg4) = m ((c.tc : Thread Cert.SsdConvAdamRefIdeal.nD Cert.SsdConvAdamRefIdeal.τ).loc Cert.SsdConvAdamRefIdeal.main_arg4))
      ∧ r.2.sem = fun _ => 0)

def quiescent_FfnConvAdam [hFfnConvAdam : Cert.FfnConvAdam.Facts] : Prop :=
  ∀ (m : (ℓ : Loc Cert.FfnConvAdam.nD Cert.FfnConvAdam.τ Cert.FfnConvAdam.sig) → Buf (Elt Bits) ℓ) (g : Dev Cert.FfnConvAdam.nD → PrngReg), Pre_FfnConvAdam m →
    θ_run (Cert.FfnConvAdam.defs (F := Bits)) (onTc (τ := Cert.FfnConvAdam.τ) (Cert.FfnConvAdam.main (F := Bits))) ⟨m, fun _ => 0, g⟩ (fun r => (∀ c : Dev Cert.FfnConvAdam.nD,
      r.2.mem ((c.tc : Thread Cert.FfnConvAdam.nD Cert.FfnConvAdam.τ).loc Cert.FfnConvAdam.main_arg0) = m ((c.tc : Thread Cert.FfnConvAdam.nD Cert.FfnConvAdam.τ).loc Cert.FfnConvAdam.main_arg0)
      ∧ r.2.mem ((c.tc : Thread Cert.FfnConvAdam.nD Cert.FfnConvAdam.τ).loc Cert.FfnConvAdam.main_arg1) = m ((c.tc : Thread Cert.FfnConvAdam.nD Cert.FfnConvAdam.τ).loc Cert.FfnConvAdam.main_arg1)
      ∧ r.2.mem ((c.tc : Thread Cert.FfnConvAdam.nD Cert.FfnConvAdam.τ).loc Cert.FfnConvAdam.main_arg2) = m ((c.tc : Thread Cert.FfnConvAdam.nD Cert.FfnConvAdam.τ).loc Cert.FfnConvAdam.main_arg2)
      ∧ r.2.mem ((c.tc : Thread Cert.FfnConvAdam.nD Cert.FfnConvAdam.τ).loc Cert.FfnConvAdam.main_arg3) = m ((c.tc : Thread Cert.FfnConvAdam.nD Cert.FfnConvAdam.τ).loc Cert.FfnConvAdam.main_arg3)
      ∧ r.2.mem ((c.tc : Thread Cert.FfnConvAdam.nD Cert.FfnConvAdam.τ).loc Cert.FfnConvAdam.main_arg4) = m ((c.tc : Thread Cert.FfnConvAdam.nD Cert.FfnConvAdam.τ).loc Cert.FfnConvAdam.main_arg4))
      ∧ r.2.sem = fun _ => 0)

def quiescent_FfnConvAdamIdeal [hFfnConvAdamIdeal : Cert.FfnConvAdamIdeal.Facts] : Prop :=
  ∀ (m : (ℓ : Loc Cert.FfnConvAdamIdeal.nD Cert.FfnConvAdamIdeal.τ Cert.FfnConvAdamIdeal.sig) → Buf (Elt Ideal) ℓ) (g : Dev Cert.FfnConvAdamIdeal.nD → PrngReg), Pre_FfnConvAdamIdeal m →
    θ_run (Cert.FfnConvAdamIdeal.defs (F := Ideal)) (onTc (τ := Cert.FfnConvAdamIdeal.τ) (Cert.FfnConvAdamIdeal.main (F := Ideal))) ⟨m, fun _ => 0, g⟩ (fun r => (∀ c : Dev Cert.FfnConvAdamIdeal.nD,
      r.2.mem ((c.tc : Thread Cert.FfnConvAdamIdeal.nD Cert.FfnConvAdamIdeal.τ).loc Cert.FfnConvAdamIdeal.main_arg0) = m ((c.tc : Thread Cert.FfnConvAdamIdeal.nD Cert.FfnConvAdamIdeal.τ).loc Cert.FfnConvAdamIdeal.main_arg0)
      ∧ r.2.mem ((c.tc : Thread Cert.FfnConvAdamIdeal.nD Cert.FfnConvAdamIdeal.τ).loc Cert.FfnConvAdamIdeal.main_arg1) = m ((c.tc : Thread Cert.FfnConvAdamIdeal.nD Cert.FfnConvAdamIdeal.τ).loc Cert.FfnConvAdamIdeal.main_arg1)
      ∧ r.2.mem ((c.tc : Thread Cert.FfnConvAdamIdeal.nD Cert.FfnConvAdamIdeal.τ).loc Cert.FfnConvAdamIdeal.main_arg2) = m ((c.tc : Thread Cert.FfnConvAdamIdeal.nD Cert.FfnConvAdamIdeal.τ).loc Cert.FfnConvAdamIdeal.main_arg2)
      ∧ r.2.mem ((c.tc : Thread Cert.FfnConvAdamIdeal.nD Cert.FfnConvAdamIdeal.τ).loc Cert.FfnConvAdamIdeal.main_arg3) = m ((c.tc : Thread Cert.FfnConvAdamIdeal.nD Cert.FfnConvAdamIdeal.τ).loc Cert.FfnConvAdamIdeal.main_arg3)
      ∧ r.2.mem ((c.tc : Thread Cert.FfnConvAdamIdeal.nD Cert.FfnConvAdamIdeal.τ).loc Cert.FfnConvAdamIdeal.main_arg4) = m ((c.tc : Thread Cert.FfnConvAdamIdeal.nD Cert.FfnConvAdamIdeal.τ).loc Cert.FfnConvAdamIdeal.main_arg4))
      ∧ r.2.sem = fun _ => 0)

def quiescent_FfnConvAdamRefIdeal [hFfnConvAdamRefIdeal : Cert.FfnConvAdamRefIdeal.Facts] : Prop :=
  ∀ (m : (ℓ : Loc Cert.FfnConvAdamRefIdeal.nD Cert.FfnConvAdamRefIdeal.τ Cert.FfnConvAdamRefIdeal.sig) → Buf (Elt Ideal) ℓ) (g : Dev Cert.FfnConvAdamRefIdeal.nD → PrngReg), Pre_FfnConvAdamRefIdeal m →
    θ_run (Cert.FfnConvAdamRefIdeal.defs (F := Ideal)) (onTc (τ := Cert.FfnConvAdamRefIdeal.τ) (Cert.FfnConvAdamRefIdeal.main (F := Ideal))) ⟨m, fun _ => 0, g⟩ (fun r => (∀ c : Dev Cert.FfnConvAdamRefIdeal.nD,
      r.2.mem ((c.tc : Thread Cert.FfnConvAdamRefIdeal.nD Cert.FfnConvAdamRefIdeal.τ).loc Cert.FfnConvAdamRefIdeal.main_arg0) = m ((c.tc : Thread Cert.FfnConvAdamRefIdeal.nD Cert.FfnConvAdamRefIdeal.τ).loc Cert.FfnConvAdamRefIdeal.main_arg0)
      ∧ r.2.mem ((c.tc : Thread Cert.FfnConvAdamRefIdeal.nD Cert.FfnConvAdamRefIdeal.τ).loc Cert.FfnConvAdamRefIdeal.main_arg1) = m ((c.tc : Thread Cert.FfnConvAdamRefIdeal.nD Cert.FfnConvAdamRefIdeal.τ).loc Cert.FfnConvAdamRefIdeal.main_arg1)
      ∧ r.2.mem ((c.tc : Thread Cert.FfnConvAdamRefIdeal.nD Cert.FfnConvAdamRefIdeal.τ).loc Cert.FfnConvAdamRefIdeal.main_arg2) = m ((c.tc : Thread Cert.FfnConvAdamRefIdeal.nD Cert.FfnConvAdamRefIdeal.τ).loc Cert.FfnConvAdamRefIdeal.main_arg2)
      ∧ r.2.mem ((c.tc : Thread Cert.FfnConvAdamRefIdeal.nD Cert.FfnConvAdamRefIdeal.τ).loc Cert.FfnConvAdamRefIdeal.main_arg3) = m ((c.tc : Thread Cert.FfnConvAdamRefIdeal.nD Cert.FfnConvAdamRefIdeal.τ).loc Cert.FfnConvAdamRefIdeal.main_arg3)
      ∧ r.2.mem ((c.tc : Thread Cert.FfnConvAdamRefIdeal.nD Cert.FfnConvAdamRefIdeal.τ).loc Cert.FfnConvAdamRefIdeal.main_arg4) = m ((c.tc : Thread Cert.FfnConvAdamRefIdeal.nD Cert.FfnConvAdamRefIdeal.τ).loc Cert.FfnConvAdamRefIdeal.main_arg4))
      ∧ r.2.sem = fun _ => 0)

def quiescent_RepAdam [hRepAdam : Cert.RepAdam.Facts] : Prop :=
  ∀ (m : (ℓ : Loc Cert.RepAdam.nD Cert.RepAdam.τ Cert.RepAdam.sig) → Buf (Elt Bits) ℓ) (g : Dev Cert.RepAdam.nD → PrngReg), Pre_RepAdam m →
    θ_run (Cert.RepAdam.defs (F := Bits)) (onTc (τ := Cert.RepAdam.τ) (Cert.RepAdam.main (F := Bits))) ⟨m, fun _ => 0, g⟩ (fun r => (∀ c : Dev Cert.RepAdam.nD,
      r.2.mem ((c.tc : Thread Cert.RepAdam.nD Cert.RepAdam.τ).loc Cert.RepAdam.main_arg0) = m ((c.tc : Thread Cert.RepAdam.nD Cert.RepAdam.τ).loc Cert.RepAdam.main_arg0)
      ∧ r.2.mem ((c.tc : Thread Cert.RepAdam.nD Cert.RepAdam.τ).loc Cert.RepAdam.main_arg1) = m ((c.tc : Thread Cert.RepAdam.nD Cert.RepAdam.τ).loc Cert.RepAdam.main_arg1)
      ∧ r.2.mem ((c.tc : Thread Cert.RepAdam.nD Cert.RepAdam.τ).loc Cert.RepAdam.main_arg2) = m ((c.tc : Thread Cert.RepAdam.nD Cert.RepAdam.τ).loc Cert.RepAdam.main_arg2)
      ∧ r.2.mem ((c.tc : Thread Cert.RepAdam.nD Cert.RepAdam.τ).loc Cert.RepAdam.main_arg3) = m ((c.tc : Thread Cert.RepAdam.nD Cert.RepAdam.τ).loc Cert.RepAdam.main_arg3))
      ∧ r.2.sem = fun _ => 0)

def quiescent_RepAdamIdeal [hRepAdamIdeal : Cert.RepAdamIdeal.Facts] : Prop :=
  ∀ (m : (ℓ : Loc Cert.RepAdamIdeal.nD Cert.RepAdamIdeal.τ Cert.RepAdamIdeal.sig) → Buf (Elt Ideal) ℓ) (g : Dev Cert.RepAdamIdeal.nD → PrngReg), Pre_RepAdamIdeal m →
    θ_run (Cert.RepAdamIdeal.defs (F := Ideal)) (onTc (τ := Cert.RepAdamIdeal.τ) (Cert.RepAdamIdeal.main (F := Ideal))) ⟨m, fun _ => 0, g⟩ (fun r => (∀ c : Dev Cert.RepAdamIdeal.nD,
      r.2.mem ((c.tc : Thread Cert.RepAdamIdeal.nD Cert.RepAdamIdeal.τ).loc Cert.RepAdamIdeal.main_arg0) = m ((c.tc : Thread Cert.RepAdamIdeal.nD Cert.RepAdamIdeal.τ).loc Cert.RepAdamIdeal.main_arg0)
      ∧ r.2.mem ((c.tc : Thread Cert.RepAdamIdeal.nD Cert.RepAdamIdeal.τ).loc Cert.RepAdamIdeal.main_arg1) = m ((c.tc : Thread Cert.RepAdamIdeal.nD Cert.RepAdamIdeal.τ).loc Cert.RepAdamIdeal.main_arg1)
      ∧ r.2.mem ((c.tc : Thread Cert.RepAdamIdeal.nD Cert.RepAdamIdeal.τ).loc Cert.RepAdamIdeal.main_arg2) = m ((c.tc : Thread Cert.RepAdamIdeal.nD Cert.RepAdamIdeal.τ).loc Cert.RepAdamIdeal.main_arg2)
      ∧ r.2.mem ((c.tc : Thread Cert.RepAdamIdeal.nD Cert.RepAdamIdeal.τ).loc Cert.RepAdamIdeal.main_arg3) = m ((c.tc : Thread Cert.RepAdamIdeal.nD Cert.RepAdamIdeal.τ).loc Cert.RepAdamIdeal.main_arg3))
      ∧ r.2.sem = fun _ => 0)

def quiescent_RepAdamRefIdeal [hRepAdamRefIdeal : Cert.RepAdamRefIdeal.Facts] : Prop :=
  ∀ (m : (ℓ : Loc Cert.RepAdamRefIdeal.nD Cert.RepAdamRefIdeal.τ Cert.RepAdamRefIdeal.sig) → Buf (Elt Ideal) ℓ) (g : Dev Cert.RepAdamRefIdeal.nD → PrngReg), Pre_RepAdamRefIdeal m →
    θ_run (Cert.RepAdamRefIdeal.defs (F := Ideal)) (onTc (τ := Cert.RepAdamRefIdeal.τ) (Cert.RepAdamRefIdeal.main (F := Ideal))) ⟨m, fun _ => 0, g⟩ (fun r => (∀ c : Dev Cert.RepAdamRefIdeal.nD,
      r.2.mem ((c.tc : Thread Cert.RepAdamRefIdeal.nD Cert.RepAdamRefIdeal.τ).loc Cert.RepAdamRefIdeal.main_arg0) = m ((c.tc : Thread Cert.RepAdamRefIdeal.nD Cert.RepAdamRefIdeal.τ).loc Cert.RepAdamRefIdeal.main_arg0)
      ∧ r.2.mem ((c.tc : Thread Cert.RepAdamRefIdeal.nD Cert.RepAdamRefIdeal.τ).loc Cert.RepAdamRefIdeal.main_arg1) = m ((c.tc : Thread Cert.RepAdamRefIdeal.nD Cert.RepAdamRefIdeal.τ).loc Cert.RepAdamRefIdeal.main_arg1)
      ∧ r.2.mem ((c.tc : Thread Cert.RepAdamRefIdeal.nD Cert.RepAdamRefIdeal.τ).loc Cert.RepAdamRefIdeal.main_arg2) = m ((c.tc : Thread Cert.RepAdamRefIdeal.nD Cert.RepAdamRefIdeal.τ).loc Cert.RepAdamRefIdeal.main_arg2)
      ∧ r.2.mem ((c.tc : Thread Cert.RepAdamRefIdeal.nD Cert.RepAdamRefIdeal.τ).loc Cert.RepAdamRefIdeal.main_arg3) = m ((c.tc : Thread Cert.RepAdamRefIdeal.nD Cert.RepAdamRefIdeal.τ).loc Cert.RepAdamRefIdeal.main_arg3))
      ∧ r.2.sem = fun _ => 0)

def quiescent_RepSum [hRepSum : Cert.RepSum.Facts] : Prop :=
  ∀ (m : (ℓ : Loc Cert.RepSum.nD Cert.RepSum.τ Cert.RepSum.sig) → Buf (Elt Bits) ℓ) (g : Dev Cert.RepSum.nD → PrngReg), Pre_RepSum m →
    θ_run (Cert.RepSum.defs (F := Bits)) (onTc (τ := Cert.RepSum.τ) (Cert.RepSum.main (F := Bits))) ⟨m, fun _ => 0, g⟩ (fun r => (∀ c : Dev Cert.RepSum.nD,
      r.2.mem ((c.tc : Thread Cert.RepSum.nD Cert.RepSum.τ).loc Cert.RepSum.main_arg0) = m ((c.tc : Thread Cert.RepSum.nD Cert.RepSum.τ).loc Cert.RepSum.main_arg0))
      ∧ r.2.sem = fun _ => 0)

def quiescent_RepSumIdeal [hRepSumIdeal : Cert.RepSumIdeal.Facts] : Prop :=
  ∀ (m : (ℓ : Loc Cert.RepSumIdeal.nD Cert.RepSumIdeal.τ Cert.RepSumIdeal.sig) → Buf (Elt Ideal) ℓ) (g : Dev Cert.RepSumIdeal.nD → PrngReg), Pre_RepSumIdeal m →
    θ_run (Cert.RepSumIdeal.defs (F := Ideal)) (onTc (τ := Cert.RepSumIdeal.τ) (Cert.RepSumIdeal.main (F := Ideal))) ⟨m, fun _ => 0, g⟩ (fun r => (∀ c : Dev Cert.RepSumIdeal.nD,
      r.2.mem ((c.tc : Thread Cert.RepSumIdeal.nD Cert.RepSumIdeal.τ).loc Cert.RepSumIdeal.main_arg0) = m ((c.tc : Thread Cert.RepSumIdeal.nD Cert.RepSumIdeal.τ).loc Cert.RepSumIdeal.main_arg0))
      ∧ r.2.sem = fun _ => 0)

def quiescent_RepSumRefIdeal [hRepSumRefIdeal : Cert.RepSumRefIdeal.Facts] : Prop :=
  ∀ (m : (ℓ : Loc Cert.RepSumRefIdeal.nD Cert.RepSumRefIdeal.τ Cert.RepSumRefIdeal.sig) → Buf (Elt Ideal) ℓ) (g : Dev Cert.RepSumRefIdeal.nD → PrngReg), Pre_RepSumRefIdeal m →
    θ_run (Cert.RepSumRefIdeal.defs (F := Ideal)) (onTc (τ := Cert.RepSumRefIdeal.τ) (Cert.RepSumRefIdeal.main (F := Ideal))) ⟨m, fun _ => 0, g⟩ (fun r => (∀ c : Dev Cert.RepSumRefIdeal.nD,
      r.2.mem ((c.tc : Thread Cert.RepSumRefIdeal.nD Cert.RepSumRefIdeal.τ).loc Cert.RepSumRefIdeal.main_arg0) = m ((c.tc : Thread Cert.RepSumRefIdeal.nD Cert.RepSumRefIdeal.τ).loc Cert.RepSumRefIdeal.main_arg0))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdIdeal_pre_rms_finite [hRmsBwdIdeal : Cert.RmsBwdIdeal.Facts] [hPre_rms_finite : Cert.Pre_rms_finite.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal_rms_finite m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdRefIdeal [hRmsBwdRefIdeal : Cert.RmsBwdRefIdeal.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_RmsBwdRefIdeal_pre_rms_finite [hRmsBwdRefIdeal : Cert.RmsBwdRefIdeal.Facts] [hPre_rms_finite : Cert.Pre_rms_finite.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal_rms_finite m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)
      ∧ m' ((c.tc : Thread Cert.DxRefIdeal.nD Cert.DxRefIdeal.τ).loc Cert.DxRefIdeal.main_arg4) = m ((c.tc : Thread Cert.DxIdeal.nD Cert.DxIdeal.τ).loc Cert.DxIdeal.main_arg4)
      ∧ m' ((c.tc : Thread Cert.DxRefIdeal.nD Cert.DxRefIdeal.τ).loc Cert.DxRefIdeal.main_arg5) = m ((c.tc : Thread Cert.DxIdeal.nD Cert.DxIdeal.τ).loc Cert.DxIdeal.main_arg5)
      ∧ m' ((c.tc : Thread Cert.DxRefIdeal.nD Cert.DxRefIdeal.τ).loc Cert.DxRefIdeal.main_arg6) = m ((c.tc : Thread Cert.DxIdeal.nD Cert.DxIdeal.τ).loc Cert.DxIdeal.main_arg6)
      ∧ m' ((c.tc : Thread Cert.DxRefIdeal.nD Cert.DxRefIdeal.τ).loc Cert.DxRefIdeal.main_arg7) = m ((c.tc : Thread Cert.DxIdeal.nD Cert.DxIdeal.τ).loc Cert.DxIdeal.main_arg7)
      ∧ m' ((c.tc : Thread Cert.DxRefIdeal.nD Cert.DxRefIdeal.τ).loc Cert.DxRefIdeal.main_arg8) = m ((c.tc : Thread Cert.DxIdeal.nD Cert.DxIdeal.τ).loc Cert.DxIdeal.main_arg8)
      ∧ m' ((c.tc : Thread Cert.DxRefIdeal.nD Cert.DxRefIdeal.τ).loc Cert.DxRefIdeal.main_arg9) = m ((c.tc : Thread Cert.DxIdeal.nD Cert.DxIdeal.τ).loc Cert.DxIdeal.main_arg9)
      ∧ m' ((c.tc : Thread Cert.DxRefIdeal.nD Cert.DxRefIdeal.τ).loc Cert.DxRefIdeal.main_arg10) = m ((c.tc : Thread Cert.DxIdeal.nD Cert.DxIdeal.τ).loc Cert.DxIdeal.main_arg10)
      ∧ m' ((c.tc : Thread Cert.DxRefIdeal.nD Cert.DxRefIdeal.τ).loc Cert.DxRefIdeal.main_arg11) = m ((c.tc : Thread Cert.DxIdeal.nD Cert.DxIdeal.τ).loc Cert.DxIdeal.main_arg11)
      ∧ m' ((c.tc : Thread Cert.DxRefIdeal.nD Cert.DxRefIdeal.τ).loc Cert.DxRefIdeal.main_arg12) = m ((c.tc : Thread Cert.DxIdeal.nD Cert.DxIdeal.τ).loc Cert.DxIdeal.main_arg12)
      ∧ m' ((c.tc : Thread Cert.DxRefIdeal.nD Cert.DxRefIdeal.τ).loc Cert.DxRefIdeal.main_arg13) = m ((c.tc : Thread Cert.DxIdeal.nD Cert.DxIdeal.τ).loc Cert.DxIdeal.main_arg13)
      ∧ m' ((c.tc : Thread Cert.DxRefIdeal.nD Cert.DxRefIdeal.τ).loc Cert.DxRefIdeal.main_arg14) = m ((c.tc : Thread Cert.DxIdeal.nD Cert.DxIdeal.τ).loc Cert.DxIdeal.main_arg14)
      ∧ m' ((c.tc : Thread Cert.DxRefIdeal.nD Cert.DxRefIdeal.τ).loc Cert.DxRefIdeal.main_arg15) = m ((c.tc : Thread Cert.DxIdeal.nD Cert.DxIdeal.τ).loc Cert.DxIdeal.main_arg15)) →
    ∃ (v0 : (c : Dev Cert.DxIdeal.nD) → Buf (Elt Ideal) ((c.tc : Thread Cert.DxIdeal.nD Cert.DxIdeal.τ).loc Cert.DxIdeal.main_v0)) (v1 : (c : Dev Cert.DxIdeal.nD) → Buf (Elt Ideal) ((c.tc : Thread Cert.DxIdeal.nD Cert.DxIdeal.τ).loc Cert.DxIdeal.main_v1)) (v2 : (c : Dev Cert.DxIdeal.nD) → Buf (Elt Ideal) ((c.tc : Thread Cert.DxIdeal.nD Cert.DxIdeal.τ).loc Cert.DxIdeal.main_v2)) (v3 : (c : Dev Cert.DxIdeal.nD) → Buf (Elt Ideal) ((c.tc : Thread Cert.DxIdeal.nD Cert.DxIdeal.τ).loc Cert.DxIdeal.main_v3)) (v4 : (c : Dev Cert.DxIdeal.nD) → Buf (Elt Ideal) ((c.tc : Thread Cert.DxIdeal.nD Cert.DxIdeal.τ).loc Cert.DxIdeal.main_v4)) (v5 : (c : Dev Cert.DxIdeal.nD) → Buf (Elt Ideal) ((c.tc : Thread Cert.DxIdeal.nD Cert.DxIdeal.τ).loc Cert.DxIdeal.main_v5)) (v6 : (c : Dev Cert.DxIdeal.nD) → Buf (Elt Ideal) ((c.tc : Thread Cert.DxIdeal.nD Cert.DxIdeal.τ).loc Cert.DxIdeal.main_v7)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v0) = v0 c
          ∧ r.2.mem ((c.tc : Thread Cert.DxIdeal.nD Cert.DxIdeal.τ).loc Cert.DxIdeal.main_v1) = v1 c
          ∧ r.2.mem ((c.tc : Thread Cert.DxIdeal.nD Cert.DxIdeal.τ).loc Cert.DxIdeal.main_v2) = v2 c
          ∧ r.2.mem ((c.tc : Thread Cert.DxIdeal.nD Cert.DxIdeal.τ).loc Cert.DxIdeal.main_v3) = v3 c
          ∧ r.2.mem ((c.tc : Thread Cert.DxIdeal.nD Cert.DxIdeal.τ).loc Cert.DxIdeal.main_v4) = v4 c
          ∧ r.2.mem ((c.tc : Thread Cert.DxIdeal.nD Cert.DxIdeal.τ).loc Cert.DxIdeal.main_v5) = v5 c
          ∧ r.2.mem ((c.tc : Thread Cert.DxIdeal.nD Cert.DxIdeal.τ).loc Cert.DxIdeal.main_v7) = v6 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
          ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
          ∧ r.2.mem ((c.tc : Thread Cert.DxIdeal.nD Cert.DxIdeal.τ).loc Cert.DxIdeal.main_arg6) = m ((c.tc : Thread Cert.DxIdeal.nD Cert.DxIdeal.τ).loc Cert.DxIdeal.main_arg6)
          ∧ r.2.mem ((c.tc : Thread Cert.DxIdeal.nD Cert.DxIdeal.τ).loc Cert.DxIdeal.main_arg7) = m ((c.tc : Thread Cert.DxIdeal.nD Cert.DxIdeal.τ).loc Cert.DxIdeal.main_arg7)
          ∧ r.2.mem ((c.tc : Thread Cert.DxIdeal.nD Cert.DxIdeal.τ).loc Cert.DxIdeal.main_arg8) = m ((c.tc : Thread Cert.DxIdeal.nD Cert.DxIdeal.τ).loc Cert.DxIdeal.main_arg8)
          ∧ r.2.mem ((c.tc : Thread Cert.DxIdeal.nD Cert.DxIdeal.τ).loc Cert.DxIdeal.main_arg9) = m ((c.tc : Thread Cert.DxIdeal.nD Cert.DxIdeal.τ).loc Cert.DxIdeal.main_arg9)
          ∧ r.2.mem ((c.tc : Thread Cert.DxIdeal.nD Cert.DxIdeal.τ).loc Cert.DxIdeal.main_arg10) = m ((c.tc : Thread Cert.DxIdeal.nD Cert.DxIdeal.τ).loc Cert.DxIdeal.main_arg10)
          ∧ r.2.mem ((c.tc : Thread Cert.DxIdeal.nD Cert.DxIdeal.τ).loc Cert.DxIdeal.main_arg11) = m ((c.tc : Thread Cert.DxIdeal.nD Cert.DxIdeal.τ).loc Cert.DxIdeal.main_arg11)
          ∧ r.2.mem ((c.tc : Thread Cert.DxIdeal.nD Cert.DxIdeal.τ).loc Cert.DxIdeal.main_arg12) = m ((c.tc : Thread Cert.DxIdeal.nD Cert.DxIdeal.τ).loc Cert.DxIdeal.main_arg12)
          ∧ r.2.mem ((c.tc : Thread Cert.DxIdeal.nD Cert.DxIdeal.τ).loc Cert.DxIdeal.main_arg13) = m ((c.tc : Thread Cert.DxIdeal.nD Cert.DxIdeal.τ).loc Cert.DxIdeal.main_arg13)
          ∧ r.2.mem ((c.tc : Thread Cert.DxIdeal.nD Cert.DxIdeal.τ).loc Cert.DxIdeal.main_arg14) = m ((c.tc : Thread Cert.DxIdeal.nD Cert.DxIdeal.τ).loc Cert.DxIdeal.main_arg14)
          ∧ r.2.mem ((c.tc : Thread Cert.DxIdeal.nD Cert.DxIdeal.τ).loc Cert.DxIdeal.main_arg15) = m ((c.tc : Thread Cert.DxIdeal.nD Cert.DxIdeal.τ).loc Cert.DxIdeal.main_arg15))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v44) = v0 c
          ∧ r.2.mem ((c.tc : Thread Cert.DxRefIdeal.nD Cert.DxRefIdeal.τ).loc Cert.DxRefIdeal.main_v43) = v1 c
          ∧ r.2.mem ((c.tc : Thread Cert.DxRefIdeal.nD Cert.DxRefIdeal.τ).loc Cert.DxRefIdeal.main_v42) = v2 c
          ∧ r.2.mem ((c.tc : Thread Cert.DxRefIdeal.nD Cert.DxRefIdeal.τ).loc Cert.DxRefIdeal.main_v41) = v3 c
          ∧ r.2.mem ((c.tc : Thread Cert.DxRefIdeal.nD Cert.DxRefIdeal.τ).loc Cert.DxRefIdeal.main_v45) = v4 c
          ∧ r.2.mem ((c.tc : Thread Cert.DxRefIdeal.nD Cert.DxRefIdeal.τ).loc Cert.DxRefIdeal.main_v39) = v5 c
          ∧ r.2.mem ((c.tc : Thread Cert.DxRefIdeal.nD Cert.DxRefIdeal.τ).loc Cert.DxRefIdeal.main_v38) = v6 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3)
          ∧ r.2.mem ((c.tc : Thread Cert.DxRefIdeal.nD Cert.DxRefIdeal.τ).loc Cert.DxRefIdeal.main_arg4) = m' ((c.tc : Thread Cert.DxRefIdeal.nD Cert.DxRefIdeal.τ).loc Cert.DxRefIdeal.main_arg4)
          ∧ r.2.mem ((c.tc : Thread Cert.DxRefIdeal.nD Cert.DxRefIdeal.τ).loc Cert.DxRefIdeal.main_arg5) = m' ((c.tc : Thread Cert.DxRefIdeal.nD Cert.DxRefIdeal.τ).loc Cert.DxRefIdeal.main_arg5)
          ∧ r.2.mem ((c.tc : Thread Cert.DxRefIdeal.nD Cert.DxRefIdeal.τ).loc Cert.DxRefIdeal.main_arg6) = m' ((c.tc : Thread Cert.DxRefIdeal.nD Cert.DxRefIdeal.τ).loc Cert.DxRefIdeal.main_arg6)
          ∧ r.2.mem ((c.tc : Thread Cert.DxRefIdeal.nD Cert.DxRefIdeal.τ).loc Cert.DxRefIdeal.main_arg7) = m' ((c.tc : Thread Cert.DxRefIdeal.nD Cert.DxRefIdeal.τ).loc Cert.DxRefIdeal.main_arg7)
          ∧ r.2.mem ((c.tc : Thread Cert.DxRefIdeal.nD Cert.DxRefIdeal.τ).loc Cert.DxRefIdeal.main_arg8) = m' ((c.tc : Thread Cert.DxRefIdeal.nD Cert.DxRefIdeal.τ).loc Cert.DxRefIdeal.main_arg8)
          ∧ r.2.mem ((c.tc : Thread Cert.DxRefIdeal.nD Cert.DxRefIdeal.τ).loc Cert.DxRefIdeal.main_arg9) = m' ((c.tc : Thread Cert.DxRefIdeal.nD Cert.DxRefIdeal.τ).loc Cert.DxRefIdeal.main_arg9)
          ∧ r.2.mem ((c.tc : Thread Cert.DxRefIdeal.nD Cert.DxRefIdeal.τ).loc Cert.DxRefIdeal.main_arg10) = m' ((c.tc : Thread Cert.DxRefIdeal.nD Cert.DxRefIdeal.τ).loc Cert.DxRefIdeal.main_arg10)
          ∧ r.2.mem ((c.tc : Thread Cert.DxRefIdeal.nD Cert.DxRefIdeal.τ).loc Cert.DxRefIdeal.main_arg11) = m' ((c.tc : Thread Cert.DxRefIdeal.nD Cert.DxRefIdeal.τ).loc Cert.DxRefIdeal.main_arg11)
          ∧ r.2.mem ((c.tc : Thread Cert.DxRefIdeal.nD Cert.DxRefIdeal.τ).loc Cert.DxRefIdeal.main_arg12) = m' ((c.tc : Thread Cert.DxRefIdeal.nD Cert.DxRefIdeal.τ).loc Cert.DxRefIdeal.main_arg12)
          ∧ r.2.mem ((c.tc : Thread Cert.DxRefIdeal.nD Cert.DxRefIdeal.τ).loc Cert.DxRefIdeal.main_arg13) = m' ((c.tc : Thread Cert.DxRefIdeal.nD Cert.DxRefIdeal.τ).loc Cert.DxRefIdeal.main_arg13)
          ∧ r.2.mem ((c.tc : Thread Cert.DxRefIdeal.nD Cert.DxRefIdeal.τ).loc Cert.DxRefIdeal.main_arg14) = m' ((c.tc : Thread Cert.DxRefIdeal.nD Cert.DxRefIdeal.τ).loc Cert.DxRefIdeal.main_arg14)
          ∧ r.2.mem ((c.tc : Thread Cert.DxRefIdeal.nD Cert.DxRefIdeal.τ).loc Cert.DxRefIdeal.main_arg15) = m' ((c.tc : Thread Cert.DxRefIdeal.nD Cert.DxRefIdeal.τ).loc Cert.DxRefIdeal.main_arg15))

def preserves_Fwd_FwdIdeal : Prop :=
  True

def algebraic_FwdIdeal_FwdRefIdeal [hFwdIdeal : Cert.FwdIdeal.Facts] [hFwdRefIdeal : Cert.FwdRefIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)
      ∧ m' ((c.tc : Thread Cert.FwdRefIdeal.nD Cert.FwdRefIdeal.τ).loc Cert.FwdRefIdeal.main_arg4) = m ((c.tc : Thread Cert.FwdIdeal.nD Cert.FwdIdeal.τ).loc Cert.FwdIdeal.main_arg4)
      ∧ m' ((c.tc : Thread Cert.FwdRefIdeal.nD Cert.FwdRefIdeal.τ).loc Cert.FwdRefIdeal.main_arg5) = m ((c.tc : Thread Cert.FwdIdeal.nD Cert.FwdIdeal.τ).loc Cert.FwdIdeal.main_arg5)
      ∧ m' ((c.tc : Thread Cert.FwdRefIdeal.nD Cert.FwdRefIdeal.τ).loc Cert.FwdRefIdeal.main_arg6) = m ((c.tc : Thread Cert.FwdIdeal.nD Cert.FwdIdeal.τ).loc Cert.FwdIdeal.main_arg6)
      ∧ m' ((c.tc : Thread Cert.FwdRefIdeal.nD Cert.FwdRefIdeal.τ).loc Cert.FwdRefIdeal.main_arg7) = m ((c.tc : Thread Cert.FwdIdeal.nD Cert.FwdIdeal.τ).loc Cert.FwdIdeal.main_arg7)
      ∧ m' ((c.tc : Thread Cert.FwdRefIdeal.nD Cert.FwdRefIdeal.τ).loc Cert.FwdRefIdeal.main_arg8) = m ((c.tc : Thread Cert.FwdIdeal.nD Cert.FwdIdeal.τ).loc Cert.FwdIdeal.main_arg8)
      ∧ m' ((c.tc : Thread Cert.FwdRefIdeal.nD Cert.FwdRefIdeal.τ).loc Cert.FwdRefIdeal.main_arg9) = m ((c.tc : Thread Cert.FwdIdeal.nD Cert.FwdIdeal.τ).loc Cert.FwdIdeal.main_arg9)
      ∧ m' ((c.tc : Thread Cert.FwdRefIdeal.nD Cert.FwdRefIdeal.τ).loc Cert.FwdRefIdeal.main_arg10) = m ((c.tc : Thread Cert.FwdIdeal.nD Cert.FwdIdeal.τ).loc Cert.FwdIdeal.main_arg10)
      ∧ m' ((c.tc : Thread Cert.FwdRefIdeal.nD Cert.FwdRefIdeal.τ).loc Cert.FwdRefIdeal.main_arg11) = m ((c.tc : Thread Cert.FwdIdeal.nD Cert.FwdIdeal.τ).loc Cert.FwdIdeal.main_arg11)
      ∧ m' ((c.tc : Thread Cert.FwdRefIdeal.nD Cert.FwdRefIdeal.τ).loc Cert.FwdRefIdeal.main_arg12) = m ((c.tc : Thread Cert.FwdIdeal.nD Cert.FwdIdeal.τ).loc Cert.FwdIdeal.main_arg12)
      ∧ m' ((c.tc : Thread Cert.FwdRefIdeal.nD Cert.FwdRefIdeal.τ).loc Cert.FwdRefIdeal.main_arg13) = m ((c.tc : Thread Cert.FwdIdeal.nD Cert.FwdIdeal.τ).loc Cert.FwdIdeal.main_arg13)
      ∧ m' ((c.tc : Thread Cert.FwdRefIdeal.nD Cert.FwdRefIdeal.τ).loc Cert.FwdRefIdeal.main_arg14) = m ((c.tc : Thread Cert.FwdIdeal.nD Cert.FwdIdeal.τ).loc Cert.FwdIdeal.main_arg14)
      ∧ m' ((c.tc : Thread Cert.FwdRefIdeal.nD Cert.FwdRefIdeal.τ).loc Cert.FwdRefIdeal.main_arg15) = m ((c.tc : Thread Cert.FwdIdeal.nD Cert.FwdIdeal.τ).loc Cert.FwdIdeal.main_arg15)) →
    ∃ (v0 : (c : Dev Cert.FwdIdeal.nD) → Buf (Elt Ideal) ((c.tc : Thread Cert.FwdIdeal.nD Cert.FwdIdeal.τ).loc Cert.FwdIdeal.main_v0)) (v1 : (c : Dev Cert.FwdIdeal.nD) → Buf (Elt Ideal) ((c.tc : Thread Cert.FwdIdeal.nD Cert.FwdIdeal.τ).loc Cert.FwdIdeal.main_v1)) (v2 : (c : Dev Cert.FwdIdeal.nD) → Buf (Elt Ideal) ((c.tc : Thread Cert.FwdIdeal.nD Cert.FwdIdeal.τ).loc Cert.FwdIdeal.main_v2)) (v3 : (c : Dev Cert.FwdIdeal.nD) → Buf (Elt Ideal) ((c.tc : Thread Cert.FwdIdeal.nD Cert.FwdIdeal.τ).loc Cert.FwdIdeal.main_v3)) (v4 : (c : Dev Cert.FwdIdeal.nD) → Buf (Elt Ideal) ((c.tc : Thread Cert.FwdIdeal.nD Cert.FwdIdeal.τ).loc Cert.FwdIdeal.main_v4)) (v5 : (c : Dev Cert.FwdIdeal.nD) → Buf (Elt Ideal) ((c.tc : Thread Cert.FwdIdeal.nD Cert.FwdIdeal.τ).loc Cert.FwdIdeal.main_v5)) (v6 : (c : Dev Cert.FwdIdeal.nD) → Buf (Elt Ideal) ((c.tc : Thread Cert.FwdIdeal.nD Cert.FwdIdeal.τ).loc Cert.FwdIdeal.main_v6)) (v7 : (c : Dev Cert.FwdIdeal.nD) → Buf (Elt Ideal) ((c.tc : Thread Cert.FwdIdeal.nD Cert.FwdIdeal.τ).loc Cert.FwdIdeal.main_v7)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v0) = v0 c
          ∧ r.2.mem ((c.tc : Thread Cert.FwdIdeal.nD Cert.FwdIdeal.τ).loc Cert.FwdIdeal.main_v1) = v1 c
          ∧ r.2.mem ((c.tc : Thread Cert.FwdIdeal.nD Cert.FwdIdeal.τ).loc Cert.FwdIdeal.main_v2) = v2 c
          ∧ r.2.mem ((c.tc : Thread Cert.FwdIdeal.nD Cert.FwdIdeal.τ).loc Cert.FwdIdeal.main_v3) = v3 c
          ∧ r.2.mem ((c.tc : Thread Cert.FwdIdeal.nD Cert.FwdIdeal.τ).loc Cert.FwdIdeal.main_v4) = v4 c
          ∧ r.2.mem ((c.tc : Thread Cert.FwdIdeal.nD Cert.FwdIdeal.τ).loc Cert.FwdIdeal.main_v5) = v5 c
          ∧ r.2.mem ((c.tc : Thread Cert.FwdIdeal.nD Cert.FwdIdeal.τ).loc Cert.FwdIdeal.main_v6) = v6 c
          ∧ r.2.mem ((c.tc : Thread Cert.FwdIdeal.nD Cert.FwdIdeal.τ).loc Cert.FwdIdeal.main_v7) = v7 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
          ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
          ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
          ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7)
          ∧ r.2.mem ((c.tc : Thread Cert.FwdIdeal.nD Cert.FwdIdeal.τ).loc Cert.FwdIdeal.main_arg8) = m ((c.tc : Thread Cert.FwdIdeal.nD Cert.FwdIdeal.τ).loc Cert.FwdIdeal.main_arg8)
          ∧ r.2.mem ((c.tc : Thread Cert.FwdIdeal.nD Cert.FwdIdeal.τ).loc Cert.FwdIdeal.main_arg9) = m ((c.tc : Thread Cert.FwdIdeal.nD Cert.FwdIdeal.τ).loc Cert.FwdIdeal.main_arg9)
          ∧ r.2.mem ((c.tc : Thread Cert.FwdIdeal.nD Cert.FwdIdeal.τ).loc Cert.FwdIdeal.main_arg10) = m ((c.tc : Thread Cert.FwdIdeal.nD Cert.FwdIdeal.τ).loc Cert.FwdIdeal.main_arg10)
          ∧ r.2.mem ((c.tc : Thread Cert.FwdIdeal.nD Cert.FwdIdeal.τ).loc Cert.FwdIdeal.main_arg11) = m ((c.tc : Thread Cert.FwdIdeal.nD Cert.FwdIdeal.τ).loc Cert.FwdIdeal.main_arg11)
          ∧ r.2.mem ((c.tc : Thread Cert.FwdIdeal.nD Cert.FwdIdeal.τ).loc Cert.FwdIdeal.main_arg12) = m ((c.tc : Thread Cert.FwdIdeal.nD Cert.FwdIdeal.τ).loc Cert.FwdIdeal.main_arg12)
          ∧ r.2.mem ((c.tc : Thread Cert.FwdIdeal.nD Cert.FwdIdeal.τ).loc Cert.FwdIdeal.main_arg13) = m ((c.tc : Thread Cert.FwdIdeal.nD Cert.FwdIdeal.τ).loc Cert.FwdIdeal.main_arg13)
          ∧ r.2.mem ((c.tc : Thread Cert.FwdIdeal.nD Cert.FwdIdeal.τ).loc Cert.FwdIdeal.main_arg14) = m ((c.tc : Thread Cert.FwdIdeal.nD Cert.FwdIdeal.τ).loc Cert.FwdIdeal.main_arg14)
          ∧ r.2.mem ((c.tc : Thread Cert.FwdIdeal.nD Cert.FwdIdeal.τ).loc Cert.FwdIdeal.main_arg15) = m ((c.tc : Thread Cert.FwdIdeal.nD Cert.FwdIdeal.τ).loc Cert.FwdIdeal.main_arg15))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v11) = v0 c
          ∧ r.2.mem ((c.tc : Thread Cert.FwdRefIdeal.nD Cert.FwdRefIdeal.τ).loc Cert.FwdRefIdeal.main_v14) = v1 c
          ∧ r.2.mem ((c.tc : Thread Cert.FwdRefIdeal.nD Cert.FwdRefIdeal.τ).loc Cert.FwdRefIdeal.main_v17) = v2 c
          ∧ r.2.mem ((c.tc : Thread Cert.FwdRefIdeal.nD Cert.FwdRefIdeal.τ).loc Cert.FwdRefIdeal.main_v20) = v3 c
          ∧ r.2.mem ((c.tc : Thread Cert.FwdRefIdeal.nD Cert.FwdRefIdeal.τ).loc Cert.FwdRefIdeal.main_v23) = v4 c
          ∧ r.2.mem ((c.tc : Thread Cert.FwdRefIdeal.nD Cert.FwdRefIdeal.τ).loc Cert.FwdRefIdeal.main_v7) = v5 c
          ∧ r.2.mem ((c.tc : Thread Cert.FwdRefIdeal.nD Cert.FwdRefIdeal.τ).loc Cert.FwdRefIdeal.main_v25) = v6 c
          ∧ r.2.mem ((c.tc : Thread Cert.FwdRefIdeal.nD Cert.FwdRefIdeal.τ).loc Cert.FwdRefIdeal.main_v29) = v7 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3)
          ∧ r.2.mem ((c.tc : Thread Cert.FwdRefIdeal.nD Cert.FwdRefIdeal.τ).loc Cert.FwdRefIdeal.main_arg4) = m' ((c.tc : Thread Cert.FwdRefIdeal.nD Cert.FwdRefIdeal.τ).loc Cert.FwdRefIdeal.main_arg4)
          ∧ r.2.mem ((c.tc : Thread Cert.FwdRefIdeal.nD Cert.FwdRefIdeal.τ).loc Cert.FwdRefIdeal.main_arg5) = m' ((c.tc : Thread Cert.FwdRefIdeal.nD Cert.FwdRefIdeal.τ).loc Cert.FwdRefIdeal.main_arg5)
          ∧ r.2.mem ((c.tc : Thread Cert.FwdRefIdeal.nD Cert.FwdRefIdeal.τ).loc Cert.FwdRefIdeal.main_arg6) = m' ((c.tc : Thread Cert.FwdRefIdeal.nD Cert.FwdRefIdeal.τ).loc Cert.FwdRefIdeal.main_arg6)
          ∧ r.2.mem ((c.tc : Thread Cert.FwdRefIdeal.nD Cert.FwdRefIdeal.τ).loc Cert.FwdRefIdeal.main_arg7) = m' ((c.tc : Thread Cert.FwdRefIdeal.nD Cert.FwdRefIdeal.τ).loc Cert.FwdRefIdeal.main_arg7)
          ∧ r.2.mem ((c.tc : Thread Cert.FwdRefIdeal.nD Cert.FwdRefIdeal.τ).loc Cert.FwdRefIdeal.main_arg8) = m' ((c.tc : Thread Cert.FwdRefIdeal.nD Cert.FwdRefIdeal.τ).loc Cert.FwdRefIdeal.main_arg8)
          ∧ r.2.mem ((c.tc : Thread Cert.FwdRefIdeal.nD Cert.FwdRefIdeal.τ).loc Cert.FwdRefIdeal.main_arg9) = m' ((c.tc : Thread Cert.FwdRefIdeal.nD Cert.FwdRefIdeal.τ).loc Cert.FwdRefIdeal.main_arg9)
          ∧ r.2.mem ((c.tc : Thread Cert.FwdRefIdeal.nD Cert.FwdRefIdeal.τ).loc Cert.FwdRefIdeal.main_arg10) = m' ((c.tc : Thread Cert.FwdRefIdeal.nD Cert.FwdRefIdeal.τ).loc Cert.FwdRefIdeal.main_arg10)
          ∧ r.2.mem ((c.tc : Thread Cert.FwdRefIdeal.nD Cert.FwdRefIdeal.τ).loc Cert.FwdRefIdeal.main_arg11) = m' ((c.tc : Thread Cert.FwdRefIdeal.nD Cert.FwdRefIdeal.τ).loc Cert.FwdRefIdeal.main_arg11)
          ∧ r.2.mem ((c.tc : Thread Cert.FwdRefIdeal.nD Cert.FwdRefIdeal.τ).loc Cert.FwdRefIdeal.main_arg12) = m' ((c.tc : Thread Cert.FwdRefIdeal.nD Cert.FwdRefIdeal.τ).loc Cert.FwdRefIdeal.main_arg12)
          ∧ r.2.mem ((c.tc : Thread Cert.FwdRefIdeal.nD Cert.FwdRefIdeal.τ).loc Cert.FwdRefIdeal.main_arg13) = m' ((c.tc : Thread Cert.FwdRefIdeal.nD Cert.FwdRefIdeal.τ).loc Cert.FwdRefIdeal.main_arg13)
          ∧ r.2.mem ((c.tc : Thread Cert.FwdRefIdeal.nD Cert.FwdRefIdeal.τ).loc Cert.FwdRefIdeal.main_arg14) = m' ((c.tc : Thread Cert.FwdRefIdeal.nD Cert.FwdRefIdeal.τ).loc Cert.FwdRefIdeal.main_arg14)
          ∧ r.2.mem ((c.tc : Thread Cert.FwdRefIdeal.nD Cert.FwdRefIdeal.τ).loc Cert.FwdRefIdeal.main_arg15) = m' ((c.tc : Thread Cert.FwdRefIdeal.nD Cert.FwdRefIdeal.τ).loc Cert.FwdRefIdeal.main_arg15))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v11) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v6) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v6) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_PoolDw_PoolDwIdeal : Prop :=
  True

def algebraic_PoolDwIdeal_PoolDwRefIdeal [hPoolDwIdeal : Cert.PoolDwIdeal.Facts] [hPoolDwRefIdeal : Cert.PoolDwRefIdeal.Facts] : Prop :=
  ∀ (m : (ℓ : Loc Cert.PoolDwIdeal.nD Cert.PoolDwIdeal.τ Cert.PoolDwIdeal.sig) → Buf (Elt Ideal) ℓ) (g : Dev Cert.PoolDwIdeal.nD → PrngReg)
    (m' : (ℓ : Loc Cert.PoolDwRefIdeal.nD Cert.PoolDwRefIdeal.τ Cert.PoolDwRefIdeal.sig) → Buf (Elt Ideal) ℓ) (g' : Dev Cert.PoolDwRefIdeal.nD → PrngReg), Pre_PoolDwIdeal m →
    (∀ c : Dev Cert.PoolDwIdeal.nD,
      m' ((c.tc : Thread Cert.PoolDwRefIdeal.nD Cert.PoolDwRefIdeal.τ).loc Cert.PoolDwRefIdeal.main_arg0) = m ((c.tc : Thread Cert.PoolDwIdeal.nD Cert.PoolDwIdeal.τ).loc Cert.PoolDwIdeal.main_arg0)
      ∧ m' ((c.tc : Thread Cert.PoolDwRefIdeal.nD Cert.PoolDwRefIdeal.τ).loc Cert.PoolDwRefIdeal.main_arg1) = m ((c.tc : Thread Cert.PoolDwIdeal.nD Cert.PoolDwIdeal.τ).loc Cert.PoolDwIdeal.main_arg1)) →
    ∃ (v0 : (c : Dev Cert.PoolDwIdeal.nD) → Buf (Elt Ideal) ((c.tc : Thread Cert.PoolDwIdeal.nD Cert.PoolDwIdeal.τ).loc Cert.PoolDwIdeal.main_v0)),
      θ_run (Cert.PoolDwIdeal.defs (F := Ideal)) (onTc (τ := Cert.PoolDwIdeal.τ) (Cert.PoolDwIdeal.main (F := Ideal))) ⟨m, fun _ => 0, g⟩ (fun r => ∀ c : Dev Cert.PoolDwIdeal.nD,
          r.2.mem ((c.tc : Thread Cert.PoolDwIdeal.nD Cert.PoolDwIdeal.τ).loc Cert.PoolDwIdeal.main_v0) = v0 c
          ∧ r.2.mem ((c.tc : Thread Cert.PoolDwIdeal.nD Cert.PoolDwIdeal.τ).loc Cert.PoolDwIdeal.main_arg0) = m ((c.tc : Thread Cert.PoolDwIdeal.nD Cert.PoolDwIdeal.τ).loc Cert.PoolDwIdeal.main_arg0)
          ∧ r.2.mem ((c.tc : Thread Cert.PoolDwIdeal.nD Cert.PoolDwIdeal.τ).loc Cert.PoolDwIdeal.main_arg1) = m ((c.tc : Thread Cert.PoolDwIdeal.nD Cert.PoolDwIdeal.τ).loc Cert.PoolDwIdeal.main_arg1))
      ∧ θ_run (Cert.PoolDwRefIdeal.defs (F := Ideal)) (onTc (τ := Cert.PoolDwRefIdeal.τ) (Cert.PoolDwRefIdeal.main (F := Ideal))) ⟨m', fun _ => 0, g'⟩ (fun r => ∀ c : Dev Cert.PoolDwRefIdeal.nD,
          r.2.mem ((c.tc : Thread Cert.PoolDwRefIdeal.nD Cert.PoolDwRefIdeal.τ).loc Cert.PoolDwRefIdeal.main_v6) = v0 c
          ∧ r.2.mem ((c.tc : Thread Cert.PoolDwRefIdeal.nD Cert.PoolDwRefIdeal.τ).loc Cert.PoolDwRefIdeal.main_arg0) = m' ((c.tc : Thread Cert.PoolDwRefIdeal.nD Cert.PoolDwRefIdeal.τ).loc Cert.PoolDwRefIdeal.main_arg0)
          ∧ r.2.mem ((c.tc : Thread Cert.PoolDwRefIdeal.nD Cert.PoolDwRefIdeal.τ).loc Cert.PoolDwRefIdeal.main_arg1) = m' ((c.tc : Thread Cert.PoolDwRefIdeal.nD Cert.PoolDwRefIdeal.τ).loc Cert.PoolDwRefIdeal.main_arg1))

def preserves_QkvDw_QkvDwIdeal : Prop :=
  True

def algebraic_QkvDwIdeal_QkvDwRefIdeal [hQkvDwIdeal : Cert.QkvDwIdeal.Facts] [hQkvDwRefIdeal : Cert.QkvDwRefIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg)
    (m' : (ℓ : Loc Cert.QkvDwRefIdeal.nD Cert.QkvDwRefIdeal.τ Cert.QkvDwRefIdeal.sig) → Buf (Elt Ideal) ℓ) (g' : Dev Cert.QkvDwRefIdeal.nD → PrngReg), Pre_QkvDwIdeal m →
    (∀ c : Dev Cert.QkvDwIdeal.nD,
      m' ((c.tc : Thread Cert.QkvDwRefIdeal.nD Cert.QkvDwRefIdeal.τ).loc Cert.QkvDwRefIdeal.main_arg0) = m ((c.tc : Thread Cert.QkvDwIdeal.nD Cert.QkvDwIdeal.τ).loc Cert.QkvDwIdeal.main_arg0)
      ∧ m' ((c.tc : Thread Cert.QkvDwRefIdeal.nD Cert.QkvDwRefIdeal.τ).loc Cert.QkvDwRefIdeal.main_arg1) = m ((c.tc : Thread Cert.QkvDwIdeal.nD Cert.QkvDwIdeal.τ).loc Cert.QkvDwIdeal.main_arg1)) →
    ∃ (v0 : (c : Dev Cert.QkvDwIdeal.nD) → Buf (Elt Ideal) ((c.tc : Thread Cert.QkvDwIdeal.nD Cert.QkvDwIdeal.τ).loc Cert.QkvDwIdeal.main_v0)),
      θ_run (Cert.QkvDwIdeal.defs (F := Ideal)) (onTc (τ := Cert.QkvDwIdeal.τ) (Cert.QkvDwIdeal.main (F := Ideal))) ⟨m, fun _ => 0, g⟩ (fun r => ∀ c : Dev Cert.QkvDwIdeal.nD,
          r.2.mem ((c.tc : Thread Cert.QkvDwIdeal.nD Cert.QkvDwIdeal.τ).loc Cert.QkvDwIdeal.main_v0) = v0 c
          ∧ r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
          ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1))
      ∧ θ_run (Cert.QkvDwRefIdeal.defs (F := Ideal)) (onTc (τ := Cert.QkvDwRefIdeal.τ) (Cert.QkvDwRefIdeal.main (F := Ideal))) ⟨m', fun _ => 0, g'⟩ (fun r => ∀ c : Dev Cert.QkvDwRefIdeal.nD,
          r.2.mem ((c.tc : Thread Cert.QkvDwRefIdeal.nD Cert.QkvDwRefIdeal.τ).loc Cert.QkvDwRefIdeal.main_v6) = v0 c
          ∧ r.2.mem ((c.tc : Thread Cert.QkvDwRefIdeal.nD Cert.QkvDwRefIdeal.τ).loc Cert.QkvDwRefIdeal.main_arg0) = m' ((c.tc : Thread Cert.QkvDwRefIdeal.nD Cert.QkvDwRefIdeal.τ).loc Cert.QkvDwRefIdeal.main_arg0)
          ∧ r.2.mem ((c.tc : Thread Cert.QkvDwRefIdeal.nD Cert.QkvDwRefIdeal.τ).loc Cert.QkvDwRefIdeal.main_arg1) = m' ((c.tc : Thread Cert.QkvDwRefIdeal.nD Cert.QkvDwRefIdeal.τ).loc Cert.QkvDwRefIdeal.main_arg1))

def preserves_RestDw_RestDwIdeal : Prop :=
  True

def algebraic_RestDwIdeal_RestDwRefIdeal [hRestDwIdeal : Cert.RestDwIdeal.Facts] [hRestDwRefIdeal : Cert.RestDwRefIdeal.Facts] : Prop :=
  ∀ (m : (ℓ : Loc Cert.RestDwIdeal.nD Cert.RestDwIdeal.τ Cert.RestDwIdeal.sig) → Buf (Elt Ideal) ℓ) (g : Dev Cert.RestDwIdeal.nD → PrngReg)
    (m' : (ℓ : Loc Cert.RestDwRefIdeal.nD Cert.RestDwRefIdeal.τ Cert.RestDwRefIdeal.sig) → Buf (Elt Ideal) ℓ) (g' : Dev Cert.RestDwRefIdeal.nD → PrngReg), Pre_RestDwIdeal m →
    (∀ c : Dev Cert.RestDwIdeal.nD,
      m' ((c.tc : Thread Cert.RestDwRefIdeal.nD Cert.RestDwRefIdeal.τ).loc Cert.RestDwRefIdeal.main_arg0) = m ((c.tc : Thread Cert.RestDwIdeal.nD Cert.RestDwIdeal.τ).loc Cert.RestDwIdeal.main_arg0)
      ∧ m' ((c.tc : Thread Cert.RestDwRefIdeal.nD Cert.RestDwRefIdeal.τ).loc Cert.RestDwRefIdeal.main_arg1) = m ((c.tc : Thread Cert.RestDwIdeal.nD Cert.RestDwIdeal.τ).loc Cert.RestDwIdeal.main_arg1)) →
    ∃ (v0 : (c : Dev Cert.RestDwIdeal.nD) → Buf (Elt Ideal) ((c.tc : Thread Cert.RestDwIdeal.nD Cert.RestDwIdeal.τ).loc Cert.RestDwIdeal.main_v0)),
      θ_run (Cert.RestDwIdeal.defs (F := Ideal)) (onTc (τ := Cert.RestDwIdeal.τ) (Cert.RestDwIdeal.main (F := Ideal))) ⟨m, fun _ => 0, g⟩ (fun r => ∀ c : Dev Cert.RestDwIdeal.nD,
          r.2.mem ((c.tc : Thread Cert.RestDwIdeal.nD Cert.RestDwIdeal.τ).loc Cert.RestDwIdeal.main_v0) = v0 c
          ∧ r.2.mem ((c.tc : Thread Cert.RestDwIdeal.nD Cert.RestDwIdeal.τ).loc Cert.RestDwIdeal.main_arg0) = m ((c.tc : Thread Cert.RestDwIdeal.nD Cert.RestDwIdeal.τ).loc Cert.RestDwIdeal.main_arg0)
          ∧ r.2.mem ((c.tc : Thread Cert.RestDwIdeal.nD Cert.RestDwIdeal.τ).loc Cert.RestDwIdeal.main_arg1) = m ((c.tc : Thread Cert.RestDwIdeal.nD Cert.RestDwIdeal.τ).loc Cert.RestDwIdeal.main_arg1))
      ∧ θ_run (Cert.RestDwRefIdeal.defs (F := Ideal)) (onTc (τ := Cert.RestDwRefIdeal.τ) (Cert.RestDwRefIdeal.main (F := Ideal))) ⟨m', fun _ => 0, g'⟩ (fun r => ∀ c : Dev Cert.RestDwRefIdeal.nD,
          r.2.mem ((c.tc : Thread Cert.RestDwRefIdeal.nD Cert.RestDwRefIdeal.τ).loc Cert.RestDwRefIdeal.main_v6) = v0 c
          ∧ r.2.mem ((c.tc : Thread Cert.RestDwRefIdeal.nD Cert.RestDwRefIdeal.τ).loc Cert.RestDwRefIdeal.main_arg0) = m' ((c.tc : Thread Cert.RestDwRefIdeal.nD Cert.RestDwRefIdeal.τ).loc Cert.RestDwRefIdeal.main_arg0)
          ∧ r.2.mem ((c.tc : Thread Cert.RestDwRefIdeal.nD Cert.RestDwRefIdeal.τ).loc Cert.RestDwRefIdeal.main_arg1) = m' ((c.tc : Thread Cert.RestDwRefIdeal.nD Cert.RestDwRefIdeal.τ).loc Cert.RestDwRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)) (v3 : (c : Dev Cert.MergeIdeal.nD) → Buf (Elt Ideal) ((c.tc : Thread Cert.MergeIdeal.nD Cert.MergeIdeal.τ).loc Cert.MergeIdeal.main_v0_3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_v0_3) = v3 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v40) = v0 c
          ∧ r.2.mem ((c.tc : Thread Cert.MergeRefIdeal.nD Cert.MergeRefIdeal.τ).loc Cert.MergeRefIdeal.main_v41) = v1 c
          ∧ r.2.mem ((c.tc : Thread Cert.MergeRefIdeal.nD Cert.MergeRefIdeal.τ).loc Cert.MergeRefIdeal.main_v42) = v2 c
          ∧ r.2.mem ((c.tc : Thread Cert.MergeRefIdeal.nD Cert.MergeRefIdeal.τ).loc Cert.MergeRefIdeal.main_v43) = v3 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_InAdam_InAdamIdeal : Prop :=
  True

def algebraic_InAdamIdeal_InAdamRefIdeal [hInAdamIdeal : Cert.InAdamIdeal.Facts] [hInAdamRefIdeal : Cert.InAdamRefIdeal.Facts] : Prop :=
  ∀ (m : (ℓ : Loc Cert.InAdamIdeal.nD Cert.InAdamIdeal.τ Cert.InAdamIdeal.sig) → Buf (Elt Ideal) ℓ) (g : Dev Cert.InAdamIdeal.nD → PrngReg)
    (m' : (ℓ : Loc Cert.InAdamRefIdeal.nD Cert.InAdamRefIdeal.τ Cert.InAdamRefIdeal.sig) → Buf (Elt Ideal) ℓ) (g' : Dev Cert.InAdamRefIdeal.nD → PrngReg), Pre_InAdamIdeal m →
    (∀ c : Dev Cert.InAdamIdeal.nD,
      m' ((c.tc : Thread Cert.InAdamRefIdeal.nD Cert.InAdamRefIdeal.τ).loc Cert.InAdamRefIdeal.main_arg0) = m ((c.tc : Thread Cert.InAdamIdeal.nD Cert.InAdamIdeal.τ).loc Cert.InAdamIdeal.main_arg0)
      ∧ m' ((c.tc : Thread Cert.InAdamRefIdeal.nD Cert.InAdamRefIdeal.τ).loc Cert.InAdamRefIdeal.main_arg1) = m ((c.tc : Thread Cert.InAdamIdeal.nD Cert.InAdamIdeal.τ).loc Cert.InAdamIdeal.main_arg1)
      ∧ m' ((c.tc : Thread Cert.InAdamRefIdeal.nD Cert.InAdamRefIdeal.τ).loc Cert.InAdamRefIdeal.main_arg2) = m ((c.tc : Thread Cert.InAdamIdeal.nD Cert.InAdamIdeal.τ).loc Cert.InAdamIdeal.main_arg2)
      ∧ m' ((c.tc : Thread Cert.InAdamRefIdeal.nD Cert.InAdamRefIdeal.τ).loc Cert.InAdamRefIdeal.main_arg3) = m ((c.tc : Thread Cert.InAdamIdeal.nD Cert.InAdamIdeal.τ).loc Cert.InAdamIdeal.main_arg3)
      ∧ m' ((c.tc : Thread Cert.InAdamRefIdeal.nD Cert.InAdamRefIdeal.τ).loc Cert.InAdamRefIdeal.main_arg4) = m ((c.tc : Thread Cert.InAdamIdeal.nD Cert.InAdamIdeal.τ).loc Cert.InAdamIdeal.main_arg4)) →
    ∃ (v0 : (c : Dev Cert.InAdamIdeal.nD) → Buf (Elt Ideal) ((c.tc : Thread Cert.InAdamIdeal.nD Cert.InAdamIdeal.τ).loc Cert.InAdamIdeal.main_v0_0)) (v1 : (c : Dev Cert.InAdamIdeal.nD) → Buf (Elt Ideal) ((c.tc : Thread Cert.InAdamIdeal.nD Cert.InAdamIdeal.τ).loc Cert.InAdamIdeal.main_v0_1)) (v2 : (c : Dev Cert.InAdamIdeal.nD) → Buf (Elt Ideal) ((c.tc : Thread Cert.InAdamIdeal.nD Cert.InAdamIdeal.τ).loc Cert.InAdamIdeal.main_v0_2)) (v3 : (c : Dev Cert.InAdamIdeal.nD) → Buf (Elt Ideal) ((c.tc : Thread Cert.InAdamIdeal.nD Cert.InAdamIdeal.τ).loc Cert.InAdamIdeal.main_v0_3)),
      θ_run (Cert.InAdamIdeal.defs (F := Ideal)) (onTc (τ := Cert.InAdamIdeal.τ) (Cert.InAdamIdeal.main (F := Ideal))) ⟨m, fun _ => 0, g⟩ (fun r => ∀ c : Dev Cert.InAdamIdeal.nD,
          r.2.mem ((c.tc : Thread Cert.InAdamIdeal.nD Cert.InAdamIdeal.τ).loc Cert.InAdamIdeal.main_v0_0) = v0 c
          ∧ r.2.mem ((c.tc : Thread Cert.InAdamIdeal.nD Cert.InAdamIdeal.τ).loc Cert.InAdamIdeal.main_v0_1) = v1 c
          ∧ r.2.mem ((c.tc : Thread Cert.InAdamIdeal.nD Cert.InAdamIdeal.τ).loc Cert.InAdamIdeal.main_v0_2) = v2 c
          ∧ r.2.mem ((c.tc : Thread Cert.InAdamIdeal.nD Cert.InAdamIdeal.τ).loc Cert.InAdamIdeal.main_v0_3) = v3 c
          ∧ r.2.mem ((c.tc : Thread Cert.InAdamIdeal.nD Cert.InAdamIdeal.τ).loc Cert.InAdamIdeal.main_arg0) = m ((c.tc : Thread Cert.InAdamIdeal.nD Cert.InAdamIdeal.τ).loc Cert.InAdamIdeal.main_arg0)
          ∧ r.2.mem ((c.tc : Thread Cert.InAdamIdeal.nD Cert.InAdamIdeal.τ).loc Cert.InAdamIdeal.main_arg1) = m ((c.tc : Thread Cert.InAdamIdeal.nD Cert.InAdamIdeal.τ).loc Cert.InAdamIdeal.main_arg1)
          ∧ r.2.mem ((c.tc : Thread Cert.InAdamIdeal.nD Cert.InAdamIdeal.τ).loc Cert.InAdamIdeal.main_arg2) = m ((c.tc : Thread Cert.InAdamIdeal.nD Cert.InAdamIdeal.τ).loc Cert.InAdamIdeal.main_arg2)
          ∧ r.2.mem ((c.tc : Thread Cert.InAdamIdeal.nD Cert.InAdamIdeal.τ).loc Cert.InAdamIdeal.main_arg3) = m ((c.tc : Thread Cert.InAdamIdeal.nD Cert.InAdamIdeal.τ).loc Cert.InAdamIdeal.main_arg3)
          ∧ r.2.mem ((c.tc : Thread Cert.InAdamIdeal.nD Cert.InAdamIdeal.τ).loc Cert.InAdamIdeal.main_arg4) = m ((c.tc : Thread Cert.InAdamIdeal.nD Cert.InAdamIdeal.τ).loc Cert.InAdamIdeal.main_arg4))
      ∧ θ_run (Cert.InAdamRefIdeal.defs (F := Ideal)) (onTc (τ := Cert.InAdamRefIdeal.τ) (Cert.InAdamRefIdeal.main (F := Ideal))) ⟨m', fun _ => 0, g'⟩ (fun r => ∀ c : Dev Cert.InAdamRefIdeal.nD,
          r.2.mem ((c.tc : Thread Cert.InAdamRefIdeal.nD Cert.InAdamRefIdeal.τ).loc Cert.InAdamRefIdeal.main_v6) = v0 c
          ∧ r.2.mem ((c.tc : Thread Cert.InAdamRefIdeal.nD Cert.InAdamRefIdeal.τ).loc Cert.InAdamRefIdeal.main_v30) = v1 c
          ∧ r.2.mem ((c.tc : Thread Cert.InAdamRefIdeal.nD Cert.InAdamRefIdeal.τ).loc Cert.InAdamRefIdeal.main_v11) = v2 c
          ∧ r.2.mem ((c.tc : Thread Cert.InAdamRefIdeal.nD Cert.InAdamRefIdeal.τ).loc Cert.InAdamRefIdeal.main_v17) = v3 c
          ∧ r.2.mem ((c.tc : Thread Cert.InAdamRefIdeal.nD Cert.InAdamRefIdeal.τ).loc Cert.InAdamRefIdeal.main_arg0) = m' ((c.tc : Thread Cert.InAdamRefIdeal.nD Cert.InAdamRefIdeal.τ).loc Cert.InAdamRefIdeal.main_arg0)
          ∧ r.2.mem ((c.tc : Thread Cert.InAdamRefIdeal.nD Cert.InAdamRefIdeal.τ).loc Cert.InAdamRefIdeal.main_arg1) = m' ((c.tc : Thread Cert.InAdamRefIdeal.nD Cert.InAdamRefIdeal.τ).loc Cert.InAdamRefIdeal.main_arg1)
          ∧ r.2.mem ((c.tc : Thread Cert.InAdamRefIdeal.nD Cert.InAdamRefIdeal.τ).loc Cert.InAdamRefIdeal.main_arg2) = m' ((c.tc : Thread Cert.InAdamRefIdeal.nD Cert.InAdamRefIdeal.τ).loc Cert.InAdamRefIdeal.main_arg2)
          ∧ r.2.mem ((c.tc : Thread Cert.InAdamRefIdeal.nD Cert.InAdamRefIdeal.τ).loc Cert.InAdamRefIdeal.main_arg3) = m' ((c.tc : Thread Cert.InAdamRefIdeal.nD Cert.InAdamRefIdeal.τ).loc Cert.InAdamRefIdeal.main_arg3)
          ∧ r.2.mem ((c.tc : Thread Cert.InAdamRefIdeal.nD Cert.InAdamRefIdeal.τ).loc Cert.InAdamRefIdeal.main_arg4) = m' ((c.tc : Thread Cert.InAdamRefIdeal.nD Cert.InAdamRefIdeal.τ).loc Cert.InAdamRefIdeal.main_arg4))

def preserves_UpAdam_UpAdamIdeal : Prop :=
  True

def algebraic_UpAdamIdeal_UpAdamRefIdeal [hUpAdamIdeal : Cert.UpAdamIdeal.Facts] [hUpAdamRefIdeal : Cert.UpAdamRefIdeal.Facts] : Prop :=
  ∀ (m : (ℓ : Loc Cert.UpAdamIdeal.nD Cert.UpAdamIdeal.τ Cert.UpAdamIdeal.sig) → Buf (Elt Ideal) ℓ) (g : Dev Cert.UpAdamIdeal.nD → PrngReg)
    (m' : (ℓ : Loc Cert.UpAdamRefIdeal.nD Cert.UpAdamRefIdeal.τ Cert.UpAdamRefIdeal.sig) → Buf (Elt Ideal) ℓ) (g' : Dev Cert.UpAdamRefIdeal.nD → PrngReg), Pre_UpAdamIdeal m →
    (∀ c : Dev Cert.UpAdamIdeal.nD,
      m' ((c.tc : Thread Cert.UpAdamRefIdeal.nD Cert.UpAdamRefIdeal.τ).loc Cert.UpAdamRefIdeal.main_arg0) = m ((c.tc : Thread Cert.UpAdamIdeal.nD Cert.UpAdamIdeal.τ).loc Cert.UpAdamIdeal.main_arg0)
      ∧ m' ((c.tc : Thread Cert.UpAdamRefIdeal.nD Cert.UpAdamRefIdeal.τ).loc Cert.UpAdamRefIdeal.main_arg1) = m ((c.tc : Thread Cert.UpAdamIdeal.nD Cert.UpAdamIdeal.τ).loc Cert.UpAdamIdeal.main_arg1)
      ∧ m' ((c.tc : Thread Cert.UpAdamRefIdeal.nD Cert.UpAdamRefIdeal.τ).loc Cert.UpAdamRefIdeal.main_arg2) = m ((c.tc : Thread Cert.UpAdamIdeal.nD Cert.UpAdamIdeal.τ).loc Cert.UpAdamIdeal.main_arg2)
      ∧ m' ((c.tc : Thread Cert.UpAdamRefIdeal.nD Cert.UpAdamRefIdeal.τ).loc Cert.UpAdamRefIdeal.main_arg3) = m ((c.tc : Thread Cert.UpAdamIdeal.nD Cert.UpAdamIdeal.τ).loc Cert.UpAdamIdeal.main_arg3)
      ∧ m' ((c.tc : Thread Cert.UpAdamRefIdeal.nD Cert.UpAdamRefIdeal.τ).loc Cert.UpAdamRefIdeal.main_arg4) = m ((c.tc : Thread Cert.UpAdamIdeal.nD Cert.UpAdamIdeal.τ).loc Cert.UpAdamIdeal.main_arg4)) →
    ∃ (v0 : (c : Dev Cert.UpAdamIdeal.nD) → Buf (Elt Ideal) ((c.tc : Thread Cert.UpAdamIdeal.nD Cert.UpAdamIdeal.τ).loc Cert.UpAdamIdeal.main_v0_0)) (v1 : (c : Dev Cert.UpAdamIdeal.nD) → Buf (Elt Ideal) ((c.tc : Thread Cert.UpAdamIdeal.nD Cert.UpAdamIdeal.τ).loc Cert.UpAdamIdeal.main_v0_1)) (v2 : (c : Dev Cert.UpAdamIdeal.nD) → Buf (Elt Ideal) ((c.tc : Thread Cert.UpAdamIdeal.nD Cert.UpAdamIdeal.τ).loc Cert.UpAdamIdeal.main_v0_2)) (v3 : (c : Dev Cert.UpAdamIdeal.nD) → Buf (Elt Ideal) ((c.tc : Thread Cert.UpAdamIdeal.nD Cert.UpAdamIdeal.τ).loc Cert.UpAdamIdeal.main_v0_3)),
      θ_run (Cert.UpAdamIdeal.defs (F := Ideal)) (onTc (τ := Cert.UpAdamIdeal.τ) (Cert.UpAdamIdeal.main (F := Ideal))) ⟨m, fun _ => 0, g⟩ (fun r => ∀ c : Dev Cert.UpAdamIdeal.nD,
          r.2.mem ((c.tc : Thread Cert.UpAdamIdeal.nD Cert.UpAdamIdeal.τ).loc Cert.UpAdamIdeal.main_v0_0) = v0 c
          ∧ r.2.mem ((c.tc : Thread Cert.UpAdamIdeal.nD Cert.UpAdamIdeal.τ).loc Cert.UpAdamIdeal.main_v0_1) = v1 c
          ∧ r.2.mem ((c.tc : Thread Cert.UpAdamIdeal.nD Cert.UpAdamIdeal.τ).loc Cert.UpAdamIdeal.main_v0_2) = v2 c
          ∧ r.2.mem ((c.tc : Thread Cert.UpAdamIdeal.nD Cert.UpAdamIdeal.τ).loc Cert.UpAdamIdeal.main_v0_3) = v3 c
          ∧ r.2.mem ((c.tc : Thread Cert.UpAdamIdeal.nD Cert.UpAdamIdeal.τ).loc Cert.UpAdamIdeal.main_arg0) = m ((c.tc : Thread Cert.UpAdamIdeal.nD Cert.UpAdamIdeal.τ).loc Cert.UpAdamIdeal.main_arg0)
          ∧ r.2.mem ((c.tc : Thread Cert.UpAdamIdeal.nD Cert.UpAdamIdeal.τ).loc Cert.UpAdamIdeal.main_arg1) = m ((c.tc : Thread Cert.UpAdamIdeal.nD Cert.UpAdamIdeal.τ).loc Cert.UpAdamIdeal.main_arg1)
          ∧ r.2.mem ((c.tc : Thread Cert.UpAdamIdeal.nD Cert.UpAdamIdeal.τ).loc Cert.UpAdamIdeal.main_arg2) = m ((c.tc : Thread Cert.UpAdamIdeal.nD Cert.UpAdamIdeal.τ).loc Cert.UpAdamIdeal.main_arg2)
          ∧ r.2.mem ((c.tc : Thread Cert.UpAdamIdeal.nD Cert.UpAdamIdeal.τ).loc Cert.UpAdamIdeal.main_arg3) = m ((c.tc : Thread Cert.UpAdamIdeal.nD Cert.UpAdamIdeal.τ).loc Cert.UpAdamIdeal.main_arg3)
          ∧ r.2.mem ((c.tc : Thread Cert.UpAdamIdeal.nD Cert.UpAdamIdeal.τ).loc Cert.UpAdamIdeal.main_arg4) = m ((c.tc : Thread Cert.UpAdamIdeal.nD Cert.UpAdamIdeal.τ).loc Cert.UpAdamIdeal.main_arg4))
      ∧ θ_run (Cert.UpAdamRefIdeal.defs (F := Ideal)) (onTc (τ := Cert.UpAdamRefIdeal.τ) (Cert.UpAdamRefIdeal.main (F := Ideal))) ⟨m', fun _ => 0, g'⟩ (fun r => ∀ c : Dev Cert.UpAdamRefIdeal.nD,
          r.2.mem ((c.tc : Thread Cert.UpAdamRefIdeal.nD Cert.UpAdamRefIdeal.τ).loc Cert.UpAdamRefIdeal.main_v6) = v0 c
          ∧ r.2.mem ((c.tc : Thread Cert.UpAdamRefIdeal.nD Cert.UpAdamRefIdeal.τ).loc Cert.UpAdamRefIdeal.main_v30) = v1 c
          ∧ r.2.mem ((c.tc : Thread Cert.UpAdamRefIdeal.nD Cert.UpAdamRefIdeal.τ).loc Cert.UpAdamRefIdeal.main_v11) = v2 c
          ∧ r.2.mem ((c.tc : Thread Cert.UpAdamRefIdeal.nD Cert.UpAdamRefIdeal.τ).loc Cert.UpAdamRefIdeal.main_v17) = v3 c
          ∧ r.2.mem ((c.tc : Thread Cert.UpAdamRefIdeal.nD Cert.UpAdamRefIdeal.τ).loc Cert.UpAdamRefIdeal.main_arg0) = m' ((c.tc : Thread Cert.UpAdamRefIdeal.nD Cert.UpAdamRefIdeal.τ).loc Cert.UpAdamRefIdeal.main_arg0)
          ∧ r.2.mem ((c.tc : Thread Cert.UpAdamRefIdeal.nD Cert.UpAdamRefIdeal.τ).loc Cert.UpAdamRefIdeal.main_arg1) = m' ((c.tc : Thread Cert.UpAdamRefIdeal.nD Cert.UpAdamRefIdeal.τ).loc Cert.UpAdamRefIdeal.main_arg1)
          ∧ r.2.mem ((c.tc : Thread Cert.UpAdamRefIdeal.nD Cert.UpAdamRefIdeal.τ).loc Cert.UpAdamRefIdeal.main_arg2) = m' ((c.tc : Thread Cert.UpAdamRefIdeal.nD Cert.UpAdamRefIdeal.τ).loc Cert.UpAdamRefIdeal.main_arg2)
          ∧ r.2.mem ((c.tc : Thread Cert.UpAdamRefIdeal.nD Cert.UpAdamRefIdeal.τ).loc Cert.UpAdamRefIdeal.main_arg3) = m' ((c.tc : Thread Cert.UpAdamRefIdeal.nD Cert.UpAdamRefIdeal.τ).loc Cert.UpAdamRefIdeal.main_arg3)
          ∧ r.2.mem ((c.tc : Thread Cert.UpAdamRefIdeal.nD Cert.UpAdamRefIdeal.τ).loc Cert.UpAdamRefIdeal.main_arg4) = m' ((c.tc : Thread Cert.UpAdamRefIdeal.nD Cert.UpAdamRefIdeal.τ).loc Cert.UpAdamRefIdeal.main_arg4))

def preserves_PoolAdam_PoolAdamIdeal : Prop :=
  True

def algebraic_PoolAdamIdeal_PoolAdamRefIdeal [hPoolAdamIdeal : Cert.PoolAdamIdeal.Facts] [hPoolAdamRefIdeal : Cert.PoolAdamRefIdeal.Facts] : Prop :=
  ∀ (m : (ℓ : Loc Cert.PoolAdamIdeal.nD Cert.PoolAdamIdeal.τ Cert.PoolAdamIdeal.sig) → Buf (Elt Ideal) ℓ) (g : Dev Cert.PoolAdamIdeal.nD → PrngReg)
    (m' : (ℓ : Loc Cert.PoolAdamRefIdeal.nD Cert.PoolAdamRefIdeal.τ Cert.PoolAdamRefIdeal.sig) → Buf (Elt Ideal) ℓ) (g' : Dev Cert.PoolAdamRefIdeal.nD → PrngReg), Pre_PoolAdamIdeal m →
    (∀ c : Dev Cert.PoolAdamIdeal.nD,
      m' ((c.tc : Thread Cert.PoolAdamRefIdeal.nD Cert.PoolAdamRefIdeal.τ).loc Cert.PoolAdamRefIdeal.main_arg0) = m ((c.tc : Thread Cert.PoolAdamIdeal.nD Cert.PoolAdamIdeal.τ).loc Cert.PoolAdamIdeal.main_arg0)
      ∧ m' ((c.tc : Thread Cert.PoolAdamRefIdeal.nD Cert.PoolAdamRefIdeal.τ).loc Cert.PoolAdamRefIdeal.main_arg1) = m ((c.tc : Thread Cert.PoolAdamIdeal.nD Cert.PoolAdamIdeal.τ).loc Cert.PoolAdamIdeal.main_arg1)
      ∧ m' ((c.tc : Thread Cert.PoolAdamRefIdeal.nD Cert.PoolAdamRefIdeal.τ).loc Cert.PoolAdamRefIdeal.main_arg2) = m ((c.tc : Thread Cert.PoolAdamIdeal.nD Cert.PoolAdamIdeal.τ).loc Cert.PoolAdamIdeal.main_arg2)
      ∧ m' ((c.tc : Thread Cert.PoolAdamRefIdeal.nD Cert.PoolAdamRefIdeal.τ).loc Cert.PoolAdamRefIdeal.main_arg3) = m ((c.tc : Thread Cert.PoolAdamIdeal.nD Cert.PoolAdamIdeal.τ).loc Cert.PoolAdamIdeal.main_arg3)
      ∧ m' ((c.tc : Thread Cert.PoolAdamRefIdeal.nD Cert.PoolAdamRefIdeal.τ).loc Cert.PoolAdamRefIdeal.main_arg4) = m ((c.tc : Thread Cert.PoolAdamIdeal.nD Cert.PoolAdamIdeal.τ).loc Cert.PoolAdamIdeal.main_arg4)) →
    ∃ (v0 : (c : Dev Cert.PoolAdamIdeal.nD) → Buf (Elt Ideal) ((c.tc : Thread Cert.PoolAdamIdeal.nD Cert.PoolAdamIdeal.τ).loc Cert.PoolAdamIdeal.main_v0_0)) (v1 : (c : Dev Cert.PoolAdamIdeal.nD) → Buf (Elt Ideal) ((c.tc : Thread Cert.PoolAdamIdeal.nD Cert.PoolAdamIdeal.τ).loc Cert.PoolAdamIdeal.main_v0_1)) (v2 : (c : Dev Cert.PoolAdamIdeal.nD) → Buf (Elt Ideal) ((c.tc : Thread Cert.PoolAdamIdeal.nD Cert.PoolAdamIdeal.τ).loc Cert.PoolAdamIdeal.main_v0_2)) (v3 : (c : Dev Cert.PoolAdamIdeal.nD) → Buf (Elt Ideal) ((c.tc : Thread Cert.PoolAdamIdeal.nD Cert.PoolAdamIdeal.τ).loc Cert.PoolAdamIdeal.main_v0_3)),
      θ_run (Cert.PoolAdamIdeal.defs (F := Ideal)) (onTc (τ := Cert.PoolAdamIdeal.τ) (Cert.PoolAdamIdeal.main (F := Ideal))) ⟨m, fun _ => 0, g⟩ (fun r => ∀ c : Dev Cert.PoolAdamIdeal.nD,
          r.2.mem ((c.tc : Thread Cert.PoolAdamIdeal.nD Cert.PoolAdamIdeal.τ).loc Cert.PoolAdamIdeal.main_v0_0) = v0 c
          ∧ r.2.mem ((c.tc : Thread Cert.PoolAdamIdeal.nD Cert.PoolAdamIdeal.τ).loc Cert.PoolAdamIdeal.main_v0_1) = v1 c
          ∧ r.2.mem ((c.tc : Thread Cert.PoolAdamIdeal.nD Cert.PoolAdamIdeal.τ).loc Cert.PoolAdamIdeal.main_v0_2) = v2 c
          ∧ r.2.mem ((c.tc : Thread Cert.PoolAdamIdeal.nD Cert.PoolAdamIdeal.τ).loc Cert.PoolAdamIdeal.main_v0_3) = v3 c
          ∧ r.2.mem ((c.tc : Thread Cert.PoolAdamIdeal.nD Cert.PoolAdamIdeal.τ).loc Cert.PoolAdamIdeal.main_arg0) = m ((c.tc : Thread Cert.PoolAdamIdeal.nD Cert.PoolAdamIdeal.τ).loc Cert.PoolAdamIdeal.main_arg0)
          ∧ r.2.mem ((c.tc : Thread Cert.PoolAdamIdeal.nD Cert.PoolAdamIdeal.τ).loc Cert.PoolAdamIdeal.main_arg1) = m ((c.tc : Thread Cert.PoolAdamIdeal.nD Cert.PoolAdamIdeal.τ).loc Cert.PoolAdamIdeal.main_arg1)
          ∧ r.2.mem ((c.tc : Thread Cert.PoolAdamIdeal.nD Cert.PoolAdamIdeal.τ).loc Cert.PoolAdamIdeal.main_arg2) = m ((c.tc : Thread Cert.PoolAdamIdeal.nD Cert.PoolAdamIdeal.τ).loc Cert.PoolAdamIdeal.main_arg2)
          ∧ r.2.mem ((c.tc : Thread Cert.PoolAdamIdeal.nD Cert.PoolAdamIdeal.τ).loc Cert.PoolAdamIdeal.main_arg3) = m ((c.tc : Thread Cert.PoolAdamIdeal.nD Cert.PoolAdamIdeal.τ).loc Cert.PoolAdamIdeal.main_arg3)
          ∧ r.2.mem ((c.tc : Thread Cert.PoolAdamIdeal.nD Cert.PoolAdamIdeal.τ).loc Cert.PoolAdamIdeal.main_arg4) = m ((c.tc : Thread Cert.PoolAdamIdeal.nD Cert.PoolAdamIdeal.τ).loc Cert.PoolAdamIdeal.main_arg4))
      ∧ θ_run (Cert.PoolAdamRefIdeal.defs (F := Ideal)) (onTc (τ := Cert.PoolAdamRefIdeal.τ) (Cert.PoolAdamRefIdeal.main (F := Ideal))) ⟨m', fun _ => 0, g'⟩ (fun r => ∀ c : Dev Cert.PoolAdamRefIdeal.nD,
          r.2.mem ((c.tc : Thread Cert.PoolAdamRefIdeal.nD Cert.PoolAdamRefIdeal.τ).loc Cert.PoolAdamRefIdeal.main_v6) = v0 c
          ∧ r.2.mem ((c.tc : Thread Cert.PoolAdamRefIdeal.nD Cert.PoolAdamRefIdeal.τ).loc Cert.PoolAdamRefIdeal.main_v30) = v1 c
          ∧ r.2.mem ((c.tc : Thread Cert.PoolAdamRefIdeal.nD Cert.PoolAdamRefIdeal.τ).loc Cert.PoolAdamRefIdeal.main_v11) = v2 c
          ∧ r.2.mem ((c.tc : Thread Cert.PoolAdamRefIdeal.nD Cert.PoolAdamRefIdeal.τ).loc Cert.PoolAdamRefIdeal.main_v17) = v3 c
          ∧ r.2.mem ((c.tc : Thread Cert.PoolAdamRefIdeal.nD Cert.PoolAdamRefIdeal.τ).loc Cert.PoolAdamRefIdeal.main_arg0) = m' ((c.tc : Thread Cert.PoolAdamRefIdeal.nD Cert.PoolAdamRefIdeal.τ).loc Cert.PoolAdamRefIdeal.main_arg0)
          ∧ r.2.mem ((c.tc : Thread Cert.PoolAdamRefIdeal.nD Cert.PoolAdamRefIdeal.τ).loc Cert.PoolAdamRefIdeal.main_arg1) = m' ((c.tc : Thread Cert.PoolAdamRefIdeal.nD Cert.PoolAdamRefIdeal.τ).loc Cert.PoolAdamRefIdeal.main_arg1)
          ∧ r.2.mem ((c.tc : Thread Cert.PoolAdamRefIdeal.nD Cert.PoolAdamRefIdeal.τ).loc Cert.PoolAdamRefIdeal.main_arg2) = m' ((c.tc : Thread Cert.PoolAdamRefIdeal.nD Cert.PoolAdamRefIdeal.τ).loc Cert.PoolAdamRefIdeal.main_arg2)
          ∧ r.2.mem ((c.tc : Thread Cert.PoolAdamRefIdeal.nD Cert.PoolAdamRefIdeal.τ).loc Cert.PoolAdamRefIdeal.main_arg3) = m' ((c.tc : Thread Cert.PoolAdamRefIdeal.nD Cert.PoolAdamRefIdeal.τ).loc Cert.PoolAdamRefIdeal.main_arg3)
          ∧ r.2.mem ((c.tc : Thread Cert.PoolAdamRefIdeal.nD Cert.PoolAdamRefIdeal.τ).loc Cert.PoolAdamRefIdeal.main_arg4) = m' ((c.tc : Thread Cert.PoolAdamRefIdeal.nD Cert.PoolAdamRefIdeal.τ).loc Cert.PoolAdamRefIdeal.main_arg4))

def preserves_OutAdam_OutAdamIdeal : Prop :=
  True

def algebraic_OutAdamIdeal_OutAdamRefIdeal [hOutAdamIdeal : Cert.OutAdamIdeal.Facts] [hOutAdamRefIdeal : Cert.OutAdamRefIdeal.Facts] : Prop :=
  ∀ (m : (ℓ : Loc Cert.OutAdamIdeal.nD Cert.OutAdamIdeal.τ Cert.OutAdamIdeal.sig) → Buf (Elt Ideal) ℓ) (g : Dev Cert.OutAdamIdeal.nD → PrngReg)
    (m' : (ℓ : Loc Cert.OutAdamRefIdeal.nD Cert.OutAdamRefIdeal.τ Cert.OutAdamRefIdeal.sig) → Buf (Elt Ideal) ℓ) (g' : Dev Cert.OutAdamRefIdeal.nD → PrngReg), Pre_OutAdamIdeal m →
    (∀ c : Dev Cert.OutAdamIdeal.nD,
      m' ((c.tc : Thread Cert.OutAdamRefIdeal.nD Cert.OutAdamRefIdeal.τ).loc Cert.OutAdamRefIdeal.main_arg0) = m ((c.tc : Thread Cert.OutAdamIdeal.nD Cert.OutAdamIdeal.τ).loc Cert.OutAdamIdeal.main_arg0)
      ∧ m' ((c.tc : Thread Cert.OutAdamRefIdeal.nD Cert.OutAdamRefIdeal.τ).loc Cert.OutAdamRefIdeal.main_arg1) = m ((c.tc : Thread Cert.OutAdamIdeal.nD Cert.OutAdamIdeal.τ).loc Cert.OutAdamIdeal.main_arg1)
      ∧ m' ((c.tc : Thread Cert.OutAdamRefIdeal.nD Cert.OutAdamRefIdeal.τ).loc Cert.OutAdamRefIdeal.main_arg2) = m ((c.tc : Thread Cert.OutAdamIdeal.nD Cert.OutAdamIdeal.τ).loc Cert.OutAdamIdeal.main_arg2)
      ∧ m' ((c.tc : Thread Cert.OutAdamRefIdeal.nD Cert.OutAdamRefIdeal.τ).loc Cert.OutAdamRefIdeal.main_arg3) = m ((c.tc : Thread Cert.OutAdamIdeal.nD Cert.OutAdamIdeal.τ).loc Cert.OutAdamIdeal.main_arg3)
      ∧ m' ((c.tc : Thread Cert.OutAdamRefIdeal.nD Cert.OutAdamRefIdeal.τ).loc Cert.OutAdamRefIdeal.main_arg4) = m ((c.tc : Thread Cert.OutAdamIdeal.nD Cert.OutAdamIdeal.τ).loc Cert.OutAdamIdeal.main_arg4)) →
    ∃ (v0 : (c : Dev Cert.OutAdamIdeal.nD) → Buf (Elt Ideal) ((c.tc : Thread Cert.OutAdamIdeal.nD Cert.OutAdamIdeal.τ).loc Cert.OutAdamIdeal.main_v0_0)) (v1 : (c : Dev Cert.OutAdamIdeal.nD) → Buf (Elt Ideal) ((c.tc : Thread Cert.OutAdamIdeal.nD Cert.OutAdamIdeal.τ).loc Cert.OutAdamIdeal.main_v0_1)) (v2 : (c : Dev Cert.OutAdamIdeal.nD) → Buf (Elt Ideal) ((c.tc : Thread Cert.OutAdamIdeal.nD Cert.OutAdamIdeal.τ).loc Cert.OutAdamIdeal.main_v0_2)) (v3 : (c : Dev Cert.OutAdamIdeal.nD) → Buf (Elt Ideal) ((c.tc : Thread Cert.OutAdamIdeal.nD Cert.OutAdamIdeal.τ).loc Cert.OutAdamIdeal.main_v0_3)),
      θ_run (Cert.OutAdamIdeal.defs (F := Ideal)) (onTc (τ := Cert.OutAdamIdeal.τ) (Cert.OutAdamIdeal.main (F := Ideal))) ⟨m, fun _ => 0, g⟩ (fun r => ∀ c : Dev Cert.OutAdamIdeal.nD,
          r.2.mem ((c.tc : Thread Cert.OutAdamIdeal.nD Cert.OutAdamIdeal.τ).loc Cert.OutAdamIdeal.main_v0_0) = v0 c
          ∧ r.2.mem ((c.tc : Thread Cert.OutAdamIdeal.nD Cert.OutAdamIdeal.τ).loc Cert.OutAdamIdeal.main_v0_1) = v1 c
          ∧ r.2.mem ((c.tc : Thread Cert.OutAdamIdeal.nD Cert.OutAdamIdeal.τ).loc Cert.OutAdamIdeal.main_v0_2) = v2 c
          ∧ r.2.mem ((c.tc : Thread Cert.OutAdamIdeal.nD Cert.OutAdamIdeal.τ).loc Cert.OutAdamIdeal.main_v0_3) = v3 c
          ∧ r.2.mem ((c.tc : Thread Cert.OutAdamIdeal.nD Cert.OutAdamIdeal.τ).loc Cert.OutAdamIdeal.main_arg0) = m ((c.tc : Thread Cert.OutAdamIdeal.nD Cert.OutAdamIdeal.τ).loc Cert.OutAdamIdeal.main_arg0)
          ∧ r.2.mem ((c.tc : Thread Cert.OutAdamIdeal.nD Cert.OutAdamIdeal.τ).loc Cert.OutAdamIdeal.main_arg1) = m ((c.tc : Thread Cert.OutAdamIdeal.nD Cert.OutAdamIdeal.τ).loc Cert.OutAdamIdeal.main_arg1)
          ∧ r.2.mem ((c.tc : Thread Cert.OutAdamIdeal.nD Cert.OutAdamIdeal.τ).loc Cert.OutAdamIdeal.main_arg2) = m ((c.tc : Thread Cert.OutAdamIdeal.nD Cert.OutAdamIdeal.τ).loc Cert.OutAdamIdeal.main_arg2)
          ∧ r.2.mem ((c.tc : Thread Cert.OutAdamIdeal.nD Cert.OutAdamIdeal.τ).loc Cert.OutAdamIdeal.main_arg3) = m ((c.tc : Thread Cert.OutAdamIdeal.nD Cert.OutAdamIdeal.τ).loc Cert.OutAdamIdeal.main_arg3)
          ∧ r.2.mem ((c.tc : Thread Cert.OutAdamIdeal.nD Cert.OutAdamIdeal.τ).loc Cert.OutAdamIdeal.main_arg4) = m ((c.tc : Thread Cert.OutAdamIdeal.nD Cert.OutAdamIdeal.τ).loc Cert.OutAdamIdeal.main_arg4))
      ∧ θ_run (Cert.OutAdamRefIdeal.defs (F := Ideal)) (onTc (τ := Cert.OutAdamRefIdeal.τ) (Cert.OutAdamRefIdeal.main (F := Ideal))) ⟨m', fun _ => 0, g'⟩ (fun r => ∀ c : Dev Cert.OutAdamRefIdeal.nD,
          r.2.mem ((c.tc : Thread Cert.OutAdamRefIdeal.nD Cert.OutAdamRefIdeal.τ).loc Cert.OutAdamRefIdeal.main_v6) = v0 c
          ∧ r.2.mem ((c.tc : Thread Cert.OutAdamRefIdeal.nD Cert.OutAdamRefIdeal.τ).loc Cert.OutAdamRefIdeal.main_v30) = v1 c
          ∧ r.2.mem ((c.tc : Thread Cert.OutAdamRefIdeal.nD Cert.OutAdamRefIdeal.τ).loc Cert.OutAdamRefIdeal.main_v11) = v2 c
          ∧ r.2.mem ((c.tc : Thread Cert.OutAdamRefIdeal.nD Cert.OutAdamRefIdeal.τ).loc Cert.OutAdamRefIdeal.main_v17) = v3 c
          ∧ r.2.mem ((c.tc : Thread Cert.OutAdamRefIdeal.nD Cert.OutAdamRefIdeal.τ).loc Cert.OutAdamRefIdeal.main_arg0) = m' ((c.tc : Thread Cert.OutAdamRefIdeal.nD Cert.OutAdamRefIdeal.τ).loc Cert.OutAdamRefIdeal.main_arg0)
          ∧ r.2.mem ((c.tc : Thread Cert.OutAdamRefIdeal.nD Cert.OutAdamRefIdeal.τ).loc Cert.OutAdamRefIdeal.main_arg1) = m' ((c.tc : Thread Cert.OutAdamRefIdeal.nD Cert.OutAdamRefIdeal.τ).loc Cert.OutAdamRefIdeal.main_arg1)
          ∧ r.2.mem ((c.tc : Thread Cert.OutAdamRefIdeal.nD Cert.OutAdamRefIdeal.τ).loc Cert.OutAdamRefIdeal.main_arg2) = m' ((c.tc : Thread Cert.OutAdamRefIdeal.nD Cert.OutAdamRefIdeal.τ).loc Cert.OutAdamRefIdeal.main_arg2)
          ∧ r.2.mem ((c.tc : Thread Cert.OutAdamRefIdeal.nD Cert.OutAdamRefIdeal.τ).loc Cert.OutAdamRefIdeal.main_arg3) = m' ((c.tc : Thread Cert.OutAdamRefIdeal.nD Cert.OutAdamRefIdeal.τ).loc Cert.OutAdamRefIdeal.main_arg3)
          ∧ r.2.mem ((c.tc : Thread Cert.OutAdamRefIdeal.nD Cert.OutAdamRefIdeal.τ).loc Cert.OutAdamRefIdeal.main_arg4) = m' ((c.tc : Thread Cert.OutAdamRefIdeal.nD Cert.OutAdamRefIdeal.τ).loc Cert.OutAdamRefIdeal.main_arg4))

def preserves_DownAdam_DownAdamIdeal : Prop :=
  True

def algebraic_DownAdamIdeal_DownAdamRefIdeal [hDownAdamIdeal : Cert.DownAdamIdeal.Facts] [hDownAdamRefIdeal : Cert.DownAdamRefIdeal.Facts] : Prop :=
  ∀ (m : (ℓ : Loc Cert.DownAdamIdeal.nD Cert.DownAdamIdeal.τ Cert.DownAdamIdeal.sig) → Buf (Elt Ideal) ℓ) (g : Dev Cert.DownAdamIdeal.nD → PrngReg)
    (m' : (ℓ : Loc Cert.DownAdamRefIdeal.nD Cert.DownAdamRefIdeal.τ Cert.DownAdamRefIdeal.sig) → Buf (Elt Ideal) ℓ) (g' : Dev Cert.DownAdamRefIdeal.nD → PrngReg), Pre_DownAdamIdeal m →
    (∀ c : Dev Cert.DownAdamIdeal.nD,
      m' ((c.tc : Thread Cert.DownAdamRefIdeal.nD Cert.DownAdamRefIdeal.τ).loc Cert.DownAdamRefIdeal.main_arg0) = m ((c.tc : Thread Cert.DownAdamIdeal.nD Cert.DownAdamIdeal.τ).loc Cert.DownAdamIdeal.main_arg0)
      ∧ m' ((c.tc : Thread Cert.DownAdamRefIdeal.nD Cert.DownAdamRefIdeal.τ).loc Cert.DownAdamRefIdeal.main_arg1) = m ((c.tc : Thread Cert.DownAdamIdeal.nD Cert.DownAdamIdeal.τ).loc Cert.DownAdamIdeal.main_arg1)
      ∧ m' ((c.tc : Thread Cert.DownAdamRefIdeal.nD Cert.DownAdamRefIdeal.τ).loc Cert.DownAdamRefIdeal.main_arg2) = m ((c.tc : Thread Cert.DownAdamIdeal.nD Cert.DownAdamIdeal.τ).loc Cert.DownAdamIdeal.main_arg2)
      ∧ m' ((c.tc : Thread Cert.DownAdamRefIdeal.nD Cert.DownAdamRefIdeal.τ).loc Cert.DownAdamRefIdeal.main_arg3) = m ((c.tc : Thread Cert.DownAdamIdeal.nD Cert.DownAdamIdeal.τ).loc Cert.DownAdamIdeal.main_arg3)
      ∧ m' ((c.tc : Thread Cert.DownAdamRefIdeal.nD Cert.DownAdamRefIdeal.τ).loc Cert.DownAdamRefIdeal.main_arg4) = m ((c.tc : Thread Cert.DownAdamIdeal.nD Cert.DownAdamIdeal.τ).loc Cert.DownAdamIdeal.main_arg4)) →
    ∃ (v0 : (c : Dev Cert.DownAdamIdeal.nD) → Buf (Elt Ideal) ((c.tc : Thread Cert.DownAdamIdeal.nD Cert.DownAdamIdeal.τ).loc Cert.DownAdamIdeal.main_v0_0)) (v1 : (c : Dev Cert.DownAdamIdeal.nD) → Buf (Elt Ideal) ((c.tc : Thread Cert.DownAdamIdeal.nD Cert.DownAdamIdeal.τ).loc Cert.DownAdamIdeal.main_v0_1)) (v2 : (c : Dev Cert.DownAdamIdeal.nD) → Buf (Elt Ideal) ((c.tc : Thread Cert.DownAdamIdeal.nD Cert.DownAdamIdeal.τ).loc Cert.DownAdamIdeal.main_v0_2)) (v3 : (c : Dev Cert.DownAdamIdeal.nD) → Buf (Elt Ideal) ((c.tc : Thread Cert.DownAdamIdeal.nD Cert.DownAdamIdeal.τ).loc Cert.DownAdamIdeal.main_v0_3)),
      θ_run (Cert.DownAdamIdeal.defs (F := Ideal)) (onTc (τ := Cert.DownAdamIdeal.τ) (Cert.DownAdamIdeal.main (F := Ideal))) ⟨m, fun _ => 0, g⟩ (fun r => ∀ c : Dev Cert.DownAdamIdeal.nD,
          r.2.mem ((c.tc : Thread Cert.DownAdamIdeal.nD Cert.DownAdamIdeal.τ).loc Cert.DownAdamIdeal.main_v0_0) = v0 c
          ∧ r.2.mem ((c.tc : Thread Cert.DownAdamIdeal.nD Cert.DownAdamIdeal.τ).loc Cert.DownAdamIdeal.main_v0_1) = v1 c
          ∧ r.2.mem ((c.tc : Thread Cert.DownAdamIdeal.nD Cert.DownAdamIdeal.τ).loc Cert.DownAdamIdeal.main_v0_2) = v2 c
          ∧ r.2.mem ((c.tc : Thread Cert.DownAdamIdeal.nD Cert.DownAdamIdeal.τ).loc Cert.DownAdamIdeal.main_v0_3) = v3 c
          ∧ r.2.mem ((c.tc : Thread Cert.DownAdamIdeal.nD Cert.DownAdamIdeal.τ).loc Cert.DownAdamIdeal.main_arg0) = m ((c.tc : Thread Cert.DownAdamIdeal.nD Cert.DownAdamIdeal.τ).loc Cert.DownAdamIdeal.main_arg0)
          ∧ r.2.mem ((c.tc : Thread Cert.DownAdamIdeal.nD Cert.DownAdamIdeal.τ).loc Cert.DownAdamIdeal.main_arg1) = m ((c.tc : Thread Cert.DownAdamIdeal.nD Cert.DownAdamIdeal.τ).loc Cert.DownAdamIdeal.main_arg1)
          ∧ r.2.mem ((c.tc : Thread Cert.DownAdamIdeal.nD Cert.DownAdamIdeal.τ).loc Cert.DownAdamIdeal.main_arg2) = m ((c.tc : Thread Cert.DownAdamIdeal.nD Cert.DownAdamIdeal.τ).loc Cert.DownAdamIdeal.main_arg2)
          ∧ r.2.mem ((c.tc : Thread Cert.DownAdamIdeal.nD Cert.DownAdamIdeal.τ).loc Cert.DownAdamIdeal.main_arg3) = m ((c.tc : Thread Cert.DownAdamIdeal.nD Cert.DownAdamIdeal.τ).loc Cert.DownAdamIdeal.main_arg3)
          ∧ r.2.mem ((c.tc : Thread Cert.DownAdamIdeal.nD Cert.DownAdamIdeal.τ).loc Cert.DownAdamIdeal.main_arg4) = m ((c.tc : Thread Cert.DownAdamIdeal.nD Cert.DownAdamIdeal.τ).loc Cert.DownAdamIdeal.main_arg4))
      ∧ θ_run (Cert.DownAdamRefIdeal.defs (F := Ideal)) (onTc (τ := Cert.DownAdamRefIdeal.τ) (Cert.DownAdamRefIdeal.main (F := Ideal))) ⟨m', fun _ => 0, g'⟩ (fun r => ∀ c : Dev Cert.DownAdamRefIdeal.nD,
          r.2.mem ((c.tc : Thread Cert.DownAdamRefIdeal.nD Cert.DownAdamRefIdeal.τ).loc Cert.DownAdamRefIdeal.main_v6) = v0 c
          ∧ r.2.mem ((c.tc : Thread Cert.DownAdamRefIdeal.nD Cert.DownAdamRefIdeal.τ).loc Cert.DownAdamRefIdeal.main_v30) = v1 c
          ∧ r.2.mem ((c.tc : Thread Cert.DownAdamRefIdeal.nD Cert.DownAdamRefIdeal.τ).loc Cert.DownAdamRefIdeal.main_v11) = v2 c
          ∧ r.2.mem ((c.tc : Thread Cert.DownAdamRefIdeal.nD Cert.DownAdamRefIdeal.τ).loc Cert.DownAdamRefIdeal.main_v17) = v3 c
          ∧ r.2.mem ((c.tc : Thread Cert.DownAdamRefIdeal.nD Cert.DownAdamRefIdeal.τ).loc Cert.DownAdamRefIdeal.main_arg0) = m' ((c.tc : Thread Cert.DownAdamRefIdeal.nD Cert.DownAdamRefIdeal.τ).loc Cert.DownAdamRefIdeal.main_arg0)
          ∧ r.2.mem ((c.tc : Thread Cert.DownAdamRefIdeal.nD Cert.DownAdamRefIdeal.τ).loc Cert.DownAdamRefIdeal.main_arg1) = m' ((c.tc : Thread Cert.DownAdamRefIdeal.nD Cert.DownAdamRefIdeal.τ).loc Cert.DownAdamRefIdeal.main_arg1)
          ∧ r.2.mem ((c.tc : Thread Cert.DownAdamRefIdeal.nD Cert.DownAdamRefIdeal.τ).loc Cert.DownAdamRefIdeal.main_arg2) = m' ((c.tc : Thread Cert.DownAdamRefIdeal.nD Cert.DownAdamRefIdeal.τ).loc Cert.DownAdamRefIdeal.main_arg2)
          ∧ r.2.mem ((c.tc : Thread Cert.DownAdamRefIdeal.nD Cert.DownAdamRefIdeal.τ).loc Cert.DownAdamRefIdeal.main_arg3) = m' ((c.tc : Thread Cert.DownAdamRefIdeal.nD Cert.DownAdamRefIdeal.τ).loc Cert.DownAdamRefIdeal.main_arg3)
          ∧ r.2.mem ((c.tc : Thread Cert.DownAdamRefIdeal.nD Cert.DownAdamRefIdeal.τ).loc Cert.DownAdamRefIdeal.main_arg4) = m' ((c.tc : Thread Cert.DownAdamRefIdeal.nD Cert.DownAdamRefIdeal.τ).loc Cert.DownAdamRefIdeal.main_arg4))

def preserves_SsdConvAdam_SsdConvAdamIdeal : Prop :=
  True

def algebraic_SsdConvAdamIdeal_SsdConvAdamRefIdeal [hSsdConvAdamIdeal : Cert.SsdConvAdamIdeal.Facts] [hSsdConvAdamRefIdeal : Cert.SsdConvAdamRefIdeal.Facts] : Prop :=
  ∀ (m : (ℓ : Loc Cert.SsdConvAdamIdeal.nD Cert.SsdConvAdamIdeal.τ Cert.SsdConvAdamIdeal.sig) → Buf (Elt Ideal) ℓ) (g : Dev Cert.SsdConvAdamIdeal.nD → PrngReg)
    (m' : (ℓ : Loc Cert.SsdConvAdamRefIdeal.nD Cert.SsdConvAdamRefIdeal.τ Cert.SsdConvAdamRefIdeal.sig) → Buf (Elt Ideal) ℓ) (g' : Dev Cert.SsdConvAdamRefIdeal.nD → PrngReg), Pre_SsdConvAdamIdeal m →
    (∀ c : Dev Cert.SsdConvAdamIdeal.nD,
      m' ((c.tc : Thread Cert.SsdConvAdamRefIdeal.nD Cert.SsdConvAdamRefIdeal.τ).loc Cert.SsdConvAdamRefIdeal.main_arg0) = m ((c.tc : Thread Cert.SsdConvAdamIdeal.nD Cert.SsdConvAdamIdeal.τ).loc Cert.SsdConvAdamIdeal.main_arg0)
      ∧ m' ((c.tc : Thread Cert.SsdConvAdamRefIdeal.nD Cert.SsdConvAdamRefIdeal.τ).loc Cert.SsdConvAdamRefIdeal.main_arg1) = m ((c.tc : Thread Cert.SsdConvAdamIdeal.nD Cert.SsdConvAdamIdeal.τ).loc Cert.SsdConvAdamIdeal.main_arg1)
      ∧ m' ((c.tc : Thread Cert.SsdConvAdamRefIdeal.nD Cert.SsdConvAdamRefIdeal.τ).loc Cert.SsdConvAdamRefIdeal.main_arg2) = m ((c.tc : Thread Cert.SsdConvAdamIdeal.nD Cert.SsdConvAdamIdeal.τ).loc Cert.SsdConvAdamIdeal.main_arg2)
      ∧ m' ((c.tc : Thread Cert.SsdConvAdamRefIdeal.nD Cert.SsdConvAdamRefIdeal.τ).loc Cert.SsdConvAdamRefIdeal.main_arg3) = m ((c.tc : Thread Cert.SsdConvAdamIdeal.nD Cert.SsdConvAdamIdeal.τ).loc Cert.SsdConvAdamIdeal.main_arg3)
      ∧ m' ((c.tc : Thread Cert.SsdConvAdamRefIdeal.nD Cert.SsdConvAdamRefIdeal.τ).loc Cert.SsdConvAdamRefIdeal.main_arg4) = m ((c.tc : Thread Cert.SsdConvAdamIdeal.nD Cert.SsdConvAdamIdeal.τ).loc Cert.SsdConvAdamIdeal.main_arg4)) →
    ∃ (v0 : (c : Dev Cert.SsdConvAdamIdeal.nD) → Buf (Elt Ideal) ((c.tc : Thread Cert.SsdConvAdamIdeal.nD Cert.SsdConvAdamIdeal.τ).loc Cert.SsdConvAdamIdeal.main_v0_0)) (v1 : (c : Dev Cert.SsdConvAdamIdeal.nD) → Buf (Elt Ideal) ((c.tc : Thread Cert.SsdConvAdamIdeal.nD Cert.SsdConvAdamIdeal.τ).loc Cert.SsdConvAdamIdeal.main_v0_1)) (v2 : (c : Dev Cert.SsdConvAdamIdeal.nD) → Buf (Elt Ideal) ((c.tc : Thread Cert.SsdConvAdamIdeal.nD Cert.SsdConvAdamIdeal.τ).loc Cert.SsdConvAdamIdeal.main_v0_2)) (v3 : (c : Dev Cert.SsdConvAdamIdeal.nD) → Buf (Elt Ideal) ((c.tc : Thread Cert.SsdConvAdamIdeal.nD Cert.SsdConvAdamIdeal.τ).loc Cert.SsdConvAdamIdeal.main_v0_3)),
      θ_run (Cert.SsdConvAdamIdeal.defs (F := Ideal)) (onTc (τ := Cert.SsdConvAdamIdeal.τ) (Cert.SsdConvAdamIdeal.main (F := Ideal))) ⟨m, fun _ => 0, g⟩ (fun r => ∀ c : Dev Cert.SsdConvAdamIdeal.nD,
          r.2.mem ((c.tc : Thread Cert.SsdConvAdamIdeal.nD Cert.SsdConvAdamIdeal.τ).loc Cert.SsdConvAdamIdeal.main_v0_0) = v0 c
          ∧ r.2.mem ((c.tc : Thread Cert.SsdConvAdamIdeal.nD Cert.SsdConvAdamIdeal.τ).loc Cert.SsdConvAdamIdeal.main_v0_1) = v1 c
          ∧ r.2.mem ((c.tc : Thread Cert.SsdConvAdamIdeal.nD Cert.SsdConvAdamIdeal.τ).loc Cert.SsdConvAdamIdeal.main_v0_2) = v2 c
          ∧ r.2.mem ((c.tc : Thread Cert.SsdConvAdamIdeal.nD Cert.SsdConvAdamIdeal.τ).loc Cert.SsdConvAdamIdeal.main_v0_3) = v3 c
          ∧ r.2.mem ((c.tc : Thread Cert.SsdConvAdamIdeal.nD Cert.SsdConvAdamIdeal.τ).loc Cert.SsdConvAdamIdeal.main_arg0) = m ((c.tc : Thread Cert.SsdConvAdamIdeal.nD Cert.SsdConvAdamIdeal.τ).loc Cert.SsdConvAdamIdeal.main_arg0)
          ∧ r.2.mem ((c.tc : Thread Cert.SsdConvAdamIdeal.nD Cert.SsdConvAdamIdeal.τ).loc Cert.SsdConvAdamIdeal.main_arg1) = m ((c.tc : Thread Cert.SsdConvAdamIdeal.nD Cert.SsdConvAdamIdeal.τ).loc Cert.SsdConvAdamIdeal.main_arg1)
          ∧ r.2.mem ((c.tc : Thread Cert.SsdConvAdamIdeal.nD Cert.SsdConvAdamIdeal.τ).loc Cert.SsdConvAdamIdeal.main_arg2) = m ((c.tc : Thread Cert.SsdConvAdamIdeal.nD Cert.SsdConvAdamIdeal.τ).loc Cert.SsdConvAdamIdeal.main_arg2)
          ∧ r.2.mem ((c.tc : Thread Cert.SsdConvAdamIdeal.nD Cert.SsdConvAdamIdeal.τ).loc Cert.SsdConvAdamIdeal.main_arg3) = m ((c.tc : Thread Cert.SsdConvAdamIdeal.nD Cert.SsdConvAdamIdeal.τ).loc Cert.SsdConvAdamIdeal.main_arg3)
          ∧ r.2.mem ((c.tc : Thread Cert.SsdConvAdamIdeal.nD Cert.SsdConvAdamIdeal.τ).loc Cert.SsdConvAdamIdeal.main_arg4) = m ((c.tc : Thread Cert.SsdConvAdamIdeal.nD Cert.SsdConvAdamIdeal.τ).loc Cert.SsdConvAdamIdeal.main_arg4))
      ∧ θ_run (Cert.SsdConvAdamRefIdeal.defs (F := Ideal)) (onTc (τ := Cert.SsdConvAdamRefIdeal.τ) (Cert.SsdConvAdamRefIdeal.main (F := Ideal))) ⟨m', fun _ => 0, g'⟩ (fun r => ∀ c : Dev Cert.SsdConvAdamRefIdeal.nD,
          r.2.mem ((c.tc : Thread Cert.SsdConvAdamRefIdeal.nD Cert.SsdConvAdamRefIdeal.τ).loc Cert.SsdConvAdamRefIdeal.main_v4) = v0 c
          ∧ r.2.mem ((c.tc : Thread Cert.SsdConvAdamRefIdeal.nD Cert.SsdConvAdamRefIdeal.τ).loc Cert.SsdConvAdamRefIdeal.main_v28) = v1 c
          ∧ r.2.mem ((c.tc : Thread Cert.SsdConvAdamRefIdeal.nD Cert.SsdConvAdamRefIdeal.τ).loc Cert.SsdConvAdamRefIdeal.main_v9) = v2 c
          ∧ r.2.mem ((c.tc : Thread Cert.SsdConvAdamRefIdeal.nD Cert.SsdConvAdamRefIdeal.τ).loc Cert.SsdConvAdamRefIdeal.main_v15) = v3 c
          ∧ r.2.mem ((c.tc : Thread Cert.SsdConvAdamRefIdeal.nD Cert.SsdConvAdamRefIdeal.τ).loc Cert.SsdConvAdamRefIdeal.main_arg0) = m' ((c.tc : Thread Cert.SsdConvAdamRefIdeal.nD Cert.SsdConvAdamRefIdeal.τ).loc Cert.SsdConvAdamRefIdeal.main_arg0)
          ∧ r.2.mem ((c.tc : Thread Cert.SsdConvAdamRefIdeal.nD Cert.SsdConvAdamRefIdeal.τ).loc Cert.SsdConvAdamRefIdeal.main_arg1) = m' ((c.tc : Thread Cert.SsdConvAdamRefIdeal.nD Cert.SsdConvAdamRefIdeal.τ).loc Cert.SsdConvAdamRefIdeal.main_arg1)
          ∧ r.2.mem ((c.tc : Thread Cert.SsdConvAdamRefIdeal.nD Cert.SsdConvAdamRefIdeal.τ).loc Cert.SsdConvAdamRefIdeal.main_arg2) = m' ((c.tc : Thread Cert.SsdConvAdamRefIdeal.nD Cert.SsdConvAdamRefIdeal.τ).loc Cert.SsdConvAdamRefIdeal.main_arg2)
          ∧ r.2.mem ((c.tc : Thread Cert.SsdConvAdamRefIdeal.nD Cert.SsdConvAdamRefIdeal.τ).loc Cert.SsdConvAdamRefIdeal.main_arg3) = m' ((c.tc : Thread Cert.SsdConvAdamRefIdeal.nD Cert.SsdConvAdamRefIdeal.τ).loc Cert.SsdConvAdamRefIdeal.main_arg3)
          ∧ r.2.mem ((c.tc : Thread Cert.SsdConvAdamRefIdeal.nD Cert.SsdConvAdamRefIdeal.τ).loc Cert.SsdConvAdamRefIdeal.main_arg4) = m' ((c.tc : Thread Cert.SsdConvAdamRefIdeal.nD Cert.SsdConvAdamRefIdeal.τ).loc Cert.SsdConvAdamRefIdeal.main_arg4))

def preserves_FfnConvAdam_FfnConvAdamIdeal : Prop :=
  True

def algebraic_FfnConvAdamIdeal_FfnConvAdamRefIdeal [hFfnConvAdamIdeal : Cert.FfnConvAdamIdeal.Facts] [hFfnConvAdamRefIdeal : Cert.FfnConvAdamRefIdeal.Facts] : Prop :=
  ∀ (m : (ℓ : Loc Cert.FfnConvAdamIdeal.nD Cert.FfnConvAdamIdeal.τ Cert.FfnConvAdamIdeal.sig) → Buf (Elt Ideal) ℓ) (g : Dev Cert.FfnConvAdamIdeal.nD → PrngReg)
    (m' : (ℓ : Loc Cert.FfnConvAdamRefIdeal.nD Cert.FfnConvAdamRefIdeal.τ Cert.FfnConvAdamRefIdeal.sig) → Buf (Elt Ideal) ℓ) (g' : Dev Cert.FfnConvAdamRefIdeal.nD → PrngReg), Pre_FfnConvAdamIdeal m →
    (∀ c : Dev Cert.FfnConvAdamIdeal.nD,
      m' ((c.tc : Thread Cert.FfnConvAdamRefIdeal.nD Cert.FfnConvAdamRefIdeal.τ).loc Cert.FfnConvAdamRefIdeal.main_arg0) = m ((c.tc : Thread Cert.FfnConvAdamIdeal.nD Cert.FfnConvAdamIdeal.τ).loc Cert.FfnConvAdamIdeal.main_arg0)
      ∧ m' ((c.tc : Thread Cert.FfnConvAdamRefIdeal.nD Cert.FfnConvAdamRefIdeal.τ).loc Cert.FfnConvAdamRefIdeal.main_arg1) = m ((c.tc : Thread Cert.FfnConvAdamIdeal.nD Cert.FfnConvAdamIdeal.τ).loc Cert.FfnConvAdamIdeal.main_arg1)
      ∧ m' ((c.tc : Thread Cert.FfnConvAdamRefIdeal.nD Cert.FfnConvAdamRefIdeal.τ).loc Cert.FfnConvAdamRefIdeal.main_arg2) = m ((c.tc : Thread Cert.FfnConvAdamIdeal.nD Cert.FfnConvAdamIdeal.τ).loc Cert.FfnConvAdamIdeal.main_arg2)
      ∧ m' ((c.tc : Thread Cert.FfnConvAdamRefIdeal.nD Cert.FfnConvAdamRefIdeal.τ).loc Cert.FfnConvAdamRefIdeal.main_arg3) = m ((c.tc : Thread Cert.FfnConvAdamIdeal.nD Cert.FfnConvAdamIdeal.τ).loc Cert.FfnConvAdamIdeal.main_arg3)
      ∧ m' ((c.tc : Thread Cert.FfnConvAdamRefIdeal.nD Cert.FfnConvAdamRefIdeal.τ).loc Cert.FfnConvAdamRefIdeal.main_arg4) = m ((c.tc : Thread Cert.FfnConvAdamIdeal.nD Cert.FfnConvAdamIdeal.τ).loc Cert.FfnConvAdamIdeal.main_arg4)) →
    ∃ (v0 : (c : Dev Cert.FfnConvAdamIdeal.nD) → Buf (Elt Ideal) ((c.tc : Thread Cert.FfnConvAdamIdeal.nD Cert.FfnConvAdamIdeal.τ).loc Cert.FfnConvAdamIdeal.main_v0_0)) (v1 : (c : Dev Cert.FfnConvAdamIdeal.nD) → Buf (Elt Ideal) ((c.tc : Thread Cert.FfnConvAdamIdeal.nD Cert.FfnConvAdamIdeal.τ).loc Cert.FfnConvAdamIdeal.main_v0_1)) (v2 : (c : Dev Cert.FfnConvAdamIdeal.nD) → Buf (Elt Ideal) ((c.tc : Thread Cert.FfnConvAdamIdeal.nD Cert.FfnConvAdamIdeal.τ).loc Cert.FfnConvAdamIdeal.main_v0_2)) (v3 : (c : Dev Cert.FfnConvAdamIdeal.nD) → Buf (Elt Ideal) ((c.tc : Thread Cert.FfnConvAdamIdeal.nD Cert.FfnConvAdamIdeal.τ).loc Cert.FfnConvAdamIdeal.main_v0_3)),
      θ_run (Cert.FfnConvAdamIdeal.defs (F := Ideal)) (onTc (τ := Cert.FfnConvAdamIdeal.τ) (Cert.FfnConvAdamIdeal.main (F := Ideal))) ⟨m, fun _ => 0, g⟩ (fun r => ∀ c : Dev Cert.FfnConvAdamIdeal.nD,
          r.2.mem ((c.tc : Thread Cert.FfnConvAdamIdeal.nD Cert.FfnConvAdamIdeal.τ).loc Cert.FfnConvAdamIdeal.main_v0_0) = v0 c
          ∧ r.2.mem ((c.tc : Thread Cert.FfnConvAdamIdeal.nD Cert.FfnConvAdamIdeal.τ).loc Cert.FfnConvAdamIdeal.main_v0_1) = v1 c
          ∧ r.2.mem ((c.tc : Thread Cert.FfnConvAdamIdeal.nD Cert.FfnConvAdamIdeal.τ).loc Cert.FfnConvAdamIdeal.main_v0_2) = v2 c
          ∧ r.2.mem ((c.tc : Thread Cert.FfnConvAdamIdeal.nD Cert.FfnConvAdamIdeal.τ).loc Cert.FfnConvAdamIdeal.main_v0_3) = v3 c
          ∧ r.2.mem ((c.tc : Thread Cert.FfnConvAdamIdeal.nD Cert.FfnConvAdamIdeal.τ).loc Cert.FfnConvAdamIdeal.main_arg0) = m ((c.tc : Thread Cert.FfnConvAdamIdeal.nD Cert.FfnConvAdamIdeal.τ).loc Cert.FfnConvAdamIdeal.main_arg0)
          ∧ r.2.mem ((c.tc : Thread Cert.FfnConvAdamIdeal.nD Cert.FfnConvAdamIdeal.τ).loc Cert.FfnConvAdamIdeal.main_arg1) = m ((c.tc : Thread Cert.FfnConvAdamIdeal.nD Cert.FfnConvAdamIdeal.τ).loc Cert.FfnConvAdamIdeal.main_arg1)
          ∧ r.2.mem ((c.tc : Thread Cert.FfnConvAdamIdeal.nD Cert.FfnConvAdamIdeal.τ).loc Cert.FfnConvAdamIdeal.main_arg2) = m ((c.tc : Thread Cert.FfnConvAdamIdeal.nD Cert.FfnConvAdamIdeal.τ).loc Cert.FfnConvAdamIdeal.main_arg2)
          ∧ r.2.mem ((c.tc : Thread Cert.FfnConvAdamIdeal.nD Cert.FfnConvAdamIdeal.τ).loc Cert.FfnConvAdamIdeal.main_arg3) = m ((c.tc : Thread Cert.FfnConvAdamIdeal.nD Cert.FfnConvAdamIdeal.τ).loc Cert.FfnConvAdamIdeal.main_arg3)
          ∧ r.2.mem ((c.tc : Thread Cert.FfnConvAdamIdeal.nD Cert.FfnConvAdamIdeal.τ).loc Cert.FfnConvAdamIdeal.main_arg4) = m ((c.tc : Thread Cert.FfnConvAdamIdeal.nD Cert.FfnConvAdamIdeal.τ).loc Cert.FfnConvAdamIdeal.main_arg4))
      ∧ θ_run (Cert.FfnConvAdamRefIdeal.defs (F := Ideal)) (onTc (τ := Cert.FfnConvAdamRefIdeal.τ) (Cert.FfnConvAdamRefIdeal.main (F := Ideal))) ⟨m', fun _ => 0, g'⟩ (fun r => ∀ c : Dev Cert.FfnConvAdamRefIdeal.nD,
          r.2.mem ((c.tc : Thread Cert.FfnConvAdamRefIdeal.nD Cert.FfnConvAdamRefIdeal.τ).loc Cert.FfnConvAdamRefIdeal.main_v4) = v0 c
          ∧ r.2.mem ((c.tc : Thread Cert.FfnConvAdamRefIdeal.nD Cert.FfnConvAdamRefIdeal.τ).loc Cert.FfnConvAdamRefIdeal.main_v28) = v1 c
          ∧ r.2.mem ((c.tc : Thread Cert.FfnConvAdamRefIdeal.nD Cert.FfnConvAdamRefIdeal.τ).loc Cert.FfnConvAdamRefIdeal.main_v9) = v2 c
          ∧ r.2.mem ((c.tc : Thread Cert.FfnConvAdamRefIdeal.nD Cert.FfnConvAdamRefIdeal.τ).loc Cert.FfnConvAdamRefIdeal.main_v15) = v3 c
          ∧ r.2.mem ((c.tc : Thread Cert.FfnConvAdamRefIdeal.nD Cert.FfnConvAdamRefIdeal.τ).loc Cert.FfnConvAdamRefIdeal.main_arg0) = m' ((c.tc : Thread Cert.FfnConvAdamRefIdeal.nD Cert.FfnConvAdamRefIdeal.τ).loc Cert.FfnConvAdamRefIdeal.main_arg0)
          ∧ r.2.mem ((c.tc : Thread Cert.FfnConvAdamRefIdeal.nD Cert.FfnConvAdamRefIdeal.τ).loc Cert.FfnConvAdamRefIdeal.main_arg1) = m' ((c.tc : Thread Cert.FfnConvAdamRefIdeal.nD Cert.FfnConvAdamRefIdeal.τ).loc Cert.FfnConvAdamRefIdeal.main_arg1)
          ∧ r.2.mem ((c.tc : Thread Cert.FfnConvAdamRefIdeal.nD Cert.FfnConvAdamRefIdeal.τ).loc Cert.FfnConvAdamRefIdeal.main_arg2) = m' ((c.tc : Thread Cert.FfnConvAdamRefIdeal.nD Cert.FfnConvAdamRefIdeal.τ).loc Cert.FfnConvAdamRefIdeal.main_arg2)
          ∧ r.2.mem ((c.tc : Thread Cert.FfnConvAdamRefIdeal.nD Cert.FfnConvAdamRefIdeal.τ).loc Cert.FfnConvAdamRefIdeal.main_arg3) = m' ((c.tc : Thread Cert.FfnConvAdamRefIdeal.nD Cert.FfnConvAdamRefIdeal.τ).loc Cert.FfnConvAdamRefIdeal.main_arg3)
          ∧ r.2.mem ((c.tc : Thread Cert.FfnConvAdamRefIdeal.nD Cert.FfnConvAdamRefIdeal.τ).loc Cert.FfnConvAdamRefIdeal.main_arg4) = m' ((c.tc : Thread Cert.FfnConvAdamRefIdeal.nD Cert.FfnConvAdamRefIdeal.τ).loc Cert.FfnConvAdamRefIdeal.main_arg4))

def preserves_RepAdam_RepAdamIdeal : Prop :=
  True

def algebraic_RepAdamIdeal_RepAdamRefIdeal [hRepAdamIdeal : Cert.RepAdamIdeal.Facts] [hRepAdamRefIdeal : Cert.RepAdamRefIdeal.Facts] : Prop :=
  ∀ (m : (ℓ : Loc Cert.RepAdamIdeal.nD Cert.RepAdamIdeal.τ Cert.RepAdamIdeal.sig) → Buf (Elt Ideal) ℓ) (g : Dev Cert.RepAdamIdeal.nD → PrngReg)
    (m' : (ℓ : Loc Cert.RepAdamRefIdeal.nD Cert.RepAdamRefIdeal.τ Cert.RepAdamRefIdeal.sig) → Buf (Elt Ideal) ℓ) (g' : Dev Cert.RepAdamRefIdeal.nD → PrngReg), Pre_RepAdamIdeal m →
    (∀ c : Dev Cert.RepAdamIdeal.nD,
      m' ((c.tc : Thread Cert.RepAdamRefIdeal.nD Cert.RepAdamRefIdeal.τ).loc Cert.RepAdamRefIdeal.main_arg0) = m ((c.tc : Thread Cert.RepAdamIdeal.nD Cert.RepAdamIdeal.τ).loc Cert.RepAdamIdeal.main_arg0)
      ∧ m' ((c.tc : Thread Cert.RepAdamRefIdeal.nD Cert.RepAdamRefIdeal.τ).loc Cert.RepAdamRefIdeal.main_arg1) = m ((c.tc : Thread Cert.RepAdamIdeal.nD Cert.RepAdamIdeal.τ).loc Cert.RepAdamIdeal.main_arg1)
      ∧ m' ((c.tc : Thread Cert.RepAdamRefIdeal.nD Cert.RepAdamRefIdeal.τ).loc Cert.RepAdamRefIdeal.main_arg2) = m ((c.tc : Thread Cert.RepAdamIdeal.nD Cert.RepAdamIdeal.τ).loc Cert.RepAdamIdeal.main_arg2)
      ∧ m' ((c.tc : Thread Cert.RepAdamRefIdeal.nD Cert.RepAdamRefIdeal.τ).loc Cert.RepAdamRefIdeal.main_arg3) = m ((c.tc : Thread Cert.RepAdamIdeal.nD Cert.RepAdamIdeal.τ).loc Cert.RepAdamIdeal.main_arg3)) →
    ∃ (v0 : (c : Dev Cert.RepAdamIdeal.nD) → Buf (Elt Ideal) ((c.tc : Thread Cert.RepAdamIdeal.nD Cert.RepAdamIdeal.τ).loc Cert.RepAdamIdeal.main_v0_0)) (v1 : (c : Dev Cert.RepAdamIdeal.nD) → Buf (Elt Ideal) ((c.tc : Thread Cert.RepAdamIdeal.nD Cert.RepAdamIdeal.τ).loc Cert.RepAdamIdeal.main_v0_1)) (v2 : (c : Dev Cert.RepAdamIdeal.nD) → Buf (Elt Ideal) ((c.tc : Thread Cert.RepAdamIdeal.nD Cert.RepAdamIdeal.τ).loc Cert.RepAdamIdeal.main_v0_2)),
      θ_run (Cert.RepAdamIdeal.defs (F := Ideal)) (onTc (τ := Cert.RepAdamIdeal.τ) (Cert.RepAdamIdeal.main (F := Ideal))) ⟨m, fun _ => 0, g⟩ (fun r => ∀ c : Dev Cert.RepAdamIdeal.nD,
          r.2.mem ((c.tc : Thread Cert.RepAdamIdeal.nD Cert.RepAdamIdeal.τ).loc Cert.RepAdamIdeal.main_v0_0) = v0 c
          ∧ r.2.mem ((c.tc : Thread Cert.RepAdamIdeal.nD Cert.RepAdamIdeal.τ).loc Cert.RepAdamIdeal.main_v0_1) = v1 c
          ∧ r.2.mem ((c.tc : Thread Cert.RepAdamIdeal.nD Cert.RepAdamIdeal.τ).loc Cert.RepAdamIdeal.main_v0_2) = v2 c
          ∧ r.2.mem ((c.tc : Thread Cert.RepAdamIdeal.nD Cert.RepAdamIdeal.τ).loc Cert.RepAdamIdeal.main_arg0) = m ((c.tc : Thread Cert.RepAdamIdeal.nD Cert.RepAdamIdeal.τ).loc Cert.RepAdamIdeal.main_arg0)
          ∧ r.2.mem ((c.tc : Thread Cert.RepAdamIdeal.nD Cert.RepAdamIdeal.τ).loc Cert.RepAdamIdeal.main_arg1) = m ((c.tc : Thread Cert.RepAdamIdeal.nD Cert.RepAdamIdeal.τ).loc Cert.RepAdamIdeal.main_arg1)
          ∧ r.2.mem ((c.tc : Thread Cert.RepAdamIdeal.nD Cert.RepAdamIdeal.τ).loc Cert.RepAdamIdeal.main_arg2) = m ((c.tc : Thread Cert.RepAdamIdeal.nD Cert.RepAdamIdeal.τ).loc Cert.RepAdamIdeal.main_arg2)
          ∧ r.2.mem ((c.tc : Thread Cert.RepAdamIdeal.nD Cert.RepAdamIdeal.τ).loc Cert.RepAdamIdeal.main_arg3) = m ((c.tc : Thread Cert.RepAdamIdeal.nD Cert.RepAdamIdeal.τ).loc Cert.RepAdamIdeal.main_arg3))
      ∧ θ_run (Cert.RepAdamRefIdeal.defs (F := Ideal)) (onTc (τ := Cert.RepAdamRefIdeal.τ) (Cert.RepAdamRefIdeal.main (F := Ideal))) ⟨m', fun _ => 0, g'⟩ (fun r => ∀ c : Dev Cert.RepAdamRefIdeal.nD,
          r.2.mem ((c.tc : Thread Cert.RepAdamRefIdeal.nD Cert.RepAdamRefIdeal.τ).loc Cert.RepAdamRefIdeal.main_v23) = v0 c
          ∧ r.2.mem ((c.tc : Thread Cert.RepAdamRefIdeal.nD Cert.RepAdamRefIdeal.τ).loc Cert.RepAdamRefIdeal.main_v4) = v1 c
          ∧ r.2.mem ((c.tc : Thread Cert.RepAdamRefIdeal.nD Cert.RepAdamRefIdeal.τ).loc Cert.RepAdamRefIdeal.main_v10) = v2 c
          ∧ r.2.mem ((c.tc : Thread Cert.RepAdamRefIdeal.nD Cert.RepAdamRefIdeal.τ).loc Cert.RepAdamRefIdeal.main_arg0) = m' ((c.tc : Thread Cert.RepAdamRefIdeal.nD Cert.RepAdamRefIdeal.τ).loc Cert.RepAdamRefIdeal.main_arg0)
          ∧ r.2.mem ((c.tc : Thread Cert.RepAdamRefIdeal.nD Cert.RepAdamRefIdeal.τ).loc Cert.RepAdamRefIdeal.main_arg1) = m' ((c.tc : Thread Cert.RepAdamRefIdeal.nD Cert.RepAdamRefIdeal.τ).loc Cert.RepAdamRefIdeal.main_arg1)
          ∧ r.2.mem ((c.tc : Thread Cert.RepAdamRefIdeal.nD Cert.RepAdamRefIdeal.τ).loc Cert.RepAdamRefIdeal.main_arg2) = m' ((c.tc : Thread Cert.RepAdamRefIdeal.nD Cert.RepAdamRefIdeal.τ).loc Cert.RepAdamRefIdeal.main_arg2)
          ∧ r.2.mem ((c.tc : Thread Cert.RepAdamRefIdeal.nD Cert.RepAdamRefIdeal.τ).loc Cert.RepAdamRefIdeal.main_arg3) = m' ((c.tc : Thread Cert.RepAdamRefIdeal.nD Cert.RepAdamRefIdeal.τ).loc Cert.RepAdamRefIdeal.main_arg3))

def preserves_RepSum_RepSumIdeal : Prop :=
  True

def algebraic_RepSumIdeal_RepSumRefIdeal [hRepSumIdeal : Cert.RepSumIdeal.Facts] [hRepSumRefIdeal : Cert.RepSumRefIdeal.Facts] : Prop :=
  ∀ (m : (ℓ : Loc Cert.RepSumIdeal.nD Cert.RepSumIdeal.τ Cert.RepSumIdeal.sig) → Buf (Elt Ideal) ℓ) (g : Dev Cert.RepSumIdeal.nD → PrngReg)
    (m' : (ℓ : Loc Cert.RepSumRefIdeal.nD Cert.RepSumRefIdeal.τ Cert.RepSumRefIdeal.sig) → Buf (Elt Ideal) ℓ) (g' : Dev Cert.RepSumRefIdeal.nD → PrngReg), Pre_RepSumIdeal m →
    (∀ c : Dev Cert.RepSumIdeal.nD,
      m' ((c.tc : Thread Cert.RepSumRefIdeal.nD Cert.RepSumRefIdeal.τ).loc Cert.RepSumRefIdeal.main_arg0) = m ((c.tc : Thread Cert.RepSumIdeal.nD Cert.RepSumIdeal.τ).loc Cert.RepSumIdeal.main_arg0)) →
    ∃ (v0 : (c : Dev Cert.RepSumIdeal.nD) → Buf (Elt Ideal) ((c.tc : Thread Cert.RepSumIdeal.nD Cert.RepSumIdeal.τ).loc Cert.RepSumIdeal.main_v0)),
      θ_run (Cert.RepSumIdeal.defs (F := Ideal)) (onTc (τ := Cert.RepSumIdeal.τ) (Cert.RepSumIdeal.main (F := Ideal))) ⟨m, fun _ => 0, g⟩ (fun r => ∀ c : Dev Cert.RepSumIdeal.nD,
          r.2.mem ((c.tc : Thread Cert.RepSumIdeal.nD Cert.RepSumIdeal.τ).loc Cert.RepSumIdeal.main_v0) = v0 c
          ∧ r.2.mem ((c.tc : Thread Cert.RepSumIdeal.nD Cert.RepSumIdeal.τ).loc Cert.RepSumIdeal.main_arg0) = m ((c.tc : Thread Cert.RepSumIdeal.nD Cert.RepSumIdeal.τ).loc Cert.RepSumIdeal.main_arg0))
      ∧ θ_run (Cert.RepSumRefIdeal.defs (F := Ideal)) (onTc (τ := Cert.RepSumRefIdeal.τ) (Cert.RepSumRefIdeal.main (F := Ideal))) ⟨m', fun _ => 0, g'⟩ (fun r => ∀ c : Dev Cert.RepSumRefIdeal.nD,
          r.2.mem ((c.tc : Thread Cert.RepSumRefIdeal.nD Cert.RepSumRefIdeal.τ).loc Cert.RepSumRefIdeal.main_v0) = v0 c
          ∧ r.2.mem ((c.tc : Thread Cert.RepSumRefIdeal.nD Cert.RepSumRefIdeal.τ).loc Cert.RepSumRefIdeal.main_arg0) = m' ((c.tc : Thread Cert.RepSumRefIdeal.nD Cert.RepSumRefIdeal.τ).loc Cert.RepSumRefIdeal.main_arg0))

def preserves_RmsBwd_RmsBwdIdeal : Prop :=
  True

def algebraic_RmsBwdIdeal_RmsBwdRefIdeal_pre_rms_finite [hRmsBwdIdeal : Cert.RmsBwdIdeal.Facts] [hRmsBwdRefIdeal : Cert.RmsBwdRefIdeal.Facts] [hPre_rms_finite : Cert.Pre_rms_finite.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdRefIdeal.nD Cert.RmsBwdRefIdeal.τ Cert.RmsBwdRefIdeal.sig) → Buf (Elt Ideal) ℓ) (g' : Dev Cert.RmsBwdRefIdeal.nD → PrngReg), Pre_RmsBwdIdeal_rms_finite m →
    (∀ c : Dev Cert.RmsBwdIdeal.nD,
      m' ((c.tc : Thread Cert.RmsBwdRefIdeal.nD Cert.RmsBwdRefIdeal.τ).loc Cert.RmsBwdRefIdeal.main_arg0) = m ((c.tc : Thread Cert.RmsBwdIdeal.nD Cert.RmsBwdIdeal.τ).loc Cert.RmsBwdIdeal.main_arg0)
      ∧ m' ((c.tc : Thread Cert.RmsBwdRefIdeal.nD Cert.RmsBwdRefIdeal.τ).loc Cert.RmsBwdRefIdeal.main_arg1) = m ((c.tc : Thread Cert.RmsBwdIdeal.nD Cert.RmsBwdIdeal.τ).loc Cert.RmsBwdIdeal.main_arg1)
      ∧ m' ((c.tc : Thread Cert.RmsBwdRefIdeal.nD Cert.RmsBwdRefIdeal.τ).loc Cert.RmsBwdRefIdeal.main_arg2) = m ((c.tc : Thread Cert.RmsBwdIdeal.nD Cert.RmsBwdIdeal.τ).loc Cert.RmsBwdIdeal.main_arg2)
      ∧ m' ((c.tc : Thread Cert.RmsBwdRefIdeal.nD Cert.RmsBwdRefIdeal.τ).loc Cert.RmsBwdRefIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v0_0)) (v1 : (c : Dev Cert.RmsBwdIdeal.nD) → Buf (Elt Ideal) ((c.tc : Thread Cert.RmsBwdIdeal.nD Cert.RmsBwdIdeal.τ).loc Cert.RmsBwdIdeal.main_v0_1)) (v2 : (c : Dev Cert.RmsBwdIdeal.nD) → Buf (Elt Ideal) ((c.tc : Thread Cert.RmsBwdIdeal.nD Cert.RmsBwdIdeal.τ).loc Cert.RmsBwdIdeal.main_v0_2)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v0_0) = v0 c
          ∧ r.2.mem ((c.tc : Thread Cert.RmsBwdIdeal.nD Cert.RmsBwdIdeal.τ).loc Cert.RmsBwdIdeal.main_v0_1) = v1 c
          ∧ r.2.mem ((c.tc : Thread Cert.RmsBwdIdeal.nD Cert.RmsBwdIdeal.τ).loc Cert.RmsBwdIdeal.main_v0_2) = v2 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsBwdRefIdeal.defs (F := Ideal)) (onTc (τ := Cert.RmsBwdRefIdeal.τ) (Cert.RmsBwdRefIdeal.main (F := Ideal))) ⟨m', fun _ => 0, g'⟩ (fun r => ∀ c : Dev Cert.RmsBwdRefIdeal.nD,
          r.2.mem ((c.tc : Thread Cert.RmsBwdRefIdeal.nD Cert.RmsBwdRefIdeal.τ).loc Cert.RmsBwdRefIdeal.main_v34) = v0 c
          ∧ r.2.mem ((c.tc : Thread Cert.RmsBwdRefIdeal.nD Cert.RmsBwdRefIdeal.τ).loc Cert.RmsBwdRefIdeal.main_v35) = v1 c
          ∧ r.2.mem ((c.tc : Thread Cert.RmsBwdRefIdeal.nD Cert.RmsBwdRefIdeal.τ).loc Cert.RmsBwdRefIdeal.main_v17) = v2 c
          ∧ r.2.mem ((c.tc : Thread Cert.RmsBwdRefIdeal.nD Cert.RmsBwdRefIdeal.τ).loc Cert.RmsBwdRefIdeal.main_arg0) = m' ((c.tc : Thread Cert.RmsBwdRefIdeal.nD Cert.RmsBwdRefIdeal.τ).loc Cert.RmsBwdRefIdeal.main_arg0)
          ∧ r.2.mem ((c.tc : Thread Cert.RmsBwdRefIdeal.nD Cert.RmsBwdRefIdeal.τ).loc Cert.RmsBwdRefIdeal.main_arg1) = m' ((c.tc : Thread Cert.RmsBwdRefIdeal.nD Cert.RmsBwdRefIdeal.τ).loc Cert.RmsBwdRefIdeal.main_arg1)
          ∧ r.2.mem ((c.tc : Thread Cert.RmsBwdRefIdeal.nD Cert.RmsBwdRefIdeal.τ).loc Cert.RmsBwdRefIdeal.main_arg2) = m' ((c.tc : Thread Cert.RmsBwdRefIdeal.nD Cert.RmsBwdRefIdeal.τ).loc Cert.RmsBwdRefIdeal.main_arg2)
          ∧ r.2.mem ((c.tc : Thread Cert.RmsBwdRefIdeal.nD Cert.RmsBwdRefIdeal.τ).loc Cert.RmsBwdRefIdeal.main_arg3) = m' ((c.tc : Thread Cert.RmsBwdRefIdeal.nD Cert.RmsBwdRefIdeal.τ).loc Cert.RmsBwdRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v0_0)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v19) = v0 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v0)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v0) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v12) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_Attn_AttnIdeal : Prop :=
  IdealRules.named_const.Statement Cert.AttnIdeal.κ "mask" .f32 0xF149F2CA#32 ⊥

def Claim : Prop :=
  ∃ (hDx : Cert.Dx.Facts) (hDxIdeal : Cert.DxIdeal.Facts) (hDxRefIdeal : Cert.DxRefIdeal.Facts) (hFwd : Cert.Fwd.Facts) (hFwdIdeal : Cert.FwdIdeal.Facts) (hFwdRefIdeal : Cert.FwdRefIdeal.Facts) (hUpDw : Cert.UpDw.Facts) (hUpDwIdeal : Cert.UpDwIdeal.Facts) (hUpDwRefIdeal : Cert.UpDwRefIdeal.Facts) (hDownDw : Cert.DownDw.Facts) (hDownDwIdeal : Cert.DownDwIdeal.Facts) (hDownDwRefIdeal : Cert.DownDwRefIdeal.Facts) (hOutDw : Cert.OutDw.Facts) (hOutDwIdeal : Cert.OutDwIdeal.Facts) (hOutDwRefIdeal : Cert.OutDwRefIdeal.Facts) (hPoolDw : Cert.PoolDw.Facts) (hPoolDwIdeal : Cert.PoolDwIdeal.Facts) (hPoolDwRefIdeal : Cert.PoolDwRefIdeal.Facts) (hQkvDw : Cert.QkvDw.Facts) (hQkvDwIdeal : Cert.QkvDwIdeal.Facts) (hQkvDwRefIdeal : Cert.QkvDwRefIdeal.Facts) (hRestDw : Cert.RestDw.Facts) (hRestDwIdeal : Cert.RestDwIdeal.Facts) (hRestDwRefIdeal : Cert.RestDwRefIdeal.Facts) (hMerge : Cert.Merge.Facts) (hMergeIdeal : Cert.MergeIdeal.Facts) (hMergeRefIdeal : Cert.MergeRefIdeal.Facts) (hInAdam : Cert.InAdam.Facts) (hInAdamIdeal : Cert.InAdamIdeal.Facts) (hInAdamRefIdeal : Cert.InAdamRefIdeal.Facts) (hUpAdam : Cert.UpAdam.Facts) (hUpAdamIdeal : Cert.UpAdamIdeal.Facts) (hUpAdamRefIdeal : Cert.UpAdamRefIdeal.Facts) (hPoolAdam : Cert.PoolAdam.Facts) (hPoolAdamIdeal : Cert.PoolAdamIdeal.Facts) (hPoolAdamRefIdeal : Cert.PoolAdamRefIdeal.Facts) (hOutAdam : Cert.OutAdam.Facts) (hOutAdamIdeal : Cert.OutAdamIdeal.Facts) (hOutAdamRefIdeal : Cert.OutAdamRefIdeal.Facts) (hDownAdam : Cert.DownAdam.Facts) (hDownAdamIdeal : Cert.DownAdamIdeal.Facts) (hDownAdamRefIdeal : Cert.DownAdamRefIdeal.Facts) (hSsdConvAdam : Cert.SsdConvAdam.Facts) (hSsdConvAdamIdeal : Cert.SsdConvAdamIdeal.Facts) (hSsdConvAdamRefIdeal : Cert.SsdConvAdamRefIdeal.Facts) (hFfnConvAdam : Cert.FfnConvAdam.Facts) (hFfnConvAdamIdeal : Cert.FfnConvAdamIdeal.Facts) (hFfnConvAdamRefIdeal : Cert.FfnConvAdamRefIdeal.Facts) (hRepAdam : Cert.RepAdam.Facts) (hRepAdamIdeal : Cert.RepAdamIdeal.Facts) (hRepAdamRefIdeal : Cert.RepAdamRefIdeal.Facts) (hRepSum : Cert.RepSum.Facts) (hRepSumIdeal : Cert.RepSumIdeal.Facts) (hRepSumRefIdeal : Cert.RepSumRefIdeal.Facts) (hRmsBwd : Cert.RmsBwd.Facts) (hRmsBwdIdeal : Cert.RmsBwdIdeal.Facts) (hRmsBwdRefIdeal : Cert.RmsBwdRefIdeal.Facts) (hLoss : Cert.Loss.Facts) (hLossIdeal : Cert.LossIdeal.Facts) (hLossRefIdeal : Cert.LossRefIdeal.Facts) (hRmsFwd : Cert.RmsFwd.Facts) (hRmsFwdIdeal : Cert.RmsFwdIdeal.Facts) (hRmsFwdRefIdeal : Cert.RmsFwdRefIdeal.Facts) (hAttn : Cert.Attn.Facts) (hAttnIdeal : Cert.AttnIdeal.Facts) (hAttnRefIdeal : Cert.AttnRefIdeal.Facts) (hPre_rms_finite : Cert.Pre_rms_finite.Facts),
    quiescent_Dx (hDx := hDx)
    ∧ quiescent_DxIdeal (hDxIdeal := hDxIdeal)
    ∧ quiescent_DxRefIdeal (hDxRefIdeal := hDxRefIdeal)
    ∧ quiescent_Fwd (hFwd := hFwd)
    ∧ quiescent_FwdIdeal (hFwdIdeal := hFwdIdeal)
    ∧ quiescent_FwdRefIdeal (hFwdRefIdeal := hFwdRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_PoolDw (hPoolDw := hPoolDw)
    ∧ quiescent_PoolDwIdeal (hPoolDwIdeal := hPoolDwIdeal)
    ∧ quiescent_PoolDwRefIdeal (hPoolDwRefIdeal := hPoolDwRefIdeal)
    ∧ quiescent_QkvDw (hQkvDw := hQkvDw)
    ∧ quiescent_QkvDwIdeal (hQkvDwIdeal := hQkvDwIdeal)
    ∧ quiescent_QkvDwRefIdeal (hQkvDwRefIdeal := hQkvDwRefIdeal)
    ∧ quiescent_RestDw (hRestDw := hRestDw)
    ∧ quiescent_RestDwIdeal (hRestDwIdeal := hRestDwIdeal)
    ∧ quiescent_RestDwRefIdeal (hRestDwRefIdeal := hRestDwRefIdeal)
    ∧ quiescent_Merge (hMerge := hMerge)
    ∧ quiescent_MergeIdeal (hMergeIdeal := hMergeIdeal)
    ∧ quiescent_MergeRefIdeal (hMergeRefIdeal := hMergeRefIdeal)
    ∧ quiescent_InAdam (hInAdam := hInAdam)
    ∧ quiescent_InAdamIdeal (hInAdamIdeal := hInAdamIdeal)
    ∧ quiescent_InAdamRefIdeal (hInAdamRefIdeal := hInAdamRefIdeal)
    ∧ quiescent_UpAdam (hUpAdam := hUpAdam)
    ∧ quiescent_UpAdamIdeal (hUpAdamIdeal := hUpAdamIdeal)
    ∧ quiescent_UpAdamRefIdeal (hUpAdamRefIdeal := hUpAdamRefIdeal)
    ∧ quiescent_PoolAdam (hPoolAdam := hPoolAdam)
    ∧ quiescent_PoolAdamIdeal (hPoolAdamIdeal := hPoolAdamIdeal)
    ∧ quiescent_PoolAdamRefIdeal (hPoolAdamRefIdeal := hPoolAdamRefIdeal)
    ∧ quiescent_OutAdam (hOutAdam := hOutAdam)
    ∧ quiescent_OutAdamIdeal (hOutAdamIdeal := hOutAdamIdeal)
    ∧ quiescent_OutAdamRefIdeal (hOutAdamRefIdeal := hOutAdamRefIdeal)
    ∧ quiescent_DownAdam (hDownAdam := hDownAdam)
    ∧ quiescent_DownAdamIdeal (hDownAdamIdeal := hDownAdamIdeal)
    ∧ quiescent_DownAdamRefIdeal (hDownAdamRefIdeal := hDownAdamRefIdeal)
    ∧ quiescent_SsdConvAdam (hSsdConvAdam := hSsdConvAdam)
    ∧ quiescent_SsdConvAdamIdeal (hSsdConvAdamIdeal := hSsdConvAdamIdeal)
    ∧ quiescent_SsdConvAdamRefIdeal (hSsdConvAdamRefIdeal := hSsdConvAdamRefIdeal)
    ∧ quiescent_FfnConvAdam (hFfnConvAdam := hFfnConvAdam)
    ∧ quiescent_FfnConvAdamIdeal (hFfnConvAdamIdeal := hFfnConvAdamIdeal)
    ∧ quiescent_FfnConvAdamRefIdeal (hFfnConvAdamRefIdeal := hFfnConvAdamRefIdeal)
    ∧ quiescent_RepAdam (hRepAdam := hRepAdam)
    ∧ quiescent_RepAdamIdeal (hRepAdamIdeal := hRepAdamIdeal)
    ∧ quiescent_RepAdamRefIdeal (hRepAdamRefIdeal := hRepAdamRefIdeal)
    ∧ quiescent_RepSum (hRepSum := hRepSum)
    ∧ quiescent_RepSumIdeal (hRepSumIdeal := hRepSumIdeal)
    ∧ quiescent_RepSumRefIdeal (hRepSumRefIdeal := hRepSumRefIdeal)
    ∧ quiescent_RmsBwd (hRmsBwd := hRmsBwd)
    ∧ quiescent_RmsBwdIdeal (hRmsBwdIdeal := hRmsBwdIdeal)
    ∧ quiescent_RmsBwdIdeal_pre_rms_finite (hRmsBwdIdeal := hRmsBwdIdeal) (hPre_rms_finite := hPre_rms_finite)
    ∧ quiescent_RmsBwdRefIdeal (hRmsBwdRefIdeal := hRmsBwdRefIdeal)
    ∧ quiescent_RmsBwdRefIdeal_pre_rms_finite (hRmsBwdRefIdeal := hRmsBwdRefIdeal) (hPre_rms_finite := hPre_rms_finite)
    ∧ quiescent_Loss (hLoss := hLoss)
    ∧ quiescent_LossIdeal (hLossIdeal := hLossIdeal)
    ∧ quiescent_LossRefIdeal (hLossRefIdeal := hLossRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_Attn (hAttn := hAttn)
    ∧ quiescent_AttnIdeal (hAttnIdeal := hAttnIdeal)
    ∧ quiescent_AttnRefIdeal (hAttnRefIdeal := hAttnRefIdeal)
    ∧ preserves_Dx_DxIdeal
    ∧ algebraic_DxIdeal_DxRefIdeal (hDxIdeal := hDxIdeal) (hDxRefIdeal := hDxRefIdeal)
    ∧ preserves_Fwd_FwdIdeal
    ∧ algebraic_FwdIdeal_FwdRefIdeal (hFwdIdeal := hFwdIdeal) (hFwdRefIdeal := hFwdRefIdeal)
    ∧ preserves_UpDw_UpDwIdeal
    ∧ algebraic_UpDwIdeal_UpDwRefIdeal (hUpDwIdeal := hUpDwIdeal) (hUpDwRefIdeal := hUpDwRefIdeal)
    ∧ preserves_DownDw_DownDwIdeal
    ∧ algebraic_DownDwIdeal_DownDwRefIdeal (hDownDwIdeal := hDownDwIdeal) (hDownDwRefIdeal := hDownDwRefIdeal)
    ∧ preserves_OutDw_OutDwIdeal
    ∧ algebraic_OutDwIdeal_OutDwRefIdeal (hOutDwIdeal := hOutDwIdeal) (hOutDwRefIdeal := hOutDwRefIdeal)
    ∧ preserves_PoolDw_PoolDwIdeal
    ∧ algebraic_PoolDwIdeal_PoolDwRefIdeal (hPoolDwIdeal := hPoolDwIdeal) (hPoolDwRefIdeal := hPoolDwRefIdeal)
    ∧ preserves_QkvDw_QkvDwIdeal
    ∧ algebraic_QkvDwIdeal_QkvDwRefIdeal (hQkvDwIdeal := hQkvDwIdeal) (hQkvDwRefIdeal := hQkvDwRefIdeal)
    ∧ preserves_RestDw_RestDwIdeal
    ∧ algebraic_RestDwIdeal_RestDwRefIdeal (hRestDwIdeal := hRestDwIdeal) (hRestDwRefIdeal := hRestDwRefIdeal)
    ∧ preserves_Merge_MergeIdeal
    ∧ algebraic_MergeIdeal_MergeRefIdeal (hMergeIdeal := hMergeIdeal) (hMergeRefIdeal := hMergeRefIdeal)
    ∧ preserves_InAdam_InAdamIdeal
    ∧ algebraic_InAdamIdeal_InAdamRefIdeal (hInAdamIdeal := hInAdamIdeal) (hInAdamRefIdeal := hInAdamRefIdeal)
    ∧ preserves_UpAdam_UpAdamIdeal
    ∧ algebraic_UpAdamIdeal_UpAdamRefIdeal (hUpAdamIdeal := hUpAdamIdeal) (hUpAdamRefIdeal := hUpAdamRefIdeal)
    ∧ preserves_PoolAdam_PoolAdamIdeal
    ∧ algebraic_PoolAdamIdeal_PoolAdamRefIdeal (hPoolAdamIdeal := hPoolAdamIdeal) (hPoolAdamRefIdeal := hPoolAdamRefIdeal)
    ∧ preserves_OutAdam_OutAdamIdeal
    ∧ algebraic_OutAdamIdeal_OutAdamRefIdeal (hOutAdamIdeal := hOutAdamIdeal) (hOutAdamRefIdeal := hOutAdamRefIdeal)
    ∧ preserves_DownAdam_DownAdamIdeal
    ∧ algebraic_DownAdamIdeal_DownAdamRefIdeal (hDownAdamIdeal := hDownAdamIdeal) (hDownAdamRefIdeal := hDownAdamRefIdeal)
    ∧ preserves_SsdConvAdam_SsdConvAdamIdeal
    ∧ algebraic_SsdConvAdamIdeal_SsdConvAdamRefIdeal (hSsdConvAdamIdeal := hSsdConvAdamIdeal) (hSsdConvAdamRefIdeal := hSsdConvAdamRefIdeal)
    ∧ preserves_FfnConvAdam_FfnConvAdamIdeal
    ∧ algebraic_FfnConvAdamIdeal_FfnConvAdamRefIdeal (hFfnConvAdamIdeal := hFfnConvAdamIdeal) (hFfnConvAdamRefIdeal := hFfnConvAdamRefIdeal)
    ∧ preserves_RepAdam_RepAdamIdeal
    ∧ algebraic_RepAdamIdeal_RepAdamRefIdeal (hRepAdamIdeal := hRepAdamIdeal) (hRepAdamRefIdeal := hRepAdamRefIdeal)
    ∧ preserves_RepSum_RepSumIdeal
    ∧ algebraic_RepSumIdeal_RepSumRefIdeal (hRepSumIdeal := hRepSumIdeal) (hRepSumRefIdeal := hRepSumRefIdeal)
    ∧ preserves_RmsBwd_RmsBwdIdeal
    ∧ algebraic_RmsBwdIdeal_RmsBwdRefIdeal_pre_rms_finite (hRmsBwdIdeal := hRmsBwdIdeal) (hRmsBwdRefIdeal := hRmsBwdRefIdeal) (hPre_rms_finite := hPre_rms_finite)
    ∧ preserves_Loss_LossIdeal
    ∧ algebraic_LossIdeal_LossRefIdeal (hLossIdeal := hLossIdeal) (hLossRefIdeal := hLossRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_Attn_AttnIdeal
-- ==== Pre_rms_finite.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S1x1024_S8192x1024_0_1 : S1x1024.BroadcastsInDim S8192x1024 (![0, 1] : Fin 2 → Fin S8192x1024.rank)

variable [Facts]

def fn {F : FTy → Type} [FloatOps F] (main_arg0 : FVec F S8192x1024 .f32) (main_arg1 : FVec F S1x1024 .f32) (main_arg2 : FVec F S8192x1024 .f32) (main_arg3 : FVec F S8192x1024 .f32) : IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : IVec S8192x1024 1 := broadcastInDim S8192x1024 ![0, 1] bcast_S1x1024_S8192x1024_0_1 main_v5
  let main_v7 : IVec S8192x1024 1 := andi main_v2 main_v6
  let main_v8 : FVec F S8192x1024 .f32 := Host.absf main_arg2
  let main_cst_1 : FVec F S_ .f32 := constant S_ .f32 0x7F800000#32
  let main_v9 : FVec F S8192x1024 .f32 := broadcastInDim S8192x1024 ![] bcast_S_S8192x1024 main_cst_1
  let main_v10 : IVec S8192x1024 1 := cmpf .olt main_v8 main_v9
  let main_v11 : IVec S8192x1024 1 := andi main_v7 main_v10
  main_v11
-- ==== Dx.lean ====
abbrev S8192x1024 : Shape := ⟨2, ![8192, 1024]⟩
abbrev S3072x1024 : Shape := ⟨2, ![3072, 1024]⟩
abbrev S2x8192x3072 : Shape := ⟨3, ![2, 8192, 3072]⟩
abbrev S8x1x1024x768 : Shape := ⟨4, ![8, 1, 1024, 768]⟩
abbrev S1024x1024 : Shape := ⟨2, ![1024, 1024]⟩
abbrev S512x1024 : Shape := ⟨2, ![512, 1024]⟩
abbrev S8192x1536 : Shape := ⟨2, ![8192, 1536]⟩
abbrev S1024x1536 : Shape := ⟨2, ![1024, 1536]⟩
abbrev S8192x6272 : Shape := ⟨2, ![8192, 6272]⟩
abbrev S1024x6272 : Shape := ⟨2, ![1024, 6272]⟩
abbrev S8192x3072 : Shape := ⟨2, ![8192, 3072]⟩
abbrev S2048x1024 : Shape := ⟨2, ![2048, 1024]⟩
abbrev S2x256x3072 : Shape := ⟨3, ![2, 256, 3072]⟩
abbrev S256x1024 : Shape := ⟨2, ![256, 1024]⟩
abbrev S1x256x768 : Shape := ⟨3, ![1, 256, 768]⟩
abbrev S256x768 : Shape := ⟨2, ![256, 768]⟩
abbrev S1x1x1024x768 : Shape := ⟨4, ![1, 1, 1024, 768]⟩
abbrev S1024x768 : Shape := ⟨2, ![1024, 768]⟩
abbrev S8192x512 : Shape := ⟨2, ![8192, 512]⟩
abbrev S2048x512 : Shape := ⟨2, ![2048, 512]⟩
abbrev S256x6272 : Shape := ⟨2, ![256, 6272]⟩

abbrev nBuf : Space → Nat
  | .hbm => 24
  | .vmem => 43
  | .smem => 0
  | _ => 0

abbrev bufTy : (tb : Table) → Fin (tcTables nBuf tb) → BufTy
  | .hbm, ⟨0, _⟩ => ⟨S8192x1024, .bf16⟩
  | .hbm, ⟨1, _⟩ => ⟨S3072x1024, .bf16⟩
  | .hbm, ⟨2, _⟩ => ⟨S2x8192x3072, .bf16⟩
  | .hbm, ⟨3, _⟩ => ⟨S8x1x1024x768, .bf16⟩
  | .hbm, ⟨4, _⟩ => ⟨S8192x1024, .bf16⟩
  | .hbm, ⟨5, _⟩ => ⟨S1024x1024, .bf16⟩
  | .hbm, ⟨6, _⟩ => ⟨S8192x1024, .bf16⟩
  | .hbm, ⟨7, _⟩ => ⟨S512x1024, .bf16⟩
  | .hbm, ⟨8, _⟩ => ⟨S8192x1024, .bf16⟩
  | .hbm, ⟨9, _⟩ => ⟨S512x1024, .bf16⟩
  | .hbm, ⟨10, _⟩ => ⟨S8192x1024, .bf16⟩
  | .hbm, ⟨11, _⟩ => ⟨S1024x1024, .bf16⟩
  | .hbm, ⟨12, _⟩ => ⟨S8192x1536, .bf16⟩
  | .hbm, ⟨13, _⟩ => ⟨S1024x1536, .bf16⟩
  | .hbm, ⟨14, _⟩ => ⟨S8192x6272, .bf16⟩
  | .hbm, ⟨15, _⟩ => ⟨S1024x6272, .bf16⟩
  | .hbm, ⟨16, _⟩ => ⟨S8192x3072, .f32⟩
  | .hbm, ⟨17, _⟩ => ⟨S8192x1024, .f32⟩
  | .hbm, ⟨18, _⟩ => ⟨S8192x1024, .f32⟩
  | .hbm, ⟨19, _⟩ => ⟨S8192x512, .f32⟩
  | .hbm, ⟨20, _⟩ => ⟨S8192x512, .bf16⟩
  | .hbm, ⟨21, _⟩ => ⟨S8192x1024, .f32⟩
  | .hbm, ⟨22, _⟩ => ⟨S8192x1024, .f32⟩
  | .hbm, ⟨23, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | .local _ .vmem, ⟨6, _⟩ => ⟨S2x256x3072, .bf16⟩
  | .local _ .vmem, ⟨7, _⟩ => ⟨S2x256x3072, .bf16⟩
  | .local _ .vmem, ⟨8, _⟩ => ⟨S8x1x1024x768, .bf16⟩
  | .local _ .vmem, ⟨9, _⟩ => ⟨S256x1024, .f32⟩
  | .local _ .vmem, ⟨10, _⟩ => ⟨S256x1024, .f32⟩
  | .local _ .vmem, ⟨11, _⟩ => ⟨S2048x1024, .bf16⟩
  | .local _ .vmem, ⟨12, _⟩ => ⟨S2048x1024, .bf16⟩
  | .local _ .vmem, ⟨13, _⟩ => ⟨S1024x1024, .bf16⟩
  | .local _ .vmem, ⟨14, _⟩ => ⟨S2048x1024, .f32⟩
  | .local _ .vmem, ⟨15, _⟩ => ⟨S2048x1024, .f32⟩
  | .local _ .vmem, ⟨16, _⟩ => ⟨S2048x1024, .bf16⟩
  | .local _ .vmem, ⟨17, _⟩ => ⟨S2048x1024, .bf16⟩
  | .local _ .vmem, ⟨18, _⟩ => ⟨S512x1024, .bf16⟩
  | .local _ .vmem, ⟨19, _⟩ => ⟨S2048x512, .f32⟩
  | .local _ .vmem, ⟨20, _⟩ => ⟨S2048x512, .f32⟩
  | .local _ .vmem, ⟨21, _⟩ => ⟨S2048x1024, .bf16⟩
  | .local _ .vmem, ⟨22, _⟩ => ⟨S2048x1024, .bf16⟩
  | .local _ .vmem, ⟨23, _⟩ => ⟨S512x1024, .bf16⟩
  | .local _ .vmem, ⟨24, _⟩ => ⟨S2048x512, .bf16⟩
  | .local _ .vmem, ⟨25, _⟩ => ⟨S2048x512, .bf16⟩
  | .local _ .vmem, ⟨26, _⟩ => ⟨S2048x1024, .bf16⟩
  | .local _ .vmem, ⟨27, _⟩ => ⟨S2048x1024, .bf16⟩
  | .local _ .vmem, ⟨28, _⟩ => ⟨S1024x1024, .bf16⟩
  | .local _ .vmem, ⟨29, _⟩ => ⟨S2048x1024, .f32⟩
  | .local _ .vmem, ⟨30, _⟩ => ⟨S2048x1024, .f32⟩
  | .local _ .vmem, ⟨31, _⟩ => ⟨S1024x1536, .bf16⟩
  | .local _ .vmem, ⟨32, _⟩ => ⟨S1024x1536, .bf16⟩
  | .local _ .vmem, ⟨33, _⟩ => ⟨S1024x1536, .bf16⟩
  | .local _ .vmem, ⟨34, _⟩ => ⟨S1024x1024, .f32⟩
  | .local _ .vmem, ⟨35, _⟩ => ⟨S1024x1024, .f32⟩
  | .local _ .vmem, ⟨36, _⟩ => ⟨S256x6272, .bf16⟩
  | .local _ .vmem, ⟨37, _⟩ => ⟨S256x6272, .bf16⟩
  | .local _ .vmem, ⟨38, _⟩ => ⟨S1024x6272, .bf16⟩
  | .local _ .vmem, ⟨39, _⟩ => ⟨S256x1024, .f32⟩
  | .local _ .vmem, ⟨40, _⟩ => ⟨S256x1024, .f32⟩
  | .local _ .vmem, ⟨41, _⟩ => ⟨S256x1024, .f32⟩
  | .local _ .vmem, ⟨42, _⟩ => ⟨S256x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg2_1 : Ref sig .tc := ⟨.vmem, 30, rfl⟩
abbrev cc6_stg0_0 : Ref sig .tc := ⟨.vmem, 31, rfl⟩
abbrev cc6_stg0_1 : Ref sig .tc := ⟨.vmem, 32, rfl⟩
abbrev cc6_stg1_0 : Ref sig .tc := ⟨.vmem, 33, rfl⟩
abbrev cc6_stg2_0 : Ref sig .tc := ⟨.vmem, 34, rfl⟩
abbrev cc6_stg2_1 : Ref sig .tc := ⟨.vmem, 35, rfl⟩
abbrev cc7_stg0_0 : Ref sig .tc := ⟨.vmem, 36, rfl⟩
abbrev cc7_stg0_1 : Ref sig .tc := ⟨.vmem, 37, rfl⟩
abbrev cc7_stg1_0 : Ref sig .tc := ⟨.vmem, 38, rfl⟩
abbrev cc7_stg2_0 : Ref sig .tc := ⟨.vmem, 39, rfl⟩
abbrev cc7_stg2_1 : Ref sig .tc := ⟨.vmem, 40, rfl⟩
abbrev cc7_stg3_0 : Ref sig .tc := ⟨.vmem, 41, rfl⟩
abbrev cc7_stg3_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem2_1 : DmaSem sig := 30
abbrev cc6_sem0_0 : DmaSem sig := 31
abbrev cc6_sem0_1 : DmaSem sig := 32
abbrev cc6_sem1_0 : DmaSem sig := 33
abbrev cc6_sem2_0 : DmaSem sig := 34
abbrev cc6_sem2_1 : DmaSem sig := 35
abbrev cc7_sem0_0 : DmaSem sig := 36
abbrev cc7_sem0_1 : DmaSem sig := 37
abbrev cc7_sem1_0 : DmaSem sig := 38
abbrev cc7_sem2_0 : DmaSem sig := 39
abbrev cc7_sem2_1 : DmaSem sig := 40
abbrev cc7_sem3_0 : DmaSem sig := 41
abbrev cc7_sem3_1 : DmaSem sig := 42

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2x256x3072 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x1x1024x768 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨3, ![4, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S2048x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S512x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S2048x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S2048x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S512x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S2048x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![4, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S2048x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S1024x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S2048x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![8, 1, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S1024x1536 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 1 → Memref sig .tc .vmem S1024x1536 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true, true]

abbrev stage6_2 : Fin 2 → Memref sig .tc .vmem S1024x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![32, 1, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc7_transform_3 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S256x6272 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 1 → Memref sig .tc .vmem S1024x6272 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true, true]

abbrev stage7_2 : Fin 2 → Memref sig .tc .vmem S256x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev stage7_3 : Fin 2 → Memref sig .tc .vmem S256x1024 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true, false]
-- ==== DxRefIdeal.lean ====
abbrev S8192x1024 : Shape := ⟨2, ![8192, 1024]⟩
abbrev S3072x1024 : Shape := ⟨2, ![3072, 1024]⟩
abbrev S2x8192x3072 : Shape := ⟨3, ![2, 8192, 3072]⟩
abbrev S8x1x1024x768 : Shape := ⟨4, ![8, 1, 1024, 768]⟩
abbrev S1024x1024 : Shape := ⟨2, ![1024, 1024]⟩
abbrev S512x1024 : Shape := ⟨2, ![512, 1024]⟩
abbrev S8192x1536 : Shape := ⟨2, ![8192, 1536]⟩
abbrev S1024x1536 : Shape := ⟨2, ![1024, 1536]⟩
abbrev S8192x6272 : Shape := ⟨2, ![8192, 6272]⟩
abbrev S1024x6272 : Shape := ⟨2, ![1024, 6272]⟩
abbrev S8192x2x3072 : Shape := ⟨3, ![8192, 2, 3072]⟩
abbrev S8192x6144 : Shape := ⟨2, ![8192, 6144]⟩
abbrev S_ : Shape := ⟨0, ![]⟩
abbrev S8192x3072 : Shape := ⟨2, ![8192, 3072]⟩
abbrev S8192x512 : Shape := ⟨2, ![8192, 512]⟩
abbrev S8x1024x768 : Shape := ⟨3, ![8, 1024, 768]⟩
abbrev S1024x8x768 : Shape := ⟨3, ![1024, 8, 768]⟩
abbrev S1024x6144 : Shape := ⟨2, ![1024, 6144]⟩

abbrev nBuf : Space → Nat
  | .hbm => 69
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S3072x1024, .bf16⟩
  | .hbm, ⟨2, _⟩ => ⟨S2x8192x3072, .bf16⟩
  | .hbm, ⟨3, _⟩ => ⟨S8x1x1024x768, .bf16⟩
  | .hbm, ⟨4, _⟩ => ⟨S8192x1024, .bf16⟩
  | .hbm, ⟨5, _⟩ => ⟨S1024x1024, .bf16⟩
  | .hbm, ⟨6, _⟩ => ⟨S8192x1024, .bf16⟩
  | .hbm, ⟨7, _⟩ => ⟨S512x1024, .bf16⟩
  | .hbm, ⟨8, _⟩ => ⟨S8192x1024, .bf16⟩
  | .hbm, ⟨9, _⟩ => ⟨S512x1024, .bf16⟩
  | .hbm, ⟨10, _⟩ => ⟨S8192x1024, .bf16⟩
  | .hbm, ⟨11, _⟩ => ⟨S1024x1024, .bf16⟩
  | .hbm, ⟨12, _⟩ => ⟨S8192x1536, .bf16⟩
  | .hbm, ⟨13, _⟩ => ⟨S1024x1536, .bf16⟩
  | .hbm, ⟨14, _⟩ => ⟨S8192x6272, .bf16⟩
  | .hbm, ⟨15, _⟩ => ⟨S1024x6272, .bf16⟩
  | .hbm, ⟨16, _⟩ => ⟨S8192x2x3072, .bf16⟩
  | .hbm, ⟨17, _⟩ => ⟨S8192x6144, .bf16⟩
  | .hbm, ⟨18, _⟩ => ⟨S8192x1024, .f32⟩
  | .hbm, ⟨19, _⟩ => ⟨S8192x6144, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1536, .f32⟩
  | .hbm, ⟨25, _⟩ => ⟨S8192x6272, .f32⟩
  | .hbm, ⟨26, _⟩ => ⟨S_, .f32⟩
  | .hbm, ⟨27, _⟩ => ⟨S8192x3072, .f32⟩
  | .hbm, ⟨28, _⟩ => ⟨S_, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S_, .f32⟩
  | .hbm, ⟨33, _⟩ => ⟨S8192x512, .f32⟩
  | .hbm, ⟨34, _⟩ => ⟨S_, .f32⟩
  | .hbm, ⟨35, _⟩ => ⟨S8192x512, .f32⟩
  | .hbm, ⟨36, _⟩ => ⟨S_, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8x1x1024x768, .f32⟩
  | .hbm, ⟨41, _⟩ => ⟨S8x1024x768, .f32⟩
  | .hbm, ⟨42, _⟩ => ⟨S1024x8x768, .f32⟩
  | .hbm, ⟨43, _⟩ => ⟨S1024x6144, .f32⟩
  | .hbm, ⟨44, _⟩ => ⟨S3072x1024, .f32⟩
  | .hbm, ⟨45, _⟩ => ⟨S8192x1024, .f32⟩
  | .hbm, ⟨46, _⟩ => ⟨S8192x6144, .f32⟩
  | .hbm, ⟨47, _⟩ => ⟨S1024x1024, .f32⟩
  | .hbm, ⟨48, _⟩ => ⟨S8192x1024, .f32⟩
  | .hbm, ⟨49, _⟩ => ⟨S512x1024, .f32⟩
  | .hbm, ⟨50, _⟩ => ⟨S8192x1024, .f32⟩
  | .hbm, ⟨51, _⟩ => ⟨S512x1024, .f32⟩
  | .hbm, ⟨52, _⟩ => ⟨S8192x1024, .f32⟩
  | .hbm, ⟨53, _⟩ => ⟨S1024x1024, .f32⟩
  | .hbm, ⟨54, _⟩ => ⟨S8192x1024, .f32⟩
  | .hbm, ⟨55, _⟩ => ⟨S1024x1536, .f32⟩
  | .hbm, ⟨56, _⟩ => ⟨S8192x1536, .f32⟩
  | .hbm, ⟨57, _⟩ => ⟨S1024x6272, .f32⟩
  | .hbm, ⟨58, _⟩ => ⟨S8192x6272, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x512, .f32⟩
  | .hbm, ⟨64, _⟩ => ⟨S8192x512, .f32⟩
  | .hbm, ⟨65, _⟩ => ⟨S8192x1024, .f32⟩
  | .hbm, ⟨66, _⟩ => ⟨S8192x1024, .f32⟩
  | .hbm, ⟨67, _⟩ => ⟨S8192x3072, .f32⟩
  | .hbm, ⟨68, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_cst_0 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_cst_4 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩

abbrev nD : Nat := 1
abbrev τ : Topo := Topo.v7x

variable {F : FTy → Type} [FloatOps F]
-- ==== Fwd.lean ====
abbrev S8192x1024 : Shape := ⟨2, ![8192, 1024]⟩
abbrev S1024x1536 : Shape := ⟨2, ![1024, 1536]⟩
abbrev S1024x6272 : Shape := ⟨2, ![1024, 6272]⟩
abbrev S8192x512 : Shape := ⟨2, ![8192, 512]⟩
abbrev S512x1024 : Shape := ⟨2, ![512, 1024]⟩
abbrev S1024x1024 : Shape := ⟨2, ![1024, 1024]⟩
abbrev S8x1x1024x768 : Shape := ⟨4, ![8, 1, 1024, 768]⟩
abbrev S8192x3072 : Shape := ⟨2, ![8192, 3072]⟩
abbrev S3072x1024 : Shape := ⟨2, ![3072, 1024]⟩
abbrev S8192x1536 : Shape := ⟨2, ![8192, 1536]⟩
abbrev S2048x1024 : Shape := ⟨2, ![2048, 1024]⟩
abbrev S1024x768 : Shape := ⟨2, ![1024, 768]⟩
abbrev S2048x768 : Shape := ⟨2, ![2048, 768]⟩
abbrev S8192x6272 : Shape := ⟨2, ![8192, 6272]⟩
abbrev S1024x896 : Shape := ⟨2, ![1024, 896]⟩
abbrev S2048x896 : Shape := ⟨2, ![2048, 896]⟩
abbrev S2048x512 : Shape := ⟨2, ![2048, 512]⟩
abbrev S8192x6144 : Shape := ⟨2, ![8192, 6144]⟩
abbrev S1x1x1024x768 : Shape := ⟨4, ![1, 1, 1024, 768]⟩
abbrev S512x3072 : Shape := ⟨2, ![512, 3072]⟩

abbrev nBuf : Space → Nat
  | .hbm => 24
  | .vmem => 47
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S1024x6272, .bf16⟩
  | .hbm, ⟨3, _⟩ => ⟨S8192x512, .bf16⟩
  | .hbm, ⟨4, _⟩ => ⟨S512x1024, .bf16⟩
  | .hbm, ⟨5, _⟩ => ⟨S8192x512, .bf16⟩
  | .hbm, ⟨6, _⟩ => ⟨S512x1024, .bf16⟩
  | .hbm, ⟨7, _⟩ => ⟨S8192x1024, .bf16⟩
  | .hbm, ⟨8, _⟩ => ⟨S1024x1024, .bf16⟩
  | .hbm, ⟨9, _⟩ => ⟨S8192x1024, .bf16⟩
  | .hbm, ⟨10, _⟩ => ⟨S1024x1024, .bf16⟩
  | .hbm, ⟨11, _⟩ => ⟨S8192x1024, .f32⟩
  | .hbm, ⟨12, _⟩ => ⟨S8192x1024, .bf16⟩
  | .hbm, ⟨13, _⟩ => ⟨S8x1x1024x768, .bf16⟩
  | .hbm, ⟨14, _⟩ => ⟨S8192x3072, .bf16⟩
  | .hbm, ⟨15, _⟩ => ⟨S3072x1024, .bf16⟩
  | .hbm, ⟨16, _⟩ => ⟨S8192x1536, .bf16⟩
  | .hbm, ⟨17, _⟩ => ⟨S8192x6272, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x6144, .f32⟩
  | .hbm, ⟨23, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x768, .bf16⟩
  | .local _ .vmem, ⟨3, _⟩ => ⟨S1024x768, .bf16⟩
  | .local _ .vmem, ⟨4, _⟩ => ⟨S2048x768, .bf16⟩
  | .local _ .vmem, ⟨5, _⟩ => ⟨S2048x768, .bf16⟩
  | .local _ .vmem, ⟨6, _⟩ => ⟨S2048x1024, .bf16⟩
  | .local _ .vmem, ⟨7, _⟩ => ⟨S2048x1024, .bf16⟩
  | .local _ .vmem, ⟨8, _⟩ => ⟨S1024x896, .bf16⟩
  | .local _ .vmem, ⟨9, _⟩ => ⟨S1024x896, .bf16⟩
  | .local _ .vmem, ⟨10, _⟩ => ⟨S2048x896, .f32⟩
  | .local _ .vmem, ⟨11, _⟩ => ⟨S2048x896, .f32⟩
  | .local _ .vmem, ⟨12, _⟩ => ⟨S2048x512, .bf16⟩
  | .local _ .vmem, ⟨13, _⟩ => ⟨S2048x512, .bf16⟩
  | .local _ .vmem, ⟨14, _⟩ => ⟨S512x1024, .bf16⟩
  | .local _ .vmem, ⟨15, _⟩ => ⟨S2048x1024, .f32⟩
  | .local _ .vmem, ⟨16, _⟩ => ⟨S2048x1024, .f32⟩
  | .local _ .vmem, ⟨17, _⟩ => ⟨S2048x512, .bf16⟩
  | .local _ .vmem, ⟨18, _⟩ => ⟨S2048x512, .bf16⟩
  | .local _ .vmem, ⟨19, _⟩ => ⟨S512x1024, .bf16⟩
  | .local _ .vmem, ⟨20, _⟩ => ⟨S2048x1024, .f32⟩
  | .local _ .vmem, ⟨21, _⟩ => ⟨S2048x1024, .f32⟩
  | .local _ .vmem, ⟨22, _⟩ => ⟨S2048x1024, .bf16⟩
  | .local _ .vmem, ⟨23, _⟩ => ⟨S2048x1024, .bf16⟩
  | .local _ .vmem, ⟨24, _⟩ => ⟨S1024x1024, .bf16⟩
  | .local _ .vmem, ⟨25, _⟩ => ⟨S2048x1024, .f32⟩
  | .local _ .vmem, ⟨26, _⟩ => ⟨S2048x1024, .f32⟩
  | .local _ .vmem, ⟨27, _⟩ => ⟨S1024x1024, .bf16⟩
  | .local _ .vmem, ⟨28, _⟩ => ⟨S1024x1024, .bf16⟩
  | .local _ .vmem, ⟨29, _⟩ => ⟨S1024x1024, .bf16⟩
  | .local _ .vmem, ⟨30, _⟩ => ⟨S1024x1024, .f32⟩
  | .local _ .vmem, ⟨31, _⟩ => ⟨S1024x1024, .f32⟩
  | .local _ .vmem, ⟨32, _⟩ => ⟨S1024x1024, .f32⟩
  | .local _ .vmem, ⟨33, _⟩ => ⟨S1024x1024, .f32⟩
  | .local _ .vmem, ⟨34, _⟩ => ⟨S2048x1024, .bf16⟩
  | .local _ .vmem, ⟨35, _⟩ => ⟨S2048x1024, .bf16⟩
  | .local _ .vmem, ⟨36, _⟩ => ⟨S1x1x1024x768, .bf16⟩
  | .local _ .vmem, ⟨37, _⟩ => ⟨S1x1x1024x768, .bf16⟩
  | .local _ .vmem, ⟨38, _⟩ => ⟨S2048x768, .f32⟩
  | .local _ .vmem, ⟨39, _⟩ => ⟨S2048x768, .f32⟩
  | .local _ .vmem, ⟨40, _⟩ => ⟨S512x3072, .bf16⟩
  | .local _ .vmem, ⟨41, _⟩ => ⟨S512x3072, .bf16⟩
  | .local _ .vmem, ⟨42, _⟩ => ⟨S3072x1024, .bf16⟩
  | .local _ .vmem, ⟨43, _⟩ => ⟨S512x1024, .f32⟩
  | .local _ .vmem, ⟨44, _⟩ => ⟨S512x1024, .f32⟩
  | .local _ .vmem, ⟨45, _⟩ => ⟨S512x1024, .f32⟩
  | .local _ .vmem, ⟨46, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc5_stg3_0 : Ref sig .tc := ⟨.vmem, 32, rfl⟩
abbrev cc5_stg3_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg1_1 : Ref sig .tc := ⟨.vmem, 37, rfl⟩
abbrev cc6_stg2_0 : Ref sig .tc := ⟨.vmem, 38, rfl⟩
abbrev cc6_stg2_1 : Ref sig .tc := ⟨.vmem, 39, rfl⟩
abbrev cc7_stg0_0 : Ref sig .tc := ⟨.vmem, 40, rfl⟩
abbrev cc7_stg0_1 : Ref sig .tc := ⟨.vmem, 41, rfl⟩
abbrev cc7_stg1_0 : Ref sig .tc := ⟨.vmem, 42, rfl⟩
abbrev cc7_stg2_0 : Ref sig .tc := ⟨.vmem, 43, rfl⟩
abbrev cc7_stg2_1 : Ref sig .tc := ⟨.vmem, 44, rfl⟩
abbrev cc7_stg3_0 : Ref sig .tc := ⟨.vmem, 45, rfl⟩
abbrev cc7_stg3_1 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc5_sem3_0 : DmaSem sig := 32
abbrev cc5_sem3_1 : DmaSem sig := 33
abbrev cc6_sem0_0 : DmaSem sig := 34
abbrev cc6_sem0_1 : DmaSem sig := 35
abbrev cc6_sem1_0 : DmaSem sig := 36
abbrev cc6_sem1_1 : DmaSem sig := 37
abbrev cc6_sem2_0 : DmaSem sig := 38
abbrev cc6_sem2_1 : DmaSem sig := 39
abbrev cc7_sem0_0 : DmaSem sig := 40
abbrev cc7_sem0_1 : DmaSem sig := 41
abbrev cc7_sem1_0 : DmaSem sig := 42
abbrev cc7_sem2_0 : DmaSem sig := 43
abbrev cc7_sem2_1 : DmaSem sig := 44
abbrev cc7_sem3_0 : DmaSem sig := 45
abbrev cc7_sem3_1 : DmaSem sig := 46

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 7, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x896 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x896 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S512x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S2048x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2048x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S512x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S2048x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S2048x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S2048x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![8, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc5_transform_3 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S1024x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev stage5_3 : Fin 2 → Memref sig .tc .vmem S1024x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true, false]

abbrev grid6 : Pipeline.Grid := ⟨3, ![4, 8, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc6_transform_1 (i : grid6.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S2048x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, false]

abbrev stage6_1 : Fin 2 → Memref sig .tc .vmem S1x1x1024x768 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, false]

abbrev stage6_2 : Fin 2 → Memref sig .tc .vmem S2048x768 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![16, 1, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc7_transform_3 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S512x3072 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 1 → Memref sig .tc .vmem S3072x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true, true]

abbrev stage7_2 : Fin 2 → Memref sig .tc .vmem S512x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev stage7_3 : Fin 2 → Memref sig .tc .vmem S512x1024 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true, false]
-- ==== FwdRefIdeal.lean ====
abbrev S8192x1024 : Shape := ⟨2, ![8192, 1024]⟩
abbrev S1024x1536 : Shape := ⟨2, ![1024, 1536]⟩
abbrev S1024x6272 : Shape := ⟨2, ![1024, 6272]⟩
abbrev S8192x512 : Shape := ⟨2, ![8192, 512]⟩
abbrev S512x1024 : Shape := ⟨2, ![512, 1024]⟩
abbrev S1024x1024 : Shape := ⟨2, ![1024, 1024]⟩
abbrev S8x1x1024x768 : Shape := ⟨4, ![8, 1, 1024, 768]⟩
abbrev S8192x3072 : Shape := ⟨2, ![8192, 3072]⟩
abbrev S3072x1024 : Shape := ⟨2, ![3072, 1024]⟩
abbrev S8x1024x768 : Shape := ⟨3, ![8, 1024, 768]⟩
abbrev S1024x8x768 : Shape := ⟨3, ![1024, 8, 768]⟩
abbrev S1024x6144 : Shape := ⟨2, ![1024, 6144]⟩
abbrev S8192x1536 : Shape := ⟨2, ![8192, 1536]⟩
abbrev S8192x6272 : Shape := ⟨2, ![8192, 6272]⟩
abbrev S8192x6144 : Shape := ⟨2, ![8192, 6144]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S1024x6272, .bf16⟩
  | .hbm, ⟨3, _⟩ => ⟨S8192x512, .bf16⟩
  | .hbm, ⟨4, _⟩ => ⟨S512x1024, .bf16⟩
  | .hbm, ⟨5, _⟩ => ⟨S8192x512, .bf16⟩
  | .hbm, ⟨6, _⟩ => ⟨S512x1024, .bf16⟩
  | .hbm, ⟨7, _⟩ => ⟨S8192x1024, .bf16⟩
  | .hbm, ⟨8, _⟩ => ⟨S1024x1024, .bf16⟩
  | .hbm, ⟨9, _⟩ => ⟨S8192x1024, .bf16⟩
  | .hbm, ⟨10, _⟩ => ⟨S1024x1024, .bf16⟩
  | .hbm, ⟨11, _⟩ => ⟨S8192x1024, .f32⟩
  | .hbm, ⟨12, _⟩ => ⟨S8192x1024, .bf16⟩
  | .hbm, ⟨13, _⟩ => ⟨S8x1x1024x768, .bf16⟩
  | .hbm, ⟨14, _⟩ => ⟨S8192x3072, .bf16⟩
  | .hbm, ⟨15, _⟩ => ⟨S3072x1024, .bf16⟩
  | .hbm, ⟨16, _⟩ => ⟨S8x1x1024x768, .f32⟩
  | .hbm, ⟨17, _⟩ => ⟨S8x1024x768, .f32⟩
  | .hbm, ⟨18, _⟩ => ⟨S1024x8x768, .f32⟩
  | .hbm, ⟨19, _⟩ => ⟨S1024x6144, .f32⟩
  | .hbm, ⟨20, _⟩ => ⟨S8192x1024, .f32⟩
  | .hbm, ⟨21, _⟩ => ⟨S1024x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S1024x1536, .f32⟩
  | .hbm, ⟨26, _⟩ => ⟨S8192x1536, .f32⟩
  | .hbm, ⟨27, _⟩ => ⟨S8192x1536, .bf16⟩
  | .hbm, ⟨28, _⟩ => ⟨S8192x1024, .f32⟩
  | .hbm, ⟨29, _⟩ => ⟨S1024x6272, .f32⟩
  | .hbm, ⟨30, _⟩ => ⟨S8192x6272, .f32⟩
  | .hbm, ⟨31, _⟩ => ⟨S8192x512, .f32⟩
  | .hbm, ⟨32, _⟩ => ⟨S512x1024, .f32⟩
  | .hbm, ⟨33, _⟩ => ⟨S8192x1024, .f32⟩
  | .hbm, ⟨34, _⟩ => ⟨S8192x512, .f32⟩
  | .hbm, ⟨35, _⟩ => ⟨S512x1024, .f32⟩
  | .hbm, ⟨36, _⟩ => ⟨S8192x1024, .f32⟩
  | .hbm, ⟨37, _⟩ => ⟨S8192x1024, .f32⟩
  | .hbm, ⟨38, _⟩ => ⟨S1024x1024, .f32⟩
  | .hbm, ⟨39, _⟩ => ⟨S8192x1024, .f32⟩
  | .hbm, ⟨40, _⟩ => ⟨S8192x1024, .f32⟩
  | .hbm, ⟨41, _⟩ => ⟨S8192x6144, .f32⟩
  | .hbm, ⟨42, _⟩ => ⟨S8192x3072, .f32⟩
  | .hbm, ⟨43, _⟩ => ⟨S3072x1024, .f32⟩
  | .hbm, ⟨44, _⟩ => ⟨S8192x1024, .f32⟩
  | .hbm, ⟨45, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== UpDw.lean ====
abbrev S8192x1024 : Shape := ⟨2, ![8192, 1024]⟩
abbrev S2x8192x3072 : Shape := ⟨3, ![2, 8192, 3072]⟩
abbrev S8x1024x704 : Shape := ⟨3, ![8, 1024, 704]⟩
abbrev S2048x1024 : Shape := ⟨2, ![2048, 1024]⟩
abbrev S1x2048x768 : Shape := ⟨3, ![1, 2048, 768]⟩
abbrev S1x1024x704 : Shape := ⟨3, ![1, 1024, 704]⟩
abbrev S1024x768 : Shape := ⟨2, ![1024, 768]⟩
abbrev S2048x768 : Shape := ⟨2, ![2048, 768]⟩
abbrev S1024x704 : Shape := ⟨2, ![1024, 704]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2x8192x3072, .bf16⟩
  | .hbm, ⟨2, _⟩ => ⟨S8x1024x704, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x768, .bf16⟩
  | .local _ .vmem, ⟨3, _⟩ => ⟨S1x2048x768, .bf16⟩
  | .local _ .vmem, ⟨4, _⟩ => ⟨S1x1024x704, .bf16⟩
  | .local _ .vmem, ⟨5, _⟩ => ⟨S1x1024x704, .bf16⟩
  | .local _ .vmem, ⟨6, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .sge arg1 c4_i32
  let c1_i32 : BitVec 32 := 1#32
  let c0_i32 : BitVec 32 := 0#32
  let v1 : BitVec 32 := Scalar.select v0 c1_i32 c0_i32
  let c4_i32_0 : BitVec 32 := 4#32
  let v2 : BitVec 32 := Scalar.muli c4_i32_0 v1
  let v3 : BitVec 32 := Scalar.subi arg1 v2
  let c4_i32_1 : BitVec 32 := 4#32
  let v4 : BitVec 1 := Scalar.cmpi .sge arg1 c4_i32_1
  let c1_i32_2 : BitVec 32 := 1#32
  let c0_i32_3 : BitVec 32 := 0#32
  let v5 : BitVec 32 := Scalar.select v4 c1_i32_2 c0_i32_3
  let c4_i32_4 : BitVec 32 := 4#32
  let v6 : BitVec 32 := Scalar.muli c4_i32_4 v5
  let v7 : BitVec 32 := Scalar.subi arg1 v6
  let c0_i32_5 : BitVec 32 := 0#32
  ![v1.toNat, arg2.toNat, v7.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S8192x1024 : Shape := ⟨2, ![8192, 1024]⟩
abbrev S2x8192x3072 : Shape := ⟨3, ![2, 8192, 3072]⟩
abbrev S_ : Shape := ⟨0, ![]⟩
abbrev S1024x6144 : Shape := ⟨2, ![1024, 6144]⟩
abbrev S8192x2x3072 : Shape := ⟨3, ![8192, 2, 3072]⟩
abbrev S8192x6144 : Shape := ⟨2, ![8192, 6144]⟩
abbrev S6144x1024 : Shape := ⟨2, ![6144, 1024]⟩
abbrev S1024x8x768 : Shape := ⟨3, ![1024, 8, 768]⟩
abbrev S8x1024x768 : Shape := ⟨3, ![8, 1024, 768]⟩
abbrev S8x1024x704 : Shape := ⟨3, ![8, 1024, 704]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x8192x3072, .bf16⟩
  | .hbm, ⟨2, _⟩ => ⟨S_, .f32⟩
  | .hbm, ⟨3, _⟩ => ⟨S1024x6144, .f32⟩
  | .hbm, ⟨4, _⟩ => ⟨S2x8192x3072, .f32⟩
  | .hbm, ⟨5, _⟩ => ⟨S8192x2x3072, .f32⟩
  | .hbm, ⟨6, _⟩ => ⟨S8192x6144, .f32⟩
  | .hbm, ⟨7, _⟩ => ⟨S8192x1024, .f32⟩
  | .hbm, ⟨8, _⟩ => ⟨S8192x6144, .f32⟩
  | .hbm, ⟨9, _⟩ => ⟨S6144x1024, .f32⟩
  | .hbm, ⟨10, _⟩ => ⟨S1024x6144, .f32⟩
  | .hbm, ⟨11, _⟩ => ⟨S1024x8x768, .f32⟩
  | .hbm, ⟨12, _⟩ => ⟨S8x1024x768, .f32⟩
  | .hbm, ⟨13, _⟩ => ⟨S8x1024x704, .f32⟩
  | .hbm, ⟨14, _⟩ => ⟨S8x1024x704, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== DownDw.lean ====
abbrev S8192x3072 : Shape := ⟨2, ![8192, 3072]⟩
abbrev S8192x1024 : Shape := ⟨2, ![8192, 1024]⟩
abbrev S3072x1024 : Shape := ⟨2, ![3072, 1024]⟩
abbrev S2048x1536 : Shape := ⟨2, ![2048, 1536]⟩
abbrev S2048x1024 : Shape := ⟨2, ![2048, 1024]⟩
abbrev S1536x1024 : Shape := ⟨2, ![1536, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S3072x1024, .bf16⟩
  | .local _ .vmem, ⟨0, _⟩ => ⟨S2048x1536, .bf16⟩
  | .local _ .vmem, ⟨1, _⟩ => ⟨S2048x1536, .bf16⟩
  | .local _ .vmem, ⟨2, _⟩ => ⟨S2048x1024, .bf16⟩
  | .local _ .vmem, ⟨3, _⟩ => ⟨S2048x1024, .bf16⟩
  | .local _ .vmem, ⟨4, _⟩ => ⟨S1536x1024, .bf16⟩
  | .local _ .vmem, ⟨5, _⟩ => ⟨S1536x1024, .bf16⟩
  | .local _ .vmem, ⟨6, _⟩ => ⟨S1536x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwIdeal.lean ====
abbrev S8192x3072 : Shape := ⟨2, ![8192, 3072]⟩
abbrev S8192x1024 : Shape := ⟨2, ![8192, 1024]⟩
abbrev S3072x1024 : Shape := ⟨2, ![3072, 1024]⟩
abbrev S2048x1536 : Shape := ⟨2, ![2048, 1536]⟩
abbrev S2048x1024 : Shape := ⟨2, ![2048, 1024]⟩
abbrev S1536x1024 : Shape := ⟨2, ![1536, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S3072x1024, .bf16⟩
  | .local _ .vmem, ⟨0, _⟩ => ⟨S2048x1536, .bf16⟩
  | .local _ .vmem, ⟨1, _⟩ => ⟨S2048x1536, .bf16⟩
  | .local _ .vmem, ⟨2, _⟩ => ⟨S2048x1024, .bf16⟩
  | .local _ .vmem, ⟨3, _⟩ => ⟨S2048x1024, .bf16⟩
  | .local _ .vmem, ⟨4, _⟩ => ⟨S1536x1024, .bf16⟩
  | .local _ .vmem, ⟨5, _⟩ => ⟨S1536x1024, .bf16⟩
  | .local _ .vmem, ⟨6, _⟩ => ⟨S1536x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S8192x3072 : Shape := ⟨2, ![8192, 3072]⟩
abbrev S8192x1024 : Shape := ⟨2, ![8192, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 10
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S_, .f32⟩
  | .hbm, ⟨3, _⟩ => ⟨S3072x1024, .f32⟩
  | .hbm, ⟨4, _⟩ => ⟨S8192x3072, .f32⟩
  | .hbm, ⟨5, _⟩ => ⟨S8192x1024, .f32⟩
  | .hbm, ⟨6, _⟩ => ⟨S8192x1024, .f32⟩
  | .hbm, ⟨7, _⟩ => ⟨S1024x3072, .f32⟩
  | .hbm, ⟨8, _⟩ => ⟨S3072x1024, .f32⟩
  | .hbm, ⟨9, _⟩ => ⟨S3072x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDw.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwIdeal.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== PoolDw.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== PoolDwIdeal.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== PoolDwRefIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== QkvDw.lean ====
abbrev S8192x1024 : Shape := ⟨2, ![8192, 1024]⟩
abbrev S8192x1536 : Shape := ⟨2, ![8192, 1536]⟩
abbrev S1024x1536 : Shape := ⟨2, ![1024, 1536]⟩
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvDwIdeal.lean ====
abbrev S8192x1024 : Shape := ⟨2, ![8192, 1024]⟩
abbrev S8192x1536 : Shape := ⟨2, ![8192, 1536]⟩
abbrev S1024x1536 : Shape := ⟨2, ![1024, 1536]⟩
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvDwRefIdeal.lean ====
abbrev S8192x1024 : Shape := ⟨2, ![8192, 1024]⟩
abbrev S8192x1536 : Shape := ⟨2, ![8192, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S_, .f32⟩
  | .hbm, ⟨3, _⟩ => ⟨S1024x1536, .f32⟩
  | .hbm, ⟨4, _⟩ => ⟨S8192x1024, .f32⟩
  | .hbm, ⟨5, _⟩ => ⟨S8192x1536, .f32⟩
  | .hbm, ⟨6, _⟩ => ⟨S8192x1536, .f32⟩
  | .hbm, ⟨7, _⟩ => ⟨S1536x1024, .f32⟩
  | .hbm, ⟨8, _⟩ => ⟨S1024x1536, .f32⟩
  | .hbm, ⟨9, _⟩ => ⟨S1024x1536, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== RestDw.lean ====
abbrev S8192x1024 : Shape := ⟨2, ![8192, 1024]⟩
abbrev S8192x6272 : Shape := ⟨2, ![8192, 6272]⟩
abbrev S1024x6272 : Shape := ⟨2, ![1024, 6272]⟩
abbrev S2048x1024 : Shape := ⟨2, ![2048, 1024]⟩
abbrev S2048x896 : Shape := ⟨2, ![2048, 896]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x6272, .bf16⟩
  | .hbm, ⟨2, _⟩ => ⟨S1024x6272, .bf16⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .bf16⟩
  | .local _ .vmem, ⟨5, _⟩ => ⟨S1024x896, .bf16⟩
  | .local _ .vmem, ⟨6, _⟩ => ⟨S1024x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 7, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RestDwRefIdeal.lean ====
abbrev S8192x1024 : Shape := ⟨2, ![8192, 1024]⟩
abbrev S8192x6272 : Shape := ⟨2, ![8192, 6272]⟩
abbrev S_ : Shape := ⟨0, ![]⟩
abbrev S1024x6272 : Shape := ⟨2, ![1024, 6272]⟩
abbrev S6272x1024 : Shape := ⟨2, ![6272, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x6272, .bf16⟩
  | .hbm, ⟨2, _⟩ => ⟨S_, .f32⟩
  | .hbm, ⟨3, _⟩ => ⟨S1024x6272, .f32⟩
  | .hbm, ⟨4, _⟩ => ⟨S8192x1024, .f32⟩
  | .hbm, ⟨5, _⟩ => ⟨S8192x6272, .f32⟩
  | .hbm, ⟨6, _⟩ => ⟨S8192x6272, .f32⟩
  | .hbm, ⟨7, _⟩ => ⟨S6272x1024, .f32⟩
  | .hbm, ⟨8, _⟩ => ⟨S1024x6272, .f32⟩
  | .hbm, ⟨9, _⟩ => ⟨S1024x6272, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Merge.lean ====
abbrev S8192x6272 : Shape := ⟨2, ![8192, 6272]⟩
abbrev S8192x1024 : Shape := ⟨2, ![8192, 1024]⟩
abbrev S8192x3072 : Shape := ⟨2, ![8192, 3072]⟩
abbrev S512x1024 : Shape := ⟨2, ![512, 1024]⟩
abbrev S512x3072 : Shape := ⟨2, ![512, 3072]⟩

abbrev nBuf : Space → Nat
  | .hbm => 9
  | .vmem => 22
  | .smem => 0
  | _ => 0

abbrev bufTy : (tb : Table) → Fin (tcTables nBuf tb) → BufTy
  | .hbm, ⟨0, _⟩ => ⟨S8192x6272, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x3072, .bf16⟩
  | .hbm, ⟨6, _⟩ => ⟨S8192x1024, .bf16⟩
  | .hbm, ⟨7, _⟩ => ⟨S8192x1024, .bf16⟩
  | .hbm, ⟨8, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x3072, .bf16⟩
  | .local _ .vmem, ⟨15, _⟩ => ⟨S512x3072, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | _, _ => ⟨S8192x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeRefIdeal.lean ====
abbrev S8192x6272 : Shape := ⟨2, ![8192, 6272]⟩
abbrev S8192x1024 : Shape := ⟨2, ![8192, 1024]⟩
abbrev S8192x3072 : Shape := ⟨2, ![8192, 3072]⟩
abbrev S_ : Shape := ⟨0, ![]⟩
abbrev S8192x3x1024 : Shape := ⟨3, ![8192, 3, 1024]⟩
abbrev S8192x1x1024 : Shape := ⟨3, ![8192, 1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x6272, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S8192x3072, .f32⟩
  | .hbm, ⟨8, _⟩ => ⟨S_, .f32⟩
  | .hbm, ⟨9, _⟩ => ⟨S8192x3072, .f32⟩
  | .hbm, ⟨10, _⟩ => ⟨S8192x3072, .f32⟩
  | .hbm, ⟨11, _⟩ => ⟨S_, .f32⟩
  | .hbm, ⟨12, _⟩ => ⟨S8192x3072, .f32⟩
  | .hbm, ⟨13, _⟩ => ⟨S8192x3072, .f32⟩
  | .hbm, ⟨14, _⟩ => ⟨S_, .f32⟩
  | .hbm, ⟨15, _⟩ => ⟨S8192x3072, .f32⟩
  | .hbm, ⟨16, _⟩ => ⟨S8192x3072, .f32⟩
  | .hbm, ⟨17, _⟩ => ⟨S8192x3072, .f32⟩
  | .hbm, ⟨18, _⟩ => ⟨S8192x3x1024, .f32⟩
  | .hbm, ⟨19, _⟩ => ⟨S8192x1x1024, .f32⟩
  | .hbm, ⟨20, _⟩ => ⟨S8192x1024, .f32⟩
  | .hbm, ⟨21, _⟩ => ⟨S8192x1024, .f32⟩
  | .hbm, ⟨22, _⟩ => ⟨S8192x1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1x1024, .f32⟩
  | .hbm, ⟨35, _⟩ => ⟨S_, .f32⟩
  | .hbm, ⟨36, _⟩ => ⟨S8192x3x1024, .f32⟩
  | .hbm, ⟨37, _⟩ => ⟨S8192x1024, .f32⟩
  | .hbm, ⟨38, _⟩ => ⟨S8192x1024, .f32⟩
  | .hbm, ⟨39, _⟩ => ⟨S8192x1x1024, .f32⟩
  | .hbm, ⟨40, _⟩ => ⟨S_, .f32⟩
  | .hbm, ⟨41, _⟩ => ⟨S8192x3x1024, .f32⟩
  | .hbm, ⟨42, _⟩ => ⟨S8192x3x1024, .f32⟩
  | .hbm, ⟨43, _⟩ => ⟨S8192x1024, .f32⟩
  | .hbm, ⟨44, _⟩ => ⟨S8192x1024, .f32⟩
  | .hbm, ⟨45, _⟩ => ⟨S8192x1x1024, .f32⟩
  | .hbm, ⟨46, _⟩ => ⟨S_, .f32⟩
  | .hbm, ⟨47, _⟩ => ⟨S8192x3x1024, .f32⟩
  | .hbm, ⟨48, _⟩ => ⟨S8192x3x1024, .f32⟩
  | .hbm, ⟨49, _⟩ => ⟨S8192x3072, .f32⟩
  | .hbm, ⟨50, _⟩ => ⟨S8192x3072, .f32⟩
  | .hbm, ⟨51, _⟩ => ⟨S8192x3072, .bf16⟩
  | .hbm, ⟨52, _⟩ => ⟨S8192x1024, .bf16⟩
  | .hbm, ⟨53, _⟩ => ⟨S8192x1024, .bf16⟩
  | .hbm, ⟨54, _⟩ => ⟨S8192x1024, .bf16⟩
  | _, _ => ⟨S8192x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]
-- ==== InAdam.lean ====
abbrev S8x1024x963 : Shape := ⟨3, ![8, 1024, 963]⟩
abbrev S2x1024x963 : Shape := ⟨3, ![2, 1024, 963]⟩
abbrev S8x128x963 : Shape := ⟨3, ![8, 128, 963]⟩
abbrev S1x128x963 : Shape := ⟨3, ![1, 128, 963]⟩
abbrev S128x963 : Shape := ⟨2, ![128, 963]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x963, .bf16⟩
  | .hbm, ⟨1, _⟩ => ⟨S8x1024x963, .bf16⟩
  | .hbm, ⟨2, _⟩ => ⟨S2x1024x963, .f32⟩
  | .hbm, ⟨3, _⟩ => ⟨S2x1024x963, .f32⟩
  | .hbm, ⟨4, _⟩ => ⟨S2x1024x963, .f32⟩
  | .hbm, ⟨5, _⟩ => ⟨S2x1024x963, .f32⟩
  | .hbm, ⟨6, _⟩ => ⟨S2x1024x963, .f32⟩
  | .hbm, ⟨7, _⟩ => ⟨S2x1024x963, .f32⟩
  | .hbm, ⟨8, _⟩ => ⟨S2x1024x963, .f32⟩
  | .local _ .vmem, ⟨0, _⟩ => ⟨S8x128x963, .bf16⟩
  | .local _ .vmem, ⟨1, _⟩ => ⟨S8x128x963, .bf16⟩
  | .local _ .vmem, ⟨2, _⟩ => ⟨S8x128x963, .bf16⟩
  | .local _ .vmem, ⟨3, _⟩ => ⟨S8x128x963, .bf16⟩
  | .local _ .vmem, ⟨4, _⟩ => ⟨S1x128x963, .f32⟩
  | .local _ .vmem, ⟨5, _⟩ => ⟨S1x128x963, .f32⟩
  | .local _ .vmem, ⟨6, _⟩ => ⟨S1x128x963, .f32⟩
  | .local _ .vmem, ⟨7, _⟩ => ⟨S1x128x963, .f32⟩
  | .local _ .vmem, ⟨8, _⟩ => ⟨S1x128x963, .f32⟩
  | .local _ .vmem, ⟨9, _⟩ => ⟨S1x128x963, .f32⟩
  | .local _ .vmem, ⟨10, _⟩ => ⟨S1x128x963, .f32⟩
  | .local _ .vmem, ⟨11, _⟩ => ⟨S1x128x963, .f32⟩
  | .local _ .vmem, ⟨12, _⟩ => ⟨S1x128x963, .f32⟩
  | .local _ .vmem, ⟨13, _⟩ => ⟨S1x128x963, .f32⟩
  | .local _ .vmem, ⟨14, _⟩ => ⟨S1x128x963, .f32⟩
  | .local _ .vmem, ⟨15, _⟩ => ⟨S1x128x963, .f32⟩
  | .local _ .vmem, ⟨16, _⟩ => ⟨S1x128x963, .f32⟩
  | .local _ .vmem, ⟨17, _⟩ => ⟨S1x128x963, .f32⟩
  | _, _ => ⟨S8x1024x963, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c7_i32 : BitVec 32 := 7#32
  let c0_i32_1 : BitVec 32 := 0#32
  let v2 : BitVec 32 := Scalar.select v1 c7_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c7_i32 : BitVec 32 := 7#32
  let c0_i32 : BitVec 32 := 0#32
  let v2 : BitVec 32 := Scalar.select v1 c7_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x963 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x963 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x963 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x963 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x963 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x963 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x963 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x963 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x963 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== InAdamIdeal.lean ====
abbrev S8x1024x963 : Shape := ⟨3, ![8, 1024, 963]⟩
abbrev S2x1024x963 : Shape := ⟨3, ![2, 1024, 963]⟩
abbrev S8x128x963 : Shape := ⟨3, ![8, 128, 963]⟩
abbrev S1x128x963 : Shape := ⟨3, ![1, 128, 963]⟩
abbrev S128x963 : Shape := ⟨2, ![128, 963]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x963, .bf16⟩
  | .hbm, ⟨1, _⟩ => ⟨S8x1024x963, .bf16⟩
  | .hbm, ⟨2, _⟩ => ⟨S2x1024x963, .f32⟩
  | .hbm, ⟨3, _⟩ => ⟨S2x1024x963, .f32⟩
  | .hbm, ⟨4, _⟩ => ⟨S2x1024x963, .f32⟩
  | .hbm, ⟨5, _⟩ => ⟨S2x1024x963, .f32⟩
  | .hbm, ⟨6, _⟩ => ⟨S2x1024x963, .f32⟩
  | .hbm, ⟨7, _⟩ => ⟨S2x1024x963, .f32⟩
  | .hbm, ⟨8, _⟩ => ⟨S2x1024x963, .f32⟩
  | .local _ .vmem, ⟨0, _⟩ => ⟨S8x128x963, .bf16⟩
  | .local _ .vmem, ⟨1, _⟩ => ⟨S8x128x963, .bf16⟩
  | .local _ .vmem, ⟨2, _⟩ => ⟨S8x128x963, .bf16⟩
  | .local _ .vmem, ⟨3, _⟩ => ⟨S8x128x963, .bf16⟩
  | .local _ .vmem, ⟨4, _⟩ => ⟨S1x128x963, .f32⟩
  | .local _ .vmem, ⟨5, _⟩ => ⟨S1x128x963, .f32⟩
  | .local _ .vmem, ⟨6, _⟩ => ⟨S1x128x963, .f32⟩
  | .local _ .vmem, ⟨7, _⟩ => ⟨S1x128x963, .f32⟩
  | .local _ .vmem, ⟨8, _⟩ => ⟨S1x128x963, .f32⟩
  | .local _ .vmem, ⟨9, _⟩ => ⟨S1x128x963, .f32⟩
  | .local _ .vmem, ⟨10, _⟩ => ⟨S1x128x963, .f32⟩
  | .local _ .vmem, ⟨11, _⟩ => ⟨S1x128x963, .f32⟩
  | .local _ .vmem, ⟨12, _⟩ => ⟨S1x128x963, .f32⟩
  | .local _ .vmem, ⟨13, _⟩ => ⟨S1x128x963, .f32⟩
  | .local _ .vmem, ⟨14, _⟩ => ⟨S1x128x963, .f32⟩
  | .local _ .vmem, ⟨15, _⟩ => ⟨S1x128x963, .f32⟩
  | .local _ .vmem, ⟨16, _⟩ => ⟨S1x128x963, .f32⟩
  | .local _ .vmem, ⟨17, _⟩ => ⟨S1x128x963, .f32⟩
  | _, _ => ⟨S8x1024x963, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c7_i32 : BitVec 32 := 7#32
  let c0_i32_1 : BitVec 32 := 0#32
  let v2 : BitVec 32 := Scalar.select v1 c7_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c7_i32 : BitVec 32 := 7#32
  let c0_i32 : BitVec 32 := 0#32
  let v2 : BitVec 32 := Scalar.select v1 c7_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x963 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x963 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x963 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x963 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x963 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x963 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x963 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x963 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x963 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== InAdamRefIdeal.lean ====
abbrev S8x1024x963 : Shape := ⟨3, ![8, 1024, 963]⟩
abbrev S2x1024x963 : Shape := ⟨3, ![2, 1024, 963]⟩
abbrev S_ : Shape := ⟨0, ![]⟩
abbrev S1024x963 : Shape := ⟨2, ![1024, 963]⟩
abbrev S1x1024x963 : Shape := ⟨3, ![1, 1024, 963]⟩

abbrev nBuf : Space → Nat
  | .hbm => 47
  | .vmem => 0
  | .smem => 0
  | _ => 0

abbrev bufTy : (tb : Table) → Fin (tcTables nBuf tb) → BufTy
  | .hbm, ⟨0, _⟩ => ⟨S8x1024x963, .bf16⟩
  | .hbm, ⟨1, _⟩ => ⟨S8x1024x963, .bf16⟩
  | .hbm, ⟨2, _⟩ => ⟨S2x1024x963, .f32⟩
  | .hbm, ⟨3, _⟩ => ⟨S2x1024x963, .f32⟩
  | .hbm, ⟨4, _⟩ => ⟨S2x1024x963, .f32⟩
  | .hbm, ⟨5, _⟩ => ⟨S8x1024x963, .f32⟩
  | .hbm, ⟨6, _⟩ => ⟨S_, .f32⟩
  | .hbm, ⟨7, _⟩ => ⟨S1024x963, .f32⟩
  | .hbm, ⟨8, _⟩ => ⟨S8x1024x963, .f32⟩
  | .hbm, ⟨9, _⟩ => ⟨S_, .f32⟩
  | .hbm, ⟨10, _⟩ => ⟨S1024x963, .f32⟩
  | .hbm, ⟨11, _⟩ => ⟨S1x1024x963, .f32⟩
  | .hbm, ⟨12, _⟩ => ⟨S1x1024x963, .f32⟩
  | .hbm, ⟨13, _⟩ => ⟨S2x1024x963, .f32⟩
  | .hbm, ⟨14, _⟩ => ⟨S_, .f32⟩
  | .hbm, ⟨15, _⟩ => ⟨S2x1024x963, .f32⟩
  | .hbm, ⟨16, _⟩ => ⟨S2x1024x963, .f32⟩
  | .hbm, ⟨17, _⟩ => ⟨S_, .f32⟩
  | .hbm, ⟨18, _⟩ => ⟨S2x1024x963, .f32⟩
  | .hbm, ⟨19, _⟩ => ⟨S2x1024x963, .f32⟩
  | .hbm, ⟨20, _⟩ => ⟨S2x1024x963, .f32⟩
  | .hbm, ⟨21, _⟩ => ⟨S_, .f32⟩
  | .hbm, ⟨22, _⟩ => ⟨S2x1024x963, .f32⟩
  | .hbm, ⟨23, _⟩ => ⟨S2x1024x963, .f32⟩
  | .hbm, ⟨24, _⟩ => ⟨S2x1024x963, .f32⟩
  | .hbm, ⟨25, _⟩ => ⟨S_, .f32⟩
  | .hbm, ⟨26, _⟩ => ⟨S2x1024x963, .f32⟩
  | .hbm, ⟨27, _⟩ => ⟨S2x1024x963, .f32⟩
  | .hbm, ⟨28, _⟩ => ⟨S2x1024x963, .f32⟩
  | .hbm, ⟨29, _⟩ => ⟨S_, .f32⟩
  | .hbm, ⟨30, _⟩ => ⟨S2x1024x963, .f32⟩
  | .hbm, ⟨31, _⟩ => ⟨S2x1024x963, .f32⟩
  | .hbm, ⟨32, _⟩ => ⟨S_, .f32⟩
  | .hbm, ⟨33, _⟩ => ⟨S2x1024x963, .f32⟩
  | .hbm, ⟨34, _⟩ => ⟨S2x1024x963, .f32⟩
  | .hbm, ⟨35, _⟩ => ⟨S2x1024x963, .f32⟩
  | .hbm, ⟨36, _⟩ => ⟨S_, .f32⟩
  | .hbm, ⟨37, _⟩ => ⟨S2x1024x963, .f32⟩
  | .hbm, ⟨38, _⟩ => ⟨S2x1024x963, .f32⟩
  | .hbm, ⟨39, _⟩ => ⟨S2x1024x963, .f32⟩
  | .hbm, ⟨40, _⟩ => ⟨S_, .f32⟩
  | .hbm, ⟨41, _⟩ => ⟨S2x1024x963, .f32⟩
  | .hbm, ⟨42, _⟩ => ⟨S2x1024x963, .f32⟩
  | .hbm, ⟨43, _⟩ => ⟨S2x1024x963, .f32⟩
  | .hbm, ⟨44, _⟩ => ⟨S_, .f32⟩
  | .hbm, ⟨45, _⟩ => ⟨S2x1024x963, .f32⟩
  | .hbm, ⟨46, _⟩ => ⟨S2x1024x963, .f32⟩
  | _, _ => ⟨S8x1024x963, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== UpAdam.lean ====
abbrev S8x1024x704 : Shape := ⟨3, ![8, 1024, 704]⟩
abbrev S2x1024x704 : Shape := ⟨3, ![2, 1024, 704]⟩
abbrev S8x128x704 : Shape := ⟨3, ![8, 128, 704]⟩
abbrev S1x128x704 : Shape := ⟨3, ![1, 128, 704]⟩
abbrev S128x704 : Shape := ⟨2, ![128, 704]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x704, .bf16⟩
  | .hbm, ⟨1, _⟩ => ⟨S8x1024x704, .bf16⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S2x1024x704, .f32⟩
  | .hbm, ⟨6, _⟩ => ⟨S2x1024x704, .f32⟩
  | .hbm, ⟨7, _⟩ => ⟨S2x1024x704, .f32⟩
  | .hbm, ⟨8, _⟩ => ⟨S2x1024x704, .f32⟩
  | .local _ .vmem, ⟨0, _⟩ => ⟨S8x128x704, .bf16⟩
  | .local _ .vmem, ⟨1, _⟩ => ⟨S8x128x704, .bf16⟩
  | .local _ .vmem, ⟨2, _⟩ => ⟨S8x128x704, .bf16⟩
  | .local _ .vmem, ⟨3, _⟩ => ⟨S8x128x704, .bf16⟩
  | .local _ .vmem, ⟨4, _⟩ => ⟨S1x128x704, .f32⟩
  | .local _ .vmem, ⟨5, _⟩ => ⟨S1x128x704, .f32⟩
  | .local _ .vmem, ⟨6, _⟩ => ⟨S1x128x704, .f32⟩
  | .local _ .vmem, ⟨7, _⟩ => ⟨S1x128x704, .f32⟩
  | .local _ .vmem, ⟨8, _⟩ => ⟨S1x128x704, .f32⟩
  | .local _ .vmem, ⟨9, _⟩ => ⟨S1x128x704, .f32⟩
  | .local _ .vmem, ⟨10, _⟩ => ⟨S1x128x704, .f32⟩
  | .local _ .vmem, ⟨11, _⟩ => ⟨S1x128x704, .f32⟩
  | .local _ .vmem, ⟨12, _⟩ => ⟨S1x128x704, .f32⟩
  | .local _ .vmem, ⟨13, _⟩ => ⟨S1x128x704, .f32⟩
  | .local _ .vmem, ⟨14, _⟩ => ⟨S1x128x704, .f32⟩
  | .local _ .vmem, ⟨15, _⟩ => ⟨S1x128x704, .f32⟩
  | .local _ .vmem, ⟨16, _⟩ => ⟨S1x128x704, .f32⟩
  | .local _ .vmem, ⟨17, _⟩ => ⟨S1x128x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c7_i32 : BitVec 32 := 7#32
  let c0_i32_1 : BitVec 32 := 0#32
  let v2 : BitVec 32 := Scalar.select v1 c7_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c7_i32 : BitVec 32 := 7#32
  let c0_i32 : BitVec 32 := 0#32
  let v2 : BitVec 32 := Scalar.select v1 c7_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== UpAdamIdeal.lean ====
abbrev S8x1024x704 : Shape := ⟨3, ![8, 1024, 704]⟩
abbrev S2x1024x704 : Shape := ⟨3, ![2, 1024, 704]⟩
abbrev S8x128x704 : Shape := ⟨3, ![8, 128, 704]⟩
abbrev S1x128x704 : Shape := ⟨3, ![1, 128, 704]⟩
abbrev S128x704 : Shape := ⟨2, ![128, 704]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x704, .bf16⟩
  | .hbm, ⟨1, _⟩ => ⟨S8x1024x704, .bf16⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S2x1024x704, .f32⟩
  | .hbm, ⟨6, _⟩ => ⟨S2x1024x704, .f32⟩
  | .hbm, ⟨7, _⟩ => ⟨S2x1024x704, .f32⟩
  | .hbm, ⟨8, _⟩ => ⟨S2x1024x704, .f32⟩
  | .local _ .vmem, ⟨0, _⟩ => ⟨S8x128x704, .bf16⟩
  | .local _ .vmem, ⟨1, _⟩ => ⟨S8x128x704, .bf16⟩
  | .local _ .vmem, ⟨2, _⟩ => ⟨S8x128x704, .bf16⟩
  | .local _ .vmem, ⟨3, _⟩ => ⟨S8x128x704, .bf16⟩
  | .local _ .vmem, ⟨4, _⟩ => ⟨S1x128x704, .f32⟩
  | .local _ .vmem, ⟨5, _⟩ => ⟨S1x128x704, .f32⟩
  | .local _ .vmem, ⟨6, _⟩ => ⟨S1x128x704, .f32⟩
  | .local _ .vmem, ⟨7, _⟩ => ⟨S1x128x704, .f32⟩
  | .local _ .vmem, ⟨8, _⟩ => ⟨S1x128x704, .f32⟩
  | .local _ .vmem, ⟨9, _⟩ => ⟨S1x128x704, .f32⟩
  | .local _ .vmem, ⟨10, _⟩ => ⟨S1x128x704, .f32⟩
  | .local _ .vmem, ⟨11, _⟩ => ⟨S1x128x704, .f32⟩
  | .local _ .vmem, ⟨12, _⟩ => ⟨S1x128x704, .f32⟩
  | .local _ .vmem, ⟨13, _⟩ => ⟨S1x128x704, .f32⟩
  | .local _ .vmem, ⟨14, _⟩ => ⟨S1x128x704, .f32⟩
  | .local _ .vmem, ⟨15, _⟩ => ⟨S1x128x704, .f32⟩
  | .local _ .vmem, ⟨16, _⟩ => ⟨S1x128x704, .f32⟩
  | .local _ .vmem, ⟨17, _⟩ => ⟨S1x128x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c7_i32 : BitVec 32 := 7#32
  let c0_i32_1 : BitVec 32 := 0#32
  let v2 : BitVec 32 := Scalar.select v1 c7_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c7_i32 : BitVec 32 := 7#32
  let c0_i32 : BitVec 32 := 0#32
  let v2 : BitVec 32 := Scalar.select v1 c7_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== UpAdamRefIdeal.lean ====
abbrev S8x1024x704 : Shape := ⟨3, ![8, 1024, 704]⟩
abbrev S2x1024x704 : Shape := ⟨3, ![2, 1024, 704]⟩
abbrev S_ : Shape := ⟨0, ![]⟩
abbrev S1024x704 : Shape := ⟨2, ![1024, 704]⟩
abbrev S1x1024x704 : Shape := ⟨3, ![1, 1024, 704]⟩

abbrev nBuf : Space → Nat
  | .hbm => 47
  | .vmem => 0
  | .smem => 0
  | _ => 0

abbrev bufTy : (tb : Table) → Fin (tcTables nBuf tb) → BufTy
  | .hbm, ⟨0, _⟩ => ⟨S8x1024x704, .bf16⟩
  | .hbm, ⟨1, _⟩ => ⟨S8x1024x704, .bf16⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S8x1024x704, .f32⟩
  | .hbm, ⟨6, _⟩ => ⟨S_, .f32⟩
  | .hbm, ⟨7, _⟩ => ⟨S1024x704, .f32⟩
  | .hbm, ⟨8, _⟩ => ⟨S8x1024x704, .f32⟩
  | .hbm, ⟨9, _⟩ => ⟨S_, .f32⟩
  | .hbm, ⟨10, _⟩ => ⟨S1024x704, .f32⟩
  | .hbm, ⟨11, _⟩ => ⟨S1x1024x704, .f32⟩
  | .hbm, ⟨12, _⟩ => ⟨S1x1024x704, .f32⟩
  | .hbm, ⟨13, _⟩ => ⟨S2x1024x704, .f32⟩
  | .hbm, ⟨14, _⟩ => ⟨S_, .f32⟩
  | .hbm, ⟨15, _⟩ => ⟨S2x1024x704, .f32⟩
  | .hbm, ⟨16, _⟩ => ⟨S2x1024x704, .f32⟩
  | .hbm, ⟨17, _⟩ => ⟨S_, .f32⟩
  | .hbm, ⟨18, _⟩ => ⟨S2x1024x704, .f32⟩
  | .hbm, ⟨19, _⟩ => ⟨S2x1024x704, .f32⟩
  | .hbm, ⟨20, _⟩ => ⟨S2x1024x704, .f32⟩
  | .hbm, ⟨21, _⟩ => ⟨S_, .f32⟩
  | .hbm, ⟨22, _⟩ => ⟨S2x1024x704, .f32⟩
  | .hbm, ⟨23, _⟩ => ⟨S2x1024x704, .f32⟩
  | .hbm, ⟨24, _⟩ => ⟨S2x1024x704, .f32⟩
  | .hbm, ⟨25, _⟩ => ⟨S_, .f32⟩
  | .hbm, ⟨26, _⟩ => ⟨S2x1024x704, .f32⟩
  | .hbm, ⟨27, _⟩ => ⟨S2x1024x704, .f32⟩
  | .hbm, ⟨28, _⟩ => ⟨S2x1024x704, .f32⟩
  | .hbm, ⟨29, _⟩ => ⟨S_, .f32⟩
  | .hbm, ⟨30, _⟩ => ⟨S2x1024x704, .f32⟩
  | .hbm, ⟨31, _⟩ => ⟨S2x1024x704, .f32⟩
  | .hbm, ⟨32, _⟩ => ⟨S_, .f32⟩
  | .hbm, ⟨33, _⟩ => ⟨S2x1024x704, .f32⟩
  | .hbm, ⟨34, _⟩ => ⟨S2x1024x704, .f32⟩
  | .hbm, ⟨35, _⟩ => ⟨S2x1024x704, .f32⟩
  | .hbm, ⟨36, _⟩ => ⟨S_, .f32⟩
  | .hbm, ⟨37, _⟩ => ⟨S2x1024x704, .f32⟩
  | .hbm, ⟨38, _⟩ => ⟨S2x1024x704, .f32⟩
  | .hbm, ⟨39, _⟩ => ⟨S2x1024x704, .f32⟩
  | .hbm, ⟨40, _⟩ => ⟨S_, .f32⟩
  | .hbm, ⟨41, _⟩ => ⟨S2x1024x704, .f32⟩
  | .hbm, ⟨42, _⟩ => ⟨S2x1024x704, .f32⟩
  | .hbm, ⟨43, _⟩ => ⟨S2x1024x704, .f32⟩
  | .hbm, ⟨44, _⟩ => ⟨S_, .f32⟩
  | .hbm, ⟨45, _⟩ => ⟨S2x1024x704, .f32⟩
  | .hbm, ⟨46, _⟩ => ⟨S2x1024x704, .f32⟩
  | _, _ => ⟨S8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== PoolAdam.lean ====
abbrev S8x512x128 : Shape := ⟨3, ![8, 512, 128]⟩
abbrev S2x512x128 : Shape := ⟨3, ![2, 512, 128]⟩
abbrev S8x128x128 : Shape := ⟨3, ![8, 128, 128]⟩
abbrev S1x128x128 : Shape := ⟨3, ![1, 128, 128]⟩
abbrev S128x128 : Shape := ⟨2, ![128, 128]⟩

abbrev nBuf : Space → Nat
  | .hbm => 9
  | .vmem => 18
  | .smem => 0
  | _ => 0

abbrev bufTy : (tb : Table) → Fin (tcTables nBuf tb) → BufTy
  | .hbm, ⟨0, _⟩ => ⟨S8x512x128, .bf16⟩
  | .hbm, ⟨1, _⟩ => ⟨S8x512x128, .bf16⟩
  | .hbm, ⟨2, _⟩ => ⟨S2x512x128, .f32⟩
  | .hbm, ⟨3, _⟩ => ⟨S2x512x128, .f32⟩
  | .hbm, ⟨4, _⟩ => ⟨S2x512x128, .f32⟩
  | .hbm, ⟨5, _⟩ => ⟨S2x512x128, .f32⟩
  | .hbm, ⟨6, _⟩ => ⟨S2x512x128, .f32⟩
  | .hbm, ⟨7, _⟩ => ⟨S2x512x128, .f32⟩
  | .hbm, ⟨8, _⟩ => ⟨S2x512x128, .f32⟩
  | .local _ .vmem, ⟨0, _⟩ => ⟨S8x128x128, .bf16⟩
  | .local _ .vmem, ⟨1, _⟩ => ⟨S8x128x128, .bf16⟩
  | .local _ .vmem, ⟨2, _⟩ => ⟨S8x128x128, .bf16⟩
  | .local _ .vmem, ⟨3, _⟩ => ⟨S8x128x128, .bf16⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S1x128x128, .f32⟩
  | .local _ .vmem, ⟨15, _⟩ => ⟨S1x128x128, .f32⟩
  | .local _ .vmem, ⟨16, _⟩ => ⟨S1x128x128, .f32⟩
  | .local _ .vmem, ⟨17, _⟩ => ⟨S1x128x128, .f32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c3_i32 : BitVec 32 := 3#32
  let c0_i32_1 : BitVec 32 := 0#32
  let v2 : BitVec 32 := Scalar.select v1 c3_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c3_i32 : BitVec 32 := 3#32
  let c0_i32 : BitVec 32 := 0#32
  let v2 : BitVec 32 := Scalar.select v1 c3_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== PoolAdamIdeal.lean ====
abbrev S8x512x128 : Shape := ⟨3, ![8, 512, 128]⟩
abbrev S2x512x128 : Shape := ⟨3, ![2, 512, 128]⟩
abbrev S8x128x128 : Shape := ⟨3, ![8, 128, 128]⟩
abbrev S1x128x128 : Shape := ⟨3, ![1, 128, 128]⟩
abbrev S128x128 : Shape := ⟨2, ![128, 128]⟩

abbrev nBuf : Space → Nat
  | .hbm => 9
  | .vmem => 18
  | .smem => 0
  | _ => 0

abbrev bufTy : (tb : Table) → Fin (tcTables nBuf tb) → BufTy
  | .hbm, ⟨0, _⟩ => ⟨S8x512x128, .bf16⟩
  | .hbm, ⟨1, _⟩ => ⟨S8x512x128, .bf16⟩
  | .hbm, ⟨2, _⟩ => ⟨S2x512x128, .f32⟩
  | .hbm, ⟨3, _⟩ => ⟨S2x512x128, .f32⟩
  | .hbm, ⟨4, _⟩ => ⟨S2x512x128, .f32⟩
  | .hbm, ⟨5, _⟩ => ⟨S2x512x128, .f32⟩
  | .hbm, ⟨6, _⟩ => ⟨S2x512x128, .f32⟩
  | .hbm, ⟨7, _⟩ => ⟨S2x512x128, .f32⟩
  | .hbm, ⟨8, _⟩ => ⟨S2x512x128, .f32⟩
  | .local _ .vmem, ⟨0, _⟩ => ⟨S8x128x128, .bf16⟩
  | .local _ .vmem, ⟨1, _⟩ => ⟨S8x128x128, .bf16⟩
  | .local _ .vmem, ⟨2, _⟩ => ⟨S8x128x128, .bf16⟩
  | .local _ .vmem, ⟨3, _⟩ => ⟨S8x128x128, .bf16⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S1x128x128, .f32⟩
  | .local _ .vmem, ⟨15, _⟩ => ⟨S1x128x128, .f32⟩
  | .local _ .vmem, ⟨16, _⟩ => ⟨S1x128x128, .f32⟩
  | .local _ .vmem, ⟨17, _⟩ => ⟨S1x128x128, .f32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c3_i32 : BitVec 32 := 3#32
  let c0_i32_1 : BitVec 32 := 0#32
  let v2 : BitVec 32 := Scalar.select v1 c3_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c3_i32 : BitVec 32 := 3#32
  let c0_i32 : BitVec 32 := 0#32
  let v2 : BitVec 32 := Scalar.select v1 c3_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== PoolAdamRefIdeal.lean ====
abbrev S8x512x128 : Shape := ⟨3, ![8, 512, 128]⟩
abbrev S2x512x128 : Shape := ⟨3, ![2, 512, 128]⟩
abbrev S_ : Shape := ⟨0, ![]⟩
abbrev S512x128 : Shape := ⟨2, ![512, 128]⟩
abbrev S1x512x128 : Shape := ⟨3, ![1, 512, 128]⟩

abbrev nBuf : Space → Nat
  | .hbm => 47
  | .vmem => 0
  | .smem => 0
  | _ => 0

abbrev bufTy : (tb : Table) → Fin (tcTables nBuf tb) → BufTy
  | .hbm, ⟨0, _⟩ => ⟨S8x512x128, .bf16⟩
  | .hbm, ⟨1, _⟩ => ⟨S8x512x128, .bf16⟩
  | .hbm, ⟨2, _⟩ => ⟨S2x512x128, .f32⟩
  | .hbm, ⟨3, _⟩ => ⟨S2x512x128, .f32⟩
  | .hbm, ⟨4, _⟩ => ⟨S2x512x128, .f32⟩
  | .hbm, ⟨5, _⟩ => ⟨S8x512x128, .f32⟩
  | .hbm, ⟨6, _⟩ => ⟨S_, .f32⟩
  | .hbm, ⟨7, _⟩ => ⟨S512x128, .f32⟩
  | .hbm, ⟨8, _⟩ => ⟨S8x512x128, .f32⟩
  | .hbm, ⟨9, _⟩ => ⟨S_, .f32⟩
  | .hbm, ⟨10, _⟩ => ⟨S512x128, .f32⟩
  | .hbm, ⟨11, _⟩ => ⟨S1x512x128, .f32⟩
  | .hbm, ⟨12, _⟩ => ⟨S1x512x128, .f32⟩
  | .hbm, ⟨13, _⟩ => ⟨S2x512x128, .f32⟩
  | .hbm, ⟨14, _⟩ => ⟨S_, .f32⟩
  | .hbm, ⟨15, _⟩ => ⟨S2x512x128, .f32⟩
  | .hbm, ⟨16, _⟩ => ⟨S2x512x128, .f32⟩
  | .hbm, ⟨17, _⟩ => ⟨S_, .f32⟩
  | .hbm, ⟨18, _⟩ => ⟨S2x512x128, .f32⟩
  | .hbm, ⟨19, _⟩ => ⟨S2x512x128, .f32⟩
  | .hbm, ⟨20, _⟩ => ⟨S2x512x128, .f32⟩
  | .hbm, ⟨21, _⟩ => ⟨S_, .f32⟩
  | .hbm, ⟨22, _⟩ => ⟨S2x512x128, .f32⟩
  | .hbm, ⟨23, _⟩ => ⟨S2x512x128, .f32⟩
  | .hbm, ⟨24, _⟩ => ⟨S2x512x128, .f32⟩
  | .hbm, ⟨25, _⟩ => ⟨S_, .f32⟩
  | .hbm, ⟨26, _⟩ => ⟨S2x512x128, .f32⟩
  | .hbm, ⟨27, _⟩ => ⟨S2x512x128, .f32⟩
  | .hbm, ⟨28, _⟩ => ⟨S2x512x128, .f32⟩
  | .hbm, ⟨29, _⟩ => ⟨S_, .f32⟩
  | .hbm, ⟨30, _⟩ => ⟨S2x512x128, .f32⟩
  | .hbm, ⟨31, _⟩ => ⟨S2x512x128, .f32⟩
  | .hbm, ⟨32, _⟩ => ⟨S_, .f32⟩
  | .hbm, ⟨33, _⟩ => ⟨S2x512x128, .f32⟩
  | .hbm, ⟨34, _⟩ => ⟨S2x512x128, .f32⟩
  | .hbm, ⟨35, _⟩ => ⟨S2x512x128, .f32⟩
  | .hbm, ⟨36, _⟩ => ⟨S_, .f32⟩
  | .hbm, ⟨37, _⟩ => ⟨S2x512x128, .f32⟩
  | .hbm, ⟨38, _⟩ => ⟨S2x512x128, .f32⟩
  | .hbm, ⟨39, _⟩ => ⟨S2x512x128, .f32⟩
  | .hbm, ⟨40, _⟩ => ⟨S_, .f32⟩
  | .hbm, ⟨41, _⟩ => ⟨S2x512x128, .f32⟩
  | .hbm, ⟨42, _⟩ => ⟨S2x512x128, .f32⟩
  | .hbm, ⟨43, _⟩ => ⟨S2x512x128, .f32⟩
  | .hbm, ⟨44, _⟩ => ⟨S_, .f32⟩
  | .hbm, ⟨45, _⟩ => ⟨S2x512x128, .f32⟩
  | .hbm, ⟨46, _⟩ => ⟨S2x512x128, .f32⟩
  | _, _ => ⟨S8x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== OutAdam.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== OutAdamIdeal.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== OutAdamRefIdeal.lean ====
abbrev S8x128x1024 : Shape := ⟨3, ![8, 128, 1024]⟩
abbrev S2x128x1024 : Shape := ⟨3, ![2, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S1x128x1024, .f32⟩
  | .hbm, ⟨13, _⟩ => ⟨S2x128x1024, .f32⟩
  | .hbm, ⟨14, _⟩ => ⟨S_, .f32⟩
  | .hbm, ⟨15, _⟩ => ⟨S2x128x1024, .f32⟩
  | .hbm, ⟨16, _⟩ => ⟨S2x128x1024, .f32⟩
  | .hbm, ⟨17, _⟩ => ⟨S_, .f32⟩
  | .hbm, ⟨18, _⟩ => ⟨S2x128x1024, .f32⟩
  | .hbm, ⟨19, _⟩ => ⟨S2x128x1024, .f32⟩
  | .hbm, ⟨20, _⟩ => ⟨S2x128x1024, .f32⟩
  | .hbm, ⟨21, _⟩ => ⟨S_, .f32⟩
  | .hbm, ⟨22, _⟩ => ⟨S2x128x1024, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S_, .f32⟩
  | .hbm, ⟨33, _⟩ => ⟨S2x128x1024, .f32⟩
  | .hbm, ⟨34, _⟩ => ⟨S2x128x1024, .f32⟩
  | .hbm, ⟨35, _⟩ => ⟨S2x128x1024, .f32⟩
  | .hbm, ⟨36, _⟩ => ⟨S_, .f32⟩
  | .hbm, ⟨37, _⟩ => ⟨S2x128x1024, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S2x128x1024, .f32⟩
  | .hbm, ⟨42, _⟩ => ⟨S2x128x1024, .f32⟩
  | .hbm, ⟨43, _⟩ => ⟨S2x128x1024, .f32⟩
  | .hbm, ⟨44, _⟩ => ⟨S_, .f32⟩
  | .hbm, ⟨45, _⟩ => ⟨S2x128x1024, .f32⟩
  | .hbm, ⟨46, _⟩ => ⟨S2x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== DownAdam.lean ====
abbrev S8x352x1024 : Shape := ⟨3, ![8, 352, 1024]⟩
abbrev S2x352x1024 : Shape := ⟨3, ![2, 352, 1024]⟩
abbrev S8x32x1024 : Shape := ⟨3, ![8, 32, 1024]⟩
abbrev S1x32x1024 : Shape := ⟨3, ![1, 32, 1024]⟩
abbrev S32x1024 : Shape := ⟨2, ![32, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S8x32x1024, .bf16⟩
  | .local _ .vmem, ⟨3, _⟩ => ⟨S8x32x1024, .bf16⟩
  | .local _ .vmem, ⟨4, _⟩ => ⟨S1x32x1024, .f32⟩
  | .local _ .vmem, ⟨5, _⟩ => ⟨S1x32x1024, .f32⟩
  | .local _ .vmem, ⟨6, _⟩ => ⟨S1x32x1024, .f32⟩
  | .local _ .vmem, ⟨7, _⟩ => ⟨S1x32x1024, .f32⟩
  | .local _ .vmem, ⟨8, _⟩ => ⟨S1x32x1024, .f32⟩
  | .local _ .vmem, ⟨9, _⟩ => ⟨S1x32x1024, .f32⟩
  | .local _ .vmem, ⟨10, _⟩ => ⟨S1x32x1024, .f32⟩
  | .local _ .vmem, ⟨11, _⟩ => ⟨S1x32x1024, .f32⟩
  | .local _ .vmem, ⟨12, _⟩ => ⟨S1x32x1024, .f32⟩
  | .local _ .vmem, ⟨13, _⟩ => ⟨S1x32x1024, .f32⟩
  | .local _ .vmem, ⟨14, _⟩ => ⟨S1x32x1024, .f32⟩
  | .local _ .vmem, ⟨15, _⟩ => ⟨S1x32x1024, .f32⟩
  | .local _ .vmem, ⟨16, _⟩ => ⟨S1x32x1024, .f32⟩
  | .local _ .vmem, ⟨17, _⟩ => ⟨S1x32x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 11], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c10_i32 : BitVec 32 := 10#32
  let c0_i32_1 : BitVec 32 := 0#32
  let v2 : BitVec 32 := Scalar.select v1 c10_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c10_i32 : BitVec 32 := 10#32
  let c0_i32 : BitVec 32 := 0#32
  let v2 : BitVec 32 := Scalar.select v1 c10_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== DownAdamIdeal.lean ====
abbrev S8x352x1024 : Shape := ⟨3, ![8, 352, 1024]⟩
abbrev S2x352x1024 : Shape := ⟨3, ![2, 352, 1024]⟩
abbrev S8x32x1024 : Shape := ⟨3, ![8, 32, 1024]⟩
abbrev S1x32x1024 : Shape := ⟨3, ![1, 32, 1024]⟩
abbrev S32x1024 : Shape := ⟨2, ![32, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S8x32x1024, .bf16⟩
  | .local _ .vmem, ⟨3, _⟩ => ⟨S8x32x1024, .bf16⟩
  | .local _ .vmem, ⟨4, _⟩ => ⟨S1x32x1024, .f32⟩
  | .local _ .vmem, ⟨5, _⟩ => ⟨S1x32x1024, .f32⟩
  | .local _ .vmem, ⟨6, _⟩ => ⟨S1x32x1024, .f32⟩
  | .local _ .vmem, ⟨7, _⟩ => ⟨S1x32x1024, .f32⟩
  | .local _ .vmem, ⟨8, _⟩ => ⟨S1x32x1024, .f32⟩
  | .local _ .vmem, ⟨9, _⟩ => ⟨S1x32x1024, .f32⟩
  | .local _ .vmem, ⟨10, _⟩ => ⟨S1x32x1024, .f32⟩
  | .local _ .vmem, ⟨11, _⟩ => ⟨S1x32x1024, .f32⟩
  | .local _ .vmem, ⟨12, _⟩ => ⟨S1x32x1024, .f32⟩
  | .local _ .vmem, ⟨13, _⟩ => ⟨S1x32x1024, .f32⟩
  | .local _ .vmem, ⟨14, _⟩ => ⟨S1x32x1024, .f32⟩
  | .local _ .vmem, ⟨15, _⟩ => ⟨S1x32x1024, .f32⟩
  | .local _ .vmem, ⟨16, _⟩ => ⟨S1x32x1024, .f32⟩
  | .local _ .vmem, ⟨17, _⟩ => ⟨S1x32x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 11], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c10_i32 : BitVec 32 := 10#32
  let c0_i32_1 : BitVec 32 := 0#32
  let v2 : BitVec 32 := Scalar.select v1 c10_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c10_i32 : BitVec 32 := 10#32
  let c0_i32 : BitVec 32 := 0#32
  let v2 : BitVec 32 := Scalar.select v1 c10_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== DownAdamRefIdeal.lean ====
abbrev S8x352x1024 : Shape := ⟨3, ![8, 352, 1024]⟩
abbrev S2x352x1024 : Shape := ⟨3, ![2, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S8x352x1024, .f32⟩
  | .hbm, ⟨6, _⟩ => ⟨S_, .f32⟩
  | .hbm, ⟨7, _⟩ => ⟨S352x1024, .f32⟩
  | .hbm, ⟨8, _⟩ => ⟨S8x352x1024, .f32⟩
  | .hbm, ⟨9, _⟩ => ⟨S_, .f32⟩
  | .hbm, ⟨10, _⟩ => ⟨S352x1024, .f32⟩
  | .hbm, ⟨11, _⟩ => ⟨S1x352x1024, .f32⟩
  | .hbm, ⟨12, _⟩ => ⟨S1x352x1024, .f32⟩
  | .hbm, ⟨13, _⟩ => ⟨S2x352x1024, .f32⟩
  | .hbm, ⟨14, _⟩ => ⟨S_, .f32⟩
  | .hbm, ⟨15, _⟩ => ⟨S2x352x1024, .f32⟩
  | .hbm, ⟨16, _⟩ => ⟨S2x352x1024, .f32⟩
  | .hbm, ⟨17, _⟩ => ⟨S_, .f32⟩
  | .hbm, ⟨18, _⟩ => ⟨S2x352x1024, .f32⟩
  | .hbm, ⟨19, _⟩ => ⟨S2x352x1024, .f32⟩
  | .hbm, ⟨20, _⟩ => ⟨S2x352x1024, .f32⟩
  | .hbm, ⟨21, _⟩ => ⟨S_, .f32⟩
  | .hbm, ⟨22, _⟩ => ⟨S2x352x1024, .f32⟩
  | .hbm, ⟨23, _⟩ => ⟨S2x352x1024, .f32⟩
  | .hbm, ⟨24, _⟩ => ⟨S2x352x1024, .f32⟩
  | .hbm, ⟨25, _⟩ => ⟨S_, .f32⟩
  | .hbm, ⟨26, _⟩ => ⟨S2x352x1024, .f32⟩
  | .hbm, ⟨27, _⟩ => ⟨S2x352x1024, .f32⟩
  | .hbm, ⟨28, _⟩ => ⟨S2x352x1024, .f32⟩
  | .hbm, ⟨29, _⟩ => ⟨S_, .f32⟩
  | .hbm, ⟨30, _⟩ => ⟨S2x352x1024, .f32⟩
  | .hbm, ⟨31, _⟩ => ⟨S2x352x1024, .f32⟩
  | .hbm, ⟨32, _⟩ => ⟨S_, .f32⟩
  | .hbm, ⟨33, _⟩ => ⟨S2x352x1024, .f32⟩
  | .hbm, ⟨34, _⟩ => ⟨S2x352x1024, .f32⟩
  | .hbm, ⟨35, _⟩ => ⟨S2x352x1024, .f32⟩
  | .hbm, ⟨36, _⟩ => ⟨S_, .f32⟩
  | .hbm, ⟨37, _⟩ => ⟨S2x352x1024, .f32⟩
  | .hbm, ⟨38, _⟩ => ⟨S2x352x1024, .f32⟩
  | .hbm, ⟨39, _⟩ => ⟨S2x352x1024, .f32⟩
  | .hbm, ⟨40, _⟩ => ⟨S_, .f32⟩
  | .hbm, ⟨41, _⟩ => ⟨S2x352x1024, .f32⟩
  | .hbm, ⟨42, _⟩ => ⟨S2x352x1024, .f32⟩
  | .hbm, ⟨43, _⟩ => ⟨S2x352x1024, .f32⟩
  | .hbm, ⟨44, _⟩ => ⟨S_, .f32⟩
  | .hbm, ⟨45, _⟩ => ⟨S2x352x1024, .f32⟩
  | .hbm, ⟨46, _⟩ => ⟨S2x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== SsdConvAdam.lean ====
abbrev S8x4x192 : Shape := ⟨3, ![8, 4, 192]⟩
abbrev S2x4x192 : Shape := ⟨3, ![2, 4, 192]⟩
abbrev S1x4x192 : Shape := ⟨3, ![1, 4, 192]⟩
abbrev S4x192 : Shape := ⟨2, ![4, 192]⟩

abbrev nBuf : Space → Nat
  | .hbm => 9
  | .vmem => 18
  | .smem => 0
  | _ => 0

abbrev bufTy : (tb : Table) → Fin (tcTables nBuf tb) → BufTy
  | .hbm, ⟨0, _⟩ => ⟨S8x4x192, .f32⟩
  | .hbm, ⟨1, _⟩ => ⟨S8x4x192, .f32⟩
  | .hbm, ⟨2, _⟩ => ⟨S2x4x192, .f32⟩
  | .hbm, ⟨3, _⟩ => ⟨S2x4x192, .f32⟩
  | .hbm, ⟨4, _⟩ => ⟨S2x4x192, .f32⟩
  | .hbm, ⟨5, _⟩ => ⟨S2x4x192, .f32⟩
  | .hbm, ⟨6, _⟩ => ⟨S2x4x192, .f32⟩
  | .hbm, ⟨7, _⟩ => ⟨S2x4x192, .f32⟩
  | .hbm, ⟨8, _⟩ => ⟨S2x4x192, .f32⟩
  | .local _ .vmem, ⟨0, _⟩ => ⟨S8x4x192, .f32⟩
  | .local _ .vmem, ⟨1, _⟩ => ⟨S8x4x192, .f32⟩
  | .local _ .vmem, ⟨2, _⟩ => ⟨S8x4x192, .f32⟩
  | .local _ .vmem, ⟨3, _⟩ => ⟨S8x4x192, .f32⟩
  | .local _ .vmem, ⟨4, _⟩ => ⟨S1x4x192, .f32⟩
  | .local _ .vmem, ⟨5, _⟩ => ⟨S1x4x192, .f32⟩
  | .local _ .vmem, ⟨6, _⟩ => ⟨S1x4x192, .f32⟩
  | .local _ .vmem, ⟨7, _⟩ => ⟨S1x4x192, .f32⟩
  | .local _ .vmem, ⟨8, _⟩ => ⟨S1x4x192, .f32⟩
  | .local _ .vmem, ⟨9, _⟩ => ⟨S1x4x192, .f32⟩
  | .local _ .vmem, ⟨10, _⟩ => ⟨S1x4x192, .f32⟩
  | .local _ .vmem, ⟨11, _⟩ => ⟨S1x4x192, .f32⟩
  | .local _ .vmem, ⟨12, _⟩ => ⟨S1x4x192, .f32⟩
  | .local _ .vmem, ⟨13, _⟩ => ⟨S1x4x192, .f32⟩
  | .local _ .vmem, ⟨14, _⟩ => ⟨S1x4x192, .f32⟩
  | .local _ .vmem, ⟨15, _⟩ => ⟨S1x4x192, .f32⟩
  | .local _ .vmem, ⟨16, _⟩ => ⟨S1x4x192, .f32⟩
  | .local _ .vmem, ⟨17, _⟩ => ⟨S1x4x192, .f32⟩
  | _, _ => ⟨S8x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x4x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x4x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== SsdConvAdamIdeal.lean ====
abbrev S8x4x192 : Shape := ⟨3, ![8, 4, 192]⟩
abbrev S2x4x192 : Shape := ⟨3, ![2, 4, 192]⟩
abbrev S1x4x192 : Shape := ⟨3, ![1, 4, 192]⟩
abbrev S4x192 : Shape := ⟨2, ![4, 192]⟩

abbrev nBuf : Space → Nat
  | .hbm => 9
  | .vmem => 18
  | .smem => 0
  | _ => 0

abbrev bufTy : (tb : Table) → Fin (tcTables nBuf tb) → BufTy
  | .hbm, ⟨0, _⟩ => ⟨S8x4x192, .f32⟩
  | .hbm, ⟨1, _⟩ => ⟨S8x4x192, .f32⟩
  | .hbm, ⟨2, _⟩ => ⟨S2x4x192, .f32⟩
  | .hbm, ⟨3, _⟩ => ⟨S2x4x192, .f32⟩
  | .hbm, ⟨4, _⟩ => ⟨S2x4x192, .f32⟩
  | .hbm, ⟨5, _⟩ => ⟨S2x4x192, .f32⟩
  | .hbm, ⟨6, _⟩ => ⟨S2x4x192, .f32⟩
  | .hbm, ⟨7, _⟩ => ⟨S2x4x192, .f32⟩
  | .hbm, ⟨8, _⟩ => ⟨S2x4x192, .f32⟩
  | .local _ .vmem, ⟨0, _⟩ => ⟨S8x4x192, .f32⟩
  | .local _ .vmem, ⟨1, _⟩ => ⟨S8x4x192, .f32⟩
  | .local _ .vmem, ⟨2, _⟩ => ⟨S8x4x192, .f32⟩
  | .local _ .vmem, ⟨3, _⟩ => ⟨S8x4x192, .f32⟩
  | .local _ .vmem, ⟨4, _⟩ => ⟨S1x4x192, .f32⟩
  | .local _ .vmem, ⟨5, _⟩ => ⟨S1x4x192, .f32⟩
  | .local _ .vmem, ⟨6, _⟩ => ⟨S1x4x192, .f32⟩
  | .local _ .vmem, ⟨7, _⟩ => ⟨S1x4x192, .f32⟩
  | .local _ .vmem, ⟨8, _⟩ => ⟨S1x4x192, .f32⟩
  | .local _ .vmem, ⟨9, _⟩ => ⟨S1x4x192, .f32⟩
  | .local _ .vmem, ⟨10, _⟩ => ⟨S1x4x192, .f32⟩
  | .local _ .vmem, ⟨11, _⟩ => ⟨S1x4x192, .f32⟩
  | .local _ .vmem, ⟨12, _⟩ => ⟨S1x4x192, .f32⟩
  | .local _ .vmem, ⟨13, _⟩ => ⟨S1x4x192, .f32⟩
  | .local _ .vmem, ⟨14, _⟩ => ⟨S1x4x192, .f32⟩
  | .local _ .vmem, ⟨15, _⟩ => ⟨S1x4x192, .f32⟩
  | .local _ .vmem, ⟨16, _⟩ => ⟨S1x4x192, .f32⟩
  | .local _ .vmem, ⟨17, _⟩ => ⟨S1x4x192, .f32⟩
  | _, _ => ⟨S8x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x4x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x4x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== SsdConvAdamRefIdeal.lean ====
abbrev S8x4x192 : Shape := ⟨3, ![8, 4, 192]⟩
abbrev S2x4x192 : Shape := ⟨3, ![2, 4, 192]⟩
abbrev S_ : Shape := ⟨0, ![]⟩
abbrev S4x192 : Shape := ⟨2, ![4, 192]⟩
abbrev S1x4x192 : Shape := ⟨3, ![1, 4, 192]⟩

abbrev nBuf : Space → Nat
  | .hbm => 45
  | .vmem => 0
  | .smem => 0
  | _ => 0

abbrev bufTy : (tb : Table) → Fin (tcTables nBuf tb) → BufTy
  | .hbm, ⟨0, _⟩ => ⟨S8x4x192, .f32⟩
  | .hbm, ⟨1, _⟩ => ⟨S8x4x192, .f32⟩
  | .hbm, ⟨2, _⟩ => ⟨S2x4x192, .f32⟩
  | .hbm, ⟨3, _⟩ => ⟨S2x4x192, .f32⟩
  | .hbm, ⟨4, _⟩ => ⟨S2x4x192, .f32⟩
  | .hbm, ⟨5, _⟩ => ⟨S_, .f32⟩
  | .hbm, ⟨6, _⟩ => ⟨S4x192, .f32⟩
  | .hbm, ⟨7, _⟩ => ⟨S_, .f32⟩
  | .hbm, ⟨8, _⟩ => ⟨S4x192, .f32⟩
  | .hbm, ⟨9, _⟩ => ⟨S1x4x192, .f32⟩
  | .hbm, ⟨10, _⟩ => ⟨S1x4x192, .f32⟩
  | .hbm, ⟨11, _⟩ => ⟨S2x4x192, .f32⟩
  | .hbm, ⟨12, _⟩ => ⟨S_, .f32⟩
  | .hbm, ⟨13, _⟩ => ⟨S2x4x192, .f32⟩
  | .hbm, ⟨14, _⟩ => ⟨S2x4x192, .f32⟩
  | .hbm, ⟨15, _⟩ => ⟨S_, .f32⟩
  | .hbm, ⟨16, _⟩ => ⟨S2x4x192, .f32⟩
  | .hbm, ⟨17, _⟩ => ⟨S2x4x192, .f32⟩
  | .hbm, ⟨18, _⟩ => ⟨S2x4x192, .f32⟩
  | .hbm, ⟨19, _⟩ => ⟨S_, .f32⟩
  | .hbm, ⟨20, _⟩ => ⟨S2x4x192, .f32⟩
  | .hbm, ⟨21, _⟩ => ⟨S2x4x192, .f32⟩
  | .hbm, ⟨22, _⟩ => ⟨S2x4x192, .f32⟩
  | .hbm, ⟨23, _⟩ => ⟨S_, .f32⟩
  | .hbm, ⟨24, _⟩ => ⟨S2x4x192, .f32⟩
  | .hbm, ⟨25, _⟩ => ⟨S2x4x192, .f32⟩
  | .hbm, ⟨26, _⟩ => ⟨S2x4x192, .f32⟩
  | .hbm, ⟨27, _⟩ => ⟨S_, .f32⟩
  | .hbm, ⟨28, _⟩ => ⟨S2x4x192, .f32⟩
  | .hbm, ⟨29, _⟩ => ⟨S2x4x192, .f32⟩
  | .hbm, ⟨30, _⟩ => ⟨S_, .f32⟩
  | .hbm, ⟨31, _⟩ => ⟨S2x4x192, .f32⟩
  | .hbm, ⟨32, _⟩ => ⟨S2x4x192, .f32⟩
  | .hbm, ⟨33, _⟩ => ⟨S2x4x192, .f32⟩
  | .hbm, ⟨34, _⟩ => ⟨S_, .f32⟩
  | .hbm, ⟨35, _⟩ => ⟨S2x4x192, .f32⟩
  | .hbm, ⟨36, _⟩ => ⟨S2x4x192, .f32⟩
  | .hbm, ⟨37, _⟩ => ⟨S2x4x192, .f32⟩
  | .hbm, ⟨38, _⟩ => ⟨S_, .f32⟩
  | .hbm, ⟨39, _⟩ => ⟨S2x4x192, .f32⟩
  | .hbm, ⟨40, _⟩ => ⟨S2x4x192, .f32⟩
  | .hbm, ⟨41, _⟩ => ⟨S2x4x192, .f32⟩
  | .hbm, ⟨42, _⟩ => ⟨S_, .f32⟩
  | .hbm, ⟨43, _⟩ => ⟨S2x4x192, .f32⟩
  | .hbm, ⟨44, _⟩ => ⟨S2x4x192, .f32⟩
  | _, _ => ⟨S8x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== FfnConvAdam.lean ====
abbrev S8x3x704 : Shape := ⟨3, ![8, 3, 704]⟩
abbrev S2x3x704 : Shape := ⟨3, ![2, 3, 704]⟩
abbrev S1x3x704 : Shape := ⟨3, ![1, 3, 704]⟩
abbrev S3x704 : Shape := ⟨2, ![3, 704]⟩

abbrev nBuf : Space → Nat
  | .hbm => 9
  | .vmem => 18
  | .smem => 0
  | _ => 0

abbrev bufTy : (tb : Table) → Fin (tcTables nBuf tb) → BufTy
  | .hbm, ⟨0, _⟩ => ⟨S8x3x704, .f32⟩
  | .hbm, ⟨1, _⟩ => ⟨S8x3x704, .f32⟩
  | .hbm, ⟨2, _⟩ => ⟨S2x3x704, .f32⟩
  | .hbm, ⟨3, _⟩ => ⟨S2x3x704, .f32⟩
  | .hbm, ⟨4, _⟩ => ⟨S2x3x704, .f32⟩
  | .hbm, ⟨5, _⟩ => ⟨S2x3x704, .f32⟩
  | .hbm, ⟨6, _⟩ => ⟨S2x3x704, .f32⟩
  | .hbm, ⟨7, _⟩ => ⟨S2x3x704, .f32⟩
  | .hbm, ⟨8, _⟩ => ⟨S2x3x704, .f32⟩
  | .local _ .vmem, ⟨0, _⟩ => ⟨S8x3x704, .f32⟩
  | .local _ .vmem, ⟨1, _⟩ => ⟨S8x3x704, .f32⟩
  | .local _ .vmem, ⟨2, _⟩ => ⟨S8x3x704, .f32⟩
  | .local _ .vmem, ⟨3, _⟩ => ⟨S8x3x704, .f32⟩
  | .local _ .vmem, ⟨4, _⟩ => ⟨S1x3x704, .f32⟩
  | .local _ .vmem, ⟨5, _⟩ => ⟨S1x3x704, .f32⟩
  | .local _ .vmem, ⟨6, _⟩ => ⟨S1x3x704, .f32⟩
  | .local _ .vmem, ⟨7, _⟩ => ⟨S1x3x704, .f32⟩
  | .local _ .vmem, ⟨8, _⟩ => ⟨S1x3x704, .f32⟩
  | .local _ .vmem, ⟨9, _⟩ => ⟨S1x3x704, .f32⟩
  | .local _ .vmem, ⟨10, _⟩ => ⟨S1x3x704, .f32⟩
  | .local _ .vmem, ⟨11, _⟩ => ⟨S1x3x704, .f32⟩
  | .local _ .vmem, ⟨12, _⟩ => ⟨S1x3x704, .f32⟩
  | .local _ .vmem, ⟨13, _⟩ => ⟨S1x3x704, .f32⟩
  | .local _ .vmem, ⟨14, _⟩ => ⟨S1x3x704, .f32⟩
  | .local _ .vmem, ⟨15, _⟩ => ⟨S1x3x704, .f32⟩
  | .local _ .vmem, ⟨16, _⟩ => ⟨S1x3x704, .f32⟩
  | .local _ .vmem, ⟨17, _⟩ => ⟨S1x3x704, .f32⟩
  | _, _ => ⟨S8x3x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x3x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x3x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x3x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x3x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FfnConvAdamRefIdeal.lean ====
abbrev S8x3x704 : Shape := ⟨3, ![8, 3, 704]⟩
abbrev S2x3x704 : Shape := ⟨3, ![2, 3, 704]⟩
abbrev S_ : Shape := ⟨0, ![]⟩
abbrev S3x704 : Shape := ⟨2, ![3, 704]⟩
abbrev S1x3x704 : Shape := ⟨3, ![1, 3, 704]⟩

abbrev nBuf : Space → Nat
  | .hbm => 45
  | .vmem => 0
  | .smem => 0
  | _ => 0

abbrev bufTy : (tb : Table) → Fin (tcTables nBuf tb) → BufTy
  | .hbm, ⟨0, _⟩ => ⟨S8x3x704, .f32⟩
  | .hbm, ⟨1, _⟩ => ⟨S8x3x704, .f32⟩
  | .hbm, ⟨2, _⟩ => ⟨S2x3x704, .f32⟩
  | .hbm, ⟨3, _⟩ => ⟨S2x3x704, .f32⟩
  | .hbm, ⟨4, _⟩ => ⟨S2x3x704, .f32⟩
  | .hbm, ⟨5, _⟩ => ⟨S_, .f32⟩
  | .hbm, ⟨6, _⟩ => ⟨S3x704, .f32⟩
  | .hbm, ⟨7, _⟩ => ⟨S_, .f32⟩
  | .hbm, ⟨8, _⟩ => ⟨S3x704, .f32⟩
  | .hbm, ⟨9, _⟩ => ⟨S1x3x704, .f32⟩
  | .hbm, ⟨10, _⟩ => ⟨S1x3x704, .f32⟩
  | .hbm, ⟨11, _⟩ => ⟨S2x3x704, .f32⟩
  | .hbm, ⟨12, _⟩ => ⟨S_, .f32⟩
  | .hbm, ⟨13, _⟩ => ⟨S2x3x704, .f32⟩
  | .hbm, ⟨14, _⟩ => ⟨S2x3x704, .f32⟩
  | .hbm, ⟨15, _⟩ => ⟨S_, .f32⟩
  | .hbm, ⟨16, _⟩ => ⟨S2x3x704, .f32⟩
  | .hbm, ⟨17, _⟩ => ⟨S2x3x704, .f32⟩
  | .hbm, ⟨18, _⟩ => ⟨S2x3x704, .f32⟩
  | .hbm, ⟨19, _⟩ => ⟨S_, .f32⟩
  | .hbm, ⟨20, _⟩ => ⟨S2x3x704, .f32⟩
  | .hbm, ⟨21, _⟩ => ⟨S2x3x704, .f32⟩
  | .hbm, ⟨22, _⟩ => ⟨S2x3x704, .f32⟩
  | .hbm, ⟨23, _⟩ => ⟨S_, .f32⟩
  | .hbm, ⟨24, _⟩ => ⟨S2x3x704, .f32⟩
  | .hbm, ⟨25, _⟩ => ⟨S2x3x704, .f32⟩
  | .hbm, ⟨26, _⟩ => ⟨S2x3x704, .f32⟩
  | .hbm, ⟨27, _⟩ => ⟨S_, .f32⟩
  | .hbm, ⟨28, _⟩ => ⟨S2x3x704, .f32⟩
  | .hbm, ⟨29, _⟩ => ⟨S2x3x704, .f32⟩
  | .hbm, ⟨30, _⟩ => ⟨S_, .f32⟩
  | .hbm, ⟨31, _⟩ => ⟨S2x3x704, .f32⟩
  | .hbm, ⟨32, _⟩ => ⟨S2x3x704, .f32⟩
  | .hbm, ⟨33, _⟩ => ⟨S2x3x704, .f32⟩
  | .hbm, ⟨34, _⟩ => ⟨S_, .f32⟩
  | .hbm, ⟨35, _⟩ => ⟨S2x3x704, .f32⟩
  | .hbm, ⟨36, _⟩ => ⟨S2x3x704, .f32⟩
  | .hbm, ⟨37, _⟩ => ⟨S2x3x704, .f32⟩
  | .hbm, ⟨38, _⟩ => ⟨S_, .f32⟩
  | .hbm, ⟨39, _⟩ => ⟨S2x3x704, .f32⟩
  | .hbm, ⟨40, _⟩ => ⟨S2x3x704, .f32⟩
  | .hbm, ⟨41, _⟩ => ⟨S2x3x704, .f32⟩
  | .hbm, ⟨42, _⟩ => ⟨S_, .f32⟩
  | .hbm, ⟨43, _⟩ => ⟨S2x3x704, .f32⟩
  | .hbm, ⟨44, _⟩ => ⟨S2x3x704, .f32⟩
  | _, _ => ⟨S8x3x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== RepAdam.lean ====
abbrev S192x1024 : Shape := ⟨2, ![192, 1024]⟩

abbrev nBuf : Space → Nat
  | .hbm => 7
  | .vmem => 7
  | .smem => 0
  | _ => 0

abbrev bufTy : (tb : Table) → Fin (tcTables nBuf tb) → BufTy
  | .hbm, ⟨0, _⟩ => ⟨S192x1024, .f32⟩
  | .hbm, ⟨1, _⟩ => ⟨S192x1024, .f32⟩
  | .hbm, ⟨2, _⟩ => ⟨S192x1024, .f32⟩
  | .hbm, ⟨3, _⟩ => ⟨S192x1024, .f32⟩
  | .hbm, ⟨4, _⟩ => ⟨S192x1024, .f32⟩
  | .hbm, ⟨5, _⟩ => ⟨S192x1024, .f32⟩
  | .hbm, ⟨6, _⟩ => ⟨S192x1024, .f32⟩
  | .local _ .vmem, ⟨0, _⟩ => ⟨S192x1024, .f32⟩
  | .local _ .vmem, ⟨1, _⟩ => ⟨S192x1024, .f32⟩
  | .local _ .vmem, ⟨2, _⟩ => ⟨S192x1024, .f32⟩
  | .local _ .vmem, ⟨3, _⟩ => ⟨S192x1024, .f32⟩
  | .local _ .vmem, ⟨4, _⟩ => ⟨S192x1024, .f32⟩
  | .local _ .vmem, ⟨5, _⟩ => ⟨S192x1024, .f32⟩
  | .local _ .vmem, ⟨6, _⟩ => ⟨S192x1024, .f32⟩
  | _, _ => ⟨S192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S192x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S192x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S192x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S192x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S192x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S192x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S192x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== RepAdamRefIdeal.lean ====
abbrev S192x1024 : Shape := ⟨2, ![192, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S192x1024, .f32⟩
  | .hbm, ⟨1, _⟩ => ⟨S192x1024, .f32⟩
  | .hbm, ⟨2, _⟩ => ⟨S192x1024, .f32⟩
  | .hbm, ⟨3, _⟩ => ⟨S192x1024, .f32⟩
  | .hbm, ⟨4, _⟩ => ⟨S_, .f32⟩
  | .hbm, ⟨5, _⟩ => ⟨S192x1024, .f32⟩
  | .hbm, ⟨6, _⟩ => ⟨S192x1024, .f32⟩
  | .hbm, ⟨7, _⟩ => ⟨S_, .f32⟩
  | .hbm, ⟨8, _⟩ => ⟨S192x1024, .f32⟩
  | .hbm, ⟨9, _⟩ => ⟨S192x1024, .f32⟩
  | .hbm, ⟨10, _⟩ => ⟨S192x1024, .f32⟩
  | .hbm, ⟨11, _⟩ => ⟨S_, .f32⟩
  | .hbm, ⟨12, _⟩ => ⟨S192x1024, .f32⟩
  | .hbm, ⟨13, _⟩ => ⟨S192x1024, .f32⟩
  | .hbm, ⟨14, _⟩ => ⟨S192x1024, .f32⟩
  | .hbm, ⟨15, _⟩ => ⟨S_, .f32⟩
  | .hbm, ⟨16, _⟩ => ⟨S192x1024, .f32⟩
  | .hbm, ⟨17, _⟩ => ⟨S192x1024, .f32⟩
  | .hbm, ⟨18, _⟩ => ⟨S192x1024, .f32⟩
  | .hbm, ⟨19, _⟩ => ⟨S_, .f32⟩
  | .hbm, ⟨20, _⟩ => ⟨S192x1024, .f32⟩
  | .hbm, ⟨21, _⟩ => ⟨S192x1024, .f32⟩
  | .hbm, ⟨22, _⟩ => ⟨S_, .f32⟩
  | .hbm, ⟨23, _⟩ => ⟨S192x1024, .f32⟩
  | .hbm, ⟨24, _⟩ => ⟨S192x1024, .f32⟩
  | .hbm, ⟨25, _⟩ => ⟨S192x1024, .f32⟩
  | .hbm, ⟨26, _⟩ => ⟨S_, .f32⟩
  | .hbm, ⟨27, _⟩ => ⟨S192x1024, .f32⟩
  | .hbm, ⟨28, _⟩ => ⟨S192x1024, .f32⟩
  | .hbm, ⟨29, _⟩ => ⟨S192x1024, .f32⟩
  | .hbm, ⟨30, _⟩ => ⟨S_, .f32⟩
  | .hbm, ⟨31, _⟩ => ⟨S192x1024, .f32⟩
  | .hbm, ⟨32, _⟩ => ⟨S192x1024, .f32⟩
  | .hbm, ⟨33, _⟩ => ⟨S192x1024, .f32⟩
  | .hbm, ⟨34, _⟩ => ⟨S_, .f32⟩
  | .hbm, ⟨35, _⟩ => ⟨S192x1024, .f32⟩
  | .hbm, ⟨36, _⟩ => ⟨S192x1024, .f32⟩
  | _, _ => ⟨S192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== RepSum.lean ====
abbrev S8x24x1024 : Shape := ⟨3, ![8, 24, 1024]⟩
abbrev S24x1024 : Shape := ⟨2, ![24, 1024]⟩
abbrev S1x24x1024 : Shape := ⟨3, ![1, 24, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x24x1024, .f32⟩
  | .hbm, ⟨1, _⟩ => ⟨S24x1024, .f32⟩
  | .local _ .vmem, ⟨0, _⟩ => ⟨S8x24x1024, .f32⟩
  | .local _ .vmem, ⟨1, _⟩ => ⟨S24x1024, .f32⟩
  | _, _ => ⟨S8x24x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== RepSumRefIdeal.lean ====
abbrev S8x24x1024 : Shape := ⟨3, ![8, 24, 1024]⟩
abbrev S_ : Shape := ⟨0, ![]⟩
abbrev S24x1024 : Shape := ⟨2, ![24, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x24x1024, .f32⟩
  | .hbm, ⟨1, _⟩ => ⟨S_, .f32⟩
  | .hbm, ⟨2, _⟩ => ⟨S24x1024, .f32⟩
  | _, _ => ⟨S8x24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== RmsBwd.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_16 : BitVec 32 := 0#32
  let v35 : BitVec 1 := Scalar.cmpi .ne v34 c0_i32_16
  v35

def k0_cond2 (i : grid0.Coords) : BitVec 1 :=
  let arg0 : BitVec 32 := BitVec.ofNat 32 (i 0).val
  let c0_i32 : BitVec 32 := 0#32
  let v33 : BitVec 1 := Scalar.cmpi .eq arg0 c0_i32
  let v_true : BitVec 1 := 1#1
  let v36 : BitVec 1 := Scalar.xori v33 v_true
  let v37 : BitVec 32 := Scalar.extui v36
  let c0_i32_17 : BitVec 32 := 0#32
  let v38 : BitVec 1 := Scalar.cmpi .ne v37 c0_i32_17
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsBwdRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Loss.lean ====
abbrev S8192x1024 : Shape := ⟨2, ![8192, 1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8x128, .f32⟩
  | .hbm, ⟨4, _⟩ => ⟨S8192x1024, .f32⟩
  | .hbm, ⟨5, _⟩ => ⟨S8192x1024, .bf16⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c0_i32 : BitVec 32 := 0#32
  let v42 : BitVec 1 := Scalar.cmpi .eq arg0 c0_i32
  let v53 : BitVec 32 := Scalar.extui v42
  let c0_i32_21 : BitVec 32 := 0#32
  let v54 : BitVec 1 := Scalar.cmpi .ne v53 c0_i32_21
  v54

def k0_cond4 (i : grid0.Coords) : BitVec 1 :=
  let arg0 : BitVec 32 := BitVec.ofNat 32 (i 0).val
  let c0_i32 : BitVec 32 := 0#32
  let v42 : BitVec 1 := Scalar.cmpi .eq arg0 c0_i32
  let true_22 : BitVec 1 := 1#1
  let v55 : BitVec 1 := Scalar.xori v42 true_22
  let v56 : BitVec 32 := Scalar.extui v55
  let c0_i32_23 : BitVec 32 := 0#32
  let v57 : BitVec 1 := Scalar.cmpi .ne v56 c0_i32_23
  v57

def k0_cond1 (i : grid0.Coords) : BitVec 1 :=
  let arg0 : BitVec 32 := BitVec.ofNat 32 (i 0).val
  let c0_i32 : BitVec 32 := 0#32
  let v42 : BitVec 1 := Scalar.cmpi .eq arg0 c0_i32
  let v46 : BitVec 32 := Scalar.extui v42
  let c0_i32_19 : BitVec 32 := 0#32
  let v47 : BitVec 1 := Scalar.cmpi .ne v46 c0_i32_19
  v47

def k0_cond2 (i : grid0.Coords) : BitVec 1 :=
  let arg0 : BitVec 32 := BitVec.ofNat 32 (i 0).val
  let c0_i32 : BitVec 32 := 0#32
  let v42 : BitVec 1 := Scalar.cmpi .eq arg0 c0_i32
  let v_true : BitVec 1 := 1#1
  let v48 : BitVec 1 := Scalar.xori v42 v_true
  let v49 : BitVec 32 := Scalar.extui v48
  let c0_i32_20 : BitVec 32 := 0#32
  let v50 : BitVec 1 := Scalar.cmpi .ne v49 c0_i32_20
  v50

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8x128 : Shape := ⟨2, ![8, 128]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== RmsFwd.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Attn.lean ====
abbrev S8192x1536 : Shape := ⟨2, ![8192, 1536]⟩
abbrev S8192x512 : Shape := ⟨2, ![8192, 512]⟩
abbrev S8192x128 : Shape := ⟨2, ![8192, 128]⟩
abbrev S8192x8x64 : Shape := ⟨3, ![8192, 8, 64]⟩
abbrev S8192x8 : Shape := ⟨2, ![8192, 8]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩
abbrev S4x8192x128 : Shape := ⟨3, ![4, 8192, 128]⟩
abbrev S512x128 : Shape := ⟨2, ![512, 128]⟩
abbrev S2x1x8192 : Shape := ⟨3, ![2, 1, 8192]⟩
abbrev S1x8192x128 : Shape := ⟨3, ![1, 8192, 128]⟩
abbrev S1x512x128 : Shape := ⟨3, ![1, 512, 128]⟩
abbrev S2x8192x128 : Shape := ⟨3, ![2, 8192, 128]⟩
abbrev S2x128x8192 : Shape := ⟨3, ![2, 128, 8192]⟩
abbrev S2x512x128 : Shape := ⟨3, ![2, 512, 128]⟩
abbrev S1x128 : Shape := ⟨2, ![1, 128]⟩
abbrev S128x1 : Shape := ⟨2, ![128, 1]⟩
abbrev S128x512 : Shape := ⟨2, ![128, 512]⟩
abbrev S512 : Shape := ⟨1, ![512]⟩
abbrev S1x512 : Shape := ⟨2, ![1, 512]⟩
abbrev S1x1x512 : Shape := ⟨3, ![1, 1, 512]⟩
abbrev S512x1 : Shape := ⟨2, ![512, 1]⟩
abbrev S256x128 : Shape := ⟨2, ![256, 128]⟩
abbrev S1x256x128 : Shape := ⟨3, ![1, 256, 128]⟩
abbrev S512x256 : Shape := ⟨2, ![512, 256]⟩
abbrev S1x1x256 : Shape := ⟨3, ![1, 1, 256]⟩
abbrev S1x256 : Shape := ⟨2, ![1, 256]⟩
abbrev S1x128x256 : Shape := ⟨3, ![1, 128, 256]⟩
abbrev S128x256 : Shape := ⟨2, ![128, 256]⟩
abbrev S1x128x512 : Shape := ⟨3, ![1, 128, 512]⟩

abbrev nBuf : Space → Nat
  | .hbm => 59
  | .vmem => 28
  | .smem => 0
  | _ => 0

abbrev bufTy : (tb : Table) → Fin (tcTables nBuf tb) → BufTy
  | .hbm, ⟨0, _⟩ => ⟨S8192x1536, .bf16⟩
  | .hbm, ⟨1, _⟩ => ⟨S8192x512, .bf16⟩
  | .hbm, ⟨2, _⟩ => ⟨S8192x128, .f32⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x512, .f32⟩
  | .hbm, ⟨7, _⟩ => ⟨S8192x8x64, .f32⟩
  | .hbm, ⟨8, _⟩ => ⟨S8192x512, .f32⟩
  | .hbm, ⟨9, _⟩ => ⟨S8192x8x64, .f32⟩
  | .hbm, ⟨10, _⟩ => ⟨S8192x512, .f32⟩
  | .hbm, ⟨11, _⟩ => ⟨S8192x8x64, .f32⟩
  | .hbm, ⟨12, _⟩ => ⟨S8192x8, .f32⟩
  | .hbm, ⟨13, _⟩ => ⟨S8x8192x8192, .f32⟩
  | .hbm, ⟨14, _⟩ => ⟨S_, .f32⟩
  | .hbm, ⟨15, _⟩ => ⟨S8x8192x8192, .f32⟩
  | .hbm, ⟨16, _⟩ => ⟨S8x8192x8192, .f32⟩
  | .hbm, ⟨17, _⟩ => ⟨S8x8192, .f32⟩
  | .hbm, ⟨18, _⟩ => ⟨S8x8192x1, .f32⟩
  | .hbm, ⟨19, _⟩ => ⟨S8x8192, .f32⟩
  | .hbm, ⟨20, _⟩ => ⟨S8x1x8192, .f32⟩
  | .hbm, ⟨21, _⟩ => ⟨S8x8192x8192, .f32⟩
  | .hbm, ⟨22, _⟩ => ⟨S8x8192x8192, .f32⟩
  | .hbm, ⟨23, _⟩ => ⟨S8x8192x8192, .f32⟩
  | .hbm, ⟨24, _⟩ => ⟨S8x8192x8192, .f32⟩
  | .hbm, ⟨25, _⟩ => ⟨S8192, .i32⟩
  | .hbm, ⟨26, _⟩ => ⟨S1x8192, .i32⟩
  | .hbm, ⟨27, _⟩ => ⟨S8192x1, .i32⟩
  | .hbm, ⟨28, _⟩ => ⟨S8192x8192, .i32⟩
  | .hbm, ⟨29, _⟩ => ⟨S8192x8192, .i32⟩
  | .hbm, ⟨30, _⟩ => ⟨S8192x8192, .i1⟩
  | .hbm, ⟨31, _⟩ => ⟨S_, .f32⟩
  | .hbm, ⟨32, _⟩ => ⟨S_, .f32⟩
  | .hbm, ⟨33, _⟩ => ⟨S8x8192x8192, .i1⟩
  | .hbm, ⟨34, _⟩ => ⟨S8x8192x8192, .f32⟩
  | .hbm, ⟨35, _⟩ => ⟨S8x8192x8192, .f32⟩
  | .hbm, ⟨36, _⟩ => ⟨S_, .f32⟩
  | .hbm, ⟨37, _⟩ => ⟨S8x8192, .f32⟩
  | .hbm, ⟨38, _⟩ => ⟨S8x8192x1, .f32⟩
  | .hbm, ⟨39, _⟩ => ⟨S8x8192x8192, .f32⟩
  | .hbm, ⟨40, _⟩ => ⟨S8x8192x8192, .f32⟩
  | .hbm, ⟨41, _⟩ => ⟨S8x8192x8192, .f32⟩
  | .hbm, ⟨42, _⟩ => ⟨S_, .f32⟩
  | .hbm, ⟨43, _⟩ => ⟨S8x8192, .f32⟩
  | .hbm, ⟨44, _⟩ => ⟨S8x8192x1, .f32⟩
  | .hbm, ⟨45, _⟩ => ⟨S8x8192x8192, .f32⟩
  | .hbm, ⟨46, _⟩ => ⟨S8x8192x8192, .f32⟩
  | .hbm, ⟨47, _⟩ => ⟨S8x64x8192, .f32⟩
  | .hbm, ⟨48, _⟩ => ⟨S8192x8x64, .f32⟩
  | .hbm, ⟨49, _⟩ => ⟨S8192x512, .f32⟩
  | .hbm, ⟨50, _⟩ => ⟨S8192x512, .bf16⟩
  | .hbm, ⟨51, _⟩ => ⟨S8x8192x1, .f32⟩
  | .hbm, ⟨52, _⟩ => ⟨S8x8192x1, .f32⟩
  | .hbm, ⟨53, _⟩ => ⟨S8x1x8192, .f32⟩
  | .hbm, ⟨54, _⟩ => ⟨S8192x512, .bf16⟩
  | .hbm, ⟨55, _⟩ => ⟨S8192x512, .bf16⟩
  | .hbm, ⟨56, _⟩ => ⟨S8192x512, .bf16⟩
  | .hbm, ⟨57, _⟩ => ⟨S4x8192x128, .f32⟩
  | .hbm, ⟨58, _⟩ => ⟨S4x8192x128, .f32⟩
  | .local _ .vmem, ⟨0, _⟩ => ⟨S8192x128, .bf16⟩
  | .local _ .vmem, ⟨1, _⟩ => ⟨S8192x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S8192x128, .bf16⟩
  | .local _ .vmem, ⟨7, _⟩ => ⟨S8192x128, .bf16⟩
  | .local _ .vmem, ⟨8, _⟩ => ⟨S8192x128, .bf16⟩
  | .local _ .vmem, ⟨9, _⟩ => ⟨S8192x128, .bf16⟩
  | .local _ .vmem, ⟨10, _⟩ => ⟨S2x1x8192, .f32⟩
  | .local _ .vmem, ⟨11, _⟩ => ⟨S2x1x8192, .f32⟩
  | .local _ .vmem, ⟨12, _⟩ => ⟨S8192x128, .f32⟩
  | .local _ .vmem, ⟨13, _⟩ => ⟨S8192x128, .bf16⟩
  | .local _ .vmem, ⟨14, _⟩ => ⟨S8192x128, .bf16⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S512x128, .bf16⟩
  | .local _ .vmem, ⟨19, _⟩ => ⟨S1x8192x128, .f32⟩
  | .local _ .vmem, ⟨20, _⟩ => ⟨S1x8192x128, .f32⟩
  | .local _ .vmem, ⟨21, _⟩ => ⟨S1x512x128, .f32⟩
  | .local _ .vmem, ⟨22, _⟩ => ⟨S1x512x128, .f32⟩
  | .local _ .vmem, ⟨23, _⟩ => ⟨S2x8192x128, .bf16⟩
  | .local _ .vmem, ⟨24, _⟩ => ⟨S2x1x8192, .f32⟩
  | .local _ .vmem, ⟨25, _⟩ => ⟨S2x128x8192, .f32⟩
  | .local _ .vmem, ⟨26, _⟩ => ⟨S2x512x128, .f32⟩
  | .local _ .vmem, ⟨27, _⟩ => ⟨S2x512x128, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44_0 : Ref sig .tc := ⟨.hbm, 54, rfl⟩
abbrev main_v44_1 : Ref sig .tc := ⟨.hbm, 55, rfl⟩
abbrev main_v44_2 : Ref sig .tc := ⟨.hbm, 56, rfl⟩
abbrev main_v44_3 : Ref sig .tc := ⟨.hbm, 57, rfl⟩
abbrev main_v44_4 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_1 : BitVec 32 := 0#32
  let v8 : BitVec 1 := Scalar.cmpi .ne v7 c0_i32_1
  v8

@[reducible] def k0_t1_loop : Scf.Loop 32 :=
  let c0_i32_199 : BitVec 32 := 0#32
  let c16_i32_200 : BitVec 32 := 16#32
  let v436 : BitVec 32 := Scalar.addi c0_i32_199 c16_i32_200
  let c1_i32_201 : BitVec 32 := 1#32
  ⟨c0_i32_199, v436, c1_i32_201⟩
def k0_mult1 (k0_t1 : Fin k0_t1_loop.trips) : BitVec 32 :=
  let c0_i32_199 : BitVec 32 := 0#32
  let c1_i32_201 : BitVec 32 := 1#32
  let arg19 : BitVec 32 := Scf.iv c0_i32_199 c1_i32_201 k0_t1
  let c512_i32_203 : BitVec 32 := 512#32
  let v437 : BitVec 32 := Scalar.muli arg19 c512_i32_203
  v437
def k0_off1 (k0_t1 : Fin k0_t1_loop.trips) : Fin 2 → Nat :=
  let c0_i32_199 : BitVec 32 := 0#32
  let c1_i32_201 : BitVec 32 := 1#32
  let arg19 : BitVec 32 := Scf.iv c0_i32_199 c1_i32_201 k0_t1
  let c512_i32_203 : BitVec 32 := 512#32
  let v437 : BitVec 32 := Scalar.muli arg19 c512_i32_203
  let v438 : BitVec 32 := v437
  let v439 : Index := Scalar.indexCast v438
  let c0_204 : Index := 0#32
  ![v439.toNat, 0]
def k0_off2 (k0_t1 : Fin k0_t1_loop.trips) : Fin 3 → Nat :=
  let c0_212 : Index := 0#32
  let c0_213 : Index := 0#32
  let c0_i32_199 : BitVec 32 := 0#32
  let c1_i32_201 : BitVec 32 := 1#32
  let arg19 : BitVec 32 := Scf.iv c0_i32_199 c1_i32_201 k0_t1
  let c512_i32_203 : BitVec 32 := 512#32
  let v437 : BitVec 32 := Scalar.muli arg19 c512_i32_203
  let v438 : BitVec 32 := v437
  let v462 : Index := Scalar.indexCast v438
  ![0, 0, v462.toNat]
def k0_off3 (k0_t1 : Fin k0_t1_loop.trips) : Fin 3 → Nat :=
  let c1_215 : Index := 1#32
  let c0_216 : Index := 0#32
  let c0_i32_199 : BitVec 32 := 0#32
  let c1_i32_201 : BitVec 32 := 1#32
  let arg19 : BitVec 32 := Scf.iv c0_i32_199 c1_i32_201 k0_t1
  let c512_i32_203 : BitVec 32 := 512#32
  let v437 : BitVec 32 := Scalar.muli arg19 c512_i32_203
  let v438 : BitVec 32 := v437
  let v469 : Index := Scalar.indexCast v438
  ![1, 0, v469.toNat]
def k0_off4 (k0_t1 : Fin k0_t1_loop.trips) : Fin 3 → Nat :=
  let c0_231 : Index := 0#32
  let c0_i32_199 : BitVec 32 := 0#32
  let c1_i32_201 : BitVec 32 := 1#32
  let arg19 : BitVec 32 := Scf.iv c0_i32_199 c1_i32_201 k0_t1
  let c512_i32_203 : BitVec 32 := 512#32
  let v437 : BitVec 32 := Scalar.muli arg19 c512_i32_203
  let v438 : BitVec 32 := v437
  let v533 : Index := Scalar.indexCast v438
  let c0_232 : Index := 0#32
  ![0, v533.toNat, 0]
def k0_off5 (k0_t1 : Fin k0_t1_loop.trips) : Fin 3 → Nat :=
  let c1_247 : Index := 1#32
  let c0_i32_199 : BitVec 32 := 0#32
  let c1_i32_201 : BitVec 32 := 1#32
  let arg19 : BitVec 32 := Scf.iv c0_i32_199 c1_i32_201 k0_t1
  let c512_i32_203 : BitVec 32 := 512#32
  let v437 : BitVec 32 := Scalar.muli arg19 c512_i32_203
  let v438 : BitVec 32 := v437
  let v597 : Index := Scalar.indexCast v438
  let c0_248 : Index := 0#32
  ![1, v597.toNat, 0]
def k0_mult2 (i : grid0.Coords) : BitVec 32 :=
  let arg1 : BitVec 32 := BitVec.ofNat 32 (i 1).val
  let c512_i32 : BitVec 32 := 512#32
  let v9 : BitVec 32 := Scalar.muli arg1 c512_i32
  v9
def k0_off6 (i : grid0.Coords) : Fin 2 → Nat :=
  let arg1 : BitVec 32 := BitVec.ofNat 32 (i 1).val
  let c512_i32 : BitVec 32 := 512#32
  let v9 : BitVec 32 := Scalar.muli arg1 c512_i32
  let v10 : BitVec 32 := v9
  let v13 : Index := Scalar.indexCast v10
  let c0_5 : Index := 0#32
  ![v13.toNat, 0]
def k0_mult3 (i : grid0.Coords) : BitVec 32 :=
  let arg1 : BitVec 32 := BitVec.ofNat 32 (i 1).val
  let c512_i32_35 : BitVec 32 := 512#32
  let v161 : BitVec 32 := Scalar.muli arg1 c512_i32_35
  let c0_i32_36 : BitVec 32 := 0#32
  let v162 : BitVec 32 := Scalar.addi v161 c0_i32_36
  v162
def k0_off7 (i : grid0.Coords) (c0_i32_36 : BitVec 32) : Fin 2 → Nat :=
  let arg1 : BitVec 32 := BitVec.ofNat 32 (i 1).val
  let c512_i32_35 : BitVec 32 := 512#32
  let v161 : BitVec 32 := Scalar.muli arg1 c512_i32_35
  let v162 : BitVec 32 := Scalar.addi v161 c0_i32_36
  let v163 : BitVec 32 := v162
  let v164 : Index := Scalar.indexCast v163
  let c0_37 : Index := 0#32
  ![v164.toNat, 0]
def k0_off8 (i : grid0.Coords) (c0_i32_36 : BitVec 32) : Fin 3 → Nat :=
  let c0_38 : Index := 0#32
  let arg1 : BitVec 32 := BitVec.ofNat 32 (i 1).val
  let c512_i32_35 : BitVec 32 := 512#32
  let v161 : BitVec 32 := Scalar.muli arg1 c512_i32_35
  let v162 : BitVec 32 := Scalar.addi v161 c0_i32_36
  let v163 : BitVec 32 := v162
  let v166 : Index := Scalar.indexCast v163
  let c0_39 : Index := 0#32
  ![0, v166.toNat, 0]
def k0_off9 (i : grid0.Coords) (c0_i32_36 : BitVec 32) : Fin 3 → Nat :=
  let c0_43 : Index := 0#32
  let c0_44 : Index := 0#32
  let arg1 : BitVec 32 := BitVec.ofNat 32 (i 1).val
  let c512_i32_35 : BitVec 32 := 512#32
  let v161 : BitVec 32 := Scalar.muli arg1 c512_i32_35
  let v162 : BitVec 32 := Scalar.addi v161 c0_i32_36
  let v163 : BitVec 32 := v162
  let v177 : Index := Scalar.indexCast v163
  ![0, 0, v177.toNat]
def k0_off10 (i : grid0.Coords) (c0_i32_36 : BitVec 32) : Fin 3 → Nat :=
  let c0_62 : Index := 0#32
  let c0_63 : Index := 0#32
  let arg1 : BitVec 32 := BitVec.ofNat 32 (i 1).val
  let c512_i32_35 : BitVec 32 := 512#32
  let v161 : BitVec 32 := Scalar.muli arg1 c512_i32_35
  let v162 : BitVec 32 := Scalar.addi v161 c0_i32_36
  let v163 : BitVec 32 := v162
  let v206 : Index := Scalar.indexCast v163
  ![0, 0, v206.toNat]
def k0_off11 (i : grid0.Coords) (c0_i32_36 : BitVec 32) : Fin 3 → Nat :=
  let c1 : Index := 1#32
  let arg1 : BitVec 32 := BitVec.ofNat 32 (i 1).val
  let c512_i32_35 : BitVec 32 := 512#32
  let v161 : BitVec 32 := Scalar.muli arg1 c512_i32_35
  let v162 : BitVec 32 := Scalar.addi v161 c0_i32_36
  let v163 : BitVec 32 := v162
  let v215 : Index := Scalar.indexCast v163
  let c0_67 : Index := 0#32
  ![1, v215.toNat, 0]
def k0_off12 (i : grid0.Coords) (c0_i32_36 : BitVec 32) : Fin 3 → Nat :=
  let c1_71 : Index := 1#32
  let c0_72 : Index := 0#32
  let arg1 : BitVec 32 := BitVec.ofNat 32 (i 1).val
  let c512_i32_35 : BitVec 32 := 512#32
  let v161 : BitVec 32 := Scalar.muli arg1 c512_i32_35
  let v162 : BitVec 32 := Scalar.addi v161 c0_i32_36
  let v163 : BitVec 32 := v162
  let v226 : Index := Scalar.indexCast v163
  ![1, 0, v226.toNat]
def k0_off13 (i : grid0.Coords) (c0_i32_36 : BitVec 32) : Fin 3 → Nat :=
  let c1_90 : Index := 1#32
  let c0_91 : Index := 0#32
  let arg1 : BitVec 32 := BitVec.ofNat 32 (i 1).val
  let c512_i32_35 : BitVec 32 := 512#32
  let v161 : BitVec 32 := Scalar.muli arg1 c512_i32_35
  let v162 : BitVec 32 := Scalar.addi v161 c0_i32_36
  let v163 : BitVec 32 := v162
  let v255 : Index := Scalar.indexCast v163
  ![1, 0, v255.toNat]
def k0_mult4 (i : grid0.Coords) : BitVec 32 :=
  let arg1 : BitVec 32 := BitVec.ofNat 32 (i 1).val
  let c512_i32_95 : BitVec 32 := 512#32
  let v264 : BitVec 32 := Scalar.muli arg1 c512_i32_95
  let c256_i32 : BitVec 32 := 256#32
  let v265 : BitVec 32 := Scalar.addi v264 c256_i32
  v265
@[reducible] def k0_t2_loop (i : grid0.Coords) : Scf.Loop 32 :=
  let arg1 : BitVec 32 := BitVec.ofNat 32 (i 1).val
  let c1_i32_155 : BitVec 32 := 1#32
  let v367 : BitVec 32 := Scalar.addi arg1 c1_i32_155
  let c16_i32 : BitVec 32 := 16#32
  let v368 : BitVec 32 := Scalar.subi c16_i32 v367
  let c1_i32_157 : BitVec 32 := 1#32
  let v370 : BitVec 32 := Scalar.divsi v368 c1_i32_157
  let v371 : BitVec 32 := Scalar.muli v370 c1_i32_157
  let v372 : BitVec 32 := Scalar.addi v367 v371
  let c1_i32_158 : BitVec 32 := 1#32
  ⟨v367, v372, c1_i32_158⟩
def k0_mult5 (i : grid0.Coords) (k0_t2 : Fin (k0_t2_loop i).trips) : BitVec 32 :=
  let arg1 : BitVec 32 := BitVec.ofNat 32 (i 1).val
  let c1_i32_155 : BitVec 32 := 1#32
  let v367 : BitVec 32 := Scalar.addi arg1 c1_i32_155
  let c1_i32_158 : BitVec 32 := 1#32
  let arg19 : BitVec 32 := Scf.iv v367 c1_i32_158 k0_t2
  let c512_i32_195 : BitVec 32 := 512#32
  let v432 : BitVec 32 := Scalar.muli arg19 c512_i32_195
  let c0_i32_196 : BitVec 32 := 0#32
  let v433 : BitVec 32 := Scalar.addi v432 c0_i32_196
  v433
def k0_off14 (i : grid0.Coords) (k0_t2 : Fin (k0_t2_loop i).trips) (c0_i32_196 : BitVec 32) : Fin 2 → Nat :=
  let arg1 : BitVec 32 := BitVec.ofNat 32 (i 1).val
  let c1_i32_155 : BitVec 32 := 1#32
  let v367 : BitVec 32 := Scalar.addi arg1 c1_i32_155
  let c1_i32_158 : BitVec 32 := 1#32
  let arg19 : BitVec 32 := Scf.iv v367 c1_i32_158 k0_t2
  let c512_i32_195 : BitVec 32 := 512#32
  let v432 : BitVec 32 := Scalar.muli arg19 c512_i32_195
  let v433 : BitVec 32 := Scalar.addi v432 c0_i32_196
  let v434 : BitVec 32 := v433
  let v435 : Index := Scalar.indexCast v434
  let c0_197 : Index := 0#32
  ![v435.toNat, 0]
def k0_off15 (i : grid0.Coords) (k0_t2 : Fin (k0_t2_loop i).trips) (c0_i32_196 : BitVec 32) : Fin 3 → Nat :=
  let c0_198 : Index := 0#32
  let arg1 : BitVec 32 := BitVec.ofNat 32 (i 1).val
  let c1_i32_155 : BitVec 32 := 1#32
  let v367 : BitVec 32 := Scalar.addi arg1 c1_i32_155
  let c1_i32_158 : BitVec 32 := 1#32
  let arg19 : BitVec 32 := Scf.iv v367 c1_i32_158 k0_t2
  let c512_i32_195 : BitVec 32 := 512#32
  let v432 : BitVec 32 := Scalar.muli arg19 c512_i32_195
  let v433 : BitVec 32 := Scalar.addi v432 c0_i32_196
  let v434 : BitVec 32 := v433
  let v437 : Index := Scalar.indexCast v434
  let c0_199 : Index := 0#32
  ![0, v437.toNat, 0]
def k0_off16 (i : grid0.Coords) (k0_t2 : Fin (k0_t2_loop i).trips) (c0_i32_196 : BitVec 32) : Fin 3 → Nat :=
  let c0_201 : Index := 0#32
  let c0_202 : Index := 0#32
  let arg1 : BitVec 32 := BitVec.ofNat 32 (i 1).val
  let c1_i32_155 : BitVec 32 := 1#32
  let v367 : BitVec 32 := Scalar.addi arg1 c1_i32_155
  let c1_i32_158 : BitVec 32 := 1#32
  let arg19 : BitVec 32 := Scf.iv v367 c1_i32_158 k0_t2
  let c512_i32_195 : BitVec 32 := 512#32
  let v432 : BitVec 32 := Scalar.muli arg19 c512_i32_195
  let v433 : BitVec 32 := Scalar.addi v432 c0_i32_196
  let v434 : BitVec 32 := v433
  let v441 : Index := Scalar.indexCast v434
  ![0, 0, v441.toNat]
def k0_off17 (i : grid0.Coords) (k0_t2 : Fin (k0_t2_loop i).trips) (c0_i32_196 : BitVec 32) : Fin 3 → Nat :=
  let c0_220 : Index := 0#32
  let c0_221 : Index := 0#32
  let arg1 : BitVec 32 := BitVec.ofNat 32 (i 1).val
  let c1_i32_155 : BitVec 32 := 1#32
  let v367 : BitVec 32 := Scalar.addi arg1 c1_i32_155
  let c1_i32_158 : BitVec 32 := 1#32
  let arg19 : BitVec 32 := Scf.iv v367 c1_i32_158 k0_t2
  let c512_i32_195 : BitVec 32 := 512#32
  let v432 : BitVec 32 := Scalar.muli arg19 c512_i32_195
  let v433 : BitVec 32 := Scalar.addi v432 c0_i32_196
  let v434 : BitVec 32 := v433
  let v470 : Index := Scalar.indexCast v434
  ![0, 0, v470.toNat]
def k0_off18 (i : grid0.Coords) (k0_t2 : Fin (k0_t2_loop i).trips) (c0_i32_196 : BitVec 32) : Fin 3 → Nat :=
  let c1_225 : Index := 1#32
  let arg1 : BitVec 32 := BitVec.ofNat 32 (i 1).val
  let c1_i32_155 : BitVec 32 := 1#32
  let v367 : BitVec 32 := Scalar.addi arg1 c1_i32_155
  let c1_i32_158 : BitVec 32 := 1#32
  let arg19 : BitVec 32 := Scf.iv v367 c1_i32_158 k0_t2
  let c512_i32_195 : BitVec 32 := 512#32
  let v432 : BitVec 32 := Scalar.muli arg19 c512_i32_195
  let v433 : BitVec 32 := Scalar.addi v432 c0_i32_196
  let v434 : BitVec 32 := v433
  let v479 : Index := Scalar.indexCast v434
  let c0_226 : Index := 0#32
  ![1, v479.toNat, 0]
def k0_off19 (i : grid0.Coords) (k0_t2 : Fin (k0_t2_loop i).trips) (c0_i32_196 : BitVec 32) : Fin 3 → Nat :=
  let c1_228 : Index := 1#32
  let c0_229 : Index := 0#32
  let arg1 : BitVec 32 := BitVec.ofNat 32 (i 1).val
  let c1_i32_155 : BitVec 32 := 1#32
  let v367 : BitVec 32 := Scalar.addi arg1 c1_i32_155
  let c1_i32_158 : BitVec 32 := 1#32
  let arg19 : BitVec 32 := Scf.iv v367 c1_i32_158 k0_t2
  let c512_i32_195 : BitVec 32 := 512#32
  let v432 : BitVec 32 := Scalar.muli arg19 c512_i32_195
  let v433 : BitVec 32 := Scalar.addi v432 c0_i32_196
  let v434 : BitVec 32 := v433
  let v483 : Index := Scalar.indexCast v434
  ![1, 0, v483.toNat]
def k0_off20 (i : grid0.Coords) (k0_t2 : Fin (k0_t2_loop i).trips) (c0_i32_196 : BitVec 32) : Fin 3 → Nat :=
  let c1_247 : Index := 1#32
  let c0_248 : Index := 0#32
  let arg1 : BitVec 32 := BitVec.ofNat 32 (i 1).val
  let c1_i32_155 : BitVec 32 := 1#32
  let v367 : BitVec 32 := Scalar.addi arg1 c1_i32_155
  let c1_i32_158 : BitVec 32 := 1#32
  let arg19 : BitVec 32 := Scf.iv v367 c1_i32_158 k0_t2
  let c512_i32_195 : BitVec 32 := 512#32
  let v432 : BitVec 32 := Scalar.muli arg19 c512_i32_195
  let v433 : BitVec 32 := Scalar.addi v432 c0_i32_196
  let v434 : BitVec 32 := v433
  let v512 : Index := Scalar.indexCast v434
  ![1, 0, v512.toNat]
def k0_mult6 (i : grid0.Coords) (k0_t2 : Fin (k0_t2_loop i).trips) : BitVec 32 :=
  let arg1 : BitVec 32 := BitVec.ofNat 32 (i 1).val
  let c1_i32_155 : BitVec 32 := 1#32
  let v367 : BitVec 32 := Scalar.addi arg1 c1_i32_155
  let c1_i32_158 : BitVec 32 := 1#32
  let arg19 : BitVec 32 := Scf.iv v367 c1_i32_158 k0_t2
  let c512_i32_252 : BitVec 32 := 512#32
  let v521 : BitVec 32 := Scalar.muli arg19 c512_i32_252
  let c256_i32_253 : BitVec 32 := 256#32
  let v522 : BitVec 32 := Scalar.addi v521 c256_i32_253
  v522
@[reducible] def k0_t3_loop (i : grid0.Coords) : Scf.Loop 32 :=
  let arg1 : BitVec 32 := BitVec.ofNat 32 (i 1).val
  let c1_i32_155 : BitVec 32 := 1#32
  let v367 : BitVec 32 := Scalar.addi arg1 c1_i32_155
  let c16_i32 : BitVec 32 := 16#32
  let v368 : BitVec 32 := Scalar.subi c16_i32 v367
  let c1_i32_157 : BitVec 32 := 1#32
  let v370 : BitVec 32 := Scalar.divsi v368 c1_i32_157
  let v371 : BitVec 32 := Scalar.muli v370 c1_i32_157
  let v372 : BitVec 32 := Scalar.addi v367 v371
  let v369 : BitVec 32 := Scalar.addi v367 v368
  let c1_i32_159 : BitVec 32 := 1#32
  ⟨v372, v369, c1_i32_159⟩
def k0_mult7 (i : grid0.Coords) (k0_t3 : Fin (k0_t3_loop i).trips) : BitVec 32 :=
  let arg1 : BitVec 32 := BitVec.ofNat 32 (i 1).val
  let c1_i32_155 : BitVec 32 := 1#32
  let v367 : BitVec 32 := Scalar.addi arg1 c1_i32_155
  let c16_i32 : BitVec 32 := 16#32
  let v368 : BitVec 32 := Scalar.subi c16_i32 v367
  let c1_i32_157 : BitVec 32 := 1#32
  let v370 : BitVec 32 := Scalar.divsi v368 c1_i32_157
  let v371 : BitVec 32 := Scalar.muli v370 c1_i32_157
  let v372 : BitVec 32 := Scalar.addi v367 v371
  let c1_i32_159 : BitVec 32 := 1#32
  let arg19 : BitVec 32 := Scf.iv v372 c1_i32_159 k0_t3
  let c512_i32_195 : BitVec 32 := 512#32
  let v432 : BitVec 32 := Scalar.muli arg19 c512_i32_195
  let c0_i32_196 : BitVec 32 := 0#32
  let v433 : BitVec 32 := Scalar.addi v432 c0_i32_196
  v433
def k0_off21 (i : grid0.Coords) (k0_t3 : Fin (k0_t3_loop i).trips) (c0_i32_196 : BitVec 32) : Fin 2 → Nat :=
  let arg1 : BitVec 32 := BitVec.ofNat 32 (i 1).val
  let c1_i32_155 : BitVec 32 := 1#32
  let v367 : BitVec 32 := Scalar.addi arg1 c1_i32_155
  let c16_i32 : BitVec 32 := 16#32
  let v368 : BitVec 32 := Scalar.subi c16_i32 v367
  let c1_i32_157 : BitVec 32 := 1#32
  let v370 : BitVec 32 := Scalar.divsi v368 c1_i32_157
  let v371 : BitVec 32 := Scalar.muli v370 c1_i32_157
  let v372 : BitVec 32 := Scalar.addi v367 v371
  let c1_i32_159 : BitVec 32 := 1#32
  let arg19 : BitVec 32 := Scf.iv v372 c1_i32_159 k0_t3
  let c512_i32_195 : BitVec 32 := 512#32
  let v432 : BitVec 32 := Scalar.muli arg19 c512_i32_195
  let v433 : BitVec 32 := Scalar.addi v432 c0_i32_196
  let v434 : BitVec 32 := v433
  let v435 : Index := Scalar.indexCast v434
  let c0_197 : Index := 0#32
  ![v435.toNat, 0]
def k0_off22 (i : grid0.Coords) (k0_t3 : Fin (k0_t3_loop i).trips) (c0_i32_196 : BitVec 32) : Fin 3 → Nat :=
  let c0_198 : Index := 0#32
  let arg1 : BitVec 32 := BitVec.ofNat 32 (i 1).val
  let c1_i32_155 : BitVec 32 := 1#32
  let v367 : BitVec 32 := Scalar.addi arg1 c1_i32_155
  let c16_i32 : BitVec 32 := 16#32
  let v368 : BitVec 32 := Scalar.subi c16_i32 v367
  let c1_i32_157 : BitVec 32 := 1#32
  let v370 : BitVec 32 := Scalar.divsi v368 c1_i32_157
  let v371 : BitVec 32 := Scalar.muli v370 c1_i32_157
  let v372 : BitVec 32 := Scalar.addi v367 v371
  let c1_i32_159 : BitVec 32 := 1#32
  let arg19 : BitVec 32 := Scf.iv v372 c1_i32_159 k0_t3
  let c512_i32_195 : BitVec 32 := 512#32
  let v432 : BitVec 32 := Scalar.muli arg19 c512_i32_195
  let v433 : BitVec 32 := Scalar.addi v432 c0_i32_196
  let v434 : BitVec 32 := v433
  let v437 : Index := Scalar.indexCast v434
  let c0_199 : Index := 0#32
  ![0, v437.toNat, 0]
def k0_off23 (i : grid0.Coords) (k0_t3 : Fin (k0_t3_loop i).trips) (c0_i32_196 : BitVec 32) : Fin 3 → Nat :=
  let c0_201 : Index := 0#32
  let c0_202 : Index := 0#32
  let arg1 : BitVec 32 := BitVec.ofNat 32 (i 1).val
  let c1_i32_155 : BitVec 32 := 1#32
  let v367 : BitVec 32 := Scalar.addi arg1 c1_i32_155
  let c16_i32 : BitVec 32 := 16#32
  let v368 : BitVec 32 := Scalar.subi c16_i32 v367
  let c1_i32_157 : BitVec 32 := 1#32
  let v370 : BitVec 32 := Scalar.divsi v368 c1_i32_157
  let v371 : BitVec 32 := Scalar.muli v370 c1_i32_157
  let v372 : BitVec 32 := Scalar.addi v367 v371
  let c1_i32_159 : BitVec 32 := 1#32
  let arg19 : BitVec 32 := Scf.iv v372 c1_i32_159 k0_t3
  let c512_i32_195 : BitVec 32 := 512#32
  let v432 : BitVec 32 := Scalar.muli arg19 c512_i32_195
  let v433 : BitVec 32 := Scalar.addi v432 c0_i32_196
  let v434 : BitVec 32 := v433
  let v441 : Index := Scalar.indexCast v434
  ![0, 0, v441.toNat]
def k0_off24 (i : grid0.Coords) (k0_t3 : Fin (k0_t3_loop i).trips) (c0_i32_196 : BitVec 32) : Fin 3 → Nat :=
  let c0_220 : Index := 0#32
  let c0_221 : Index := 0#32
  let arg1 : BitVec 32 := BitVec.ofNat 32 (i 1).val
  let c1_i32_155 : BitVec 32 := 1#32
  let v367 : BitVec 32 := Scalar.addi arg1 c1_i32_155
  let c16_i32 : BitVec 32 := 16#32
  let v368 : BitVec 32 := Scalar.subi c16_i32 v367
  let c1_i32_157 : BitVec 32 := 1#32
  let v370 : BitVec 32 := Scalar.divsi v368 c1_i32_157
  let v371 : BitVec 32 := Scalar.muli v370 c1_i32_157
  let v372 : BitVec 32 := Scalar.addi v367 v371
  let c1_i32_159 : BitVec 32 := 1#32
  let arg19 : BitVec 32 := Scf.iv v372 c1_i32_159 k0_t3
  let c512_i32_195 : BitVec 32 := 512#32
  let v432 : BitVec 32 := Scalar.muli arg19 c512_i32_195
  let v433 : BitVec 32 := Scalar.addi v432 c0_i32_196
  let v434 : BitVec 32 := v433
  let v470 : Index := Scalar.indexCast v434
  ![0, 0, v470.toNat]
def k0_off25 (i : grid0.Coords) (k0_t3 : Fin (k0_t3_loop i).trips) (c0_i32_196 : BitVec 32) : Fin 3 → Nat :=
  let c1_225 : Index := 1#32
  let arg1 : BitVec 32 := BitVec.ofNat 32 (i 1).val
  let c1_i32_155 : BitVec 32 := 1#32
  let v367 : BitVec 32 := Scalar.addi arg1 c1_i32_155
  let c16_i32 : BitVec 32 := 16#32
  let v368 : BitVec 32 := Scalar.subi c16_i32 v367
  let c1_i32_157 : BitVec 32 := 1#32
  let v370 : BitVec 32 := Scalar.divsi v368 c1_i32_157
  let v371 : BitVec 32 := Scalar.muli v370 c1_i32_157
  let v372 : BitVec 32 := Scalar.addi v367 v371
  let c1_i32_159 : BitVec 32 := 1#32
  let arg19 : BitVec 32 := Scf.iv v372 c1_i32_159 k0_t3
  let c512_i32_195 : BitVec 32 := 512#32
  let v432 : BitVec 32 := Scalar.muli arg19 c512_i32_195
  let v433 : BitVec 32 := Scalar.addi v432 c0_i32_196
  let v434 : BitVec 32 := v433
  let v479 : Index := Scalar.indexCast v434
  let c0_226 : Index := 0#32
  ![1, v479.toNat, 0]
def k0_off26 (i : grid0.Coords) (k0_t3 : Fin (k0_t3_loop i).trips) (c0_i32_196 : BitVec 32) : Fin 3 → Nat :=
  let c1_228 : Index := 1#32
  let c0_229 : Index := 0#32
  let arg1 : BitVec 32 := BitVec.ofNat 32 (i 1).val
  let c1_i32_155 : BitVec 32 := 1#32
  let v367 : BitVec 32 := Scalar.addi arg1 c1_i32_155
  let c16_i32 : BitVec 32 := 16#32
  let v368 : BitVec 32 := Scalar.subi c16_i32 v367
  let c1_i32_157 : BitVec 32 := 1#32
  let v370 : BitVec 32 := Scalar.divsi v368 c1_i32_157
  let v371 : BitVec 32 := Scalar.muli v370 c1_i32_157
  let v372 : BitVec 32 := Scalar.addi v367 v371
  let c1_i32_159 : BitVec 32 := 1#32
  let arg19 : BitVec 32 := Scf.iv v372 c1_i32_159 k0_t3
  let c512_i32_195 : BitVec 32 := 512#32
  let v432 : BitVec 32 := Scalar.muli arg19 c512_i32_195
  let v433 : BitVec 32 := Scalar.addi v432 c0_i32_196
  let v434 : BitVec 32 := v433
  let v483 : Index := Scalar.indexCast v434
  ![1, 0, v483.toNat]
def k0_off27 (i : grid0.Coords) (k0_t3 : Fin (k0_t3_loop i).trips) (c0_i32_196 : BitVec 32) : Fin 3 → Nat :=
  let c1_247 : Index := 1#32
  let c0_248 : Index := 0#32
  let arg1 : BitVec 32 := BitVec.ofNat 32 (i 1).val
  let c1_i32_155 : BitVec 32 := 1#32
  let v367 : BitVec 32 := Scalar.addi arg1 c1_i32_155
  let c16_i32 : BitVec 32 := 16#32
  let v368 : BitVec 32 := Scalar.subi c16_i32 v367
  let c1_i32_157 : BitVec 32 := 1#32
  let v370 : BitVec 32 := Scalar.divsi v368 c1_i32_157
  let v371 : BitVec 32 := Scalar.muli v370 c1_i32_157
  let v372 : BitVec 32 := Scalar.addi v367 v371
  let c1_i32_159 : BitVec 32 := 1#32
  let arg19 : BitVec 32 := Scf.iv v372 c1_i32_159 k0_t3
  let c512_i32_195 : BitVec 32 := 512#32
  let v432 : BitVec 32 := Scalar.muli arg19 c512_i32_195
  let v433 : BitVec 32 := Scalar.addi v432 c0_i32_196
  let v434 : BitVec 32 := v433
  let v512 : Index := Scalar.indexCast v434
  ![1, 0, v512.toNat]
def k0_mult8 (i : grid0.Coords) (k0_t3 : Fin (k0_t3_loop i).trips) : BitVec 32 :=
  let arg1 : BitVec 32 := BitVec.ofNat 32 (i 1).val
  let c1_i32_155 : BitVec 32 := 1#32
  let v367 : BitVec 32 := Scalar.addi arg1 c1_i32_155
  let c16_i32 : BitVec 32 := 16#32
  let v368 : BitVec 32 := Scalar.subi c16_i32 v367
  let c1_i32_157 : BitVec 32 := 1#32
  let v370 : BitVec 32 := Scalar.divsi v368 c1_i32_157
  let v371 : BitVec 32 := Scalar.muli v370 c1_i32_157
  let v372 : BitVec 32 := Scalar.addi v367 v371
  let c1_i32_159 : BitVec 32 := 1#32
  let arg19 : BitVec 32 := Scf.iv v372 c1_i32_159 k0_t3
  let c512_i32_252 : BitVec 32 := 512#32
  let v521 : BitVec 32 := Scalar.muli arg19 c512_i32_252
  let c256_i32_253 : BitVec 32 := 256#32
  let v522 : BitVec 32 := Scalar.addi v521 c256_i32_253
  v522
def k0_cond2 (i : grid0.Coords) : BitVec 1 :=
  let arg1 : BitVec 32 := BitVec.ofNat 32 (i 1).val
  let c15_i32 : BitVec 32 := 15#32
  let v429 : BitVec 1 := Scalar.cmpi .eq arg1 c15_i32
  let v430 : BitVec 32 := Scalar.extui v429
  let c0_i32_194 : BitVec 32 := 0#32
  let v431 : BitVec 1 := Scalar.cmpi .ne v430 c0_i32_194
  v431

@[reducible] def k0_t4_loop : Scf.Loop 32 :=
  let c0_i32_195 : BitVec 32 := 0#32
  let c16_i32_196 : BitVec 32 := 16#32
  let v432 : BitVec 32 := Scalar.addi c0_i32_195 c16_i32_196
  let c1_i32_197 : BitVec 32 := 1#32
  ⟨c0_i32_195, v432, c1_i32_197⟩
def k0_mult9 (k0_t4 : Fin k0_t4_loop.trips) : BitVec 32 :=
  let c0_i32_195 : BitVec 32 := 0#32
  let c1_i32_197 : BitVec 32 := 1#32
  let arg19 : BitVec 32 := Scf.iv c0_i32_195 c1_i32_197 k0_t4
  let c512_i32_199 : BitVec 32 := 512#32
  let v433 : BitVec 32 := Scalar.muli arg19 c512_i32_199
  v433
def k0_off28 (k0_t4 : Fin k0_t4_loop.trips) : Fin 3 → Nat :=
  let c0_200 : Index := 0#32
  let c0_201 : Index := 0#32
  let c0_i32_195 : BitVec 32 := 0#32
  let c1_i32_197 : BitVec 32 := 1#32
  let arg19 : BitVec 32 := Scf.iv c0_i32_195 c1_i32_197 k0_t4
  let c512_i32_199 : BitVec 32 := 512#32
  let v433 : BitVec 32 := Scalar.muli arg19 c512_i32_199
  let v434 : BitVec 32 := v433
  let v435 : Index := Scalar.indexCast v434
  ![0, 0, v435.toNat]
def k0_off29 (k0_t4 : Fin k0_t4_loop.trips) : Fin 3 → Nat :=
  let c1_202 : Index := 1#32
  let c0_203 : Index := 0#32
  let c0_i32_195 : BitVec 32 := 0#32
  let c1_i32_197 : BitVec 32 := 1#32
  let arg19 : BitVec 32 := Scf.iv c0_i32_195 c1_i32_197 k0_t4
  let c512_i32_199 : BitVec 32 := 512#32
  let v433 : BitVec 32 := Scalar.muli arg19 c512_i32_199
  let v434 : BitVec 32 := v433
  let v439 : Index := Scalar.indexCast v434
  ![1, 0, v439.toNat]
def k0_off30 (k0_t4 : Fin k0_t4_loop.trips) : Fin 2 → Nat :=
  let c0_i32_195 : BitVec 32 := 0#32
  let c1_i32_197 : BitVec 32 := 1#32
  let arg19 : BitVec 32 := Scf.iv c0_i32_195 c1_i32_197 k0_t4
  let c512_i32_199 : BitVec 32 := 512#32
  let v433 : BitVec 32 := Scalar.muli arg19 c512_i32_199
  let v434 : BitVec 32 := v433
  let v449 : Index := Scalar.indexCast v434
  let c0_205 : Index := 0#32
  ![v449.toNat, 0]
def k0_off31 (k0_t4 : Fin k0_t4_loop.trips) : Fin 3 → Nat :=
  let c0_215 : Index := 0#32
  let c0_i32_195 : BitVec 32 := 0#32
  let c1_i32_197 : BitVec 32 := 1#32
  let arg19 : BitVec 32 := Scf.iv c0_i32_195 c1_i32_197 k0_t4
  let c512_i32_199 : BitVec 32 := 512#32
  let v433 : BitVec 32 := Scalar.muli arg19 c512_i32_199
  let v434 : BitVec 32 := v433
  let v482 : Index := Scalar.indexCast v434
  let c0_216 : Index := 0#32
  ![0, v482.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x1x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8192x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8192x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S8192x1536 : Shape := ⟨2, ![8192, 1536]⟩
abbrev S8192x512 : Shape := ⟨2, ![8192, 512]⟩
abbrev S8192x128 : Shape := ⟨2, ![8192, 128]⟩
abbrev S8192x8x64 : Shape := ⟨3, ![8192, 8, 64]⟩
abbrev S8192x8 : Shape := ⟨2, ![8192, 8]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩
abbrev S8x8192x64 : Shape := ⟨3, ![8, 8192, 64]⟩
abbrev S8192x4x2 : Shape := ⟨3, ![8192, 4, 2]⟩
abbrev S4x8192x2 : Shape := ⟨3, ![4, 8192, 2]⟩
abbrev S4x8192x128 : Shape := ⟨3, ![4, 8192, 128]⟩

abbrev nBuf : Space → Nat
  | .hbm => 138
  | .vmem => 0
  | .smem => 0
  | _ => 0

abbrev hbmTy0_0 (i : Nat) : BufTy := match i % 128 with
  | 0 => ⟨S8192x1536, .bf16⟩
  | 1 => ⟨S8192x512, .bf16⟩
  | 2 => ⟨S8192x128, .f32⟩
  | 3 => ⟨S8192x512, .bf16⟩
  | 4 => ⟨S8192x512, .bf16⟩
  | 5 => ⟨S8192x512, .bf16⟩
  | 6 => ⟨S8192x512, .f32⟩
  | 7 => ⟨S8192x8x64, .f32⟩
  | 8 => ⟨S8192x512, .f32⟩
  | 9 => ⟨S8192x8x64, .f32⟩
  | 10 => ⟨S8192x512, .f32⟩
  | 11 => ⟨S8192x8x64, .f32⟩
  | 12 => ⟨S8192x8, .f32⟩
  | 13 => ⟨S8192x512, .f32⟩
  | 14 => ⟨S8192x8x64, .f32⟩
  | 15 => ⟨S8x8192x8192, .f32⟩
  | 16 => ⟨S_, .f32⟩
  | 17 => ⟨S8x8192x8192, .f32⟩
  | 18 => ⟨S8x8192x8192, .f32⟩
  | 19 => ⟨S8x8192, .f32⟩
  | 20 => ⟨S8x8192x1, .f32⟩
  | 21 => ⟨S8x8192, .f32⟩
  | 22 => ⟨S8x1x8192, .f32⟩
  | 23 => ⟨S8x8192x8192, .f32⟩
  | 24 => ⟨S8x8192x8192, .f32⟩
  | 25 => ⟨S8x8192x8192, .f32⟩
  | 26 => ⟨S8x8192x8192, .f32⟩
  | 27 => ⟨S8192, .i32⟩
  | 28 => ⟨S1x8192, .i32⟩
  | 29 => ⟨S8192x1, .i32⟩
  | 30 => ⟨S8192x8192, .i32⟩
  | 31 => ⟨S8192x8192, .i32⟩
  | 32 => ⟨S8192x8192, .i1⟩
  | 33 => ⟨S_, .f32⟩
  | 34 => ⟨S_, .f32⟩
  | 35 => ⟨S8x8192x8192, .i1⟩
  | 36 => ⟨S8x8192x8192, .f32⟩
  | 37 => ⟨S8x8192x8192, .f32⟩
  | 38 => ⟨S_, .f32⟩
  | 39 => ⟨S8x8192x8192, .f32⟩
  | 40 => ⟨S_, .f32⟩
  | 41 => ⟨S8x8192, .f32⟩
  | 42 => ⟨S8x8192x1, .f32⟩
  | 43 => ⟨S8x8192x8192, .f32⟩
  | 44 => ⟨S8x8192x8192, .i1⟩
  | 45 => ⟨S8x8192x8192, .f32⟩
  | 46 => ⟨S_, .f32⟩
  | 47 => ⟨S8x8192, .f32⟩
  | 48 => ⟨S_, .f32⟩
  | 49 => ⟨S8x8192, .f32⟩
  | 50 => ⟨S8x8192, .f32⟩
  | 51 => ⟨S_, .f32⟩
  | 52 => ⟨S8x8192, .f32⟩
  | 53 => ⟨S8x8192, .i1⟩
  | 54 => ⟨S_, .f32⟩
  | 55 => ⟨S8x8192, .f32⟩
  | 56 => ⟨S8x8192, .i1⟩
  | 57 => ⟨S_, .f32⟩
  | 58 => ⟨S8x8192, .f32⟩
  | 59 => ⟨S_, .f32⟩
  | 60 => ⟨S8x8192, .f32⟩
  | 61 => ⟨S_, .f32⟩
  | 62 => ⟨S8x8192, .f32⟩
  | 63 => ⟨S8x8192, .f32⟩
  | 64 => ⟨S8x8192, .f32⟩
  | 65 => ⟨S8x8192x1, .f32⟩
  | 66 => ⟨S8x8192x8192, .f32⟩
  | 67 => ⟨S8x8192x8192, .f32⟩
  | 68 => ⟨S8x8192x8192, .f32⟩
  | 69 => ⟨S_, .f32⟩
  | 70 => ⟨S8x8192, .f32⟩
  | 71 => ⟨S8x8192x1, .f32⟩
  | 72 => ⟨S8x8192x8192, .f32⟩
  | 73 => ⟨S8x8192x8192, .f32⟩
  | 74 => ⟨S8x8192x1, .f32⟩
  | 75 => ⟨S_, .f32⟩
  | 76 => ⟨S8x8192x1, .f32⟩
  | 77 => ⟨S8x8192x1, .f32⟩
  | 78 => ⟨S8x64x8192, .f32⟩
  | 79 => ⟨S8192x8x64, .f32⟩
  | 80 => ⟨S8x64x8192, .f32⟩
  | 81 => ⟨S8x8192x8192, .f32⟩
  | 82 => ⟨S8x64x8192, .f32⟩
  | 83 => ⟨S8192x8x64, .f32⟩
  | 84 => ⟨S8x8192x8192, .f32⟩
  | 85 => ⟨S8x8192x8192, .f32⟩
  | 86 => ⟨S8x8192x8192, .f32⟩
  | 87 => ⟨S_, .f32⟩
  | 88 => ⟨S8x8192, .f32⟩
  | 89 => ⟨S8x8192x1, .f32⟩
  | 90 => ⟨S8x8192x1, .f32⟩
  | 91 => ⟨S8x8192x8192, .f32⟩
  | 92 => ⟨S8x8192x8192, .f32⟩
  | 93 => ⟨S_, .f32⟩
  | 94 => ⟨S8x8192, .f32⟩
  | 95 => ⟨S8x8192x8192, .f32⟩
  | 96 => ⟨S8x8192x8192, .f32⟩
  | 97 => ⟨S8x8192x8192, .f32⟩
  | 98 => ⟨S_, .f32⟩
  | 99 => ⟨S8x8192x8192, .f32⟩
  | 100 => ⟨S8x8192x8192, .f32⟩
  | 101 => ⟨S_, .f32⟩
  | 102 => ⟨S8x8192, .f32⟩
  | 103 => ⟨S8x8192x1, .f32⟩
  | 104 => ⟨S8x8192x8192, .f32⟩
  | 105 => ⟨S_, .f32⟩
  | 106 => ⟨S8x8192, .f32⟩
  | 107 => ⟨S8x1x8192, .f32⟩
  | 108 => ⟨S_, .f32⟩
  | 109 => ⟨S8x8192, .f32⟩
  | 110 => ⟨S8192x8, .f32⟩
  | 111 => ⟨S_, .f32⟩
  | 112 => ⟨S8x8192, .f32⟩
  | 113 => ⟨S8192x8, .f32⟩
  | 114 => ⟨S_, .f32⟩
  | 115 => ⟨S8x8192x8192, .f32⟩
  | 116 => ⟨S8x8192x8192, .f32⟩
  | 117 => ⟨S8x8192x64, .f32⟩
  | 118 => ⟨S8192x8x64, .f32⟩
  | 119 => ⟨S8x8192x64, .f32⟩
  | 120 => ⟨S8192x8x64, .f32⟩
  | 121 => ⟨S8192x512, .f32⟩
  | 122 => ⟨S8192x512, .bf16⟩
  | 123 => ⟨S8192x512, .f32⟩
  | 124 => ⟨S8192x512, .bf16⟩
  | 125 => ⟨S8192x512, .f32⟩
  | 126 => ⟨S8192x512, .bf16⟩
  | 127 => ⟨S8192x4x2, .f32⟩
  | _ => ⟨S8192x1536, .bf16⟩

abbrev hbmTy0_1 (i : Nat) : BufTy := match i % 128 with
  | 0 => ⟨S4x8192x2, .f32⟩
  | 1 => ⟨S_, .i32⟩
  | 2 => ⟨S_, .f32⟩
  | 3 => ⟨S4x8192x128, .f32⟩
  | 4 => ⟨S8192x8, .f32⟩
  | 5 => ⟨S8192x4x2, .f32⟩
  | 6 => ⟨S4x8192x2, .f32⟩
  | 7 => ⟨S_, .i32⟩
  | 8 => ⟨S_, .f32⟩
  | 9 => ⟨S4x8192x128, .f32⟩
  | _ => ⟨S8192x1536, .bf16⟩

abbrev hbmTy (i : Nat) : BufTy := match i / 128 with
  | 0 => hbmTy0_0 i
  | 1 => hbmTy0_1 i
  | _ => ⟨S8192x1536, .bf16⟩

abbrev bufTy : (tb : Table) → Fin (tcTables nBuf tb) → BufTy
  | .hbm, ⟨i, _⟩ => hbmTy i
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_0 : Ref sig .tc := ⟨.hbm, 33, rfl⟩
abbrev main_call0_v0 : Ref sig .tc := ⟨.hbm, 34, rfl⟩
abbrev main_v29_1 : Ref sig .tc := ⟨.hbm, 35, rfl⟩
abbrev main_call0_v2 : Ref sig .tc := ⟨.hbm, 36, rfl⟩
abbrev main_v29_0 : Ref sig .tc := ⟨.hbm, 37, rfl⟩
abbrev main_call0_cst : Ref sig .tc := ⟨.hbm, 38, rfl⟩
abbrev main_v29_2 : Ref sig .tc := ⟨.hbm, 39, rfl⟩
abbrev main_cst_1 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_2 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_11 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_12 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_call1_cst : Ref sig .tc := ⟨.hbm, 98, rfl⟩
abbrev main_call1_v0 : Ref sig .tc := ⟨.hbm, 99, rfl⟩
abbrev main_v76 : Ref sig .tc := ⟨.hbm, 100, rfl⟩
abbrev main_cst_13 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_14 : Ref sig .tc := ⟨.hbm, 105, rfl⟩
abbrev main_v80 : Ref sig .tc := ⟨.hbm, 106, rfl⟩
abbrev main_v81 : Ref sig .tc := ⟨.hbm, 107, rfl⟩
abbrev main_cst_15 : Ref sig .tc := ⟨.hbm, 108, rfl⟩
abbrev main_v82 : Ref sig .tc := ⟨.hbm, 109, rfl⟩
abbrev main_v83 : Ref sig .tc := ⟨.hbm, 110, rfl⟩
abbrev main_cst_16 : Ref sig .tc := ⟨.hbm, 111, rfl⟩
abbrev main_v84 : Ref sig .tc := ⟨.hbm, 112, rfl⟩
abbrev main_v85 : Ref sig .tc := ⟨.hbm, 113, rfl⟩
abbrev main_cst_17 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_c : Ref sig .tc := ⟨.hbm, 129, rfl⟩
abbrev main_call2_v0 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_c_18 : Ref sig .tc := ⟨.hbm, 135, rfl⟩
abbrev main_call3_v0 : Ref sig .tc := ⟨.hbm, 136, rfl⟩
abbrev main_v104 : Ref sig .tc := ⟨.hbm, 137, rfl⟩

abbrev nD : Nat := 1
abbrev τ : Topo := Topo.v7x

variable {F : FTy → Type} [FloatOps F]
-- ==== Proof.Products.lean ====
/- The three products a linear layer takes part in, as sums over the extended reals: `nn` of the layer itself (`a·b`) and `nt` of
   the gradient of its input (`a·bᵀ`). -/
module

public import Idealize.ShloMosaic.Lib.Pipeline.ValueKit
public import Idealize.ShloMosaic.Lib.Claim
public import Idealize.ShloMosaic.Lib.Pointwise

@[expose] public section

noncomputable section

namespace Cert.Proof.Products

open Idealize.ShloMosaic

/-- `a·b`: rows of `a` against columns of `b`. -/
def nn (M K N : ℕ) (a : Vec Ideal ⟨2, ![M, K]⟩ .bf16) (b : Vec Ideal ⟨2, ![K, N]⟩ .bf16) : Vec Ideal ⟨2, ![M, N]⟩ .f32 :=
  fun i => ∑ k : Fin K, a (ix2 (i 0) k) * b (ix2 k (i 1))

/-- `a·bᵀ`: rows of `a` against rows of `b`. -/
def nt (M K N : ℕ) (a : Vec Ideal ⟨2, ![M, K]⟩ .bf16) (b : Vec Ideal ⟨2, ![N, K]⟩ .bf16) : Vec Ideal ⟨2, ![M, N]⟩ .f32 :=
  fun i => ∑ k : Fin K, a (ix2 (i 0) k) * b (ix2 (i 1) k)

end Cert.Proof.Products

end
-- ==== Proof.DxRegions.lean ====
/- The gradients of the inputs of the layer's projections, one call each: what each call's result array ends holding. -/
module

public import proofs.«01_k».proof.Defs
public import proofs.«01_k».proof.Proof.Products
public import proofs.«01_k».proof.Proof.Gen.DxIdeal.Frame
public import Idealize.ShloMosaic.Lib.Pipeline.ValueKit
public import Idealize.ShloMosaic.Lib.Claim
public import Idealize.ShloMosaic.Lib.Pointwise

@[expose] public section

set_option maxRecDepth 16384

noncomputable section

namespace Cert.Proof.Dx

open Cert.DxIdeal Cert.DxIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx0 : ∀ t : Fin cfg0.N,
    win0_0.index t = ![t.val / 3, 0] ∧ win0_1.index t = ![t.val % 3, 0] ∧ win0_2.index t = ![t.val / 3, t.val % 3] :=
  (by decide +kernel : ∀ t : Fin grid0.N, _)

/-- The gradient of the input of the feed-forward layer's second matrix. -/
theorem final0 (c : Dev nD) : (dat0 V c).arrAt 2 cfg0.N
    = fun i => Products.nt 8192 1024 3072 (V c main_arg0) (V c main_arg1) i := by
  refine (dat0 V c).arrAt_eq_of_covers 2 _ (by decide +kernel) fun t hf y => ?_
  blk_simp
  rw [after0_2]
  frame_out
  obtain ⟨e0, e1, e2⟩ := idx0 t
  unfold k0_pay1 Products.nt
  pointwise
  blk_point [iblk0, e0, e1, e2]

theorem idx2 : ∀ t : Fin cfg2.N,
    win2_0.index t = ![t.val, 0] ∧ win2_1.index t = ![0, 0] ∧ win2_2.index t = ![t.val, 0] :=
  (by decide +kernel : ∀ t : Fin grid2.N, _)

/-- The gradient of the input of the mixer's output projection. -/
theorem final2 (c : Dev nD) : (dat2 V c).arrAt 2 cfg2.N
    = fun i => Products.nt 8192 1024 1024 (V c main_arg4) (V c main_arg5) i := by
  refine (dat2 V c).arrAt_eq_of_covers 2 _ (by decide +kernel) fun t hf y => ?_
  blk_simp
  rw [after2_2]
  frame_out
  obtain ⟨e0, e1, e2⟩ := idx2 t
  unfold k2_pay1 Products.nt
  pointwise
  blk_point [iblk2, e0, e1, e2]

theorem idx3 : ∀ t : Fin cfg3.N,
    win3_0.index t = ![t.val, 0] ∧ win3_1.index t = ![0, 0] ∧ win3_2.index t = ![t.val, 0] :=
  (by decide +kernel : ∀ t : Fin grid3.N, _)

/-- The gradient of the input of the pooling branch's projection. -/
theorem final3 (c : Dev nD) : (dat3 V c).arrAt 2 cfg3.N
    = fun i => Products.nt 8192 1024 512 (V c main_arg6) (V c main_arg7) i := by
  refine (dat3 V c).arrAt_eq_of_covers 2 _ (by decide +kernel) fun t hf y => ?_
  blk_simp
  rw [after3_2]
  frame_out
  obtain ⟨e0, e1, e2⟩ := idx3 t
  unfold k3_pay1 Products.nt
  pointwise
  blk_point [iblk3, e0, e1, e2]

theorem idx4 : ∀ t : Fin cfg4.N,
    win4_0.index t = ![t.val, 0] ∧ win4_1.index t = ![0, 0] ∧ win4_2.index t = ![t.val, 0] :=
  (by decide +kernel : ∀ t : Fin grid4.N, _)

/-- The gradient of the input of the attention branch's projection. -/
theorem final4 (c : Dev nD) : (dat4 V c).arrAt 2 cfg4.N
    = fun i => Products.nt 8192 1024 512 (V c main_arg8) (V c main_arg9) i := by
  refine (dat4 V c).arrAt_eq_of_covers 2 _ (by decide +kernel) fun t hf y => ?_
  blk_simp
  rw [after4_2]
  frame_out
  obtain ⟨e0, e1, e2⟩ := idx4 t
  unfold k4_pay1 Products.nt
  pointwise
  blk_point [iblk4, e0, e1, e2]

theorem idx5 : ∀ t : Fin cfg5.N,
    win5_0.index t = ![t.val, 0] ∧ win5_1.index t = ![0, 0] ∧ win5_2.index t = ![t.val, 0] :=
  (by decide +kernel : ∀ t : Fin grid5.N, _)

/-- The gradient of the input of the state-space branch's projection. -/
theorem final5 (c : Dev nD) : (dat5 V c).arrAt 2 cfg5.N
    = fun i => Products.nt 8192 1024 1024 (V c main_arg10) (V c main_arg11) i := by
  refine (dat5 V c).arrAt_eq_of_covers 2 _ (by decide +kernel) fun t hf y => ?_
  blk_simp
  rw [after5_2]
  frame_out
  obtain ⟨e0, e1, e2⟩ := idx5 t
  unfold k5_pay1 Products.nt
  pointwise
  blk_point [iblk5, e0, e1, e2]

theorem idx6 : ∀ t : Fin cfg6.N,
    win6_0.index t = ![t.val, 0] ∧ win6_1.index t = ![0, 0] ∧ win6_2.index t = ![t.val, 0] :=
  (by decide +kernel : ∀ t : Fin grid6.N, _)

/-- The gradient of the input of the joint query, key and value projection. -/
theorem final6 (c : Dev nD) : (dat6 V c).arrAt 2 cfg6.N
    = fun i => Products.nt 8192 1536 1024 (V c main_arg12) (V c main_arg13) i := by
  refine (dat6 V c).arrAt_eq_of_covers 2 _ (by decide +kernel) fun t hf y => ?_
  blk_simp
  rw [after6_2]
  frame_out
  obtain ⟨e0, e1, e2⟩ := idx6 t
  unfold k6_pay1 Products.nt
  pointwise
  blk_point [iblk6, e0, e1, e2]

end Cert.Proof.Dx

end
-- ==== Proof.DxUp.lean ====
/- The gradient of the input of the feed-forward layer's first matrix and of the projection `w_rest`: what the two calls' result
   arrays end holding. The first matrix is kept in 8 column blocks; the sum over a row of 6144 entries is taken block by block. -/
module

public import proofs.«01_k».proof.Defs
public import proofs.«01_k».proof.Proof.Products
public import proofs.«01_k».proof.Proof.Gen.DxIdeal.Frame
public import Idealize.ShloMosaic.Lib.Pipeline.ValueKit
public import Idealize.ShloMosaic.Lib.Claim
public import Idealize.ShloMosaic.Lib.Pointwise

@[expose] public section

set_option maxRecDepth 16384

noncomputable section

namespace Cert.Proof.Dx

open Cert.DxIdeal Cert.DxIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- One column block's share of the gradient at `i`. -/
def blockTerm (dh : Vec Ideal S2x8192x3072 .bf16) (g : Vec Ideal S8x1x1024x768 .bf16) (i : S8192x1024.Idx) (q : Fin 8) : Elt Ideal .f32 :=
  ∑ k : Fin 768, dh (ix3 ⟨q.val / 4, by omega⟩ (i 0) ⟨q.val % 4 * 768 + k.val, by omega⟩) * g (ix4 q 0 (i 1) k)

/-- The gradient of the input of the first matrix: the eight blocks' shares. -/
def upDx (dh : Vec Ideal S2x8192x3072 .bf16) (g : Vec Ideal S8x1x1024x768 .bf16) : Vec Ideal S8192x1024 .f32 :=
  fun i => ∑ q : Fin 8, blockTerm dh g i q

theorem idx1 : ∀ t : Fin cfg1.N,
    win1_0.index t = ![0, t.val, 0] ∧ win1_1.index t = ![0, 0, 0, 0] ∧ win1_2.index t = ![t.val, 0] :=
  (by decide +kernel : ∀ t : Fin grid1.N, _)

theorem final1 (c : Dev nD) : (dat1 V c).arrAt 2 cfg1.N = upDx (V c main_arg2) (V c main_arg3) := by
  refine (dat1 V c).arrAt_eq_of_covers 2 _ (by decide +kernel) fun t hf y => ?_
  blk_simp
  rw [after1_2]
  frame_out
  obtain ⟨e0, e1, e2⟩ := idx1 t
  unfold k1_pay1 k1_pay2 upDx
  rw [Fin.sum_univ_eight]
  pointwise
  unfold blockTerm
  congr 8 <;> funext k
  all_goals blk_point [iblk1, e0, e1, e2]

theorem idx7 : ∀ t : Fin cfg7.N,
    win7_0.index t = ![t.val, 0] ∧ win7_1.index t = ![0, 0] ∧ win7_2.index t = ![t.val, 0] ∧ win7_3.index t = ![t.val, 0] :=
  (by decide +kernel : ∀ t : Fin grid7.N, _)

/-- The gradient of the layer's normalised input: the share of `w_rest` added to what the array before it holds. -/
theorem final7 (c : Dev nD) : (dat7 V c).arrAt 3 cfg7.N
    = fun i => Products.nt 8192 6272 1024 (V c main_arg14) (V c main_arg15) i + (V c main_v6 : Vec Ideal S8192x1024 .f32) i := by
  refine (dat7 V c).arrAt_eq_of_covers 3 _ (by decide +kernel) fun t hf y => ?_
  blk_simp
  rw [after7_3]
  frame_out
  obtain ⟨e0, e1, e2, e3⟩ := idx7 t
  unfold k7_pay1 Products.nt
  pointwise
  blk_point [iblk7, e0, e1, e2, e3]

end Cert.Proof.Dx

end
-- ==== Proof.DxRun.lean ====
/- The run of the 8 calls one after the other: it ends with every array of the program at the contents the calls leave. -/
module

public import proofs.«01_k».proof.Defs
public import proofs.«01_k».proof.Proof.Gen.DxIdeal.Frame

@[expose] public section

set_option maxRecDepth 16384

noncomputable section

namespace Cert.Proof.Dx

open Cert.DxIdeal Cert.DxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with each array of the program at what the last call leaves it (`W8`). -/
theorem run_arrays : θ_run defs (onTc (τ := τ) (main (F := F))) ⟨m, fun _ => 0, ρ⟩ (fun r =>
    ∀ c : Dev nD, ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h _ => h)

end Cert.Proof.Dx

end
-- ==== Proof.DxRef.lean ====
/- The reference's gradients of the inputs of the layer's projections: each is a product over the extended reals. -/
module

public import proofs.«01_k».proof.Defs
public import proofs.«01_k».proof.Proof.Products
public import proofs.«01_k».proof.Proof.DxUp
public import proofs.«01_k».proof.Proof.Gen.DxRefIdeal.Read
public import Idealize.ShloMosaic.Lib.Pipeline.ValueKit
public import Idealize.ShloMosaic.Lib.Claim
public import Idealize.ShloMosaic.Lib.Pointwise

@[expose] public section

set_option maxRecDepth 16384

noncomputable section

namespace Cert.Proof.Dx

open Cert.DxRefIdeal Cert.DxRefIdeal.Gen Idealize.ShloMosaic Idealize.ShloMosaic.TcCoe

theorem ref_da (a : Vec Ideal S8192x1024 .bf16) (b : Vec Ideal S3072x1024 .bf16) :
    Read.val_main_v44 (F := Ideal) a b = fun i => Products.nt 8192 1024 3072 a b i := by
  funext i
  rw [← Read.val_main_v44_eq]
  unfold Products.nt
  pointwise

theorem ref_dmerged (a : Vec Ideal S8192x1024 .bf16) (b : Vec Ideal S1024x1024 .bf16) :
    Read.val_main_v42 (F := Ideal) a b = fun i => Products.nt 8192 1024 1024 a b i := by
  funext i
  rw [← Read.val_main_v42_eq]
  unfold Products.nt
  pointwise

theorem ref_dyc (a : Vec Ideal S8192x1024 .bf16) (b : Vec Ideal S1024x1024 .bf16) :
    Read.val_main_v39 (F := Ideal) a b = fun i => Products.nt 8192 1024 1024 a b i := by
  funext i
  rw [← Read.val_main_v39_eq]
  unfold Products.nt
  pointwise

theorem ref_dya (a : Vec Ideal S8192x1024 .bf16) (b : Vec Ideal S512x1024 .bf16) :
    Read.val_main_v41 (F := Ideal) a b = fun i => Products.nt 8192 1024 512 a b i := by
  funext i
  rw [← Read.val_main_v41_eq]
  unfold Products.nt
  pointwise

theorem ref_do (a : Vec Ideal S8192x1024 .bf16) (b : Vec Ideal S512x1024 .bf16) :
    Read.val_main_v45 (F := Ideal) a b = fun i => Products.nt 8192 1024 512 a b i := by
  funext i
  rw [← Read.val_main_v45_eq]
  unfold Products.nt
  pointwise

theorem ref_du (a : Vec Ideal S8192x1536 .bf16) (b : Vec Ideal S1024x1536 .bf16) (a' : Vec Ideal S8192x6272 .bf16) (b' : Vec Ideal S1024x6272 .bf16) :
    Read.val_main_v38 (F := Ideal) a b a' b' = fun i => Products.nt 8192 6272 1024 a' b' i + Products.nt 8192 1536 1024 a b i := by
  funext i
  rw [← Read.val_main_v38_eq]
  unfold Products.nt
  pointwise

theorem ref_du2 (dh : Vec Ideal S2x8192x3072 .bf16) (g : Vec Ideal S8x1x1024x768 .bf16) :
    Read.val_main_v43 (F := Ideal) dh g = upDx dh g := by
  funext i
  rw [← Read.val_main_v43_eq]
  unfold upDx blockTerm
  pointwise
  refine (Fin.sum_mul_add_congr (S := 8) (n := 768) fun q k hl => ?_).symm
  congr 3 <;> exact Fin.ext (by dsimp only; omega)

end Cert.Proof.Dx

end
-- ==== Proof.Dx.lean ====
/- The gradients of the inputs of the layer's projections: what the eight calls leave, against the reference. -/
module

public import proofs.«01_k».proof.Defs
public import proofs.«01_k».proof.Proof.DxRegions
public import proofs.«01_k».proof.Proof.DxUp
public import proofs.«01_k».proof.Proof.DxRun
public import proofs.«01_k».proof.Proof.DxRef
public import proofs.«01_k».proof.Proof.Gen.DxRefIdeal.Run
public import Idealize.ShloMosaic.Lib.Pipeline.ValueKit
public import Idealize.ShloMosaic.Lib.Claim
public import Idealize.ShloMosaic.Lib.Pointwise

@[expose] public section

set_option maxRecDepth 16384

noncomputable section

namespace Cert.Proof.Dx

open Cert.DxIdeal Cert.DxIdeal.Gen Idealize.ShloMosaic Idealize.ShloMosaic.TcCoe Idealize.SL.Sem

variable (m : (ℓ : Loc nD τ sig) → Buf (Elt Ideal) ℓ) (ρ : Dev nD → PrngReg)

theorem out0 (c : Dev nD) : W8 m ρ c (Proc.devRef .tc main_v0) = fun i => Products.nt 8192 1024 3072 (m ((c : Thread nD τ).loc main_arg0)) (m ((c : Thread nD τ).loc main_arg1)) i := by
  rw [W8_of m ρ c main_v0 (by decide), W7_of m ρ c main_v0 (by decide), W6_of m ρ c main_v0 (by decide), W5_of m ρ c main_v0 (by decide), W4_of m ρ c main_v0 (by decide), W3_of m ρ c main_v0 (by decide), W2_of m ρ c main_v0 (by decide)]
  refine (W1_arr m ρ c 2).trans ((final0 (V0 m ρ) c).trans ?_)
  exact congrArg₂ (fun a b => fun i => Products.nt 8192 1024 3072 a b i) (W0_args m ρ c main_arg0 (by decide)) (W0_args m ρ c main_arg1 (by decide))

theorem out1 (c : Dev nD) : W8 m ρ c (Proc.devRef .tc main_v1) = upDx (m ((c : Thread nD τ).loc main_arg2)) (m ((c : Thread nD τ).loc main_arg3)) := by
  rw [W8_of m ρ c main_v1 (by decide), W7_of m ρ c main_v1 (by decide), W6_of m ρ c main_v1 (by decide), W5_of m ρ c main_v1 (by decide), W4_of m ρ c main_v1 (by decide), W3_of m ρ c main_v1 (by decide)]
  refine (W2_arr m ρ c 2).trans ((final1 (V1 m ρ) c).trans ?_)
  exact congrArg₂ upDx (W1_args m ρ c main_arg2 (by decide)) (W1_args m ρ c main_arg3 (by decide))

theorem out2 (c : Dev nD) : W8 m ρ c (Proc.devRef .tc main_v2) = fun i => Products.nt 8192 1024 1024 (m ((c : Thread nD τ).loc main_arg4)) (m ((c : Thread nD τ).loc main_arg5)) i := by
  rw [W8_of m ρ c main_v2 (by decide), W7_of m ρ c main_v2 (by decide), W6_of m ρ c main_v2 (by decide), W5_of m ρ c main_v2 (by decide), W4_of m ρ c main_v2 (by decide)]
  refine (W3_arr m ρ c 2).trans ((final2 (V2 m ρ) c).trans ?_)
  exact congrArg₂ (fun a b => fun i => Products.nt 8192 1024 1024 a b i) (W2_args m ρ c main_arg4 (by decide)) (W2_args m ρ c main_arg5 (by decide))

theorem out3 (c : Dev nD) : W8 m ρ c (Proc.devRef .tc main_v3) = fun i => Products.nt 8192 1024 512 (m ((c : Thread nD τ).loc main_arg6)) (m ((c : Thread nD τ).loc main_arg7)) i := by
  rw [W8_of m ρ c main_v3 (by decide), W7_of m ρ c main_v3 (by decide), W6_of m ρ c main_v3 (by decide), W5_of m ρ c main_v3 (by decide)]
  refine (W4_arr m ρ c 2).trans ((final3 (V3 m ρ) c).trans ?_)
  exact congrArg₂ (fun a b => fun i => Products.nt 8192 1024 512 a b i) (W3_args m ρ c main_arg6 (by decide)) (W3_args m ρ c main_arg7 (by decide))

theorem out4 (c : Dev nD) : W8 m ρ c (Proc.devRef .tc main_v4) = fun i => Products.nt 8192 1024 512 (m ((c : Thread nD τ).loc main_arg8)) (m ((c : Thread nD τ).loc main_arg9)) i := by
  rw [W8_of m ρ c main_v4 (by decide), W7_of m ρ c main_v4 (by decide), W6_of m ρ c main_v4 (by decide)]
  refine (W5_arr m ρ c 2).trans ((final4 (V4 m ρ) c).trans ?_)
  exact congrArg₂ (fun a b => fun i => Products.nt 8192 1024 512 a b i) (W4_args m ρ c main_arg8 (by decide)) (W4_args m ρ c main_arg9 (by decide))

theorem out5 (c : Dev nD) : W8 m ρ c (Proc.devRef .tc main_v5) = fun i => Products.nt 8192 1024 1024 (m ((c : Thread nD τ).loc main_arg10)) (m ((c : Thread nD τ).loc main_arg11)) i := by
  rw [W8_of m ρ c main_v5 (by decide), W7_of m ρ c main_v5 (by decide)]
  refine (W6_arr m ρ c 2).trans ((final5 (V5 m ρ) c).trans ?_)
  exact congrArg₂ (fun a b => fun i => Products.nt 8192 1024 1024 a b i) (W5_args m ρ c main_arg10 (by decide)) (W5_args m ρ c main_arg11 (by decide))

theorem out7 (c : Dev nD) : W8 m ρ c (Proc.devRef .tc main_v7) = fun i => Products.nt 8192 6272 1024 (m ((c : Thread nD τ).loc main_arg14)) (m ((c : Thread nD τ).loc main_arg15)) i + Products.nt 8192 1536 1024 (m ((c : Thread nD τ).loc main_arg12)) (m ((c : Thread nD τ).loc main_arg13)) i := by
  refine (W8_arr m ρ c 3).trans ((final7 (V7 m ρ) c).trans ?_)
  have e : V7 m ρ c main_v6 = _ := (W7_arr m ρ c 2).trans ((final6 (V6 m ρ) c).trans
    (congrArg₂ (fun a b => fun i => Products.nt 8192 1536 1024 a b i) (W6_args m ρ c main_arg12 (by decide)) (W6_args m ρ c main_arg13 (by decide))))
  rw [e]
  exact congrArg₂ (fun a b => fun i => Products.nt 8192 6272 1024 a b i + Products.nt 8192 1536 1024 (m ((c : Thread nD τ).loc main_arg12)) (m ((c : Thread nD τ).loc main_arg13)) i) (W7_args m ρ c main_arg14 (by decide)) (W7_args m ρ c main_arg15 (by decide))

/-- Every run ends with the results at what the calls leave and the arguments unchanged. -/
theorem run : θ_run defs (onTc (τ := τ) (main (F := Ideal))) ⟨m, fun _ => 0, ρ⟩ (fun r => ∀ c : Dev nD,
      r.2.mem ((c : Thread nD τ).loc main_v0) = W8 m ρ c (Proc.devRef .tc main_v0)
      ∧ r.2.mem ((c : Thread nD τ).loc main_v1) = W8 m ρ c (Proc.devRef .tc main_v1)
      ∧ r.2.mem ((c : Thread nD τ).loc main_v2) = W8 m ρ c (Proc.devRef .tc main_v2)
      ∧ r.2.mem ((c : Thread nD τ).loc main_v3) = W8 m ρ c (Proc.devRef .tc main_v3)
      ∧ r.2.mem ((c : Thread nD τ).loc main_v4) = W8 m ρ c (Proc.devRef .tc main_v4)
      ∧ r.2.mem ((c : Thread nD τ).loc main_v5) = W8 m ρ c (Proc.devRef .tc main_v5)
      ∧ r.2.mem ((c : Thread nD τ).loc main_v7) = W8 m ρ c (Proc.devRef .tc main_v7)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)) :=
  (θ_run defs _ _).mono (fun r h c => ⟨h c _ (mem_uc main_v0 (by decide)),
      h c _ (mem_uc main_v1 (by decide)),
      h c _ (mem_uc main_v2 (by decide)),
      h c _ (mem_uc main_v3 (by decide)),
      h c _ (mem_uc main_v4 (by decide)),
      h c _ (mem_uc main_v5 (by decide)),
      h c _ (mem_uc main_v7 (by decide)),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c),
      (h c _ (mem_uc main_arg11 (by decide))).trans (W8_main_arg11 m ρ c),
      (h c _ (mem_uc main_arg12 (by decide))).trans (W8_main_arg12 m ρ c),
      (h c _ (mem_uc main_arg13 (by decide))).trans (W8_main_arg13 m ρ c),
      (h c _ (mem_uc main_arg14 (by decide))).trans (W8_main_arg14 m ρ c),
      (h c _ (mem_uc main_arg15 (by decide))).trans (W8_main_arg15 m ρ c)⟩)
    (run_arrays m ρ)

/-- The calls and the reference compute the same arrays over the extended reals. -/
theorem algebraic : Cert.algebraic_DxIdeal_DxRefIdeal := by
  pair_intro
  · run_from run m g
  · run_from Cert.DxRefIdeal.Value.run m' g'
    · exact (out0 m g c).symm ▸ ref_da _ _
    · exact (out1 m g c).symm ▸ ref_du2 _ _
    · exact (out2 m g c).symm ▸ ref_dmerged _ _
    · exact (out3 m g c).symm ▸ ref_dya _ _
    · exact (out4 m g c).symm ▸ ref_do _ _
    · exact (out5 m g c).symm ▸ ref_dyc _ _
    · exact (out7 m g c).symm ▸ ref_du _ _ _ _

/-- The reference ends with its arguments unchanged and its counters at zero. -/
theorem ref_frame : Cert.quiescent_DxRefIdeal := fun m ρ _ =>
  (θ_run Cert.DxRefIdeal.defs _ _).mono
    (fun r h => ⟨fun c => (h c).2.2.2.2.2.2.2, Idealize.ShloMosaic.sem_eq_zero_of_no_sems (by decide) r.2⟩)
    (Cert.DxRefIdeal.Value.run m ρ)

end Cert.Proof.Dx

end
-- ==== Proof.FwdRegions.lean ====
/- The layer's projections in the forward pass, one call each: what each call's result array ends holding. -/
module

public import proofs.«01_k».proof.Defs
public import proofs.«01_k».proof.Proof.Products
public import proofs.«01_k».proof.Proof.Gen.FwdIdeal.Frame
public import Idealize.ShloMosaic.Lib.Pipeline.ValueKit
public import Idealize.ShloMosaic.Lib.Claim
public import Idealize.ShloMosaic.Lib.Pointwise

@[expose] public section

set_option maxRecDepth 16384

noncomputable section

namespace Cert.Proof.Fwd

open Cert.FwdIdeal Cert.FwdIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx0 : ∀ t : Fin cfg0.N,
    win0_0.index t = ![t.val / 2, 0] ∧ win0_1.index t = ![0, t.val % 2] ∧ win0_2.index t = ![t.val / 2, t.val % 2] :=
  (by decide +kernel : ∀ t : Fin grid0.N, _)

/-- The queries, keys and values, kept in half precision. -/
theorem final0 (c : Dev nD) : (dat0 V c).arrAt 2 cfg0.N
    = fun i => Products.nn 8192 1024 1536 (V c main_arg0) (V c main_arg1) i := by
  refine (dat0 V c).arrAt_eq_of_covers 2 _ (by decide +kernel) fun t hf y => ?_
  blk_simp
  rw [after0_2]
  frame_out
  obtain ⟨e0, e1, e2⟩ := idx0 t
  unfold k0_pay1 Products.nn
  pointwise
  blk_point [iblk0, e0, e1, e2]

theorem idx1 : ∀ t : Fin cfg1.N,
    win1_0.index t = ![t.val / 7, 0] ∧ win1_1.index t = ![0, t.val % 7] ∧ win1_2.index t = ![t.val / 7, t.val % 7] :=
  (by decide +kernel : ∀ t : Fin grid1.N, _)

/-- The other columns of the layer's joint projection. -/
theorem final1 (c : Dev nD) : (dat1 V c).arrAt 2 cfg1.N
    = fun i => Products.nn 8192 1024 6272 (V c main_arg0) (V c main_arg2) i := by
  refine (dat1 V c).arrAt_eq_of_covers 2 _ (by decide +kernel) fun t hf y => ?_
  blk_simp
  rw [after1_2]
  frame_out
  obtain ⟨e0, e1, e2⟩ := idx1 t
  unfold k1_pay1 Products.nn
  pointwise
  blk_point [iblk1, e0, e1, e2]

theorem idx2 : ∀ t : Fin cfg2.N,
    win2_0.index t = ![t.val, 0] ∧ win2_1.index t = ![0, 0] ∧ win2_2.index t = ![t.val, 0] :=
  (by decide +kernel : ∀ t : Fin grid2.N, _)

/-- The pooling branch's projection. -/
theorem final2 (c : Dev nD) : (dat2 V c).arrAt 2 cfg2.N
    = fun i => Products.nn 8192 512 1024 (V c main_arg3) (V c main_arg4) i := by
  refine (dat2 V c).arrAt_eq_of_covers 2 _ (by decide +kernel) fun t hf y => ?_
  blk_simp
  rw [after2_2]
  frame_out
  obtain ⟨e0, e1, e2⟩ := idx2 t
  unfold k2_pay1 Products.nn
  pointwise
  blk_point [iblk2, e0, e1, e2]

theorem idx3 : ∀ t : Fin cfg3.N,
    win3_0.index t = ![t.val, 0] ∧ win3_1.index t = ![0, 0] ∧ win3_2.index t = ![t.val, 0] :=
  (by decide +kernel : ∀ t : Fin grid3.N, _)

/-- The attention branch's projection. -/
theorem final3 (c : Dev nD) : (dat3 V c).arrAt 2 cfg3.N
    = fun i => Products.nn 8192 512 1024 (V c main_arg5) (V c main_arg6) i := by
  refine (dat3 V c).arrAt_eq_of_covers 2 _ (by decide +kernel) fun t hf y => ?_
  blk_simp
  rw [after3_2]
  frame_out
  obtain ⟨e0, e1, e2⟩ := idx3 t
  unfold k3_pay1 Products.nn
  pointwise
  blk_point [iblk3, e0, e1, e2]

theorem idx4 : ∀ t : Fin cfg4.N,
    win4_0.index t = ![t.val, 0] ∧ win4_1.index t = ![0, 0] ∧ win4_2.index t = ![t.val, 0] :=
  (by decide +kernel : ∀ t : Fin grid4.N, _)

/-- The state-space branch's projection. -/
theorem final4 (c : Dev nD) : (dat4 V c).arrAt 2 cfg4.N
    = fun i => Products.nn 8192 1024 1024 (V c main_arg7) (V c main_arg8) i := by
  refine (dat4 V c).arrAt_eq_of_covers 2 _ (by decide +kernel) fun t hf y => ?_
  blk_simp
  rw [after4_2]
  frame_out
  obtain ⟨e0, e1, e2⟩ := idx4 t
  unfold k4_pay1 Products.nn
  pointwise
  blk_point [iblk4, e0, e1, e2]

theorem idx5 : ∀ t : Fin cfg5.N,
    win5_0.index t = ![t.val, 0] ∧ win5_1.index t = ![0, 0] ∧ win5_2.index t = ![t.val, 0] ∧ win5_3.index t = ![t.val, 0] :=
  (by decide +kernel : ∀ t : Fin grid5.N, _)

/-- The mixer's output projection on top of the layer's input. -/
theorem final5 (c : Dev nD) : (dat5 V c).arrAt 3 cfg5.N
    = fun i => Products.nn 8192 1024 1024 (V c main_arg9) (V c main_arg10) i + (V c main_arg11 : Vec Ideal S8192x1024 .f32) i := by
  refine (dat5 V c).arrAt_eq_of_covers 3 _ (by decide +kernel) fun t hf y => ?_
  blk_simp
  rw [after5_3]
  frame_out
  obtain ⟨e0, e1, e2, e3⟩ := idx5 t
  unfold k5_pay1 Products.nn
  pointwise
  blk_point [iblk5, e0, e1, e2, e3]

theorem idx7 : ∀ t : Fin cfg7.N,
    win7_0.index t = ![t.val, 0] ∧ win7_1.index t = ![0, 0] ∧ win7_2.index t = ![t.val, 0] ∧ win7_3.index t = ![t.val, 0] :=
  (by decide +kernel : ∀ t : Fin grid7.N, _)

/-- The feed-forward layer's second matrix on top of the residual. -/
theorem final7 (c : Dev nD) : (dat7 V c).arrAt 3 cfg7.N
    = fun i => Products.nn 8192 3072 1024 (V c main_arg14) (V c main_arg15) i + (V c main_v5 : Vec Ideal S8192x1024 .f32) i := by
  refine (dat7 V c).arrAt_eq_of_covers 3 _ (by decide +kernel) fun t hf y => ?_
  blk_simp
  rw [after7_3]
  frame_out
  obtain ⟨e0, e1, e2, e3⟩ := idx7 t
  unfold k7_pay1 Products.nn
  pointwise
  blk_point [iblk7, e0, e1, e2, e3]

/-- The feed-forward layer's first matrix: column `n` is column `n % 768` of the weights' block `n / 768`. -/
def up (x : Vec Ideal S8192x1024 .bf16) (g : Vec Ideal S8x1x1024x768 .bf16) : Vec Ideal S8192x6144 .f32 :=
  fun i => ∑ k : Fin 1024, x (ix2 (i 0) k) * g (ix4 ⟨(i 1).val / 768, by have h : (i 1).val < 6144 := (i 1).isLt; omega⟩ 0 k ⟨(i 1).val % 768, by omega⟩)

theorem idx6 : ∀ t : Fin cfg6.N,
    win6_0.index t = ![t.val / 8, 0] ∧ win6_1.index t = ![t.val % 8, 0, 0, 0] ∧ win6_2.index t = ![t.val / 8, t.val % 8] :=
  (by decide +kernel : ∀ t : Fin grid6.N, _)

theorem final6 (c : Dev nD) : (dat6 V c).arrAt 2 cfg6.N = up (V c main_arg12) (V c main_arg13) := by
  refine (dat6 V c).arrAt_eq_of_covers 2 _ (by decide +kernel) fun t hf y => ?_
  blk_simp
  rw [after6_2]
  frame_out
  obtain ⟨e0, e1, e2⟩ := idx6 t
  unfold k6_pay1 up
  pointwise
  blk_point [iblk6, e0, e1, e2]

end Cert.Proof.Fwd

end
-- ==== Proof.FwdRun.lean ====
/- The run of the 8 calls one after the other: it ends with every array of the program at the contents the calls leave. -/
module

public import proofs.«01_k».proof.Defs
public import proofs.«01_k».proof.Proof.Gen.FwdIdeal.Frame

@[expose] public section

set_option maxRecDepth 16384

noncomputable section

namespace Cert.Proof.Fwd

open Cert.FwdIdeal Cert.FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with each array of the program at what the last call leaves it (`W8`). -/
theorem run_arrays : θ_run defs (onTc (τ := τ) (main (F := F))) ⟨m, fun _ => 0, ρ⟩ (fun r =>
    ∀ c : Dev nD, ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h _ => h)

end Cert.Proof.Fwd

end
-- ==== Proof.FwdRef.lean ====
/- The reference's projections of the forward pass: each is a product over the extended reals. -/
module

public import proofs.«01_k».proof.Defs
public import proofs.«01_k».proof.Proof.Products
public import proofs.«01_k».proof.Proof.FwdRegions
public import proofs.«01_k».proof.Proof.Gen.FwdRefIdeal.Read
public import Idealize.ShloMosaic.Lib.Pipeline.ValueKit
public import Idealize.ShloMosaic.Lib.Claim
public import Idealize.ShloMosaic.Lib.Pointwise

@[expose] public section

set_option maxRecDepth 16384

noncomputable section

namespace Cert.Proof.Fwd

open Cert.FwdRefIdeal Cert.FwdRefIdeal.Gen Idealize.ShloMosaic Idealize.ShloMosaic.TcCoe

theorem ref_qkv (a : Vec Ideal S8192x1024 .bf16) (b : Vec Ideal S1024x1536 .bf16) :
    Read.val_main_v11 (F := Ideal) a b = fun i => Products.nn 8192 1024 1536 a b i := by
  funext i
  rw [← Read.val_main_v11_eq]
  unfold Products.nn
  pointwise

theorem ref_rest (a : Vec Ideal S8192x1024 .bf16) (b : Vec Ideal S1024x6272 .bf16) :
    Read.val_main_v14 (F := Ideal) a b = fun i => Products.nn 8192 1024 6272 a b i := by
  funext i
  rw [← Read.val_main_v14_eq]
  unfold Products.nn
  pointwise

theorem ref_ya (a : Vec Ideal S8192x512 .bf16) (b : Vec Ideal S512x1024 .bf16) :
    Read.val_main_v17 (F := Ideal) a b = fun i => Products.nn 8192 512 1024 a b i := by
  funext i
  rw [← Read.val_main_v17_eq]
  unfold Products.nn
  pointwise

theorem ref_yb (a : Vec Ideal S8192x512 .bf16) (b : Vec Ideal S512x1024 .bf16) :
    Read.val_main_v20 (F := Ideal) a b = fun i => Products.nn 8192 512 1024 a b i := by
  funext i
  rw [← Read.val_main_v20_eq]
  unfold Products.nn
  pointwise

theorem ref_yc (a : Vec Ideal S8192x1024 .bf16) (b : Vec Ideal S1024x1024 .bf16) :
    Read.val_main_v23 (F := Ideal) a b = fun i => Products.nn 8192 1024 1024 a b i := by
  funext i
  rw [← Read.val_main_v23_eq]
  unfold Products.nn
  pointwise

theorem ref_x1 (a : Vec Ideal S8192x1024 .bf16) (b : Vec Ideal S1024x1024 .bf16) (x : Vec Ideal S8192x1024 .f32) :
    Read.val_main_v7 (F := Ideal) a b x = fun i => Products.nn 8192 1024 1024 a b i + x i := by
  funext i
  rw [← Read.val_main_v7_eq]
  unfold Products.nn
  pointwise
  exact add_comm _ _

theorem ref_h0 (u : Vec Ideal S8192x1024 .bf16) (g : Vec Ideal S8x1x1024x768 .bf16) :
    Read.val_main_v25 (F := Ideal) u g = up u g := by
  funext i
  rw [← Read.val_main_v25_eq]
  unfold up
  pointwise

theorem ref_x2 (a : Vec Ideal S8192x1024 .bf16) (b : Vec Ideal S1024x1024 .bf16) (x : Vec Ideal S8192x1024 .f32)
    (a' : Vec Ideal S8192x3072 .bf16) (b' : Vec Ideal S3072x1024 .bf16) :
    Read.val_main_v29 (F := Ideal) a b x a' b'
      = fun i => Products.nn 8192 3072 1024 a' b' i + (Products.nn 8192 1024 1024 a b i + x i) := by
  funext i
  rw [← Read.val_main_v29_eq]
  unfold Products.nn
  pointwise
  rw [add_comm (x i), add_comm]

end Cert.Proof.Fwd

end
-- ==== Proof.Fwd.lean ====
/- The layer's projections in the forward pass: what the eight calls leave, against the reference. -/
module

public import proofs.«01_k».proof.Defs
public import proofs.«01_k».proof.Proof.FwdRegions
public import proofs.«01_k».proof.Proof.FwdRun
public import proofs.«01_k».proof.Proof.FwdRef
public import proofs.«01_k».proof.Proof.Gen.FwdRefIdeal.Run
public import Idealize.ShloMosaic.Lib.Pipeline.ValueKit
public import Idealize.ShloMosaic.Lib.Claim
public import Idealize.ShloMosaic.Lib.Pointwise

@[expose] public section

set_option maxRecDepth 16384

noncomputable section

namespace Cert.Proof.Fwd

open Cert.FwdIdeal Cert.FwdIdeal.Gen Idealize.ShloMosaic Idealize.ShloMosaic.TcCoe Idealize.SL.Sem

variable (m : (ℓ : Loc nD τ sig) → Buf (Elt Ideal) ℓ) (ρ : Dev nD → PrngReg)

theorem out0 (c : Dev nD) : W8 m ρ c (Proc.devRef .tc main_v0) = fun i => Products.nn 8192 1024 1536 (m ((c : Thread nD τ).loc main_arg0)) (m ((c : Thread nD τ).loc main_arg1)) i := by
  rw [W8_of m ρ c main_v0 (by decide), W7_of m ρ c main_v0 (by decide), W6_of m ρ c main_v0 (by decide), W5_of m ρ c main_v0 (by decide), W4_of m ρ c main_v0 (by decide), W3_of m ρ c main_v0 (by decide), W2_of m ρ c main_v0 (by decide)]
  refine (W1_arr m ρ c 2).trans ((final0 (V0 m ρ) c).trans ?_)
  exact congrArg₂ (fun a b => fun i => Products.nn 8192 1024 1536 a b i) (W0_args m ρ c main_arg0 (by decide)) (W0_args m ρ c main_arg1 (by decide))

theorem out1 (c : Dev nD) : W8 m ρ c (Proc.devRef .tc main_v1) = fun i => Products.nn 8192 1024 6272 (m ((c : Thread nD τ).loc main_arg0)) (m ((c : Thread nD τ).loc main_arg2)) i := by
  rw [W8_of m ρ c main_v1 (by decide), W7_of m ρ c main_v1 (by decide), W6_of m ρ c main_v1 (by decide), W5_of m ρ c main_v1 (by decide), W4_of m ρ c main_v1 (by decide), W3_of m ρ c main_v1 (by decide)]
  refine (W2_arr m ρ c 2).trans ((final1 (V1 m ρ) c).trans ?_)
  exact congrArg₂ (fun a b => fun i => Products.nn 8192 1024 6272 a b i) (W1_args m ρ c main_arg0 (by decide)) (W1_args m ρ c main_arg2 (by decide))

theorem out2 (c : Dev nD) : W8 m ρ c (Proc.devRef .tc main_v2) = fun i => Products.nn 8192 512 1024 (m ((c : Thread nD τ).loc main_arg3)) (m ((c : Thread nD τ).loc main_arg4)) i := by
  rw [W8_of m ρ c main_v2 (by decide), W7_of m ρ c main_v2 (by decide), W6_of m ρ c main_v2 (by decide), W5_of m ρ c main_v2 (by decide), W4_of m ρ c main_v2 (by decide)]
  refine (W3_arr m ρ c 2).trans ((final2 (V2 m ρ) c).trans ?_)
  exact congrArg₂ (fun a b => fun i => Products.nn 8192 512 1024 a b i) (W2_args m ρ c main_arg3 (by decide)) (W2_args m ρ c main_arg4 (by decide))

theorem out3 (c : Dev nD) : W8 m ρ c (Proc.devRef .tc main_v3) = fun i => Products.nn 8192 512 1024 (m ((c : Thread nD τ).loc main_arg5)) (m ((c : Thread nD τ).loc main_arg6)) i := by
  rw [W8_of m ρ c main_v3 (by decide), W7_of m ρ c main_v3 (by decide), W6_of m ρ c main_v3 (by decide), W5_of m ρ c main_v3 (by decide)]
  refine (W4_arr m ρ c 2).trans ((final3 (V3 m ρ) c).trans ?_)
  exact congrArg₂ (fun a b => fun i => Products.nn 8192 512 1024 a b i) (W3_args m ρ c main_arg5 (by decide)) (W3_args m ρ c main_arg6 (by decide))

theorem out4 (c : Dev nD) : W8 m ρ c (Proc.devRef .tc main_v4) = fun i => Products.nn 8192 1024 1024 (m ((c : Thread nD τ).loc main_arg7)) (m ((c : Thread nD τ).loc main_arg8)) i := by
  rw [W8_of m ρ c main_v4 (by decide), W7_of m ρ c main_v4 (by decide), W6_of m ρ c main_v4 (by decide)]
  refine (W5_arr m ρ c 2).trans ((final4 (V4 m ρ) c).trans ?_)
  exact congrArg₂ (fun a b => fun i => Products.nn 8192 1024 1024 a b i) (W4_args m ρ c main_arg7 (by decide)) (W4_args m ρ c main_arg8 (by decide))

theorem out5 (c : Dev nD) : W8 m ρ c (Proc.devRef .tc main_v5) = fun i => Products.nn 8192 1024 1024 (m ((c : Thread nD τ).loc main_arg9)) (m ((c : Thread nD τ).loc main_arg10)) i + ((m ((c : Thread nD τ).loc main_arg11)) : Vec Ideal S8192x1024 .f32) i := by
  rw [W8_of m ρ c main_v5 (by decide), W7_of m ρ c main_v5 (by decide)]
  refine (W6_arr m ρ c 3).trans ((final5 (V5 m ρ) c).trans ?_)
  have e : V5 m ρ c main_arg11 = _ := (W5_args m ρ c main_arg11 (by decide))
  rw [e]
  exact (congrArg₂ (fun a b => fun i => Products.nn 8192 1024 1024 a b i + ((m ((c : Thread nD τ).loc main_arg11)) : Vec Ideal S8192x1024 .f32) i) (W5_args m ρ c main_arg9 (by decide)) (W5_args m ρ c main_arg10 (by decide)))

theorem out6 (c : Dev nD) : W8 m ρ c (Proc.devRef .tc main_v6) = up (m ((c : Thread nD τ).loc main_arg12)) (m ((c : Thread nD τ).loc main_arg13)) := by
  rw [W8_of m ρ c main_v6 (by decide)]
  refine (W7_arr m ρ c 2).trans ((final6 (V6 m ρ) c).trans ?_)
  exact congrArg₂ up (W6_args m ρ c main_arg12 (by decide)) (W6_args m ρ c main_arg13 (by decide))

theorem out7 (c : Dev nD) : W8 m ρ c (Proc.devRef .tc main_v7) = fun i => Products.nn 8192 3072 1024 (m ((c : Thread nD τ).loc main_arg14)) (m ((c : Thread nD τ).loc main_arg15)) i + (Products.nn 8192 1024 1024 (m ((c : Thread nD τ).loc main_arg9)) (m ((c : Thread nD τ).loc main_arg10)) i + ((m ((c : Thread nD τ).loc main_arg11)) : Vec Ideal S8192x1024 .f32) i) := by
  refine (W8_arr m ρ c 3).trans ((final7 (V7 m ρ) c).trans ?_)
  have e : V7 m ρ c main_v5 = fun i => Products.nn 8192 1024 1024 (m ((c : Thread nD τ).loc main_arg9)) (m ((c : Thread nD τ).loc main_arg10)) i + ((m ((c : Thread nD τ).loc main_arg11)) : Vec Ideal S8192x1024 .f32) i := by
    rw [← out5 m ρ c, W8_of m ρ c main_v5 (by decide)]
  rw [e]
  exact congrArg₂ (fun a b => fun i => Products.nn 8192 3072 1024 a b i + (Products.nn 8192 1024 1024 (m ((c : Thread nD τ).loc main_arg9)) (m ((c : Thread nD τ).loc main_arg10)) i + ((m ((c : Thread nD τ).loc main_arg11)) : Vec Ideal S8192x1024 .f32) i)) (W7_args m ρ c main_arg14 (by decide)) (W7_args m ρ c main_arg15 (by decide))

/-- Every run ends with the results at what the calls leave and the arguments unchanged. -/
theorem run : θ_run defs (onTc (τ := τ) (main (F := Ideal))) ⟨m, fun _ => 0, ρ⟩ (fun r => ∀ c : Dev nD,
      r.2.mem ((c : Thread nD τ).loc main_v0) = W8 m ρ c (Proc.devRef .tc main_v0)
      ∧ r.2.mem ((c : Thread nD τ).loc main_v1) = W8 m ρ c (Proc.devRef .tc main_v1)
      ∧ r.2.mem ((c : Thread nD τ).loc main_v2) = W8 m ρ c (Proc.devRef .tc main_v2)
      ∧ r.2.mem ((c : Thread nD τ).loc main_v3) = W8 m ρ c (Proc.devRef .tc main_v3)
      ∧ r.2.mem ((c : Thread nD τ).loc main_v4) = W8 m ρ c (Proc.devRef .tc main_v4)
      ∧ r.2.mem ((c : Thread nD τ).loc main_v5) = W8 m ρ c (Proc.devRef .tc main_v5)
      ∧ r.2.mem ((c : Thread nD τ).loc main_v6) = W8 m ρ c (Proc.devRef .tc main_v6)
      ∧ r.2.mem ((c : Thread nD τ).loc main_v7) = W8 m ρ c (Proc.devRef .tc main_v7)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)) :=
  (θ_run defs _ _).mono (fun r h c => ⟨h c _ (mem_uc main_v0 (by decide)),
      h c _ (mem_uc main_v1 (by decide)),
      h c _ (mem_uc main_v2 (by decide)),
      h c _ (mem_uc main_v3 (by decide)),
      h c _ (mem_uc main_v4 (by decide)),
      h c _ (mem_uc main_v5 (by decide)),
      h c _ (mem_uc main_v6 (by decide)),
      h c _ (mem_uc main_v7 (by decide)),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c),
      (h c _ (mem_uc main_arg11 (by decide))).trans (W8_main_arg11 m ρ c),
      (h c _ (mem_uc main_arg12 (by decide))).trans (W8_main_arg12 m ρ c),
      (h c _ (mem_uc main_arg13 (by decide))).trans (W8_main_arg13 m ρ c),
      (h c _ (mem_uc main_arg14 (by decide))).trans (W8_main_arg14 m ρ c),
      (h c _ (mem_uc main_arg15 (by decide))).trans (W8_main_arg15 m ρ c)⟩)
    (run_arrays m ρ)

/-- The calls and the reference compute the same arrays over the extended reals. -/
theorem algebraic : Cert.algebraic_FwdIdeal_FwdRefIdeal := by
  pair_intro
  · run_from run m g
  · run_from Cert.FwdRefIdeal.Value.run m' g'
    · exact (out0 m g c).symm ▸ ref_qkv _ _
    · exact (out1 m g c).symm ▸ ref_rest _ _
    · exact (out2 m g c).symm ▸ ref_ya _ _
    · exact (out3 m g c).symm ▸ ref_yb _ _
    · exact (out4 m g c).symm ▸ ref_yc _ _
    · exact (out5 m g c).symm ▸ ref_x1 _ _ _
    · exact (out6 m g c).symm ▸ ref_h0 _ _
    · exact (out7 m g c).symm ▸ ref_x2 _ _ _ _ _

/-- The reference ends with its arguments unchanged and its counters at zero. -/
theorem ref_frame : Cert.quiescent_FwdRefIdeal := fun m ρ _ =>
  (θ_run Cert.FwdRefIdeal.defs _ _).mono
    (fun r h => ⟨fun c => (h c).2.2.2.2.2.2.2.2, Idealize.ShloMosaic.sem_eq_zero_of_no_sems (by decide) r.2⟩)
    (Cert.FwdRefIdeal.Value.run m ρ)

end Cert.Proof.Fwd

end
-- ==== Proof.Blocks.lean ====
/- A product accumulated over four blocks of rows. The first grid point of a run sets the accumulator to its block's product,
   the two after it add theirs, and the last one writes out the accumulator plus its own: altogether the sum over the four
   blocks (`four_blocks`), and with 2048 rows to a block the sum over all 8192 rows (`four_blocks_rows`). -/
module

public import Idealize.ShloMosaic.Lib.Pipeline.ValueKit
public import Mathlib.Algebra.BigOperators.Fin

@[expose] public section

namespace Cert.Proof.Blocks

open scoped BigOperators

variable {M ι κ : Type*} [AddCommMonoid M] {N : ℕ}

/-- The `s`-th point of the run of four that holds `t`. -/
def runPoint (t : Fin N) (ht : t.val % 4 = 3) (s : Fin 4) : Fin N := ⟨4 * (t.val / 4) + s.val, by omega⟩

theorem runPoint_mod (t : Fin N) (ht : t.val % 4 = 3) (s : Fin 4) : (runPoint t ht s).val % 4 = s.val := by
  have := s.isLt
  simp only [runPoint]
  omega

theorem runPoint_div (t : Fin N) (ht : t.val % 4 = 3) (s : Fin 4) : (runPoint t ht s).val / 4 = t.val / 4 := by
  have := s.isLt
  simp only [runPoint]
  omega

/-- What the last point of a run of four writes, at an index `y`: the sum of the four points' addends. `S` is what the points
    leave in the accumulator, `O` what they leave in the result's block, `e` the place in the accumulator that `y` is read from. -/
theorem four_blocks (S : ∀ n, n < N → ι → M) (O : ∀ n, n < N → κ → M) (e : κ → ι) (P : Fin N → ι → M)
    (hA : ∀ n (h : n < N), n % 4 = 0 → ∀ y, S n h y = P ⟨n, h⟩ y)
    (hB : ∀ n (h : n + 1 < N), 1 ≤ (n + 1) % 4 ∧ (n + 1) % 4 ≤ 2 → ∀ y,
      S (n + 1) h y = S n (Nat.lt_of_succ_lt h) y + P ⟨n + 1, h⟩ y)
    (hC : ∀ n (h : n + 1 < N), (n + 1) % 4 = 3 → ∀ y,
      O (n + 1) h y = S n (Nat.lt_of_succ_lt h) (e y) + P ⟨n + 1, h⟩ (e y))
    (t : Fin N) (ht : t.val % 4 = 3) (y : κ) :
    O t.val t.isLt y = ∑ s : Fin 4, P (runPoint t ht s) (e y) := by
  obtain ⟨n, hn⟩ := t
  obtain ⟨q, rfl⟩ : ∃ q, n = 4 * q + 1 + 1 + 1 := ⟨n / 4, by dsimp only at ht; omega⟩
  have hq : (4 * q + 1 + 1 + 1) / 4 = q := by omega
  show O (4 * q + 1 + 1 + 1) hn y = _
  rw [hC _ _ (by omega), hB _ _ (by omega), hB _ _ (by omega), hA _ _ (by omega), Fin.sum_univ_four]
  simp only [runPoint, hq]
  rfl

/-- The same with each point's addend a sum over the 2048 rows of its block: the sum over all 8192 rows. -/
theorem four_blocks_rows (S : ∀ n, n < N → ι → M) (O : ∀ n, n < N → κ → M) (e : κ → ι) (P : Fin N → ι → Fin 2048 → M)
    (hA : ∀ n (h : n < N), n % 4 = 0 → ∀ y, S n h y = ∑ k, P ⟨n, h⟩ y k)
    (hB : ∀ n (h : n + 1 < N), 1 ≤ (n + 1) % 4 ∧ (n + 1) % 4 ≤ 2 → ∀ y,
      S (n + 1) h y = S n (Nat.lt_of_succ_lt h) y + ∑ k, P ⟨n + 1, h⟩ y k)
    (hC : ∀ n (h : n + 1 < N), (n + 1) % 4 = 3 → ∀ y,
      O (n + 1) h y = S n (Nat.lt_of_succ_lt h) (e y) + ∑ k, P ⟨n + 1, h⟩ (e y) k)
    (t : Fin N) (ht : t.val % 4 = 3) (y : κ) (f : Fin 8192 → M)
    (hf : ∀ (s : Fin 4) (k : Fin 2048) (hl : s.val * 2048 + k.val < 8192),
      P (runPoint t ht s) (e y) k = f ⟨s.val * 2048 + k.val, hl⟩) :
    O t.val t.isLt y = ∑ l : Fin 8192, f l :=
  (four_blocks S O e (fun t y => ∑ k, P t y k) hA hB hC t ht y).trans (Fin.sum_mul_add_congr hf)

end Cert.Proof.Blocks
-- ==== Proof.UpDw.lean ====
/- The gradient of the feed-forward layer's first matrix, kept in 8 column blocks of which the first 704 columns are returned:
   the kernel accumulates `uᵀ·dh` over four blocks of rows for each column block; the reference is the derivative of `u @ w`
   with respect to `w`, cut into the same blocks. Both are `∑ l, u l i * dh (j / 4) l (768 * (j % 4) + o)` at `(j, i, o)`. -/
module

public import proofs.«01_k».proof.Defs
public import proofs.«01_k».proof.Proof.Blocks
public import proofs.«01_k».proof.Proof.Gen.UpDwIdeal.Value
public import proofs.«01_k».proof.Proof.Gen.UpDwRefIdeal.Read
public import Idealize.ShloMosaic.Lib.Pipeline.ValueKit
public import Idealize.ShloMosaic.Lib.Claim
public import Idealize.ShloMosaic.Lib.Pointwise

@[expose] public section

set_option maxRecDepth 16384

noncomputable section

namespace Cert.Proof.UpDw

open Cert.UpDwIdeal Cert.UpDwIdeal.Gen Cert.UpDwIdeal.Value Idealize.ShloMosaic Idealize.ShloMosaic.TcCoe Idealize.SL.Sem
open Idealize.ShloMosaic.Pipeline (Dat)

variable (m : (ℓ : Loc nD τ sig) → Buf (Elt Ideal) ℓ)

/-- Every window's block index at a grid point: point `t` reads row block `t % 4` and works on column block `t / 4`. -/
theorem idx : ∀ t : Fin cfg0.N,
    win0_0.index t = ![t.val % 4, 0] ∧ win0_1.index t = ![t.val / 4 / 4, t.val % 4, t.val / 4 % 4] ∧ win0_2.index t = ![t.val / 4, 0, 0] :=
  (by decide +kernel : ∀ t : Fin grid0.N, _)

/-- One row's addend of the product of two blocks, at `y`. -/
def rowTerm (a : Vec Ideal S2048x1024 .bf16) (b : Vec Ideal S1x2048x768 .bf16) (y : S1024x768.Idx) (k : Fin 2048) : Elt Ideal .f32 :=
  a (ix2 k (y 0)) * b (ix3 0 k (y 1))

/-- A point's addend of the accumulator at `y`. -/
abbrev part (c : Dev nD) (t : Fin cfg0.N) (y : S1024x768.Idx) (k : Fin 2048) : Elt Ideal .f32 :=
  rowTerm (iblk m c 0 t) (iblk m c 1 t) y k

theorem acc_first (c : Dev nD) (n : ℕ) (h : n < cfg0.N) (h0 : n % 4 = 0) (y : S1024x768.Idx) :
    (outsAt0 m c n h).2 y = ∑ k, part m c ⟨n, h⟩ y k := by
  have e : outsAt0 m c n h = stAt0 m c n h (match n, h with | 0, _ => junk0 | n + 1, h => outsAt0 m c n (Nat.lt_of_succ_lt h)) := by
    cases n with
    | zero => exact outsAt0_zero m c h
    | succ n => rfl
  rw [e, stAt0_A m c ⟨n, h⟩ _ h0 (by dsimp only; omega) (by dsimp only; omega)]
  frame_out
  unfold k0_pay2 k0_pay1 part rowTerm
  pointwise

theorem acc_next (c : Dev nD) (n : ℕ) (h : n + 1 < cfg0.N) (h1 : 1 ≤ (n + 1) % 4 ∧ (n + 1) % 4 ≤ 2) (y : S1024x768.Idx) :
    (outsAt0 m c (n + 1) h).2 y = (outsAt0 m c n (Nat.lt_of_succ_lt h)).2 y + ∑ k, part m c ⟨n + 1, h⟩ y k := by
  rw [outsAt0_succ, stAt0_B m c ⟨n + 1, h⟩ _ (by dsimp only; omega) h1 (by dsimp only; omega)]
  generalize outsAt0 m c n _ = p
  frame_out
  unfold k0_pay3 k0_pay1 part rowTerm
  pointwise
  rw [(Memref.isWhole_whole _).read_unread]

/-- The place in the accumulator that an entry of the result's block is read from. -/
def place (y : S1x1024x704.Idx) : S1024x768.Idx := ix2 (y 1) ⟨(y 2).val, by have h : (y 2).val < 704 := (y 2).isLt; omega⟩

theorem out_last (c : Dev nD) (n : ℕ) (h : n + 1 < cfg0.N) (h3 : (n + 1) % 4 = 3) (y : S1x1024x704.Idx) :
    (outsAt0 m c (n + 1) h).1 y = (outsAt0 m c n (Nat.lt_of_succ_lt h)).2 (place y) + ∑ k, part m c ⟨n + 1, h⟩ (place y) k := by
  rw [outsAt0_succ, stAt0_C m c ⟨n + 1, h⟩ _ (by dsimp only; omega) (by dsimp only; omega) h3]
  generalize outsAt0 m c n _ = p
  frame_out
  unfold k0_pay4 k0_pay1 part rowTerm place
  pointwise
  rw [(Memref.isWhole_whole _).read_unread]

/-- The gradient of the weights at `(j, i, o)`: column `o` of column block `j`. -/
def dw (u : Vec Ideal S8192x1024 .bf16) (dh : Vec Ideal S2x8192x3072 .bf16) : Vec Ideal S8x1024x704 .bf16 :=
  fun i => ∑ l : Fin 8192, u (ix2 l (i 1)) * dh (ix3 ⟨(i 0).val / 4, by have h : (i 0).val < 8 := (i 0).isLt; omega⟩ l
    ⟨(i 0).val % 4 * 768 + (i 2).val, by have h : (i 2).val < 704 := (i 2).isLt; omega⟩)

theorem final (c : Dev nD) : (dats m 0 c).arrAt 2 cfg0.N
    = dw (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2]
  refine Blocks.four_blocks_rows (fun n h => (outsAt0 m c n h).2) (fun n h => (outsAt0 m c n h).1) place (part m c)
    (acc_first m c) (acc_next m c) (out_last m c) t h3 _ _ fun s k hl => ?_
  obtain ⟨e0, e1, _⟩ := idx (Blocks.runPoint t h3 s)
  obtain ⟨_, _, e2⟩ := idx t
  rw [Blocks.runPoint_mod] at e0 e1
  rw [Blocks.runPoint_div] at e1
  unfold part rowTerm place
  congr 1
  · blk_ext [iblk, V, e0, e2]
  · blk_ext [iblk, V, e1, e2]

/-- The reference's gradient. -/
theorem ref (u : Vec Ideal S8192x1024 .bf16) (dh : Vec Ideal S2x8192x3072 .bf16) :
    Cert.UpDwRefIdeal.Read.val_main_v11 (F := Ideal) u dh = dw u dh := by
  funext i
  rw [← Cert.UpDwRefIdeal.Read.val_main_v11_eq]
  unfold dw
  pointwise
  have h2 : (i 2).val < 704 := (i 2).isLt
  refine Finset.sum_congr rfl fun k _ => (mul_comm _ _).trans ?_
  congr 3 <;> exact Fin.ext (by dsimp only; omega)

/-- The kernel and the reference compute the same gradient over the extended reals. -/
theorem algebraic : Cert.algebraic_UpDwIdeal_UpDwRefIdeal := by
  pair_intro
  · run_from Cert.UpDwIdeal.Value.run_blocks m g
  · run_from Cert.UpDwRefIdeal.Value.run m' g'
    exact (final m c).symm ▸ ref _ _

/-- The reference ends with its arguments unchanged and its counters at zero. -/
theorem ref_frame : Cert.quiescent_UpDwRefIdeal := fun m ρ _ =>
  (θ_run Cert.UpDwRefIdeal.defs _ _).mono
    (fun r h => ⟨fun c => (h c).2, Idealize.ShloMosaic.sem_eq_zero_of_no_sems (by decide) r.2⟩)
    (Cert.UpDwRefIdeal.Value.run m ρ)

end Cert.Proof.UpDw

end
-- ==== Proof.DownDw.lean ====
/- The gradient of the feed-forward layer's second matrix `w_down`: the kernel accumulates `xᵀ·ct` over four blocks of rows; the reference is the
   derivative of `x @ w` with respect to `w`. Both are `∑ l, x l i * ct l j` at `(i, j)`. -/
module

public import proofs.«01_k».proof.Defs
public import proofs.«01_k».proof.Proof.Blocks
public import proofs.«01_k».proof.Proof.Gen.DownDwIdeal.Value
public import proofs.«01_k».proof.Proof.Gen.DownDwRefIdeal.Read
public import Idealize.ShloMosaic.Lib.Pipeline.ValueKit
public import Idealize.ShloMosaic.Lib.Claim
public import Idealize.ShloMosaic.Lib.Pointwise

@[expose] public section

set_option maxRecDepth 16384

noncomputable section

namespace Cert.Proof.DownDw

open Cert.DownDwIdeal Cert.DownDwIdeal.Gen Cert.DownDwIdeal.Value Idealize.ShloMosaic Idealize.ShloMosaic.TcCoe Idealize.SL.Sem
open Idealize.ShloMosaic.Pipeline (Dat)

variable (m : (ℓ : Loc nD τ sig) → Buf (Elt Ideal) ℓ)

/-- Every window's block index at a grid point: point `t` reads row block `t % 4` and writes row block `t / 4` of the result. -/
theorem idx : ∀ t : Fin cfg0.N,
    win0_0.index t = ![t.val % 4, t.val / 4] ∧ win0_1.index t = ![t.val % 4, 0] ∧ win0_2.index t = ![t.val / 4, 0] :=
  (by decide +kernel : ∀ t : Fin grid0.N, _)

/-- One row's addend of the product of two blocks, at `y`. -/
def rowTerm (a : Vec Ideal S2048x1536 .bf16) (b : Vec Ideal S2048x1024 .bf16) (y : S1536x1024.Idx) (k : Fin 2048) : Elt Ideal .f32 :=
  a (ix2 k (y 0)) * b (ix2 k (y 1))

/-- A point's addend of the accumulator at `y`. -/
abbrev part (c : Dev nD) (t : Fin cfg0.N) (y : S1536x1024.Idx) (k : Fin 2048) : Elt Ideal .f32 :=
  rowTerm (iblk m c 0 t) (iblk m c 1 t) y k

theorem acc_first (c : Dev nD) (n : ℕ) (h : n < cfg0.N) (h0 : n % 4 = 0) (y : S1536x1024.Idx) :
    (outsAt0 m c n h).2 y = ∑ k, part m c ⟨n, h⟩ y k := by
  have e : outsAt0 m c n h = stAt0 m c n h (match n, h with | 0, _ => junk0 | n + 1, h => outsAt0 m c n (Nat.lt_of_succ_lt h)) := by
    cases n with
    | zero => exact outsAt0_zero m c h
    | succ n => rfl
  rw [e, stAt0_A m c ⟨n, h⟩ _ h0 (by dsimp only; omega) (by dsimp only; omega)]
  frame_out
  unfold k0_pay2 k0_pay1 part rowTerm
  pointwise

theorem acc_next (c : Dev nD) (n : ℕ) (h : n + 1 < cfg0.N) (h1 : 1 ≤ (n + 1) % 4 ∧ (n + 1) % 4 ≤ 2) (y : S1536x1024.Idx) :
    (outsAt0 m c (n + 1) h).2 y = (outsAt0 m c n (Nat.lt_of_succ_lt h)).2 y + ∑ k, part m c ⟨n + 1, h⟩ y k := by
  rw [outsAt0_succ, stAt0_B m c ⟨n + 1, h⟩ _ (by dsimp only; omega) h1 (by dsimp only; omega)]
  generalize outsAt0 m c n _ = p
  frame_out
  unfold k0_pay3 k0_pay1 part rowTerm
  pointwise
  rw [(Memref.isWhole_whole _).read_unread]

theorem out_last (c : Dev nD) (n : ℕ) (h : n + 1 < cfg0.N) (h3 : (n + 1) % 4 = 3) (y : S1536x1024.Idx) :
    (outsAt0 m c (n + 1) h).1 y = (outsAt0 m c n (Nat.lt_of_succ_lt h)).2 y + ∑ k, part m c ⟨n + 1, h⟩ y k := by
  rw [outsAt0_succ, stAt0_C m c ⟨n + 1, h⟩ _ (by dsimp only; omega) (by dsimp only; omega) h3]
  generalize outsAt0 m c n _ = p
  frame_out
  unfold k0_pay4 k0_pay1 part rowTerm
  pointwise
  rw [(Memref.isWhole_whole _).read_unread]

/-- The gradient of the weights at `(i, j)`. -/
def dw (x : Vec Ideal S8192x3072 .bf16) (ct : Vec Ideal S8192x1024 .bf16) : Vec Ideal S3072x1024 .bf16 :=
  fun i => ∑ l : Fin 8192, x (ix2 l (i 0)) * ct (ix2 l (i 1))

theorem final (c : Dev nD) : (dats m 0 c).arrAt 2 cfg0.N
    = dw (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2]
  refine Blocks.four_blocks_rows (fun n h => (outsAt0 m c n h).2) (fun n h => (outsAt0 m c n h).1) id (part m c)
    (acc_first m c) (acc_next m c) (out_last m c) t h3 _ _ fun s k hl => ?_
  obtain ⟨e0, e1, _⟩ := idx (Blocks.runPoint t h3 s)
  obtain ⟨_, _, e2⟩ := idx t
  rw [Blocks.runPoint_mod] at e0 e1
  rw [Blocks.runPoint_div] at e0
  unfold part rowTerm
  congr 1
  · blk_ext [iblk, V, e0, e2, id_eq]
  · blk_ext [iblk, V, e1, e2, id_eq]

/-- The reference's gradient. -/
theorem ref (x : Vec Ideal S8192x3072 .bf16) (ct : Vec Ideal S8192x1024 .bf16) :
    Cert.DownDwRefIdeal.Read.val_main_v6 (F := Ideal) x ct = dw x ct := by
  funext i
  rw [← Cert.DownDwRefIdeal.Read.val_main_v6_eq]
  unfold dw
  pointwise
  exact Finset.sum_congr rfl fun k _ => mul_comm _ _

/-- The kernel and the reference compute the same gradient over the extended reals. -/
theorem algebraic : Cert.algebraic_DownDwIdeal_DownDwRefIdeal := by
  pair_intro
  · run_from Cert.DownDwIdeal.Value.run_blocks m g
  · run_from Cert.DownDwRefIdeal.Value.run m' g'
    exact (final m c).symm ▸ ref _ _

/-- The reference ends with its arguments unchanged and its counters at zero. -/
theorem ref_frame : Cert.quiescent_DownDwRefIdeal := fun m ρ _ =>
  (θ_run Cert.DownDwRefIdeal.defs _ _).mono
    (fun r h => ⟨fun c => (h c).2, Idealize.ShloMosaic.sem_eq_zero_of_no_sems (by decide) r.2⟩)
    (Cert.DownDwRefIdeal.Value.run m ρ)

end Cert.Proof.DownDw

end
-- ==== Proof.OutDw.lean ====
/- The gradient of the projections `w_out` and `p_ssd`, two calls of one kernel: the kernel accumulates `xᵀ·ct` over four blocks of rows; the reference is the
   derivative of `x @ w` with respect to `w`. Both are `∑ l, x l i * ct l j` at `(i, j)`. -/
module

public import proofs.«01_k».proof.Defs
public import proofs.«01_k».proof.Proof.Blocks
public import proofs.«01_k».proof.Proof.Gen.OutDwIdeal.Value
public import proofs.«01_k».proof.Proof.Gen.OutDwRefIdeal.Read
public import Idealize.ShloMosaic.Lib.Pipeline.ValueKit
public import Idealize.ShloMosaic.Lib.Claim
public import Idealize.ShloMosaic.Lib.Pointwise

@[expose] public section

set_option maxRecDepth 16384

noncomputable section

namespace Cert.Proof.OutDw

open Cert.OutDwIdeal Cert.OutDwIdeal.Gen Cert.OutDwIdeal.Value Idealize.ShloMosaic Idealize.ShloMosaic.TcCoe Idealize.SL.Sem
open Idealize.ShloMosaic.Pipeline (Dat)

variable (m : (ℓ : Loc nD τ sig) → Buf (Elt Ideal) ℓ)

/-- Every window's block index at a grid point: point `t` reads row block `t % 4` and column block `t / 4`. -/
theorem idx : ∀ t : Fin cfg0.N,
    win0_0.index t = ![t.val % 4, 0] ∧ win0_1.index t = ![t.val % 4, t.val / 4] ∧ win0_2.index t = ![0, t.val / 4] :=
  (by decide +kernel : ∀ t : Fin grid0.N, _)

/-- One row's addend of the product of two blocks, at `y`. -/
def rowTerm (a : Vec Ideal S2048x1024 .bf16) (b : Vec Ideal S2048x1024 .bf16) (y : S1024x1024.Idx) (k : Fin 2048) : Elt Ideal .f32 :=
  a (ix2 k (y 0)) * b (ix2 k (y 1))

/-- A point's addend of the accumulator at `y`. -/
abbrev part (c : Dev nD) (t : Fin cfg0.N) (y : S1024x1024.Idx) (k : Fin 2048) : Elt Ideal .f32 :=
  rowTerm (iblk m c 0 t) (iblk m c 1 t) y k

theorem acc_first (c : Dev nD) (n : ℕ) (h : n < cfg0.N) (h0 : n % 4 = 0) (y : S1024x1024.Idx) :
    (outsAt0 m c n h).2 y = ∑ k, part m c ⟨n, h⟩ y k := by
  have e : outsAt0 m c n h = stAt0 m c n h (match n, h with | 0, _ => junk0 | n + 1, h => outsAt0 m c n (Nat.lt_of_succ_lt h)) := by
    cases n with
    | zero => exact outsAt0_zero m c h
    | succ n => rfl
  rw [e, stAt0_A m c ⟨n, h⟩ _ h0 (by dsimp only; omega) (by dsimp only; omega)]
  frame_out
  unfold k0_pay2 k0_pay1 part rowTerm
  pointwise

theorem acc_next (c : Dev nD) (n : ℕ) (h : n + 1 < cfg0.N) (h1 : 1 ≤ (n + 1) % 4 ∧ (n + 1) % 4 ≤ 2) (y : S1024x1024.Idx) :
    (outsAt0 m c (n + 1) h).2 y = (outsAt0 m c n (Nat.lt_of_succ_lt h)).2 y + ∑ k, part m c ⟨n + 1, h⟩ y k := by
  rw [outsAt0_succ, stAt0_B m c ⟨n + 1, h⟩ _ (by dsimp only; omega) h1 (by dsimp only; omega)]
  generalize outsAt0 m c n _ = p
  frame_out
  unfold k0_pay3 k0_pay1 part rowTerm
  pointwise
  rw [(Memref.isWhole_whole _).read_unread]

theorem out_last (c : Dev nD) (n : ℕ) (h : n + 1 < cfg0.N) (h3 : (n + 1) % 4 = 3) (y : S1024x1024.Idx) :
    (outsAt0 m c (n + 1) h).1 y = (outsAt0 m c n (Nat.lt_of_succ_lt h)).2 y + ∑ k, part m c ⟨n + 1, h⟩ y k := by
  rw [outsAt0_succ, stAt0_C m c ⟨n + 1, h⟩ _ (by dsimp only; omega) (by dsimp only; omega) h3]
  generalize outsAt0 m c n _ = p
  frame_out
  unfold k0_pay4 k0_pay1 part rowTerm
  pointwise
  rw [(Memref.isWhole_whole _).read_unread]

/-- The gradient of the weights at `(i, j)`. -/
def dw (x : Vec Ideal S8192x1024 .bf16) (ct : Vec Ideal S8192x1024 .bf16) : Vec Ideal S1024x1024 .bf16 :=
  fun i => ∑ l : Fin 8192, x (ix2 l (i 0)) * ct (ix2 l (i 1))

theorem final (c : Dev nD) : (dats m 0 c).arrAt 2 cfg0.N
    = dw (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2]
  refine Blocks.four_blocks_rows (fun n h => (outsAt0 m c n h).2) (fun n h => (outsAt0 m c n h).1) id (part m c)
    (acc_first m c) (acc_next m c) (out_last m c) t h3 _ _ fun s k hl => ?_
  obtain ⟨e0, e1, _⟩ := idx (Blocks.runPoint t h3 s)
  obtain ⟨_, _, e2⟩ := idx t
  rw [Blocks.runPoint_mod] at e0 e1
  rw [Blocks.runPoint_div] at e1
  unfold part rowTerm
  congr 1
  · blk_ext [iblk, V, e0, e2, id_eq]
  · blk_ext [iblk, V, e1, e2, id_eq]

/-- The reference's gradient. -/
theorem ref (x : Vec Ideal S8192x1024 .bf16) (ct : Vec Ideal S8192x1024 .bf16) :
    Cert.OutDwRefIdeal.Read.val_main_v6 (F := Ideal) x ct = dw x ct := by
  funext i
  rw [← Cert.OutDwRefIdeal.Read.val_main_v6_eq]
  unfold dw
  pointwise
  exact Finset.sum_congr rfl fun k _ => mul_comm _ _

/-- The kernel and the reference compute the same gradient over the extended reals. -/
theorem algebraic : Cert.algebraic_OutDwIdeal_OutDwRefIdeal := by
  pair_intro
  · run_from Cert.OutDwIdeal.Value.run_blocks m g
  · run_from Cert.OutDwRefIdeal.Value.run m' g'
    exact (final m c).symm ▸ ref _ _

/-- The reference ends with its arguments unchanged and its counters at zero. -/
theorem ref_frame : Cert.quiescent_OutDwRefIdeal := fun m ρ _ =>
  (θ_run Cert.OutDwRefIdeal.defs _ _).mono
    (fun r h => ⟨fun c => (h c).2, Idealize.ShloMosaic.sem_eq_zero_of_no_sems (by decide) r.2⟩)
    (Cert.OutDwRefIdeal.Value.run m ρ)

end Cert.Proof.OutDw

end
-- ==== Proof.PoolDw.lean ====
/- The gradient of the projections `p_pool` and `p_attn`, two calls of one kernel: the kernel accumulates `xᵀ·ct` over four blocks of rows; the reference is the
   derivative of `x @ w` with respect to `w`. Both are `∑ l, x l i * ct l j` at `(i, j)`. -/
module

public import proofs.«01_k».proof.Defs
public import proofs.«01_k».proof.Proof.Blocks
public import proofs.«01_k».proof.Proof.Gen.PoolDwIdeal.Value
public import proofs.«01_k».proof.Proof.Gen.PoolDwRefIdeal.Read
public import Idealize.ShloMosaic.Lib.Pipeline.ValueKit
public import Idealize.ShloMosaic.Lib.Claim
public import Idealize.ShloMosaic.Lib.Pointwise

@[expose] public section

set_option maxRecDepth 16384

noncomputable section

namespace Cert.Proof.PoolDw

open Cert.PoolDwIdeal Cert.PoolDwIdeal.Gen Cert.PoolDwIdeal.Value Idealize.ShloMosaic Idealize.ShloMosaic.TcCoe Idealize.SL.Sem
open Idealize.ShloMosaic.Pipeline (Dat)

variable (m : (ℓ : Loc nD τ sig) → Buf (Elt Ideal) ℓ)

/-- Every window's block index at a grid point: point `t` reads row block `t % 4` and column block `t / 4`. -/
theorem idx : ∀ t : Fin cfg0.N,
    win0_0.index t = ![t.val % 4, 0] ∧ win0_1.index t = ![t.val % 4, t.val / 4] ∧ win0_2.index t = ![0, t.val / 4] :=
  (by decide +kernel : ∀ t : Fin grid0.N, _)

/-- One row's addend of the product of two blocks, at `y`. -/
def rowTerm (a : Vec Ideal S2048x512 .bf16) (b : Vec Ideal S2048x1024 .bf16) (y : S512x1024.Idx) (k : Fin 2048) : Elt Ideal .f32 :=
  a (ix2 k (y 0)) * b (ix2 k (y 1))

/-- A point's addend of the accumulator at `y`. -/
abbrev part (c : Dev nD) (t : Fin cfg0.N) (y : S512x1024.Idx) (k : Fin 2048) : Elt Ideal .f32 :=
  rowTerm (iblk m c 0 t) (iblk m c 1 t) y k

theorem acc_first (c : Dev nD) (n : ℕ) (h : n < cfg0.N) (h0 : n % 4 = 0) (y : S512x1024.Idx) :
    (outsAt0 m c n h).2 y = ∑ k, part m c ⟨n, h⟩ y k := by
  have e : outsAt0 m c n h = stAt0 m c n h (match n, h with | 0, _ => junk0 | n + 1, h => outsAt0 m c n (Nat.lt_of_succ_lt h)) := by
    cases n with
    | zero => exact outsAt0_zero m c h
    | succ n => rfl
  rw [e, stAt0_A m c ⟨n, h⟩ _ h0 (by dsimp only; omega) (by dsimp only; omega)]
  frame_out
  unfold k0_pay2 k0_pay1 part rowTerm
  pointwise

theorem acc_next (c : Dev nD) (n : ℕ) (h : n + 1 < cfg0.N) (h1 : 1 ≤ (n + 1) % 4 ∧ (n + 1) % 4 ≤ 2) (y : S512x1024.Idx) :
    (outsAt0 m c (n + 1) h).2 y = (outsAt0 m c n (Nat.lt_of_succ_lt h)).2 y + ∑ k, part m c ⟨n + 1, h⟩ y k := by
  rw [outsAt0_succ, stAt0_B m c ⟨n + 1, h⟩ _ (by dsimp only; omega) h1 (by dsimp only; omega)]
  generalize outsAt0 m c n _ = p
  frame_out
  unfold k0_pay3 k0_pay1 part rowTerm
  pointwise
  rw [(Memref.isWhole_whole _).read_unread]

theorem out_last (c : Dev nD) (n : ℕ) (h : n + 1 < cfg0.N) (h3 : (n + 1) % 4 = 3) (y : S512x1024.Idx) :
    (outsAt0 m c (n + 1) h).1 y = (outsAt0 m c n (Nat.lt_of_succ_lt h)).2 y + ∑ k, part m c ⟨n + 1, h⟩ y k := by
  rw [outsAt0_succ, stAt0_C m c ⟨n + 1, h⟩ _ (by dsimp only; omega) (by dsimp only; omega) h3]
  generalize outsAt0 m c n _ = p
  frame_out
  unfold k0_pay4 k0_pay1 part rowTerm
  pointwise
  rw [(Memref.isWhole_whole _).read_unread]

/-- The gradient of the weights at `(i, j)`. -/
def dw (x : Vec Ideal S8192x512 .bf16) (ct : Vec Ideal S8192x1024 .bf16) : Vec Ideal S512x1024 .bf16 :=
  fun i => ∑ l : Fin 8192, x (ix2 l (i 0)) * ct (ix2 l (i 1))

theorem final (c : Dev nD) : (dats m 0 c).arrAt 2 cfg0.N
    = dw (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2]
  refine Blocks.four_blocks_rows (fun n h => (outsAt0 m c n h).2) (fun n h => (outsAt0 m c n h).1) id (part m c)
    (acc_first m c) (acc_next m c) (out_last m c) t h3 _ _ fun s k hl => ?_
  obtain ⟨e0, e1, _⟩ := idx (Blocks.runPoint t h3 s)
  obtain ⟨_, _, e2⟩ := idx t
  rw [Blocks.runPoint_mod] at e0 e1
  rw [Blocks.runPoint_div] at e1
  unfold part rowTerm
  congr 1
  · blk_ext [iblk, V, e0, e2, id_eq]
  · blk_ext [iblk, V, e1, e2, id_eq]

/-- The reference's gradient. -/
theorem ref (x : Vec Ideal S8192x512 .bf16) (ct : Vec Ideal S8192x1024 .bf16) :
    Cert.PoolDwRefIdeal.Read.val_main_v6 (F := Ideal) x ct = dw x ct := by
  funext i
  rw [← Cert.PoolDwRefIdeal.Read.val_main_v6_eq]
  unfold dw
  pointwise
  exact Finset.sum_congr rfl fun k _ => mul_comm _ _

/-- The kernel and the reference compute the same gradient over the extended reals. -/
theorem algebraic : Cert.algebraic_PoolDwIdeal_PoolDwRefIdeal := by
  pair_intro
  · run_from Cert.PoolDwIdeal.Value.run_blocks m g
  · run_from Cert.PoolDwRefIdeal.Value.run m' g'
    exact (final m c).symm ▸ ref _ _

/-- The reference ends with its arguments unchanged and its counters at zero. -/
theorem ref_frame : Cert.quiescent_PoolDwRefIdeal := fun m ρ _ =>
  (θ_run Cert.PoolDwRefIdeal.defs _ _).mono
    (fun r h => ⟨fun c => (h c).2, Idealize.ShloMosaic.sem_eq_zero_of_no_sems (by decide) r.2⟩)
    (Cert.PoolDwRefIdeal.Value.run m ρ)

end Cert.Proof.PoolDw

end
-- ==== Proof.QkvDw.lean ====
/- The gradient of the projection `w_qkv`: the kernel accumulates `xᵀ·ct` over four blocks of rows; the reference is the
   derivative of `x @ w` with respect to `w`. Both are `∑ l, x l i * ct l j` at `(i, j)`. -/
module

public import proofs.«01_k».proof.Defs
public import proofs.«01_k».proof.Proof.Blocks
public import proofs.«01_k».proof.Proof.Gen.QkvDwIdeal.Value
public import proofs.«01_k».proof.Proof.Gen.QkvDwRefIdeal.Read
public import Idealize.ShloMosaic.Lib.Pipeline.ValueKit
public import Idealize.ShloMosaic.Lib.Claim
public import Idealize.ShloMosaic.Lib.Pointwise

@[expose] public section

set_option maxRecDepth 16384

noncomputable section

namespace Cert.Proof.QkvDw

open Cert.QkvDwIdeal Cert.QkvDwIdeal.Gen Cert.QkvDwIdeal.Value Idealize.ShloMosaic Idealize.ShloMosaic.TcCoe Idealize.SL.Sem
open Idealize.ShloMosaic.Pipeline (Dat)

variable (m : (ℓ : Loc nD τ sig) → Buf (Elt Ideal) ℓ)

/-- Every window's block index at a grid point: point `t` reads row block `t % 4` and column block `t / 4`. -/
theorem idx : ∀ t : Fin cfg0.N,
    win0_0.index t = ![t.val % 4, 0] ∧ win0_1.index t = ![t.val % 4, t.val / 4] ∧ win0_2.index t = ![0, t.val / 4] :=
  (by decide +kernel : ∀ t : Fin grid0.N, _)

/-- One row's addend of the product of two blocks, at `y`. -/
def rowTerm (a : Vec Ideal S2048x1024 .bf16) (b : Vec Ideal S2048x768 .bf16) (y : S1024x768.Idx) (k : Fin 2048) : Elt Ideal .f32 :=
  a (ix2 k (y 0)) * b (ix2 k (y 1))

/-- A point's addend of the accumulator at `y`. -/
abbrev part (c : Dev nD) (t : Fin cfg0.N) (y : S1024x768.Idx) (k : Fin 2048) : Elt Ideal .f32 :=
  rowTerm (iblk m c 0 t) (iblk m c 1 t) y k

theorem acc_first (c : Dev nD) (n : ℕ) (h : n < cfg0.N) (h0 : n % 4 = 0) (y : S1024x768.Idx) :
    (outsAt0 m c n h).2 y = ∑ k, part m c ⟨n, h⟩ y k := by
  have e : outsAt0 m c n h = stAt0 m c n h (match n, h with | 0, _ => junk0 | n + 1, h => outsAt0 m c n (Nat.lt_of_succ_lt h)) := by
    cases n with
    | zero => exact outsAt0_zero m c h
    | succ n => rfl
  rw [e, stAt0_A m c ⟨n, h⟩ _ h0 (by dsimp only; omega) (by dsimp only; omega)]
  frame_out
  unfold k0_pay2 k0_pay1 part rowTerm
  pointwise

theorem acc_next (c : Dev nD) (n : ℕ) (h : n + 1 < cfg0.N) (h1 : 1 ≤ (n + 1) % 4 ∧ (n + 1) % 4 ≤ 2) (y : S1024x768.Idx) :
    (outsAt0 m c (n + 1) h).2 y = (outsAt0 m c n (Nat.lt_of_succ_lt h)).2 y + ∑ k, part m c ⟨n + 1, h⟩ y k := by
  rw [outsAt0_succ, stAt0_B m c ⟨n + 1, h⟩ _ (by dsimp only; omega) h1 (by dsimp only; omega)]
  generalize outsAt0 m c n _ = p
  frame_out
  unfold k0_pay3 k0_pay1 part rowTerm
  pointwise
  rw [(Memref.isWhole_whole _).read_unread]

theorem out_last (c : Dev nD) (n : ℕ) (h : n + 1 < cfg0.N) (h3 : (n + 1) % 4 = 3) (y : S1024x768.Idx) :
    (outsAt0 m c (n + 1) h).1 y = (outsAt0 m c n (Nat.lt_of_succ_lt h)).2 y + ∑ k, part m c ⟨n + 1, h⟩ y k := by
  rw [outsAt0_succ, stAt0_C m c ⟨n + 1, h⟩ _ (by dsimp only; omega) (by dsimp only; omega) h3]
  generalize outsAt0 m c n _ = p
  frame_out
  unfold k0_pay4 k0_pay1 part rowTerm
  pointwise
  rw [(Memref.isWhole_whole _).read_unread]

/-- The gradient of the weights at `(i, j)`. -/
def dw (x : Vec Ideal S8192x1024 .bf16) (ct : Vec Ideal S8192x1536 .bf16) : Vec Ideal S1024x1536 .bf16 :=
  fun i => ∑ l : Fin 8192, x (ix2 l (i 0)) * ct (ix2 l (i 1))

theorem final (c : Dev nD) : (dats m 0 c).arrAt 2 cfg0.N
    = dw (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2]
  refine Blocks.four_blocks_rows (fun n h => (outsAt0 m c n h).2) (fun n h => (outsAt0 m c n h).1) id (part m c)
    (acc_first m c) (acc_next m c) (out_last m c) t h3 _ _ fun s k hl => ?_
  obtain ⟨e0, e1, _⟩ := idx (Blocks.runPoint t h3 s)
  obtain ⟨_, _, e2⟩ := idx t
  rw [Blocks.runPoint_mod] at e0 e1
  rw [Blocks.runPoint_div] at e1
  unfold part rowTerm
  congr 1
  · blk_ext [iblk, V, e0, e2, id_eq]
  · blk_ext [iblk, V, e1, e2, id_eq]

/-- The reference's gradient. -/
theorem ref (x : Vec Ideal S8192x1024 .bf16) (ct : Vec Ideal S8192x1536 .bf16) :
    Cert.QkvDwRefIdeal.Read.val_main_v6 (F := Ideal) x ct = dw x ct := by
  funext i
  rw [← Cert.QkvDwRefIdeal.Read.val_main_v6_eq]
  unfold dw
  pointwise
  exact Finset.sum_congr rfl fun k _ => mul_comm _ _

/-- The kernel and the reference compute the same gradient over the extended reals. -/
theorem algebraic : Cert.algebraic_QkvDwIdeal_QkvDwRefIdeal := by
  pair_intro
  · run_from Cert.QkvDwIdeal.Value.run_blocks m g
  · run_from Cert.QkvDwRefIdeal.Value.run m' g'
    exact (final m c).symm ▸ ref _ _

/-- The reference ends with its arguments unchanged and its counters at zero. -/
theorem ref_frame : Cert.quiescent_QkvDwRefIdeal := fun m ρ _ =>
  (θ_run Cert.QkvDwRefIdeal.defs _ _).mono
    (fun r h => ⟨fun c => (h c).2, Idealize.ShloMosaic.sem_eq_zero_of_no_sems (by decide) r.2⟩)
    (Cert.QkvDwRefIdeal.Value.run m ρ)

end Cert.Proof.QkvDw

end
-- ==== Proof.RestDw.lean ====
/- The gradient of the projection `w_rest`: the kernel accumulates `xᵀ·ct` over four blocks of rows; the reference is the
   derivative of `x @ w` with respect to `w`. Both are `∑ l, x l i * ct l j` at `(i, j)`. -/
module

public import proofs.«01_k».proof.Defs
public import proofs.«01_k».proof.Proof.Blocks
public import proofs.«01_k».proof.Proof.Gen.RestDwIdeal.Value
public import proofs.«01_k».proof.Proof.Gen.RestDwRefIdeal.Read
public import Idealize.ShloMosaic.Lib.Pipeline.ValueKit
public import Idealize.ShloMosaic.Lib.Claim
public import Idealize.ShloMosaic.Lib.Pointwise

@[expose] public section

set_option maxRecDepth 16384

noncomputable section

namespace Cert.Proof.RestDw

open Cert.RestDwIdeal Cert.RestDwIdeal.Gen Cert.RestDwIdeal.Value Idealize.ShloMosaic Idealize.ShloMosaic.TcCoe Idealize.SL.Sem
open Idealize.ShloMosaic.Pipeline (Dat)

variable (m : (ℓ : Loc nD τ sig) → Buf (Elt Ideal) ℓ)

/-- Every window's block index at a grid point: point `t` reads row block `t % 4` and column block `t / 4`. -/
theorem idx : ∀ t : Fin cfg0.N,
    win0_0.index t = ![t.val % 4, 0] ∧ win0_1.index t = ![t.val % 4, t.val / 4] ∧ win0_2.index t = ![0, t.val / 4] :=
  (by decide +kernel : ∀ t : Fin grid0.N, _)

/-- One row's addend of the product of two blocks, at `y`. -/
def rowTerm (a : Vec Ideal S2048x1024 .bf16) (b : Vec Ideal S2048x896 .bf16) (y : S1024x896.Idx) (k : Fin 2048) : Elt Ideal .f32 :=
  a (ix2 k (y 0)) * b (ix2 k (y 1))

/-- A point's addend of the accumulator at `y`. -/
abbrev part (c : Dev nD) (t : Fin cfg0.N) (y : S1024x896.Idx) (k : Fin 2048) : Elt Ideal .f32 :=
  rowTerm (iblk m c 0 t) (iblk m c 1 t) y k

theorem acc_first (c : Dev nD) (n : ℕ) (h : n < cfg0.N) (h0 : n % 4 = 0) (y : S1024x896.Idx) :
    (outsAt0 m c n h).2 y = ∑ k, part m c ⟨n, h⟩ y k := by
  have e : outsAt0 m c n h = stAt0 m c n h (match n, h with | 0, _ => junk0 | n + 1, h => outsAt0 m c n (Nat.lt_of_succ_lt h)) := by
    cases n with
    | zero => exact outsAt0_zero m c h
    | succ n => rfl
  rw [e, stAt0_A m c ⟨n, h⟩ _ h0 (by dsimp only; omega) (by dsimp only; omega)]
  frame_out
  unfold k0_pay2 k0_pay1 part rowTerm
  pointwise

theorem acc_next (c : Dev nD) (n : ℕ) (h : n + 1 < cfg0.N) (h1 : 1 ≤ (n + 1) % 4 ∧ (n + 1) % 4 ≤ 2) (y : S1024x896.Idx) :
    (outsAt0 m c (n + 1) h).2 y = (outsAt0 m c n (Nat.lt_of_succ_lt h)).2 y + ∑ k, part m c ⟨n + 1, h⟩ y k := by
  rw [outsAt0_succ, stAt0_B m c ⟨n + 1, h⟩ _ (by dsimp only; omega) h1 (by dsimp only; omega)]
  generalize outsAt0 m c n _ = p
  frame_out
  unfold k0_pay3 k0_pay1 part rowTerm
  pointwise
  rw [(Memref.isWhole_whole _).read_unread]

theorem out_last (c : Dev nD) (n : ℕ) (h : n + 1 < cfg0.N) (h3 : (n + 1) % 4 = 3) (y : S1024x896.Idx) :
    (outsAt0 m c (n + 1) h).1 y = (outsAt0 m c n (Nat.lt_of_succ_lt h)).2 y + ∑ k, part m c ⟨n + 1, h⟩ y k := by
  rw [outsAt0_succ, stAt0_C m c ⟨n + 1, h⟩ _ (by dsimp only; omega) (by dsimp only; omega) h3]
  generalize outsAt0 m c n _ = p
  frame_out
  unfold k0_pay4 k0_pay1 part rowTerm
  pointwise
  rw [(Memref.isWhole_whole _).read_unread]

/-- The gradient of the weights at `(i, j)`. -/
def dw (x : Vec Ideal S8192x1024 .bf16) (ct : Vec Ideal S8192x6272 .bf16) : Vec Ideal S1024x6272 .bf16 :=
  fun i => ∑ l : Fin 8192, x (ix2 l (i 0)) * ct (ix2 l (i 1))

theorem final (c : Dev nD) : (dats m 0 c).arrAt 2 cfg0.N
    = dw (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2]
  refine Blocks.four_blocks_rows (fun n h => (outsAt0 m c n h).2) (fun n h => (outsAt0 m c n h).1) id (part m c)
    (acc_first m c) (acc_next m c) (out_last m c) t h3 _ _ fun s k hl => ?_
  obtain ⟨e0, e1, _⟩ := idx (Blocks.runPoint t h3 s)
  obtain ⟨_, _, e2⟩ := idx t
  rw [Blocks.runPoint_mod] at e0 e1
  rw [Blocks.runPoint_div] at e1
  unfold part rowTerm
  congr 1
  · blk_ext [iblk, V, e0, e2, id_eq]
  · blk_ext [iblk, V, e1, e2, id_eq]

/-- The reference's gradient. -/
theorem ref (x : Vec Ideal S8192x1024 .bf16) (ct : Vec Ideal S8192x6272 .bf16) :
    Cert.RestDwRefIdeal.Read.val_main_v6 (F := Ideal) x ct = dw x ct := by
  funext i
  rw [← Cert.RestDwRefIdeal.Read.val_main_v6_eq]
  unfold dw
  pointwise
  exact Finset.sum_congr rfl fun k _ => mul_comm _ _

/-- The kernel and the reference compute the same gradient over the extended reals. -/
theorem algebraic : Cert.algebraic_RestDwIdeal_RestDwRefIdeal := by
  pair_intro
  · run_from Cert.RestDwIdeal.Value.run_blocks m g
  · run_from Cert.RestDwRefIdeal.Value.run m' g'
    exact (final m c).symm ▸ ref _ _

/-- The reference ends with its arguments unchanged and its counters at zero. -/
theorem ref_frame : Cert.quiescent_RestDwRefIdeal := fun m ρ _ =>
  (θ_run Cert.RestDwRefIdeal.defs _ _).mono
    (fun r h => ⟨fun c => (h c).2, Idealize.ShloMosaic.sem_eq_zero_of_no_sems (by decide) r.2⟩)
    (Cert.RestDwRefIdeal.Value.run m ρ)

end Cert.Proof.RestDw

end
-- ==== Proof.MergeValue.lean ====
/- The gradient of the sigmoid-gated merge of the three branches. What the kernel's four result arrays hold, block by block
   (`final7` to `final10`); what the reference's gradients hold (`ref7` to `ref10`); and that the two agree (`algebraic`). -/
module

public import proofs.«01_k».proof.Defs
public import proofs.«01_k».proof.Proof.Gen.MergeIdeal.Value
public import proofs.«01_k».proof.Proof.Gen.MergeRefIdeal.Read
public import Idealize.ShloMosaic.Lib.Pipeline.ValueKit
public import Idealize.ShloMosaic.Lib.Claim
public import Idealize.ShloMosaic.Lib.Pointwise

@[expose] public section

set_option maxRecDepth 16384

noncomputable section

namespace Cert.Proof.MergeValue

open Cert.MergeIdeal Cert.MergeIdeal.Gen Cert.MergeIdeal.Value Idealize.ShloMosaic Idealize.ShloMosaic.TcCoe Idealize.SL.Sem
open Idealize.ShloMosaic.Pipeline (Dat)

variable (m : (ℓ : Loc nD τ sig) → Buf (Elt Ideal) ℓ)

/-- Every window's block index at a grid point. -/
theorem idx : ∀ t : Fin cfg0.N,
    win0_0.index t = ![(grid0.coords t 0).val, 0] ∧ win0_1.index t = ![(grid0.coords t 0).val, 1]
    ∧ win0_2.index t = ![(grid0.coords t 0).val, 2] ∧ win0_3.index t = ![(grid0.coords t 0).val, 0]
    ∧ win0_4.index t = ![(grid0.coords t 0).val, 0] ∧ win0_5.index t = ![(grid0.coords t 0).val, 0]
    ∧ win0_6.index t = ![(grid0.coords t 0).val, 0] ∧ win0_7.index t = ![(grid0.coords t 0).val, 0]
    ∧ win0_8.index t = ![(grid0.coords t 0).val, 0] ∧ win0_9.index t = ![(grid0.coords t 0).val, 0]
    ∧ win0_10.index t = ![(grid0.coords t 0).val, 0] :=
  (by decide +kernel : ∀ t : Fin grid0.N, _)

/-- The place of entry `j` of gate block `k` of row block `r` in the gate logits' array. -/
def gatePlace (r : Fin 16) (k : Fin 3) (j : S512x1024.Idx) : S8192x6272.Idx :=
  ix2 ⟨r.val * 512 + (j 0).val, by have h : (j 0).val < 512 := (j 0).isLt; omega⟩
    ⟨k.val * 1024 + (j 1).val, by have h : (j 1).val < 1024 := (j 1).isLt; omega⟩

/-- What a gate window's buffer holds, at an index: the array at the block's place. -/
theorem x0_apply (c : Dev nD) (t : Fin cfg0.N) (j : S512x1024.Idx) :
    X0_0 m c t j = m ((c : Thread nD τ).loc main_arg0) (gatePlace (grid0.coords t 0) 0 j) := by
  have h : ∀ a, (j a).val < ((cfg0.win 0).xblock (cfg0.grid.coords t)).size a :=
    fun a => lt_of_lt_of_eq (j a).isLt (xsize0_0 t a).symm
  refine ((cfg0.win 0).fill_xinj (cfg0.grid.coords t) dflt0_0 (iblk m c 0 t) (fun a => ⟨(j a).val, h a⟩)).trans ?_
  obtain ⟨e, -⟩ := idx t
  rw [← V_main_arg0 m c]
  refine congrArg (V m c main_arg0) (funext fun a => Fin.ext ?_)
  match a with
  | ⟨0, _⟩ =>
    refine (Pipeline.Window.rect_emb_val_off _ _ _ _).trans ?_
    show win0_0.index t 0 * 512 + (j 0).val = (grid0.coords t 0).val * 512 + (j 0).val
    rw [e]; rfl
  | ⟨1, _⟩ =>
    refine (Pipeline.Window.rect_emb_val_off _ _ _ _).trans ?_
    show win0_0.index t 1 * 1024 + (j 1).val = 0 * 1024 + (j 1).val
    rw [e]; rfl
theorem x1_apply (c : Dev nD) (t : Fin cfg0.N) (j : S512x1024.Idx) :
    X0_1 m c t j = m ((c : Thread nD τ).loc main_arg0) (gatePlace (grid0.coords t 0) 1 j) := by
  have h : ∀ a, (j a).val < ((cfg0.win 1).xblock (cfg0.grid.coords t)).size a :=
    fun a => lt_of_lt_of_eq (j a).isLt (xsize0_1 t a).symm
  refine ((cfg0.win 1).fill_xinj (cfg0.grid.coords t) dflt0_1 (iblk m c 1 t) (fun a => ⟨(j a).val, h a⟩)).trans ?_
  obtain ⟨-, e, -⟩ := idx t
  rw [← V_main_arg0 m c]
  refine congrArg (V m c main_arg0) (funext fun a => Fin.ext ?_)
  match a with
  | ⟨0, _⟩ =>
    refine (Pipeline.Window.rect_emb_val_off _ _ _ _).trans ?_
    show win0_1.index t 0 * 512 + (j 0).val = (grid0.coords t 0).val * 512 + (j 0).val
    rw [e]; rfl
  | ⟨1, _⟩ =>
    refine (Pipeline.Window.rect_emb_val_off _ _ _ _).trans ?_
    show win0_1.index t 1 * 1024 + (j 1).val = 1 * 1024 + (j 1).val
    rw [e]; rfl
theorem x2_apply (c : Dev nD) (t : Fin cfg0.N) (j : S512x1024.Idx) :
    X0_2 m c t j = m ((c : Thread nD τ).loc main_arg0) (gatePlace (grid0.coords t 0) 2 j) := by
  have h : ∀ a, (j a).val < ((cfg0.win 2).xblock (cfg0.grid.coords t)).size a :=
    fun a => lt_of_lt_of_eq (j a).isLt (xsize0_2 t a).symm
  refine ((cfg0.win 2).fill_xinj (cfg0.grid.coords t) dflt0_2 (iblk m c 2 t) (fun a => ⟨(j a).val, h a⟩)).trans ?_
  obtain ⟨-, -, e, -⟩ := idx t
  rw [← V_main_arg0 m c]
  refine congrArg (V m c main_arg0) (funext fun a => Fin.ext ?_)
  match a with
  | ⟨0, _⟩ =>
    refine (Pipeline.Window.rect_emb_val_off _ _ _ _).trans ?_
    show win0_2.index t 0 * 512 + (j 0).val = (grid0.coords t 0).val * 512 + (j 0).val
    rw [e]; rfl
  | ⟨1, _⟩ =>
    refine (Pipeline.Window.rect_emb_val_off _ _ _ _).trans ?_
    show win0_2.index t 1 * 1024 + (j 1).val = 2 * 1024 + (j 1).val
    rw [e]; rfl
/-- The logistic function on the extended reals. -/
def sg (x : EReal) : EReal := Ideal.div 1 (1 + Ideal.exp (-x))

/-- The gradient of branch `k`'s output: the gate of its column times the merged output's gradient. -/
def dy (k : Nat) (hk : k < 3) (gl : Vec Ideal S8192x6272 .f32) (dm : Vec Ideal S8192x1024 .f32) : Vec Ideal S8192x1024 .bf16 :=
  fun i => sg (gl (ix2 (i 0) ⟨k * 1024 + (i 1).val, by have h : (i 1).val < 1024 := (i 1).isLt; omega⟩)) * dm (ix2 (i 0) (i 1))

/-- The gradient of the gate logits: in branch `k`'s columns the merged output's gradient times the branch's output
    times the logistic function's derivative. -/
def dgl (gl : Vec Ideal S8192x6272 .f32) (y0 y1 y2 dm : Vec Ideal S8192x1024 .f32) : Vec Ideal S8192x3072 .bf16 :=
  fun i =>
    let j : S8192x1024.Idx := ix2 (i 0) ⟨(i 1).val % 1024, Nat.mod_lt _ (by decide)⟩
    let s := sg (gl (ix2 (i 0) ⟨(i 1).val, by have h : (i 1).val < 3072 := (i 1).isLt; omega⟩))
    dm j * (if (i 1).val / 1024 = 0 then y0 j else if (i 1).val / 1024 = 1 then y1 j else y2 j) * (s * (1 - s))

/-- The kernel's gradients of the three branches' outputs. -/
theorem final8 (c : Dev nD) : (dats m 0 c).arrAt 8 cfg0.N
    = dy 0 (by decide) (m ((c : Thread nD τ).loc main_arg0)) (m ((c : Thread nD τ).loc main_arg4)) := by
  refine (dats m 0 c).arrAt_eq_of_covers 8 _ (by decide +kernel) fun t hf y => ?_
  blk_simp
  rw [after0_8]
  unfold outsAt0
  frame_out
  obtain ⟨e0, e1, e2, e3, e4, e5, e6, e7, e8, e9, e10⟩ := idx t
  unfold k0_pay6 k0_pay5 dy sg
  pointwise
  rw [x0_apply, mul_comm, zero_sub]
  unfold gatePlace
  blk_point [iblk, V, e0, e6, e8]

theorem final9 (c : Dev nD) : (dats m 0 c).arrAt 9 cfg0.N
    = dy 1 (by decide) (m ((c : Thread nD τ).loc main_arg0)) (m ((c : Thread nD τ).loc main_arg4)) := by
  refine (dats m 0 c).arrAt_eq_of_covers 9 _ (by decide +kernel) fun t hf y => ?_
  blk_simp
  rw [after0_9]
  unfold outsAt0
  frame_out
  obtain ⟨e0, e1, e2, e3, e4, e5, e6, e7, e8, e9, e10⟩ := idx t
  unfold k0_pay9 k0_pay8 dy sg
  pointwise
  rw [x1_apply, mul_comm, zero_sub]
  unfold gatePlace
  blk_point [iblk, V, e1, e6, e9]

theorem final10 (c : Dev nD) : (dats m 0 c).arrAt 10 cfg0.N
    = dy 2 (by decide) (m ((c : Thread nD τ).loc main_arg0)) (m ((c : Thread nD τ).loc main_arg4)) := by
  refine (dats m 0 c).arrAt_eq_of_covers 10 _ (by decide +kernel) fun t hf y => ?_
  blk_simp
  rw [after0_10]
  unfold outsAt0
  frame_out
  obtain ⟨e0, e1, e2, e3, e4, e5, e6, e7, e8, e9, e10⟩ := idx t
  unfold k0_pay3 k0_pay2 dy sg
  pointwise
  rw [x2_apply, mul_comm, zero_sub]
  unfold gatePlace
  blk_point [iblk, V, e2, e6, e10]

/-- The kernel's gradient of the gate logits: each of the three column groups is one store of the block. -/
theorem final7 (c : Dev nD) : (dats m 0 c).arrAt 7 cfg0.N
    = dgl (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 7 _ (by decide +kernel) fun t hf y => ?_
  blk_simp
  rw [after0_7]
  unfold outsAt0
  frame_out
  obtain ⟨e0, e1, e2, e3, e4, e5, e6, e7, e8, e9, e10⟩ := idx t
  refine View.canon_eq_of_allAt _ _ _ (View.cover_of_tiled_head _ _ _ rfl _) ?_
  refine View.allAt_cons_unit _ _ _ _ _ ?_ (View.allAt_cons_unit _ _ _ _ _ ?_ (View.allAt_cons_unit _ _ _ _ _ ?_ (View.allAt_nil _ _)))
  · intro x hx
    have h0 : (y 0).val = 0 + (x 0).val := hx 0
    have h1 : (y 1).val = 2048 + (x 1).val := hx 1
    have hx1 : (x 1).val < 1024 := (x 1).isLt
    unfold k0_pay4 k0_pay2 dgl sg
    pointwise
    rw [x2_apply]
    unfold gatePlace
    rw [if_neg (by blk_simp [e7]; omega), if_neg (by blk_simp [e7]; omega), zero_sub, mul_assoc (_ * _)]
    blk_point [iblk, V, e2, e5, e6, e7] <;> first | omega | (simp only [Fin.val_zero, Fin.val_one, Fin.val_two]; omega)
  · intro x hx
    have h0 : (y 0).val = 0 + (x 0).val := hx 0
    have h1 : (y 1).val = 1024 + (x 1).val := hx 1
    have hx1 : (x 1).val < 1024 := (x 1).isLt
    unfold k0_pay1 k0_pay8 k0_pay10 dgl sg
    pointwise
    rw [x1_apply]
    unfold gatePlace
    rw [if_neg (by blk_simp [e7]; omega), if_pos (by blk_simp [e7]; omega), zero_sub, mul_assoc (_ * _)]
    blk_point [iblk, V, e1, e4, e6, e7] <;> first | omega | (simp only [Fin.val_zero, Fin.val_one, Fin.val_two]; omega)
  · intro x hx
    have h0 : (y 0).val = 0 + (x 0).val := hx 0
    have h1 : (y 1).val = 0 + (x 1).val := hx 1
    have hx1 : (x 1).val < 1024 := (x 1).isLt
    unfold k0_pay7 k0_pay5 dgl sg
    pointwise
    rw [x0_apply]
    unfold gatePlace
    rw [if_pos (by blk_simp [e7]; omega), zero_sub, mul_assoc (_ * _)]
    blk_point [iblk, V, e0, e3, e6, e7] <;> first | omega | (simp only [Fin.val_zero, Fin.val_one, Fin.val_two]; omega)

/-- Three padded branches added up are the one whose columns these are. -/
theorem pick_branch (n : Nat) (hn : n < 3072) (a b c : EReal) :
    ((if _ : (2 ≤ n / 1024 ∧ n / 1024 - 2 < 1) ∧ n % 1024 < 1024 then a else 0)
      + (if _ : (1 ≤ n / 1024 ∧ n / 1024 - 1 < 1) ∧ n % 1024 < 1024 then b else 0))
      + (if _ : n / 1024 < 1 ∧ n % 1024 < 1024 then c else 0)
    = if n / 1024 = 0 then c else if n / 1024 = 1 then b else a := by
  have hm : n % 1024 < 1024 := Nat.mod_lt _ (by decide)
  rcases (by omega : n / 1024 = 0 ∨ n / 1024 = 1 ∨ n / 1024 = 2) with e | e | e <;> simp [e, hm]

/-- The branch and column of an entry of the gate logits' gradient. -/
def brCol (i : S8192x3072.Idx) : S8192x1024.Idx := ix2 (i 0) ⟨(i 1).val % 1024, Nat.mod_lt _ (by decide)⟩

/-- The reference's gradient of the gate logits, as its three padded branches added up. -/
theorem ref7_raw (x0 : Vec Ideal S8192x6272 .f32) (x1 x2 x3 x4 : Vec Ideal S8192x1024 .f32) (i : S8192x3072.Idx) (s : EReal)
    (hs : s = sg (x0 (ix2 (i 0) ⟨(i 1).val, by have h : (i 1).val < 3072 := (i 1).isLt; omega⟩))) :
    Cert.MergeRefIdeal.Read.val_main_v40 (F := Ideal) x0 x1 x2 x3 x4 i =
    ((if _ : (2 ≤ (i 1).val / 1024 ∧ (i 1).val / 1024 - 2 < 1) ∧ (i 1).val % 1024 < 1024 then x4 (brCol i) * x3 (brCol i) else 0)
      + (if _ : (1 ≤ (i 1).val / 1024 ∧ (i 1).val / 1024 - 1 < 1) ∧ (i 1).val % 1024 < 1024 then x4 (brCol i) * x2 (brCol i) else 0)
      + (if _ : (i 1).val / 1024 < 1 ∧ (i 1).val % 1024 < 1024 then x4 (brCol i) * x1 (brCol i) else 0))
      * (s * (1 - s)) := by
  rw [← Cert.MergeRefIdeal.Read.val_main_v40_eq, hs]
  unfold sg brCol
  pointwise

/-- The reference's gradient of the gate logits. -/
theorem ref7 (x0 : Vec Ideal S8192x6272 .f32) (x1 x2 x3 x4 : Vec Ideal S8192x1024 .f32) :
    Cert.MergeRefIdeal.Read.val_main_v40 (F := Ideal) x0 x1 x2 x3 x4 = dgl x0 x1 x2 x3 x4 := by
  funext i
  rw [ref7_raw x0 x1 x2 x3 x4 i _ rfl, pick_branch (i 1).val (i 1).isLt]
  show _ = _ * ite _ _ _ * _
  rw [mul_ite, mul_ite]
  rfl

/-- The reference's gradient of each branch's output. -/
theorem ref8 (x0 : Vec Ideal S8192x6272 .f32) (x4 : Vec Ideal S8192x1024 .f32) :
    Cert.MergeRefIdeal.Read.val_main_v41 (F := Ideal) x0 x4 = dy 0 (by decide) x0 x4 := by
  funext i
  rw [← Cert.MergeRefIdeal.Read.val_main_v41_eq]
  unfold dy sg
  pointwise
theorem ref9 (x0 : Vec Ideal S8192x6272 .f32) (x4 : Vec Ideal S8192x1024 .f32) :
    Cert.MergeRefIdeal.Read.val_main_v42 (F := Ideal) x0 x4 = dy 1 (by decide) x0 x4 := by
  funext i
  rw [← Cert.MergeRefIdeal.Read.val_main_v42_eq]
  unfold dy sg
  pointwise
theorem ref10 (x0 : Vec Ideal S8192x6272 .f32) (x4 : Vec Ideal S8192x1024 .f32) :
    Cert.MergeRefIdeal.Read.val_main_v43 (F := Ideal) x0 x4 = dy 2 (by decide) x0 x4 := by
  funext i
  rw [← Cert.MergeRefIdeal.Read.val_main_v43_eq]
  unfold dy sg
  pointwise

/-- The kernel and the reference compute the same four arrays over the extended reals. -/
theorem algebraic : Cert.algebraic_MergeIdeal_MergeRefIdeal := by
  pair_intro
  · run_from Cert.MergeIdeal.Value.run_blocks m g
  · run_from Cert.MergeRefIdeal.Value.run m' g'
    · exact (final7 m c).symm ▸ ref7 _ _ _ _ _
    · exact (final8 m c).symm ▸ ref8 _ _
    · exact (final9 m c).symm ▸ ref9 _ _
    · exact (final10 m c).symm ▸ ref10 _ _

end Cert.Proof.MergeValue

end
-- ==== Proof.AdamStep.lean ====
/- One step of AdamW on one entry, over the extended reals: the two running means and the change of the weight. -/
module

public import Idealize.ShloMosaic.PureOps
public import Idealize.ShloMosaic.PureOps.Ideal

@[expose] public section

noncomputable section

namespace Cert.Proof.AdamStep

open Idealize.ShloMosaic

/-- The running mean of the gradient. -/
def mean (m g : EReal) : EReal :=
  Ideal.ofBits .f32 0x3F666666#32 * m + Ideal.ofBits .f32 0x3DCCCCCD#32 * g

/-- The running mean of the gradient's square. -/
def square (v g : EReal) : EReal :=
  Ideal.ofBits .f32 0x3F7FBE77#32 * v + Ideal.ofBits .f32 0x3A83126F#32 * (g * g)

/-- The change of the weight. -/
def delta (w g m v : EReal) : EReal :=
  Ideal.ofBits .f32 0xBA83126F#32 *
    (Ideal.div (Ideal.div (mean m g) (Ideal.ofBits .f32 0x3F26BD02#32))
        (Ideal.sqrt (Ideal.div (square v g) (Ideal.ofBits .f32 0x3C231ACC#32)) + Ideal.ofBits .f32 0x322BCC77#32)
      + Ideal.ofBits .f32 0x3C23D70A#32 * w)

end Cert.Proof.AdamStep

end
-- ==== Proof.InAdam.lean ====
/- The optimiser's step on w_in: each entry's gradient is the sum of the eight devices' parts of its layer, and the entry
   takes one AdamW step with it. -/
module

public import proofs.«01_k».proof.Defs
public import proofs.«01_k».proof.Proof.AdamStep
public import proofs.«01_k».proof.Proof.Gen.InAdamIdeal.Value
public import proofs.«01_k».proof.Proof.Gen.InAdamRefIdeal.Read
public import Idealize.ShloMosaic.Lib.Pipeline.ValueKit
public import Idealize.ShloMosaic.Lib.Claim
public import Idealize.ShloMosaic.Lib.Pointwise

@[expose] public section

set_option maxRecDepth 16384

noncomputable section

namespace Cert.Proof.InAdam

open Cert.InAdamIdeal Cert.InAdamIdeal.Gen Cert.InAdamIdeal.Value Idealize.ShloMosaic Idealize.ShloMosaic.TcCoe Idealize.SL.Sem
open Idealize.ShloMosaic.Pipeline (Dat)

variable (m : (ℓ : Loc nD τ sig) → Buf (Elt Ideal) ℓ)

/-- Every window's block index: the parts of the point's own layer advance with it, and so do the layer's rows. -/
theorem idx : ∀ t : Fin cfg0.N,
    (t.val < 8 → win0_0.index t = ![0, t.val % 8, 0]) ∧ (¬t.val < 8 → win0_1.index t = ![0, t.val % 8, 0])
    ∧ win0_2.index t = ![t.val / 8, t.val % 8, 0] ∧ win0_3.index t = ![t.val / 8, t.val % 8, 0]
    ∧ win0_4.index t = ![t.val / 8, t.val % 8, 0] ∧ win0_5.index t = ![t.val / 8, t.val % 8, 0]
    ∧ win0_6.index t = ![t.val / 8, t.val % 8, 0] ∧ win0_7.index t = ![t.val / 8, t.val % 8, 0]
    ∧ win0_8.index t = ![t.val / 8, t.val % 8, 0] :=
  (by decide +kernel : ∀ t : Fin grid0.N, _)

/-- The gradient: the sum of the eight parts of the entry's layer. -/
def grad (r0 r1 : Vec Ideal S8x1024x963 .bf16) : Vec Ideal S2x1024x963 .f32 := fun i =>
  if (i 0).val = 0 then ∑ s : Fin 8, r0 (ix3 s (i 1) (i 2)) else ∑ s : Fin 8, r1 (ix3 s (i 1) (i 2))

/-- The sum of a block's eight parts. -/
def part (x : Vec Ideal S8x128x963 .bf16) : FVec Ideal S128x963 .f32 :=
  k0_pay5
    (View.ld x (Rect.unit ![0, 0, 0] ![1, 128, 963] inb_S8x128x963_S1x128x963_0_0_0))
    (View.ld x (Rect.unit ![1, 0, 0] ![1, 128, 963] inb_S8x128x963_S1x128x963_1_0_0))
    (View.ld x (Rect.unit ![2, 0, 0] ![1, 128, 963] inb_S8x128x963_S1x128x963_2_0_0))
    (View.ld x (Rect.unit ![3, 0, 0] ![1, 128, 963] inb_S8x128x963_S1x128x963_3_0_0))
    (View.ld x (Rect.unit ![4, 0, 0] ![1, 128, 963] inb_S8x128x963_S1x128x963_4_0_0))
    (View.ld x (Rect.unit ![5, 0, 0] ![1, 128, 963] inb_S8x128x963_S1x128x963_5_0_0))
    (View.ld x (Rect.unit ![6, 0, 0] ![1, 128, 963] inb_S8x128x963_S1x128x963_6_0_0))
    (View.ld x (Rect.unit ![7, 0, 0] ![1, 128, 963] inb_S8x128x963_S1x128x963_7_0_0))

theorem part_at (x : Vec Ideal S8x128x963 .bf16) (j : S128x963.Idx) : part x j = ∑ s : Fin 8, x (ix3 s (j 0) (j 1)) := by
  unfold part k0_pay5
  pointwise
  rw [Fin.sum_univ_eight]

/-- The sum that a point computes: of the first layer's block, or of the second's. -/
def parts (c : Dev nD) (t : Fin cfg0.N) : FVec Ideal S128x963 .f32 :=
  if t.val < 8 then part (iblk m c 0 t) else part (iblk m c 1 t)

/-- What a point leaves in the four results' blocks. -/
theorem outs (c : Dev nD) (t : Fin cfg0.N) : outsAt0 m c t.val t.isLt
    = (k0_pay9 (parts m c t), k0_pay10 (parts m c t) (k0_pay6 (iblk m c 2 t)) (iblk m c 3 t) (iblk m c 4 t),
      k0_pay1 (k0_pay7 (parts m c t) (iblk m c 3 t)), k0_pay2 (k0_pay8 (parts m c t) (iblk m c 4 t))) := by
  have ht : t.val < 16 := t.isLt
  by_cases hl : t.val < 8
  · rw [outsAt0_A m c t (by omega) (by omega), parts, if_pos hl]
    frame_out
    rfl
  · rw [outsAt0_B m c t (by omega) (by omega), parts, if_neg hl]
    frame_out
    rfl

/-- The point's sum is the gradient at the entry's place. -/
theorem parts_at (c : Dev nD) (t : Fin cfg0.N) (j : S128x963.Idx) (i : S2x1024x963.Idx) (h0 : (i 0).val = t.val / 8)
    (h1 : (i 1).val = t.val % 8 * 128 + (j 0).val) (h2 : (i 2).val = (j 1).val) :
    parts m c t j = grad (m ((c : Thread nD τ).loc main_arg0)) (m ((c : Thread nD τ).loc main_arg1)) i := by
  obtain ⟨e0, e1, -⟩ := idx t
  have ht : t.val < 16 := t.isLt
  unfold parts grad
  by_cases hl : t.val < 8
  · rw [if_pos hl, if_pos (by omega), part_at]
    refine Finset.sum_congr rfl fun s _ => ?_
    blk_point [iblk, V, e0 hl]
    all_goals omega
  · rw [if_neg hl, if_neg (by omega), part_at]
    refine Finset.sum_congr rfl fun s _ => ?_
    blk_point [iblk, V, e1 hl]
    all_goals omega

section Point

variable (G : FVec Ideal S128x963 .f32) (W M V : Vec Ideal S1x128x963 .f32) (y : S1x128x963.Idx)

theorem grad_at : k0_pay9 G y = G (ix2 (y 1) (y 2)) := by
  unfold k0_pay9
  pointwise

theorem delta_at : k0_pay10 G (k0_pay6 W) M V y = AdamStep.delta (W y) (G (ix2 (y 1) (y 2))) (M y) (V y) := by
  unfold k0_pay10 k0_pay7 k0_pay8 k0_pay6 AdamStep.delta AdamStep.mean AdamStep.square
  pointwise

theorem mean_at : k0_pay1 (k0_pay7 G M) y = AdamStep.mean (M y) (G (ix2 (y 1) (y 2))) := by
  unfold k0_pay1 k0_pay7 AdamStep.mean
  pointwise

theorem square_at : k0_pay2 (k0_pay8 G V) y = AdamStep.square (V y) (G (ix2 (y 1) (y 2))) := by
  unfold k0_pay2 k0_pay8 AdamStep.square
  pointwise

end Point

theorem final5 (c : Dev nD) : (dats m 0 c).arrAt 5 cfg0.N
    = grad (m ((c : Thread nD τ).loc main_arg0)) (m ((c : Thread nD τ).loc main_arg1)) := by
  refine (dats m 0 c).arrAt_eq_of_covers 5 _ (by decide +kernel) fun t hf y => ?_
  obtain ⟨e0, e1, e2, e3, e4, e5, e6, e7, e8⟩ := idx t
  blk_simp
  rw [after0_5, outs]
  show k0_pay9 (parts m c t) y = _
  rw [grad_at]
  rw [parts_at m c t _ (((View.whole main_v0_0).slice (win0_5.rect t)).emb y)]
  all_goals blk_point [e5]

theorem final6 (c : Dev nD) : (dats m 0 c).arrAt 6 cfg0.N
    = fun i => AdamStep.delta (m ((c : Thread nD τ).loc main_arg2) i)
        (grad (m ((c : Thread nD τ).loc main_arg0)) (m ((c : Thread nD τ).loc main_arg1)) i) (m ((c : Thread nD τ).loc main_arg3) i)
        (m ((c : Thread nD τ).loc main_arg4) i) := by
  refine (dats m 0 c).arrAt_eq_of_covers 6 _ (by decide +kernel) fun t hf y => ?_
  obtain ⟨e0, e1, e2, e3, e4, e5, e6, e7, e8⟩ := idx t
  blk_simp
  rw [after0_6, outs]
  refine (delta_at ..).trans ?_
  rw [parts_at m c t _ (((View.whole main_v0_1).slice (win0_6.rect t)).emb y)]
  · generalize grad _ _ _ = g
    blk_point [iblk, V, e2, e3, e4, e6]
  all_goals blk_point [e6]

theorem final7 (c : Dev nD) : (dats m 0 c).arrAt 7 cfg0.N
    = fun i => AdamStep.mean (m ((c : Thread nD τ).loc main_arg3) i)
        (grad (m ((c : Thread nD τ).loc main_arg0)) (m ((c : Thread nD τ).loc main_arg1)) i) := by
  refine (dats m 0 c).arrAt_eq_of_covers 7 _ (by decide +kernel) fun t hf y => ?_
  obtain ⟨e0, e1, e2, e3, e4, e5, e6, e7, e8⟩ := idx t
  blk_simp
  rw [after0_7, outs]
  refine (mean_at ..).trans ?_
  rw [parts_at m c t _ (((View.whole main_v0_2).slice (win0_7.rect t)).emb y)]
  · generalize grad _ _ _ = g
    blk_point [iblk, V, e3, e7]
  all_goals blk_point [e7]

theorem final8 (c : Dev nD) : (dats m 0 c).arrAt 8 cfg0.N
    = fun i => AdamStep.square (m ((c : Thread nD τ).loc main_arg4) i)
        (grad (m ((c : Thread nD τ).loc main_arg0)) (m ((c : Thread nD τ).loc main_arg1)) i) := by
  refine (dats m 0 c).arrAt_eq_of_covers 8 _ (by decide +kernel) fun t hf y => ?_
  obtain ⟨e0, e1, e2, e3, e4, e5, e6, e7, e8⟩ := idx t
  blk_simp
  rw [after0_8, outs]
  refine (square_at ..).trans ?_
  rw [parts_at m c t _ (((View.whole main_v0_3).slice (win0_8.rect t)).emb y)]
  · generalize grad _ _ _ = g
    blk_point [iblk, V, e4, e8]
  all_goals blk_point [e8]

section Ref

open Cert.InAdamRefIdeal.Read

variable (x0 x1 : Vec Ideal S8x1024x963 .bf16) (x2 x3 x4 : Vec Ideal S2x1024x963 .f32)

/-- The reference's gradient. -/
theorem ref_grad : val_main_v6 (F := Ideal) x0 x1 = grad x0 x1 := by
  funext i
  rw [← val_main_v6_eq]
  unfold grad
  pointwise
  simp only [Nat.lt_one_iff, dite_eq_ite]

/-- The reference's change of the weight. -/
theorem ref_delta : val_main_v30 (F := Ideal) x0 x1 x2 x3 x4 = fun i => AdamStep.delta (x2 i) (grad x0 x1 i) (x3 i) (x4 i) := by
  rw [← ref_grad]
  simp only [val_main_cst_1, val_main_v7, val_main_v8, val_main_cst_2, val_main_v9, val_main_v10, val_main_v11, val_main_cst_3, val_main_v12, val_main_v13, val_main_v14, val_main_cst_4, val_main_v15, val_main_v16, val_main_v17, val_main_cst_5, val_main_v18, val_main_v19, val_main_cst_6, val_main_v20, val_main_v21, val_main_v22, val_main_cst_7, val_main_v23, val_main_v24, val_main_v25, val_main_cst_8, val_main_v26, val_main_v27, val_main_v28, val_main_cst_9, val_main_v29, val_main_v30]
  generalize val_main_v6 (F := Ideal) x0 x1 = g
  funext i
  unfold AdamStep.delta AdamStep.mean AdamStep.square
  pointwise

/-- The reference's first moment. -/
theorem ref_mean : val_main_v11 (F := Ideal) x0 x1 x3 = fun i => AdamStep.mean (x3 i) (grad x0 x1 i) := by
  rw [← ref_grad]
  simp only [val_main_cst_1, val_main_v7, val_main_v8, val_main_cst_2, val_main_v9, val_main_v10, val_main_v11]
  generalize val_main_v6 (F := Ideal) x0 x1 = g
  funext i
  unfold AdamStep.mean
  pointwise

/-- The reference's second moment. -/
theorem ref_square : val_main_v17 (F := Ideal) x0 x1 x4 = fun i => AdamStep.square (x4 i) (grad x0 x1 i) := by
  rw [← ref_grad]
  simp only [val_main_cst_3, val_main_v12, val_main_v13, val_main_v14, val_main_cst_4, val_main_v15, val_main_v16, val_main_v17]
  generalize val_main_v6 (F := Ideal) x0 x1 = g
  funext i
  unfold AdamStep.square
  pointwise

end Ref

/-- The kernel and the reference compute the same four results over the extended reals. -/
theorem algebraic : Cert.algebraic_InAdamIdeal_InAdamRefIdeal := by
  pair_intro
  · run_from Cert.InAdamIdeal.Value.run_blocks m g
  · run_from Cert.InAdamRefIdeal.Value.run m' g'
    · exact (final5 m c).symm ▸ ref_grad _ _
    · exact (final6 m c).symm ▸ ref_delta _ _ _ _ _
    · exact (final7 m c).symm ▸ ref_mean _ _ _
    · exact (final8 m c).symm ▸ ref_square _ _ _

/-- The reference ends with its arguments unchanged and its counters at zero. -/
theorem ref_frame : Cert.quiescent_InAdamRefIdeal := fun m ρ _ =>
  (θ_run Cert.InAdamRefIdeal.defs _ _).mono
    (fun r h => ⟨fun c => (h c).2.2.2.2, Idealize.ShloMosaic.sem_eq_zero_of_no_sems (by decide) r.2⟩)
    (Cert.InAdamRefIdeal.Value.run m ρ)

end Cert.Proof.InAdam

end
-- ==== Proof.UpAdam.lean ====
/- The optimiser's step on ffn_up: each entry's gradient is the sum of the eight devices' parts of its layer, and the entry
   takes one AdamW step with it. -/
module

public import proofs.«01_k».proof.Defs
public import proofs.«01_k».proof.Proof.AdamStep
public import proofs.«01_k».proof.Proof.Gen.UpAdamIdeal.Value
public import proofs.«01_k».proof.Proof.Gen.UpAdamRefIdeal.Read
public import Idealize.ShloMosaic.Lib.Pipeline.ValueKit
public import Idealize.ShloMosaic.Lib.Claim
public import Idealize.ShloMosaic.Lib.Pointwise

@[expose] public section

set_option maxRecDepth 16384

noncomputable section

namespace Cert.Proof.UpAdam

open Cert.UpAdamIdeal Cert.UpAdamIdeal.Gen Cert.UpAdamIdeal.Value Idealize.ShloMosaic Idealize.ShloMosaic.TcCoe Idealize.SL.Sem
open Idealize.ShloMosaic.Pipeline (Dat)

variable (m : (ℓ : Loc nD τ sig) → Buf (Elt Ideal) ℓ)

/-- Every window's block index: the parts of the point's own layer advance with it, and so do the layer's rows. -/
theorem idx : ∀ t : Fin cfg0.N,
    (t.val < 8 → win0_0.index t = ![0, t.val % 8, 0]) ∧ (¬t.val < 8 → win0_1.index t = ![0, t.val % 8, 0])
    ∧ win0_2.index t = ![t.val / 8, t.val % 8, 0] ∧ win0_3.index t = ![t.val / 8, t.val % 8, 0]
    ∧ win0_4.index t = ![t.val / 8, t.val % 8, 0] ∧ win0_5.index t = ![t.val / 8, t.val % 8, 0]
    ∧ win0_6.index t = ![t.val / 8, t.val % 8, 0] ∧ win0_7.index t = ![t.val / 8, t.val % 8, 0]
    ∧ win0_8.index t = ![t.val / 8, t.val % 8, 0] :=
  (by decide +kernel : ∀ t : Fin grid0.N, _)

/-- The gradient: the sum of the eight parts of the entry's layer. -/
def grad (r0 r1 : Vec Ideal S8x1024x704 .bf16) : Vec Ideal S2x1024x704 .f32 := fun i =>
  if (i 0).val = 0 then ∑ s : Fin 8, r0 (ix3 s (i 1) (i 2)) else ∑ s : Fin 8, r1 (ix3 s (i 1) (i 2))

/-- The sum of a block's eight parts. -/
def part (x : Vec Ideal S8x128x704 .bf16) : FVec Ideal S128x704 .f32 :=
  k0_pay5
    (View.ld x (Rect.unit ![0, 0, 0] ![1, 128, 704] inb_S8x128x704_S1x128x704_0_0_0))
    (View.ld x (Rect.unit ![1, 0, 0] ![1, 128, 704] inb_S8x128x704_S1x128x704_1_0_0))
    (View.ld x (Rect.unit ![2, 0, 0] ![1, 128, 704] inb_S8x128x704_S1x128x704_2_0_0))
    (View.ld x (Rect.unit ![3, 0, 0] ![1, 128, 704] inb_S8x128x704_S1x128x704_3_0_0))
    (View.ld x (Rect.unit ![4, 0, 0] ![1, 128, 704] inb_S8x128x704_S1x128x704_4_0_0))
    (View.ld x (Rect.unit ![5, 0, 0] ![1, 128, 704] inb_S8x128x704_S1x128x704_5_0_0))
    (View.ld x (Rect.unit ![6, 0, 0] ![1, 128, 704] inb_S8x128x704_S1x128x704_6_0_0))
    (View.ld x (Rect.unit ![7, 0, 0] ![1, 128, 704] inb_S8x128x704_S1x128x704_7_0_0))

theorem part_at (x : Vec Ideal S8x128x704 .bf16) (j : S128x704.Idx) : part x j = ∑ s : Fin 8, x (ix3 s (j 0) (j 1)) := by
  unfold part k0_pay5
  pointwise
  rw [Fin.sum_univ_eight]

/-- The sum that a point computes: of the first layer's block, or of the second's. -/
def parts (c : Dev nD) (t : Fin cfg0.N) : FVec Ideal S128x704 .f32 :=
  if t.val < 8 then part (iblk m c 0 t) else part (iblk m c 1 t)

/-- What a point leaves in the four results' blocks. -/
theorem outs (c : Dev nD) (t : Fin cfg0.N) : outsAt0 m c t.val t.isLt
    = (k0_pay9 (parts m c t), k0_pay10 (parts m c t) (k0_pay6 (iblk m c 2 t)) (iblk m c 3 t) (iblk m c 4 t),
      k0_pay1 (k0_pay7 (parts m c t) (iblk m c 3 t)), k0_pay2 (k0_pay8 (parts m c t) (iblk m c 4 t))) := by
  have ht : t.val < 16 := t.isLt
  by_cases hl : t.val < 8
  · rw [outsAt0_A m c t (by omega) (by omega), parts, if_pos hl]
    frame_out
    rfl
  · rw [outsAt0_B m c t (by omega) (by omega), parts, if_neg hl]
    frame_out
    rfl

/-- The point's sum is the gradient at the entry's place. -/
theorem parts_at (c : Dev nD) (t : Fin cfg0.N) (j : S128x704.Idx) (i : S2x1024x704.Idx) (h0 : (i 0).val = t.val / 8)
    (h1 : (i 1).val = t.val % 8 * 128 + (j 0).val) (h2 : (i 2).val = (j 1).val) :
    parts m c t j = grad (m ((c : Thread nD τ).loc main_arg0)) (m ((c : Thread nD τ).loc main_arg1)) i := by
  obtain ⟨e0, e1, -⟩ := idx t
  have ht : t.val < 16 := t.isLt
  unfold parts grad
  by_cases hl : t.val < 8
  · rw [if_pos hl, if_pos (by omega), part_at]
    refine Finset.sum_congr rfl fun s _ => ?_
    blk_point [iblk, V, e0 hl]
    all_goals omega
  · rw [if_neg hl, if_neg (by omega), part_at]
    refine Finset.sum_congr rfl fun s _ => ?_
    blk_point [iblk, V, e1 hl]
    all_goals omega

section Point

variable (G : FVec Ideal S128x704 .f32) (W M V : Vec Ideal S1x128x704 .f32) (y : S1x128x704.Idx)

theorem grad_at : k0_pay9 G y = G (ix2 (y 1) (y 2)) := by
  unfold k0_pay9
  pointwise

theorem delta_at : k0_pay10 G (k0_pay6 W) M V y = AdamStep.delta (W y) (G (ix2 (y 1) (y 2))) (M y) (V y) := by
  unfold k0_pay10 k0_pay7 k0_pay8 k0_pay6 AdamStep.delta AdamStep.mean AdamStep.square
  pointwise

theorem mean_at : k0_pay1 (k0_pay7 G M) y = AdamStep.mean (M y) (G (ix2 (y 1) (y 2))) := by
  unfold k0_pay1 k0_pay7 AdamStep.mean
  pointwise

theorem square_at : k0_pay2 (k0_pay8 G V) y = AdamStep.square (V y) (G (ix2 (y 1) (y 2))) := by
  unfold k0_pay2 k0_pay8 AdamStep.square
  pointwise

end Point

theorem final5 (c : Dev nD) : (dats m 0 c).arrAt 5 cfg0.N
    = grad (m ((c : Thread nD τ).loc main_arg0)) (m ((c : Thread nD τ).loc main_arg1)) := by
  refine (dats m 0 c).arrAt_eq_of_covers 5 _ (by decide +kernel) fun t hf y => ?_
  obtain ⟨e0, e1, e2, e3, e4, e5, e6, e7, e8⟩ := idx t
  blk_simp
  rw [after0_5, outs]
  show k0_pay9 (parts m c t) y = _
  rw [grad_at]
  rw [parts_at m c t _ (((View.whole main_v0_0).slice (win0_5.rect t)).emb y)]
  all_goals blk_point [e5]

theorem final6 (c : Dev nD) : (dats m 0 c).arrAt 6 cfg0.N
    = fun i => AdamStep.delta (m ((c : Thread nD τ).loc main_arg2) i)
        (grad (m ((c : Thread nD τ).loc main_arg0)) (m ((c : Thread nD τ).loc main_arg1)) i) (m ((c : Thread nD τ).loc main_arg3) i)
        (m ((c : Thread nD τ).loc main_arg4) i) := by
  refine (dats m 0 c).arrAt_eq_of_covers 6 _ (by decide +kernel) fun t hf y => ?_
  obtain ⟨e0, e1, e2, e3, e4, e5, e6, e7, e8⟩ := idx t
  blk_simp
  rw [after0_6, outs]
  refine (delta_at ..).trans ?_
  rw [parts_at m c t _ (((View.whole main_v0_1).slice (win0_6.rect t)).emb y)]
  · generalize grad _ _ _ = g
    blk_point [iblk, V, e2, e3, e4, e6]
  all_goals blk_point [e6]

theorem final7 (c : Dev nD) : (dats m 0 c).arrAt 7 cfg0.N
    = fun i => AdamStep.mean (m ((c : Thread nD τ).loc main_arg3) i)
        (grad (m ((c : Thread nD τ).loc main_arg0)) (m ((c : Thread nD τ).loc main_arg1)) i) := by
  refine (dats m 0 c).arrAt_eq_of_covers 7 _ (by decide +kernel) fun t hf y => ?_
  obtain ⟨e0, e1, e2, e3, e4, e5, e6, e7, e8⟩ := idx t
  blk_simp
  rw [after0_7, outs]
  refine (mean_at ..).trans ?_
  rw [parts_at m c t _ (((View.whole main_v0_2).slice (win0_7.rect t)).emb y)]
  · generalize grad _ _ _ = g
    blk_point [iblk, V, e3, e7]
  all_goals blk_point [e7]

theorem final8 (c : Dev nD) : (dats m 0 c).arrAt 8 cfg0.N
    = fun i => AdamStep.square (m ((c : Thread nD τ).loc main_arg4) i)
        (grad (m ((c : Thread nD τ).loc main_arg0)) (m ((c : Thread nD τ).loc main_arg1)) i) := by
  refine (dats m 0 c).arrAt_eq_of_covers 8 _ (by decide +kernel) fun t hf y => ?_
  obtain ⟨e0, e1, e2, e3, e4, e5, e6, e7, e8⟩ := idx t
  blk_simp
  rw [after0_8, outs]
  refine (square_at ..).trans ?_
  rw [parts_at m c t _ (((View.whole main_v0_3).slice (win0_8.rect t)).emb y)]
  · generalize grad _ _ _ = g
    blk_point [iblk, V, e4, e8]
  all_goals blk_point [e8]

section Ref

open Cert.UpAdamRefIdeal.Read

variable (x0 x1 : Vec Ideal S8x1024x704 .bf16) (x2 x3 x4 : Vec Ideal S2x1024x704 .f32)

/-- The reference's gradient. -/
theorem ref_grad : val_main_v6 (F := Ideal) x0 x1 = grad x0 x1 := by
  funext i
  rw [← val_main_v6_eq]
  unfold grad
  pointwise
  simp only [Nat.lt_one_iff, dite_eq_ite]

/-- The reference's change of the weight. -/
theorem ref_delta : val_main_v30 (F := Ideal) x0 x1 x2 x3 x4 = fun i => AdamStep.delta (x2 i) (grad x0 x1 i) (x3 i) (x4 i) := by
  rw [← ref_grad]
  simp only [val_main_cst_1, val_main_v7, val_main_v8, val_main_cst_2, val_main_v9, val_main_v10, val_main_v11, val_main_cst_3, val_main_v12, val_main_v13, val_main_v14, val_main_cst_4, val_main_v15, val_main_v16, val_main_v17, val_main_cst_5, val_main_v18, val_main_v19, val_main_cst_6, val_main_v20, val_main_v21, val_main_v22, val_main_cst_7, val_main_v23, val_main_v24, val_main_v25, val_main_cst_8, val_main_v26, val_main_v27, val_main_v28, val_main_cst_9, val_main_v29, val_main_v30]
  generalize val_main_v6 (F := Ideal) x0 x1 = g
  funext i
  unfold AdamStep.delta AdamStep.mean AdamStep.square
  pointwise

/-- The reference's first moment. -/
theorem ref_mean : val_main_v11 (F := Ideal) x0 x1 x3 = fun i => AdamStep.mean (x3 i) (grad x0 x1 i) := by
  rw [← ref_grad]
  simp only [val_main_cst_1, val_main_v7, val_main_v8, val_main_cst_2, val_main_v9, val_main_v10, val_main_v11]
  generalize val_main_v6 (F := Ideal) x0 x1 = g
  funext i
  unfold AdamStep.mean
  pointwise

/-- The reference's second moment. -/
theorem ref_square : val_main_v17 (F := Ideal) x0 x1 x4 = fun i => AdamStep.square (x4 i) (grad x0 x1 i) := by
  rw [← ref_grad]
  simp only [val_main_cst_3, val_main_v12, val_main_v13, val_main_v14, val_main_cst_4, val_main_v15, val_main_v16, val_main_v17]
  generalize val_main_v6 (F := Ideal) x0 x1 = g
  funext i
  unfold AdamStep.square
  pointwise

end Ref

/-- The kernel and the reference compute the same four results over the extended reals. -/
theorem algebraic : Cert.algebraic_UpAdamIdeal_UpAdamRefIdeal := by
  pair_intro
  · run_from Cert.UpAdamIdeal.Value.run_blocks m g
  · run_from Cert.UpAdamRefIdeal.Value.run m' g'
    · exact (final5 m c).symm ▸ ref_grad _ _
    · exact (final6 m c).symm ▸ ref_delta _ _ _ _ _
    · exact (final7 m c).symm ▸ ref_mean _ _ _
    · exact (final8 m c).symm ▸ ref_square _ _ _

/-- The reference ends with its arguments unchanged and its counters at zero. -/
theorem ref_frame : Cert.quiescent_UpAdamRefIdeal := fun m ρ _ =>
  (θ_run Cert.UpAdamRefIdeal.defs _ _).mono
    (fun r h => ⟨fun c => (h c).2.2.2.2, Idealize.ShloMosaic.sem_eq_zero_of_no_sems (by decide) r.2⟩)
    (Cert.UpAdamRefIdeal.Value.run m ρ)

end Cert.Proof.UpAdam

end
-- ==== Proof.PoolAdam.lean ====
/- The optimiser's step on p_pool and p_attn: each entry's gradient is the sum of the eight devices' parts of its layer, and the entry
   takes one AdamW step with it. -/
module

public import proofs.«01_k».proof.Defs
public import proofs.«01_k».proof.Proof.AdamStep
public import proofs.«01_k».proof.Proof.Gen.PoolAdamIdeal.Value
public import proofs.«01_k».proof.Proof.Gen.PoolAdamRefIdeal.Read
public import Idealize.ShloMosaic.Lib.Pipeline.ValueKit
public import Idealize.ShloMosaic.Lib.Claim
public import Idealize.ShloMosaic.Lib.Pointwise

@[expose] public section

set_option maxRecDepth 16384

noncomputable section

namespace Cert.Proof.PoolAdam

open Cert.PoolAdamIdeal Cert.PoolAdamIdeal.Gen Cert.PoolAdamIdeal.Value Idealize.ShloMosaic Idealize.ShloMosaic.TcCoe Idealize.SL.Sem
open Idealize.ShloMosaic.Pipeline (Dat)

variable (m : (ℓ : Loc nD τ sig) → Buf (Elt Ideal) ℓ)

/-- Every window's block index: the parts of the point's own layer advance with it, and so do the layer's rows. -/
theorem idx : ∀ t : Fin cfg0.N,
    (t.val < 4 → win0_0.index t = ![0, t.val % 4, 0]) ∧ (¬t.val < 4 → win0_1.index t = ![0, t.val % 4, 0])
    ∧ win0_2.index t = ![t.val / 4, t.val % 4, 0] ∧ win0_3.index t = ![t.val / 4, t.val % 4, 0]
    ∧ win0_4.index t = ![t.val / 4, t.val % 4, 0] ∧ win0_5.index t = ![t.val / 4, t.val % 4, 0]
    ∧ win0_6.index t = ![t.val / 4, t.val % 4, 0] ∧ win0_7.index t = ![t.val / 4, t.val % 4, 0]
    ∧ win0_8.index t = ![t.val / 4, t.val % 4, 0] :=
  (by decide +kernel : ∀ t : Fin grid0.N, _)

/-- The gradient: the sum of the eight parts of the entry's layer. -/
def grad (r0 r1 : Vec Ideal S8x512x128 .bf16) : Vec Ideal S2x512x128 .f32 := fun i =>
  if (i 0).val = 0 then ∑ s : Fin 8, r0 (ix3 s (i 1) (i 2)) else ∑ s : Fin 8, r1 (ix3 s (i 1) (i 2))

/-- The sum of a block's eight parts. -/
def part (x : Vec Ideal S8x128x128 .bf16) : FVec Ideal S128x128 .f32 :=
  k0_pay5
    (View.ld x (Rect.unit ![0, 0, 0] ![1, 128, 128] inb_S8x128x128_S1x128x128_0_0_0))
    (View.ld x (Rect.unit ![1, 0, 0] ![1, 128, 128] inb_S8x128x128_S1x128x128_1_0_0))
    (View.ld x (Rect.unit ![2, 0, 0] ![1, 128, 128] inb_S8x128x128_S1x128x128_2_0_0))
    (View.ld x (Rect.unit ![3, 0, 0] ![1, 128, 128] inb_S8x128x128_S1x128x128_3_0_0))
    (View.ld x (Rect.unit ![4, 0, 0] ![1, 128, 128] inb_S8x128x128_S1x128x128_4_0_0))
    (View.ld x (Rect.unit ![5, 0, 0] ![1, 128, 128] inb_S8x128x128_S1x128x128_5_0_0))
    (View.ld x (Rect.unit ![6, 0, 0] ![1, 128, 128] inb_S8x128x128_S1x128x128_6_0_0))
    (View.ld x (Rect.unit ![7, 0, 0] ![1, 128, 128] inb_S8x128x128_S1x128x128_7_0_0))

theorem part_at (x : Vec Ideal S8x128x128 .bf16) (j : S128x128.Idx) : part x j = ∑ s : Fin 8, x (ix3 s (j 0) (j 1)) := by
  unfold part k0_pay5
  pointwise
  rw [Fin.sum_univ_eight]

/-- The sum that a point computes: of the first layer's block, or of the second's. -/
def parts (c : Dev nD) (t : Fin cfg0.N) : FVec Ideal S128x128 .f32 :=
  if t.val < 4 then part (iblk m c 0 t) else part (iblk m c 1 t)

/-- What a point leaves in the four results' blocks. -/
theorem outs (c : Dev nD) (t : Fin cfg0.N) : outsAt0 m c t.val t.isLt
    = (k0_pay9 (parts m c t), k0_pay10 (parts m c t) (k0_pay6 (iblk m c 2 t)) (iblk m c 3 t) (iblk m c 4 t),
      k0_pay1 (k0_pay7 (parts m c t) (iblk m c 3 t)), k0_pay2 (k0_pay8 (parts m c t) (iblk m c 4 t))) := by
  have ht : t.val < 8 := t.isLt
  by_cases hl : t.val < 4
  · rw [outsAt0_A m c t (by omega) (by omega), parts, if_pos hl]
    frame_out
    rfl
  · rw [outsAt0_B m c t (by omega) (by omega), parts, if_neg hl]
    frame_out
    rfl

/-- The point's sum is the gradient at the entry's place. -/
theorem parts_at (c : Dev nD) (t : Fin cfg0.N) (j : S128x128.Idx) (i : S2x512x128.Idx) (h0 : (i 0).val = t.val / 4)
    (h1 : (i 1).val = t.val % 4 * 128 + (j 0).val) (h2 : (i 2).val = (j 1).val) :
    parts m c t j = grad (m ((c : Thread nD τ).loc main_arg0)) (m ((c : Thread nD τ).loc main_arg1)) i := by
  obtain ⟨e0, e1, -⟩ := idx t
  have ht : t.val < 8 := t.isLt
  unfold parts grad
  by_cases hl : t.val < 4
  · rw [if_pos hl, if_pos (by omega), part_at]
    refine Finset.sum_congr rfl fun s _ => ?_
    blk_point [iblk, V, e0 hl]
    all_goals omega
  · rw [if_neg hl, if_neg (by omega), part_at]
    refine Finset.sum_congr rfl fun s _ => ?_
    blk_point [iblk, V, e1 hl]
    all_goals omega

section Point

variable (G : FVec Ideal S128x128 .f32) (W M V : Vec Ideal S1x128x128 .f32) (y : S1x128x128.Idx)

theorem grad_at : k0_pay9 G y = G (ix2 (y 1) (y 2)) := by
  unfold k0_pay9
  pointwise

theorem delta_at : k0_pay10 G (k0_pay6 W) M V y = AdamStep.delta (W y) (G (ix2 (y 1) (y 2))) (M y) (V y) := by
  unfold k0_pay10 k0_pay7 k0_pay8 k0_pay6 AdamStep.delta AdamStep.mean AdamStep.square
  pointwise

theorem mean_at : k0_pay1 (k0_pay7 G M) y = AdamStep.mean (M y) (G (ix2 (y 1) (y 2))) := by
  unfold k0_pay1 k0_pay7 AdamStep.mean
  pointwise

theorem square_at : k0_pay2 (k0_pay8 G V) y = AdamStep.square (V y) (G (ix2 (y 1) (y 2))) := by
  unfold k0_pay2 k0_pay8 AdamStep.square
  pointwise

end Point

theorem final5 (c : Dev nD) : (dats m 0 c).arrAt 5 cfg0.N
    = grad (m ((c : Thread nD τ).loc main_arg0)) (m ((c : Thread nD τ).loc main_arg1)) := by
  refine (dats m 0 c).arrAt_eq_of_covers 5 _ (by decide +kernel) fun t hf y => ?_
  obtain ⟨e0, e1, e2, e3, e4, e5, e6, e7, e8⟩ := idx t
  blk_simp
  rw [after0_5, outs]
  show k0_pay9 (parts m c t) y = _
  rw [grad_at]
  rw [parts_at m c t _ (((View.whole main_v0_0).slice (win0_5.rect t)).emb y)]
  all_goals blk_point [e5]

theorem final6 (c : Dev nD) : (dats m 0 c).arrAt 6 cfg0.N
    = fun i => AdamStep.delta (m ((c : Thread nD τ).loc main_arg2) i)
        (grad (m ((c : Thread nD τ).loc main_arg0)) (m ((c : Thread nD τ).loc main_arg1)) i) (m ((c : Thread nD τ).loc main_arg3) i)
        (m ((c : Thread nD τ).loc main_arg4) i) := by
  refine (dats m 0 c).arrAt_eq_of_covers 6 _ (by decide +kernel) fun t hf y => ?_
  obtain ⟨e0, e1, e2, e3, e4, e5, e6, e7, e8⟩ := idx t
  blk_simp
  rw [after0_6, outs]
  refine (delta_at ..).trans ?_
  rw [parts_at m c t _ (((View.whole main_v0_1).slice (win0_6.rect t)).emb y)]
  · generalize grad _ _ _ = g
    blk_point [iblk, V, e2, e3, e4, e6]
  all_goals blk_point [e6]

theorem final7 (c : Dev nD) : (dats m 0 c).arrAt 7 cfg0.N
    = fun i => AdamStep.mean (m ((c : Thread nD τ).loc main_arg3) i)
        (grad (m ((c : Thread nD τ).loc main_arg0)) (m ((c : Thread nD τ).loc main_arg1)) i) := by
  refine (dats m 0 c).arrAt_eq_of_covers 7 _ (by decide +kernel) fun t hf y => ?_
  obtain ⟨e0, e1, e2, e3, e4, e5, e6, e7, e8⟩ := idx t
  blk_simp
  rw [after0_7, outs]
  refine (mean_at ..).trans ?_
  rw [parts_at m c t _ (((View.whole main_v0_2).slice (win0_7.rect t)).emb y)]
  · generalize grad _ _ _ = g
    blk_point [iblk, V, e3, e7]
  all_goals blk_point [e7]

theorem final8 (c : Dev nD) : (dats m 0 c).arrAt 8 cfg0.N
    = fun i => AdamStep.square (m ((c : Thread nD τ).loc main_arg4) i)
        (grad (m ((c : Thread nD τ).loc main_arg0)) (m ((c : Thread nD τ).loc main_arg1)) i) := by
  refine (dats m 0 c).arrAt_eq_of_covers 8 _ (by decide +kernel) fun t hf y => ?_
  obtain ⟨e0, e1, e2, e3, e4, e5, e6, e7, e8⟩ := idx t
  blk_simp
  rw [after0_8, outs]
  refine (square_at ..).trans ?_
  rw [parts_at m c t _ (((View.whole main_v0_3).slice (win0_8.rect t)).emb y)]
  · generalize grad _ _ _ = g
    blk_point [iblk, V, e4, e8]
  all_goals blk_point [e8]

section Ref

open Cert.PoolAdamRefIdeal.Read

variable (x0 x1 : Vec Ideal S8x512x128 .bf16) (x2 x3 x4 : Vec Ideal S2x512x128 .f32)

/-- The reference's gradient. -/
theorem ref_grad : val_main_v6 (F := Ideal) x0 x1 = grad x0 x1 := by
  funext i
  rw [← val_main_v6_eq]
  unfold grad
  pointwise
  simp only [Nat.lt_one_iff, dite_eq_ite]

/-- The reference's change of the weight. -/
theorem ref_delta : val_main_v30 (F := Ideal) x0 x1 x2 x3 x4 = fun i => AdamStep.delta (x2 i) (grad x0 x1 i) (x3 i) (x4 i) := by
  rw [← ref_grad]
  simp only [val_main_cst_1, val_main_v7, val_main_v8, val_main_cst_2, val_main_v9, val_main_v10, val_main_v11, val_main_cst_3, val_main_v12, val_main_v13, val_main_v14, val_main_cst_4, val_main_v15, val_main_v16, val_main_v17, val_main_cst_5, val_main_v18, val_main_v19, val_main_cst_6, val_main_v20, val_main_v21, val_main_v22, val_main_cst_7, val_main_v23, val_main_v24, val_main_v25, val_main_cst_8, val_main_v26, val_main_v27, val_main_v28, val_main_cst_9, val_main_v29, val_main_v30]
  generalize val_main_v6 (F := Ideal) x0 x1 = g
  funext i
  unfold AdamStep.delta AdamStep.mean AdamStep.square
  pointwise

/-- The reference's first moment. -/
theorem ref_mean : val_main_v11 (F := Ideal) x0 x1 x3 = fun i => AdamStep.mean (x3 i) (grad x0 x1 i) := by
  rw [← ref_grad]
  simp only [val_main_cst_1, val_main_v7, val_main_v8, val_main_cst_2, val_main_v9, val_main_v10, val_main_v11]
  generalize val_main_v6 (F := Ideal) x0 x1 = g
  funext i
  unfold AdamStep.mean
  pointwise

/-- The reference's second moment. -/
theorem ref_square : val_main_v17 (F := Ideal) x0 x1 x4 = fun i => AdamStep.square (x4 i) (grad x0 x1 i) := by
  rw [← ref_grad]
  simp only [val_main_cst_3, val_main_v12, val_main_v13, val_main_v14, val_main_cst_4, val_main_v15, val_main_v16, val_main_v17]
  generalize val_main_v6 (F := Ideal) x0 x1 = g
  funext i
  unfold AdamStep.square
  pointwise

end Ref

/-- The kernel and the reference compute the same four results over the extended reals. -/
theorem algebraic : Cert.algebraic_PoolAdamIdeal_PoolAdamRefIdeal := by
  pair_intro
  · run_from Cert.PoolAdamIdeal.Value.run_blocks m g
  · run_from Cert.PoolAdamRefIdeal.Value.run m' g'
    · exact (final5 m c).symm ▸ ref_grad _ _
    · exact (final6 m c).symm ▸ ref_delta _ _ _ _ _
    · exact (final7 m c).symm ▸ ref_mean _ _ _
    · exact (final8 m c).symm ▸ ref_square _ _ _

/-- The reference ends with its arguments unchanged and its counters at zero. -/
theorem ref_frame : Cert.quiescent_PoolAdamRefIdeal := fun m ρ _ =>
  (θ_run Cert.PoolAdamRefIdeal.defs _ _).mono
    (fun r h => ⟨fun c => (h c).2.2.2.2, Idealize.ShloMosaic.sem_eq_zero_of_no_sems (by decide) r.2⟩)
    (Cert.PoolAdamRefIdeal.Value.run m ρ)

end Cert.Proof.PoolAdam

end
-- ==== Proof.OutAdam.lean ====
/- The optimiser's step on p_ssd and w_out: each entry's gradient is the sum of the eight devices' parts of its layer, and the entry
   takes one AdamW step with it. -/
module

public import proofs.«01_k».proof.Defs
public import proofs.«01_k».proof.Proof.AdamStep
public import proofs.«01_k».proof.Proof.Gen.OutAdamIdeal.Value
public import proofs.«01_k».proof.Proof.Gen.OutAdamRefIdeal.Read
public import Idealize.ShloMosaic.Lib.Pipeline.ValueKit
public import Idealize.ShloMosaic.Lib.Claim
public import Idealize.ShloMosaic.Lib.Pointwise

@[expose] public section

set_option maxRecDepth 16384

noncomputable section

namespace Cert.Proof.OutAdam

open Cert.OutAdamIdeal Cert.OutAdamIdeal.Gen Cert.OutAdamIdeal.Value Idealize.ShloMosaic Idealize.ShloMosaic.TcCoe Idealize.SL.Sem
open Idealize.ShloMosaic.Pipeline (Dat)

variable (m : (ℓ : Loc nD τ sig) → Buf (Elt Ideal) ℓ)

/-- Every window's block index: the parts of the point's own layer advance with it, and so do the layer's rows. -/
theorem idx : ∀ t : Fin cfg0.N,
    (t.val < 1 → win0_0.index t = ![0, t.val % 1, 0]) ∧ (¬t.val < 1 → win0_1.index t = ![0, t.val % 1, 0])
    ∧ win0_2.index t = ![t.val / 1, t.val % 1, 0] ∧ win0_3.index t = ![t.val / 1, t.val % 1, 0]
    ∧ win0_4.index t = ![t.val / 1, t.val % 1, 0] ∧ win0_5.index t = ![t.val / 1, t.val % 1, 0]
    ∧ win0_6.index t = ![t.val / 1, t.val % 1, 0] ∧ win0_7.index t = ![t.val / 1, t.val % 1, 0]
    ∧ win0_8.index t = ![t.val / 1, t.val % 1, 0] :=
  (by decide +kernel : ∀ t : Fin grid0.N, _)

/-- The gradient: the sum of the eight parts of the entry's layer. -/
def grad (r0 r1 : Vec Ideal S8x128x1024 .bf16) : Vec Ideal S2x128x1024 .f32 := fun i =>
  if (i 0).val = 0 then ∑ s : Fin 8, r0 (ix3 s (i 1) (i 2)) else ∑ s : Fin 8, r1 (ix3 s (i 1) (i 2))

/-- The sum of a block's eight parts. -/
def part (x : Vec Ideal S8x128x1024 .bf16) : FVec Ideal S128x1024 .f32 :=
  k0_pay5
    (View.ld x (Rect.unit ![0, 0, 0] ![1, 128, 1024] inb_S8x128x1024_S1x128x1024_0_0_0))
    (View.ld x (Rect.unit ![1, 0, 0] ![1, 128, 1024] inb_S8x128x1024_S1x128x1024_1_0_0))
    (View.ld x (Rect.unit ![2, 0, 0] ![1, 128, 1024] inb_S8x128x1024_S1x128x1024_2_0_0))
    (View.ld x (Rect.unit ![3, 0, 0] ![1, 128, 1024] inb_S8x128x1024_S1x128x1024_3_0_0))
    (View.ld x (Rect.unit ![4, 0, 0] ![1, 128, 1024] inb_S8x128x1024_S1x128x1024_4_0_0))
    (View.ld x (Rect.unit ![5, 0, 0] ![1, 128, 1024] inb_S8x128x1024_S1x128x1024_5_0_0))
    (View.ld x (Rect.unit ![6, 0, 0] ![1, 128, 1024] inb_S8x128x1024_S1x128x1024_6_0_0))
    (View.ld x (Rect.unit ![7, 0, 0] ![1, 128, 1024] inb_S8x128x1024_S1x128x1024_7_0_0))

theorem part_at (x : Vec Ideal S8x128x1024 .bf16) (j : S128x1024.Idx) : part x j = ∑ s : Fin 8, x (ix3 s (j 0) (j 1)) := by
  unfold part k0_pay5
  pointwise
  rw [Fin.sum_univ_eight]

/-- The sum that a point computes: of the first layer's block, or of the second's. -/
def parts (c : Dev nD) (t : Fin cfg0.N) : FVec Ideal S128x1024 .f32 :=
  if t.val < 1 then part (iblk m c 0 t) else part (iblk m c 1 t)

/-- What a point leaves in the four results' blocks. -/
theorem outs (c : Dev nD) (t : Fin cfg0.N) : outsAt0 m c t.val t.isLt
    = (k0_pay9 (parts m c t), k0_pay10 (parts m c t) (k0_pay6 (iblk m c 2 t)) (iblk m c 3 t) (iblk m c 4 t),
      k0_pay1 (k0_pay7 (parts m c t) (iblk m c 3 t)), k0_pay2 (k0_pay8 (parts m c t) (iblk m c 4 t))) := by
  have ht : t.val < 2 := t.isLt
  by_cases hl : t.val < 1
  · rw [outsAt0_A m c t (by omega) (by omega), parts, if_pos hl]
    frame_out
    rfl
  · rw [outsAt0_B m c t (by omega) (by omega), parts, if_neg hl]
    frame_out
    rfl

/-- The point's sum is the gradient at the entry's place. -/
theorem parts_at (c : Dev nD) (t : Fin cfg0.N) (j : S128x1024.Idx) (i : S2x128x1024.Idx) (h0 : (i 0).val = t.val / 1)
    (h1 : (i 1).val = t.val % 1 * 128 + (j 0).val) (h2 : (i 2).val = (j 1).val) :
    parts m c t j = grad (m ((c : Thread nD τ).loc main_arg0)) (m ((c : Thread nD τ).loc main_arg1)) i := by
  obtain ⟨e0, e1, -⟩ := idx t
  have ht : t.val < 2 := t.isLt
  unfold parts grad
  by_cases hl : t.val < 1
  · rw [if_pos hl, if_pos (by omega), part_at]
    refine Finset.sum_congr rfl fun s _ => ?_
    blk_point [iblk, V, e0 hl]
    all_goals omega
  · rw [if_neg hl, if_neg (by omega), part_at]
    refine Finset.sum_congr rfl fun s _ => ?_
    blk_point [iblk, V, e1 hl]
    all_goals omega

section Point

variable (G : FVec Ideal S128x1024 .f32) (W M V : Vec Ideal S1x128x1024 .f32) (y : S1x128x1024.Idx)

theorem grad_at : k0_pay9 G y = G (ix2 (y 1) (y 2)) := by
  unfold k0_pay9
  pointwise

theorem delta_at : k0_pay10 G (k0_pay6 W) M V y = AdamStep.delta (W y) (G (ix2 (y 1) (y 2))) (M y) (V y) := by
  unfold k0_pay10 k0_pay7 k0_pay8 k0_pay6 AdamStep.delta AdamStep.mean AdamStep.square
  pointwise

theorem mean_at : k0_pay1 (k0_pay7 G M) y = AdamStep.mean (M y) (G (ix2 (y 1) (y 2))) := by
  unfold k0_pay1 k0_pay7 AdamStep.mean
  pointwise

theorem square_at : k0_pay2 (k0_pay8 G V) y = AdamStep.square (V y) (G (ix2 (y 1) (y 2))) := by
  unfold k0_pay2 k0_pay8 AdamStep.square
  pointwise

end Point

theorem final5 (c : Dev nD) : (dats m 0 c).arrAt 5 cfg0.N
    = grad (m ((c : Thread nD τ).loc main_arg0)) (m ((c : Thread nD τ).loc main_arg1)) := by
  refine (dats m 0 c).arrAt_eq_of_covers 5 _ (by decide +kernel) fun t hf y => ?_
  obtain ⟨e0, e1, e2, e3, e4, e5, e6, e7, e8⟩ := idx t
  blk_simp
  rw [after0_5, outs]
  show k0_pay9 (parts m c t) y = _
  rw [grad_at]
  rw [parts_at m c t _ (((View.whole main_v0_0).slice (win0_5.rect t)).emb y)]
  all_goals blk_point [e5]

theorem final6 (c : Dev nD) : (dats m 0 c).arrAt 6 cfg0.N
    = fun i => AdamStep.delta (m ((c : Thread nD τ).loc main_arg2) i)
        (grad (m ((c : Thread nD τ).loc main_arg0)) (m ((c : Thread nD τ).loc main_arg1)) i) (m ((c : Thread nD τ).loc main_arg3) i)
        (m ((c : Thread nD τ).loc main_arg4) i) := by
  refine (dats m 0 c).arrAt_eq_of_covers 6 _ (by decide +kernel) fun t hf y => ?_
  obtain ⟨e0, e1, e2, e3, e4, e5, e6, e7, e8⟩ := idx t
  blk_simp
  rw [after0_6, outs]
  refine (delta_at ..).trans ?_
  rw [parts_at m c t _ (((View.whole main_v0_1).slice (win0_6.rect t)).emb y)]
  · generalize grad _ _ _ = g
    blk_point [iblk, V, e2, e3, e4, e6]
  all_goals blk_point [e6]

theorem final7 (c : Dev nD) : (dats m 0 c).arrAt 7 cfg0.N
    = fun i => AdamStep.mean (m ((c : Thread nD τ).loc main_arg3) i)
        (grad (m ((c : Thread nD τ).loc main_arg0)) (m ((c : Thread nD τ).loc main_arg1)) i) := by
  refine (dats m 0 c).arrAt_eq_of_covers 7 _ (by decide +kernel) fun t hf y => ?_
  obtain ⟨e0, e1, e2, e3, e4, e5, e6, e7, e8⟩ := idx t
  blk_simp
  rw [after0_7, outs]
  refine (mean_at ..).trans ?_
  rw [parts_at m c t _ (((View.whole main_v0_2).slice (win0_7.rect t)).emb y)]
  · generalize grad _ _ _ = g
    blk_point [iblk, V, e3, e7]
  all_goals blk_point [e7]

theorem final8 (c : Dev nD) : (dats m 0 c).arrAt 8 cfg0.N
    = fun i => AdamStep.square (m ((c : Thread nD τ).loc main_arg4) i)
        (grad (m ((c : Thread nD τ).loc main_arg0)) (m ((c : Thread nD τ).loc main_arg1)) i) := by
  refine (dats m 0 c).arrAt_eq_of_covers 8 _ (by decide +kernel) fun t hf y => ?_
  obtain ⟨e0, e1, e2, e3, e4, e5, e6, e7, e8⟩ := idx t
  blk_simp
  rw [after0_8, outs]
  refine (square_at ..).trans ?_
  rw [parts_at m c t _ (((View.whole main_v0_3).slice (win0_8.rect t)).emb y)]
  · generalize grad _ _ _ = g
    blk_point [iblk, V, e4, e8]
  all_goals blk_point [e8]

section Ref

open Cert.OutAdamRefIdeal.Read

variable (x0 x1 : Vec Ideal S8x128x1024 .bf16) (x2 x3 x4 : Vec Ideal S2x128x1024 .f32)

/-- The reference's gradient. -/
theorem ref_grad : val_main_v6 (F := Ideal) x0 x1 = grad x0 x1 := by
  funext i
  rw [← val_main_v6_eq]
  unfold grad
  pointwise
  simp only [Nat.lt_one_iff, dite_eq_ite]

/-- The reference's change of the weight. -/
theorem ref_delta : val_main_v30 (F := Ideal) x0 x1 x2 x3 x4 = fun i => AdamStep.delta (x2 i) (grad x0 x1 i) (x3 i) (x4 i) := by
  rw [← ref_grad]
  simp only [val_main_cst_1, val_main_v7, val_main_v8, val_main_cst_2, val_main_v9, val_main_v10, val_main_v11, val_main_cst_3, val_main_v12, val_main_v13, val_main_v14, val_main_cst_4, val_main_v15, val_main_v16, val_main_v17, val_main_cst_5, val_main_v18, val_main_v19, val_main_cst_6, val_main_v20, val_main_v21, val_main_v22, val_main_cst_7, val_main_v23, val_main_v24, val_main_v25, val_main_cst_8, val_main_v26, val_main_v27, val_main_v28, val_main_cst_9, val_main_v29, val_main_v30]
  generalize val_main_v6 (F := Ideal) x0 x1 = g
  funext i
  unfold AdamStep.delta AdamStep.mean AdamStep.square
  pointwise

/-- The reference's first moment. -/
theorem ref_mean : val_main_v11 (F := Ideal) x0 x1 x3 = fun i => AdamStep.mean (x3 i) (grad x0 x1 i) := by
  rw [← ref_grad]
  simp only [val_main_cst_1, val_main_v7, val_main_v8, val_main_cst_2, val_main_v9, val_main_v10, val_main_v11]
  generalize val_main_v6 (F := Ideal) x0 x1 = g
  funext i
  unfold AdamStep.mean
  pointwise

/-- The reference's second moment. -/
theorem ref_square : val_main_v17 (F := Ideal) x0 x1 x4 = fun i => AdamStep.square (x4 i) (grad x0 x1 i) := by
  rw [← ref_grad]
  simp only [val_main_cst_3, val_main_v12, val_main_v13, val_main_v14, val_main_cst_4, val_main_v15, val_main_v16, val_main_v17]
  generalize val_main_v6 (F := Ideal) x0 x1 = g
  funext i
  unfold AdamStep.square
  pointwise

end Ref

/-- The kernel and the reference compute the same four results over the extended reals. -/
theorem algebraic : Cert.algebraic_OutAdamIdeal_OutAdamRefIdeal := by
  pair_intro
  · run_from Cert.OutAdamIdeal.Value.run_blocks m g
  · run_from Cert.OutAdamRefIdeal.Value.run m' g'
    · exact (final5 m c).symm ▸ ref_grad _ _
    · exact (final6 m c).symm ▸ ref_delta _ _ _ _ _
    · exact (final7 m c).symm ▸ ref_mean _ _ _
    · exact (final8 m c).symm ▸ ref_square _ _ _

/-- The reference ends with its arguments unchanged and its counters at zero. -/
theorem ref_frame : Cert.quiescent_OutAdamRefIdeal := fun m ρ _ =>
  (θ_run Cert.OutAdamRefIdeal.defs _ _).mono
    (fun r h => ⟨fun c => (h c).2.2.2.2, Idealize.ShloMosaic.sem_eq_zero_of_no_sems (by decide) r.2⟩)
    (Cert.OutAdamRefIdeal.Value.run m ρ)

end Cert.Proof.OutAdam

end
-- ==== Proof.DownAdam.lean ====
/- The optimiser's step on ffn_down: each entry's gradient is the sum of the eight devices' parts of its layer, and the entry
   takes one AdamW step with it. -/
module

public import proofs.«01_k».proof.Defs
public import proofs.«01_k».proof.Proof.AdamStep
public import proofs.«01_k».proof.Proof.Gen.DownAdamIdeal.Value
public import proofs.«01_k».proof.Proof.Gen.DownAdamRefIdeal.Read
public import Idealize.ShloMosaic.Lib.Pipeline.ValueKit
public import Idealize.ShloMosaic.Lib.Claim
public import Idealize.ShloMosaic.Lib.Pointwise

@[expose] public section

set_option maxRecDepth 16384

noncomputable section

namespace Cert.Proof.DownAdam

open Cert.DownAdamIdeal Cert.DownAdamIdeal.Gen Cert.DownAdamIdeal.Value Idealize.ShloMosaic Idealize.ShloMosaic.TcCoe Idealize.SL.Sem
open Idealize.ShloMosaic.Pipeline (Dat)

variable (m : (ℓ : Loc nD τ sig) → Buf (Elt Ideal) ℓ)

/-- Every window's block index: the parts of the point's own layer advance with it, and so do the layer's rows. -/
theorem idx : ∀ t : Fin cfg0.N,
    (t.val < 11 → win0_0.index t = ![0, t.val % 11, 0]) ∧ (¬t.val < 11 → win0_1.index t = ![0, t.val % 11, 0])
    ∧ win0_2.index t = ![t.val / 11, t.val % 11, 0] ∧ win0_3.index t = ![t.val / 11, t.val % 11, 0]
    ∧ win0_4.index t = ![t.val / 11, t.val % 11, 0] ∧ win0_5.index t = ![t.val / 11, t.val % 11, 0]
    ∧ win0_6.index t = ![t.val / 11, t.val % 11, 0] ∧ win0_7.index t = ![t.val / 11, t.val % 11, 0]
    ∧ win0_8.index t = ![t.val / 11, t.val % 11, 0] :=
  (by decide +kernel : ∀ t : Fin grid0.N, _)

/-- The gradient: the sum of the eight parts of the entry's layer. -/
def grad (r0 r1 : Vec Ideal S8x352x1024 .bf16) : Vec Ideal S2x352x1024 .f32 := fun i =>
  if (i 0).val = 0 then ∑ s : Fin 8, r0 (ix3 s (i 1) (i 2)) else ∑ s : Fin 8, r1 (ix3 s (i 1) (i 2))

/-- The sum of a block's eight parts. -/
def part (x : Vec Ideal S8x32x1024 .bf16) : FVec Ideal S32x1024 .f32 :=
  k0_pay5
    (View.ld x (Rect.unit ![0, 0, 0] ![1, 32, 1024] inb_S8x32x1024_S1x32x1024_0_0_0))
    (View.ld x (Rect.unit ![1, 0, 0] ![1, 32, 1024] inb_S8x32x1024_S1x32x1024_1_0_0))
    (View.ld x (Rect.unit ![2, 0, 0] ![1, 32, 1024] inb_S8x32x1024_S1x32x1024_2_0_0))
    (View.ld x (Rect.unit ![3, 0, 0] ![1, 32, 1024] inb_S8x32x1024_S1x32x1024_3_0_0))
    (View.ld x (Rect.unit ![4, 0, 0] ![1, 32, 1024] inb_S8x32x1024_S1x32x1024_4_0_0))
    (View.ld x (Rect.unit ![5, 0, 0] ![1, 32, 1024] inb_S8x32x1024_S1x32x1024_5_0_0))
    (View.ld x (Rect.unit ![6, 0, 0] ![1, 32, 1024] inb_S8x32x1024_S1x32x1024_6_0_0))
    (View.ld x (Rect.unit ![7, 0, 0] ![1, 32, 1024] inb_S8x32x1024_S1x32x1024_7_0_0))

theorem part_at (x : Vec Ideal S8x32x1024 .bf16) (j : S32x1024.Idx) : part x j = ∑ s : Fin 8, x (ix3 s (j 0) (j 1)) := by
  unfold part k0_pay5
  pointwise
  rw [Fin.sum_univ_eight]

/-- The sum that a point computes: of the first layer's block, or of the second's. -/
def parts (c : Dev nD) (t : Fin cfg0.N) : FVec Ideal S32x1024 .f32 :=
  if t.val < 11 then part (iblk m c 0 t) else part (iblk m c 1 t)

/-- What a point leaves in the four results' blocks. -/
theorem outs (c : Dev nD) (t : Fin cfg0.N) : outsAt0 m c t.val t.isLt
    = (k0_pay9 (parts m c t), k0_pay10 (parts m c t) (k0_pay6 (iblk m c 2 t)) (iblk m c 3 t) (iblk m c 4 t),
      k0_pay1 (k0_pay7 (parts m c t) (iblk m c 3 t)), k0_pay2 (k0_pay8 (parts m c t) (iblk m c 4 t))) := by
  have ht : t.val < 22 := t.isLt
  by_cases hl : t.val < 11
  · rw [outsAt0_A m c t (by omega) (by omega), parts, if_pos hl]
    frame_out
    rfl
  · rw [outsAt0_B m c t (by omega) (by omega), parts, if_neg hl]
    frame_out
    rfl

/-- The point's sum is the gradient at the entry's place. -/
theorem parts_at (c : Dev nD) (t : Fin cfg0.N) (j : S32x1024.Idx) (i : S2x352x1024.Idx) (h0 : (i 0).val = t.val / 11)
    (h1 : (i 1).val = t.val % 11 * 32 + (j 0).val) (h2 : (i 2).val = (j 1).val) :
    parts m c t j = grad (m ((c : Thread nD τ).loc main_arg0)) (m ((c : Thread nD τ).loc main_arg1)) i := by
  obtain ⟨e0, e1, -⟩ := idx t
  have ht : t.val < 22 := t.isLt
  unfold parts grad
  by_cases hl : t.val < 11
  · rw [if_pos hl, if_pos (by omega), part_at]
    refine Finset.sum_congr rfl fun s _ => ?_
    blk_point [iblk, V, e0 hl]
    all_goals omega
  · rw [if_neg hl, if_neg (by omega), part_at]
    refine Finset.sum_congr rfl fun s _ => ?_
    blk_point [iblk, V, e1 hl]
    all_goals omega

section Point

variable (G : FVec Ideal S32x1024 .f32) (W M V : Vec Ideal S1x32x1024 .f32) (y : S1x32x1024.Idx)

theorem grad_at : k0_pay9 G y = G (ix2 (y 1) (y 2)) := by
  unfold k0_pay9
  pointwise

theorem delta_at : k0_pay10 G (k0_pay6 W) M V y = AdamStep.delta (W y) (G (ix2 (y 1) (y 2))) (M y) (V y) := by
  unfold k0_pay10 k0_pay7 k0_pay8 k0_pay6 AdamStep.delta AdamStep.mean AdamStep.square
  pointwise

theorem mean_at : k0_pay1 (k0_pay7 G M) y = AdamStep.mean (M y) (G (ix2 (y 1) (y 2))) := by
  unfold k0_pay1 k0_pay7 AdamStep.mean
  pointwise

theorem square_at : k0_pay2 (k0_pay8 G V) y = AdamStep.square (V y) (G (ix2 (y 1) (y 2))) := by
  unfold k0_pay2 k0_pay8 AdamStep.square
  pointwise

end Point

theorem final5 (c : Dev nD) : (dats m 0 c).arrAt 5 cfg0.N
    = grad (m ((c : Thread nD τ).loc main_arg0)) (m ((c : Thread nD τ).loc main_arg1)) := by
  refine (dats m 0 c).arrAt_eq_of_covers 5 _ (by decide +kernel) fun t hf y => ?_
  obtain ⟨e0, e1, e2, e3, e4, e5, e6, e7, e8⟩ := idx t
  blk_simp
  rw [after0_5, outs]
  show k0_pay9 (parts m c t) y = _
  rw [grad_at]
  rw [parts_at m c t _ (((View.whole main_v0_0).slice (win0_5.rect t)).emb y)]
  all_goals blk_point [e5]

theorem final6 (c : Dev nD) : (dats m 0 c).arrAt 6 cfg0.N
    = fun i => AdamStep.delta (m ((c : Thread nD τ).loc main_arg2) i)
        (grad (m ((c : Thread nD τ).loc main_arg0)) (m ((c : Thread nD τ).loc main_arg1)) i) (m ((c : Thread nD τ).loc main_arg3) i)
        (m ((c : Thread nD τ).loc main_arg4) i) := by
  refine (dats m 0 c).arrAt_eq_of_covers 6 _ (by decide +kernel) fun t hf y => ?_
  obtain ⟨e0, e1, e2, e3, e4, e5, e6, e7, e8⟩ := idx t
  blk_simp
  rw [after0_6, outs]
  refine (delta_at ..).trans ?_
  rw [parts_at m c t _ (((View.whole main_v0_1).slice (win0_6.rect t)).emb y)]
  · generalize grad _ _ _ = g
    blk_point [iblk, V, e2, e3, e4, e6]
  all_goals blk_point [e6]

theorem final7 (c : Dev nD) : (dats m 0 c).arrAt 7 cfg0.N
    = fun i => AdamStep.mean (m ((c : Thread nD τ).loc main_arg3) i)
        (grad (m ((c : Thread nD τ).loc main_arg0)) (m ((c : Thread nD τ).loc main_arg1)) i) := by
  refine (dats m 0 c).arrAt_eq_of_covers 7 _ (by decide +kernel) fun t hf y => ?_
  obtain ⟨e0, e1, e2, e3, e4, e5, e6, e7, e8⟩ := idx t
  blk_simp
  rw [after0_7, outs]
  refine (mean_at ..).trans ?_
  rw [parts_at m c t _ (((View.whole main_v0_2).slice (win0_7.rect t)).emb y)]
  · generalize grad _ _ _ = g
    blk_point [iblk, V, e3, e7]
  all_goals blk_point [e7]

theorem final8 (c : Dev nD) : (dats m 0 c).arrAt 8 cfg0.N
    = fun i => AdamStep.square (m ((c : Thread nD τ).loc main_arg4) i)
        (grad (m ((c : Thread nD τ).loc main_arg0)) (m ((c : Thread nD τ).loc main_arg1)) i) := by
  refine (dats m 0 c).arrAt_eq_of_covers 8 _ (by decide +kernel) fun t hf y => ?_
  obtain ⟨e0, e1, e2, e3, e4, e5, e6, e7, e8⟩ := idx t
  blk_simp
  rw [after0_8, outs]
  refine (square_at ..).trans ?_
  rw [parts_at m c t _ (((View.whole main_v0_3).slice (win0_8.rect t)).emb y)]
  · generalize grad _ _ _ = g
    blk_point [iblk, V, e4, e8]
  all_goals blk_point [e8]

section Ref

open Cert.DownAdamRefIdeal.Read

variable (x0 x1 : Vec Ideal S8x352x1024 .bf16) (x2 x3 x4 : Vec Ideal S2x352x1024 .f32)

/-- The reference's gradient. -/
theorem ref_grad : val_main_v6 (F := Ideal) x0 x1 = grad x0 x1 := by
  funext i
  rw [← val_main_v6_eq]
  unfold grad
  pointwise
  simp only [Nat.lt_one_iff, dite_eq_ite]

/-- The reference's change of the weight. -/
theorem ref_delta : val_main_v30 (F := Ideal) x0 x1 x2 x3 x4 = fun i => AdamStep.delta (x2 i) (grad x0 x1 i) (x3 i) (x4 i) := by
  rw [← ref_grad]
  simp only [val_main_cst_1, val_main_v7, val_main_v8, val_main_cst_2, val_main_v9, val_main_v10, val_main_v11, val_main_cst_3, val_main_v12, val_main_v13, val_main_v14, val_main_cst_4, val_main_v15, val_main_v16, val_main_v17, val_main_cst_5, val_main_v18, val_main_v19, val_main_cst_6, val_main_v20, val_main_v21, val_main_v22, val_main_cst_7, val_main_v23, val_main_v24, val_main_v25, val_main_cst_8, val_main_v26, val_main_v27, val_main_v28, val_main_cst_9, val_main_v29, val_main_v30]
  generalize val_main_v6 (F := Ideal) x0 x1 = g
  funext i
  unfold AdamStep.delta AdamStep.mean AdamStep.square
  pointwise

/-- The reference's first moment. -/
theorem ref_mean : val_main_v11 (F := Ideal) x0 x1 x3 = fun i => AdamStep.mean (x3 i) (grad x0 x1 i) := by
  rw [← ref_grad]
  simp only [val_main_cst_1, val_main_v7, val_main_v8, val_main_cst_2, val_main_v9, val_main_v10, val_main_v11]
  generalize val_main_v6 (F := Ideal) x0 x1 = g
  funext i
  unfold AdamStep.mean
  pointwise

/-- The reference's second moment. -/
theorem ref_square : val_main_v17 (F := Ideal) x0 x1 x4 = fun i => AdamStep.square (x4 i) (grad x0 x1 i) := by
  rw [← ref_grad]
  simp only [val_main_cst_3, val_main_v12, val_main_v13, val_main_v14, val_main_cst_4, val_main_v15, val_main_v16, val_main_v17]
  generalize val_main_v6 (F := Ideal) x0 x1 = g
  funext i
  unfold AdamStep.square
  pointwise

end Ref

/-- The kernel and the reference compute the same four results over the extended reals. -/
theorem algebraic : Cert.algebraic_DownAdamIdeal_DownAdamRefIdeal := by
  pair_intro
  · run_from Cert.DownAdamIdeal.Value.run_blocks m g
  · run_from Cert.DownAdamRefIdeal.Value.run m' g'
    · exact (final5 m c).symm ▸ ref_grad _ _
    · exact (final6 m c).symm ▸ ref_delta _ _ _ _ _
    · exact (final7 m c).symm ▸ ref_mean _ _ _
    · exact (final8 m c).symm ▸ ref_square _ _ _

/-- The reference ends with its arguments unchanged and its counters at zero. -/
theorem ref_frame : Cert.quiescent_DownAdamRefIdeal := fun m ρ _ =>
  (θ_run Cert.DownAdamRefIdeal.defs _ _).mono
    (fun r h => ⟨fun c => (h c).2.2.2.2, Idealize.ShloMosaic.sem_eq_zero_of_no_sems (by decide) r.2⟩)
    (Cert.DownAdamRefIdeal.Value.run m ρ)

end Cert.Proof.DownAdam

end
-- ==== Proof.SsdConvAdam.lean ====
/- The optimiser's step on ssd_conv_w: each entry's gradient is the sum of the eight devices' parts of its layer, and the entry
   takes one AdamW step with it. -/
module

public import proofs.«01_k».proof.Defs
public import proofs.«01_k».proof.Proof.AdamStep
public import proofs.«01_k».proof.Proof.Gen.SsdConvAdamIdeal.Value
public import proofs.«01_k».proof.Proof.Gen.SsdConvAdamRefIdeal.Read
public import Idealize.ShloMosaic.Lib.Pipeline.ValueKit
public import Idealize.ShloMosaic.Lib.Claim
public import Idealize.ShloMosaic.Lib.Pointwise

@[expose] public section

set_option maxRecDepth 16384

noncomputable section

namespace Cert.Proof.SsdConvAdam

open Cert.SsdConvAdamIdeal Cert.SsdConvAdamIdeal.Gen Cert.SsdConvAdamIdeal.Value Idealize.ShloMosaic Idealize.ShloMosaic.TcCoe Idealize.SL.Sem
open Idealize.ShloMosaic.Pipeline (Dat)

variable (m : (ℓ : Loc nD τ sig) → Buf (Elt Ideal) ℓ)

/-- Every window's block index: the parts of the point's own layer advance with it, and so do the layer's rows. -/
theorem idx : ∀ t : Fin cfg0.N,
    (t.val < 1 → win0_0.index t = ![0, t.val % 1, 0]) ∧ (¬t.val < 1 → win0_1.index t = ![0, t.val % 1, 0])
    ∧ win0_2.index t = ![t.val / 1, t.val % 1, 0] ∧ win0_3.index t = ![t.val / 1, t.val % 1, 0]
    ∧ win0_4.index t = ![t.val / 1, t.val % 1, 0] ∧ win0_5.index t = ![t.val / 1, t.val % 1, 0]
    ∧ win0_6.index t = ![t.val / 1, t.val % 1, 0] ∧ win0_7.index t = ![t.val / 1, t.val % 1, 0]
    ∧ win0_8.index t = ![t.val / 1, t.val % 1, 0] :=
  (by decide +kernel : ∀ t : Fin grid0.N, _)

/-- The gradient: the sum of the eight parts of the entry's layer. -/
def grad (r0 r1 : Vec Ideal S8x4x192 .f32) : Vec Ideal S2x4x192 .f32 := fun i =>
  if (i 0).val = 0 then ∑ s : Fin 8, r0 (ix3 s (i 1) (i 2)) else ∑ s : Fin 8, r1 (ix3 s (i 1) (i 2))

/-- The sum of a block's eight parts. -/
def part (x : Vec Ideal S8x4x192 .f32) : FVec Ideal S4x192 .f32 :=
  k0_pay3
    (View.ld x (Rect.unit ![0, 0, 0] ![1, 4, 192] inb_S8x4x192_S1x4x192_0_0_0))
    (View.ld x (Rect.unit ![1, 0, 0] ![1, 4, 192] inb_S8x4x192_S1x4x192_1_0_0))
    (View.ld x (Rect.unit ![2, 0, 0] ![1, 4, 192] inb_S8x4x192_S1x4x192_2_0_0))
    (View.ld x (Rect.unit ![3, 0, 0] ![1, 4, 192] inb_S8x4x192_S1x4x192_3_0_0))
    (View.ld x (Rect.unit ![4, 0, 0] ![1, 4, 192] inb_S8x4x192_S1x4x192_4_0_0))
    (View.ld x (Rect.unit ![5, 0, 0] ![1, 4, 192] inb_S8x4x192_S1x4x192_5_0_0))
    (View.ld x (Rect.unit ![6, 0, 0] ![1, 4, 192] inb_S8x4x192_S1x4x192_6_0_0))
    (View.ld x (Rect.unit ![7, 0, 0] ![1, 4, 192] inb_S8x4x192_S1x4x192_7_0_0))

theorem part_at (x : Vec Ideal S8x4x192 .f32) (j : S4x192.Idx) : part x j = ∑ s : Fin 8, x (ix3 s (j 0) (j 1)) := by
  unfold part k0_pay3
  pointwise
  rw [Fin.sum_univ_eight]

/-- The sum that a point computes: of the first layer's block, or of the second's. -/
def parts (c : Dev nD) (t : Fin cfg0.N) : FVec Ideal S4x192 .f32 :=
  if t.val < 1 then part (iblk m c 0 t) else part (iblk m c 1 t)

/-- What a point leaves in the four results' blocks. -/
theorem outs (c : Dev nD) (t : Fin cfg0.N) : outsAt0 m c t.val t.isLt
    = (k0_pay8 (parts m c t), k0_pay9 (parts m c t) (k0_pay4 (iblk m c 2 t)) (k0_pay5 (iblk m c 3 t)) (iblk m c 4 t),
      k0_pay10 (parts m c t) (k0_pay5 (iblk m c 3 t)), k0_pay1 (k0_pay7 (parts m c t) (iblk m c 4 t))) := by
  have ht : t.val < 2 := t.isLt
  by_cases hl : t.val < 1
  · rw [outsAt0_A m c t (by omega) (by omega), parts, if_pos hl]
    frame_out
    rfl
  · rw [outsAt0_B m c t (by omega) (by omega), parts, if_neg hl]
    frame_out
    rfl

/-- The point's sum is the gradient at the entry's place. -/
theorem parts_at (c : Dev nD) (t : Fin cfg0.N) (j : S4x192.Idx) (i : S2x4x192.Idx) (h0 : (i 0).val = t.val / 1)
    (h1 : (i 1).val = t.val % 1 * 4 + (j 0).val) (h2 : (i 2).val = (j 1).val) :
    parts m c t j = grad (m ((c : Thread nD τ).loc main_arg0)) (m ((c : Thread nD τ).loc main_arg1)) i := by
  obtain ⟨e0, e1, -⟩ := idx t
  have ht : t.val < 2 := t.isLt
  unfold parts grad
  by_cases hl : t.val < 1
  · rw [if_pos hl, if_pos (by omega), part_at]
    refine Finset.sum_congr rfl fun s _ => ?_
    blk_point [iblk, V, e0 hl]
    all_goals omega
  · rw [if_neg hl, if_neg (by omega), part_at]
    refine Finset.sum_congr rfl fun s _ => ?_
    blk_point [iblk, V, e1 hl]
    all_goals omega

section Point

variable (G : FVec Ideal S4x192 .f32) (W M V : Vec Ideal S1x4x192 .f32) (y : S1x4x192.Idx)

theorem grad_at : k0_pay8 G y = G (ix2 (y 1) (y 2)) := by
  unfold k0_pay8
  pointwise

theorem delta_at : k0_pay9 G (k0_pay4 W) (k0_pay5 M) V y = AdamStep.delta (W y) (G (ix2 (y 1) (y 2))) (M y) (V y) := by
  unfold k0_pay9 k0_pay6 k0_pay7 k0_pay4 k0_pay5 AdamStep.delta AdamStep.mean AdamStep.square
  pointwise

theorem mean_at : k0_pay10 G (k0_pay5 M) y = AdamStep.mean (M y) (G (ix2 (y 1) (y 2))) := by
  unfold k0_pay10 k0_pay6 k0_pay5 AdamStep.mean
  pointwise

theorem square_at : k0_pay1 (k0_pay7 G V) y = AdamStep.square (V y) (G (ix2 (y 1) (y 2))) := by
  unfold k0_pay1 k0_pay7 AdamStep.square
  pointwise

end Point

theorem final5 (c : Dev nD) : (dats m 0 c).arrAt 5 cfg0.N
    = grad (m ((c : Thread nD τ).loc main_arg0)) (m ((c : Thread nD τ).loc main_arg1)) := by
  refine (dats m 0 c).arrAt_eq_of_covers 5 _ (by decide +kernel) fun t hf y => ?_
  obtain ⟨e0, e1, e2, e3, e4, e5, e6, e7, e8⟩ := idx t
  blk_simp
  rw [after0_5, outs]
  show k0_pay8 (parts m c t) y = _
  rw [grad_at]
  rw [parts_at m c t _ (((View.whole main_v0_0).slice (win0_5.rect t)).emb y)]
  all_goals blk_point [e5]

theorem final6 (c : Dev nD) : (dats m 0 c).arrAt 6 cfg0.N
    = fun i => AdamStep.delta (m ((c : Thread nD τ).loc main_arg2) i)
        (grad (m ((c : Thread nD τ).loc main_arg0)) (m ((c : Thread nD τ).loc main_arg1)) i) (m ((c : Thread nD τ).loc main_arg3) i)
        (m ((c : Thread nD τ).loc main_arg4) i) := by
  refine (dats m 0 c).arrAt_eq_of_covers 6 _ (by decide +kernel) fun t hf y => ?_
  obtain ⟨e0, e1, e2, e3, e4, e5, e6, e7, e8⟩ := idx t
  blk_simp
  rw [after0_6, outs]
  refine (delta_at ..).trans ?_
  rw [parts_at m c t _ (((View.whole main_v0_1).slice (win0_6.rect t)).emb y)]
  · generalize grad _ _ _ = g
    blk_point [iblk, V, e2, e3, e4, e6]
  all_goals blk_point [e6]

theorem final7 (c : Dev nD) : (dats m 0 c).arrAt 7 cfg0.N
    = fun i => AdamStep.mean (m ((c : Thread nD τ).loc main_arg3) i)
        (grad (m ((c : Thread nD τ).loc main_arg0)) (m ((c : Thread nD τ).loc main_arg1)) i) := by
  refine (dats m 0 c).arrAt_eq_of_covers 7 _ (by decide +kernel) fun t hf y => ?_
  obtain ⟨e0, e1, e2, e3, e4, e5, e6, e7, e8⟩ := idx t
  blk_simp
  rw [after0_7, outs]
  refine (mean_at ..).trans ?_
  rw [parts_at m c t _ (((View.whole main_v0_2).slice (win0_7.rect t)).emb y)]
  · generalize grad _ _ _ = g
    blk_point [iblk, V, e3, e7]
  all_goals blk_point [e7]

theorem final8 (c : Dev nD) : (dats m 0 c).arrAt 8 cfg0.N
    = fun i => AdamStep.square (m ((c : Thread nD τ).loc main_arg4) i)
        (grad (m ((c : Thread nD τ).loc main_arg0)) (m ((c : Thread nD τ).loc main_arg1)) i) := by
  refine (dats m 0 c).arrAt_eq_of_covers 8 _ (by decide +kernel) fun t hf y => ?_
  obtain ⟨e0, e1, e2, e3, e4, e5, e6, e7, e8⟩ := idx t
  blk_simp
  rw [after0_8, outs]
  refine (square_at ..).trans ?_
  rw [parts_at m c t _ (((View.whole main_v0_3).slice (win0_8.rect t)).emb y)]
  · generalize grad _ _ _ = g
    blk_point [iblk, V, e4, e8]
  all_goals blk_point [e8]

section Ref

open Cert.SsdConvAdamRefIdeal.Read

variable (x0 x1 : Vec Ideal S8x4x192 .f32) (x2 x3 x4 : Vec Ideal S2x4x192 .f32)

/-- The reference's gradient. -/
theorem ref_grad : val_main_v4 (F := Ideal) x0 x1 = grad x0 x1 := by
  funext i
  rw [← val_main_v4_eq]
  unfold grad
  pointwise
  simp only [Nat.lt_one_iff, dite_eq_ite]

/-- The reference's change of the weight. -/
theorem ref_delta : val_main_v28 (F := Ideal) x0 x1 x2 x3 x4 = fun i => AdamStep.delta (x2 i) (grad x0 x1 i) (x3 i) (x4 i) := by
  rw [← ref_grad]
  simp only [val_main_cst_1, val_main_v5, val_main_v6, val_main_cst_2, val_main_v7, val_main_v8, val_main_v9, val_main_cst_3, val_main_v10, val_main_v11, val_main_v12, val_main_cst_4, val_main_v13, val_main_v14, val_main_v15, val_main_cst_5, val_main_v16, val_main_v17, val_main_cst_6, val_main_v18, val_main_v19, val_main_v20, val_main_cst_7, val_main_v21, val_main_v22, val_main_v23, val_main_cst_8, val_main_v24, val_main_v25, val_main_v26, val_main_cst_9, val_main_v27, val_main_v28]
  generalize val_main_v4 (F := Ideal) x0 x1 = g
  funext i
  unfold AdamStep.delta AdamStep.mean AdamStep.square
  pointwise

/-- The reference's first moment. -/
theorem ref_mean : val_main_v9 (F := Ideal) x0 x1 x3 = fun i => AdamStep.mean (x3 i) (grad x0 x1 i) := by
  rw [← ref_grad]
  simp only [val_main_cst_1, val_main_v5, val_main_v6, val_main_cst_2, val_main_v7, val_main_v8, val_main_v9]
  generalize val_main_v4 (F := Ideal) x0 x1 = g
  funext i
  unfold AdamStep.mean
  pointwise

/-- The reference's second moment. -/
theorem ref_square : val_main_v15 (F := Ideal) x0 x1 x4 = fun i => AdamStep.square (x4 i) (grad x0 x1 i) := by
  rw [← ref_grad]
  simp only [val_main_cst_3, val_main_v10, val_main_v11, val_main_v12, val_main_cst_4, val_main_v13, val_main_v14, val_main_v15]
  generalize val_main_v4 (F := Ideal) x0 x1 = g
  funext i
  unfold AdamStep.square
  pointwise

end Ref

/-- The kernel and the reference compute the same four results over the extended reals. -/
theorem algebraic : Cert.algebraic_SsdConvAdamIdeal_SsdConvAdamRefIdeal := by
  pair_intro
  · run_from Cert.SsdConvAdamIdeal.Value.run_blocks m g
  · run_from Cert.SsdConvAdamRefIdeal.Value.run m' g'
    · exact (final5 m c).symm ▸ ref_grad _ _
    · exact (final6 m c).symm ▸ ref_delta _ _ _ _ _
    · exact (final7 m c).symm ▸ ref_mean _ _ _
    · exact (final8 m c).symm ▸ ref_square _ _ _

/-- The reference ends with its arguments unchanged and its counters at zero. -/
theorem ref_frame : Cert.quiescent_SsdConvAdamRefIdeal := fun m ρ _ =>
  (θ_run Cert.SsdConvAdamRefIdeal.defs _ _).mono
    (fun r h => ⟨fun c => (h c).2.2.2.2, Idealize.ShloMosaic.sem_eq_zero_of_no_sems (by decide) r.2⟩)
    (Cert.SsdConvAdamRefIdeal.Value.run m ρ)

end Cert.Proof.SsdConvAdam

end
-- ==== Proof.FfnConvAdam.lean ====
/- The optimiser's step on ffn_conv_w: each entry's gradient is the sum of the eight devices' parts of its layer, and the entry
   takes one AdamW step with it. -/
module

public import proofs.«01_k».proof.Defs
public import proofs.«01_k».proof.Proof.AdamStep
public import proofs.«01_k».proof.Proof.Gen.FfnConvAdamIdeal.Value
public import proofs.«01_k».proof.Proof.Gen.FfnConvAdamRefIdeal.Read
public import Idealize.ShloMosaic.Lib.Pipeline.ValueKit
public import Idealize.ShloMosaic.Lib.Claim
public import Idealize.ShloMosaic.Lib.Pointwise

@[expose] public section

set_option maxRecDepth 16384

noncomputable section

namespace Cert.Proof.FfnConvAdam

open Cert.FfnConvAdamIdeal Cert.FfnConvAdamIdeal.Gen Cert.FfnConvAdamIdeal.Value Idealize.ShloMosaic Idealize.ShloMosaic.TcCoe Idealize.SL.Sem
open Idealize.ShloMosaic.Pipeline (Dat)

variable (m : (ℓ : Loc nD τ sig) → Buf (Elt Ideal) ℓ)

/-- Every window's block index: the parts of the point's own layer advance with it, and so do the layer's rows. -/
theorem idx : ∀ t : Fin cfg0.N,
    (t.val < 1 → win0_0.index t = ![0, t.val % 1, 0]) ∧ (¬t.val < 1 → win0_1.index t = ![0, t.val % 1, 0])
    ∧ win0_2.index t = ![t.val / 1, t.val % 1, 0] ∧ win0_3.index t = ![t.val / 1, t.val % 1, 0]
    ∧ win0_4.index t = ![t.val / 1, t.val % 1, 0] ∧ win0_5.index t = ![t.val / 1, t.val % 1, 0]
    ∧ win0_6.index t = ![t.val / 1, t.val % 1, 0] ∧ win0_7.index t = ![t.val / 1, t.val % 1, 0]
    ∧ win0_8.index t = ![t.val / 1, t.val % 1, 0] :=
  (by decide +kernel : ∀ t : Fin grid0.N, _)

/-- The gradient: the sum of the eight parts of the entry's layer. -/
def grad (r0 r1 : Vec Ideal S8x3x704 .f32) : Vec Ideal S2x3x704 .f32 := fun i =>
  if (i 0).val = 0 then ∑ s : Fin 8, r0 (ix3 s (i 1) (i 2)) else ∑ s : Fin 8, r1 (ix3 s (i 1) (i 2))

/-- The sum of a block's eight parts. -/
def part (x : Vec Ideal S8x3x704 .f32) : FVec Ideal S3x704 .f32 :=
  k0_pay3
    (View.ld x (Rect.unit ![0, 0, 0] ![1, 3, 704] inb_S8x3x704_S1x3x704_0_0_0))
    (View.ld x (Rect.unit ![1, 0, 0] ![1, 3, 704] inb_S8x3x704_S1x3x704_1_0_0))
    (View.ld x (Rect.unit ![2, 0, 0] ![1, 3, 704] inb_S8x3x704_S1x3x704_2_0_0))
    (View.ld x (Rect.unit ![3, 0, 0] ![1, 3, 704] inb_S8x3x704_S1x3x704_3_0_0))
    (View.ld x (Rect.unit ![4, 0, 0] ![1, 3, 704] inb_S8x3x704_S1x3x704_4_0_0))
    (View.ld x (Rect.unit ![5, 0, 0] ![1, 3, 704] inb_S8x3x704_S1x3x704_5_0_0))
    (View.ld x (Rect.unit ![6, 0, 0] ![1, 3, 704] inb_S8x3x704_S1x3x704_6_0_0))
    (View.ld x (Rect.unit ![7, 0, 0] ![1, 3, 704] inb_S8x3x704_S1x3x704_7_0_0))

theorem part_at (x : Vec Ideal S8x3x704 .f32) (j : S3x704.Idx) : part x j = ∑ s : Fin 8, x (ix3 s (j 0) (j 1)) := by
  unfold part k0_pay3
  pointwise
  rw [Fin.sum_univ_eight]

/-- The sum that a point computes: of the first layer's block, or of the second's. -/
def parts (c : Dev nD) (t : Fin cfg0.N) : FVec Ideal S3x704 .f32 :=
  if t.val < 1 then part (iblk m c 0 t) else part (iblk m c 1 t)

/-- What a point leaves in the four results' blocks. -/
theorem outs (c : Dev nD) (t : Fin cfg0.N) : outsAt0 m c t.val t.isLt
    = (k0_pay8 (parts m c t), k0_pay9 (parts m c t) (k0_pay4 (iblk m c 2 t)) (k0_pay5 (iblk m c 3 t)) (iblk m c 4 t),
      k0_pay10 (parts m c t) (k0_pay5 (iblk m c 3 t)), k0_pay1 (k0_pay7 (parts m c t) (iblk m c 4 t))) := by
  have ht : t.val < 2 := t.isLt
  by_cases hl : t.val < 1
  · rw [outsAt0_A m c t (by omega) (by omega), parts, if_pos hl]
    frame_out
    rfl
  · rw [outsAt0_B m c t (by omega) (by omega), parts, if_neg hl]
    frame_out
    rfl

/-- The point's sum is the gradient at the entry's place. -/
theorem parts_at (c : Dev nD) (t : Fin cfg0.N) (j : S3x704.Idx) (i : S2x3x704.Idx) (h0 : (i 0).val = t.val / 1)
    (h1 : (i 1).val = t.val % 1 * 3 + (j 0).val) (h2 : (i 2).val = (j 1).val) :
    parts m c t j = grad (m ((c : Thread nD τ).loc main_arg0)) (m ((c : Thread nD τ).loc main_arg1)) i := by
  obtain ⟨e0, e1, -⟩ := idx t
  have ht : t.val < 2 := t.isLt
  unfold parts grad
  by_cases hl : t.val < 1
  · rw [if_pos hl, if_pos (by omega), part_at]
    refine Finset.sum_congr rfl fun s _ => ?_
    blk_point [iblk, V, e0 hl]
    all_goals omega
  · rw [if_neg hl, if_neg (by omega), part_at]
    refine Finset.sum_congr rfl fun s _ => ?_
    blk_point [iblk, V, e1 hl]
    all_goals omega

section Point

variable (G : FVec Ideal S3x704 .f32) (W M V : Vec Ideal S1x3x704 .f32) (y : S1x3x704.Idx)

theorem grad_at : k0_pay8 G y = G (ix2 (y 1) (y 2)) := by
  unfold k0_pay8
  pointwise

theorem delta_at : k0_pay9 G (k0_pay4 W) (k0_pay5 M) V y = AdamStep.delta (W y) (G (ix2 (y 1) (y 2))) (M y) (V y) := by
  unfold k0_pay9 k0_pay6 k0_pay7 k0_pay4 k0_pay5 AdamStep.delta AdamStep.mean AdamStep.square
  pointwise

theorem mean_at : k0_pay10 G (k0_pay5 M) y = AdamStep.mean (M y) (G (ix2 (y 1) (y 2))) := by
  unfold k0_pay10 k0_pay6 k0_pay5 AdamStep.mean
  pointwise

theorem square_at : k0_pay1 (k0_pay7 G V) y = AdamStep.square (V y) (G (ix2 (y 1) (y 2))) := by
  unfold k0_pay1 k0_pay7 AdamStep.square
  pointwise

end Point

theorem final5 (c : Dev nD) : (dats m 0 c).arrAt 5 cfg0.N
    = grad (m ((c : Thread nD τ).loc main_arg0)) (m ((c : Thread nD τ).loc main_arg1)) := by
  refine (dats m 0 c).arrAt_eq_of_covers 5 _ (by decide +kernel) fun t hf y => ?_
  obtain ⟨e0, e1, e2, e3, e4, e5, e6, e7, e8⟩ := idx t
  blk_simp
  rw [after0_5, outs]
  show k0_pay8 (parts m c t) y = _
  rw [grad_at]
  rw [parts_at m c t _ (((View.whole main_v0_0).slice (win0_5.rect t)).emb y)]
  all_goals blk_point [e5]

theorem final6 (c : Dev nD) : (dats m 0 c).arrAt 6 cfg0.N
    = fun i => AdamStep.delta (m ((c : Thread nD τ).loc main_arg2) i)
        (grad (m ((c : Thread nD τ).loc main_arg0)) (m ((c : Thread nD τ).loc main_arg1)) i) (m ((c : Thread nD τ).loc main_arg3) i)
        (m ((c : Thread nD τ).loc main_arg4) i) := by
  refine (dats m 0 c).arrAt_eq_of_covers 6 _ (by decide +kernel) fun t hf y => ?_
  obtain ⟨e0, e1, e2, e3, e4, e5, e6, e7, e8⟩ := idx t
  blk_simp
  rw [after0_6, outs]
  refine (delta_at ..).trans ?_
  rw [parts_at m c t _ (((View.whole main_v0_1).slice (win0_6.rect t)).emb y)]
  · generalize grad _ _ _ = g
    blk_point [iblk, V, e2, e3, e4, e6]
  all_goals blk_point [e6]

theorem final7 (c : Dev nD) : (dats m 0 c).arrAt 7 cfg0.N
    = fun i => AdamStep.mean (m ((c : Thread nD τ).loc main_arg3) i)
        (grad (m ((c : Thread nD τ).loc main_arg0)) (m ((c : Thread nD τ).loc main_arg1)) i) := by
  refine (dats m 0 c).arrAt_eq_of_covers 7 _ (by decide +kernel) fun t hf y => ?_
  obtain ⟨e0, e1, e2, e3, e4, e5, e6, e7, e8⟩ := idx t
  blk_simp
  rw [after0_7, outs]
  refine (mean_at ..).trans ?_
  rw [parts_at m c t _ (((View.whole main_v0_2).slice (win0_7.rect t)).emb y)]
  · generalize grad _ _ _ = g
    blk_point [iblk, V, e3, e7]
  all_goals blk_point [e7]

theorem final8 (c : Dev nD) : (dats m 0 c).arrAt 8 cfg0.N
    = fun i => AdamStep.square (m ((c : Thread nD τ).loc main_arg4) i)
        (grad (m ((c : Thread nD τ).loc main_arg0)) (m ((c : Thread nD τ).loc main_arg1)) i) := by
  refine (dats m 0 c).arrAt_eq_of_covers 8 _ (by decide +kernel) fun t hf y => ?_
  obtain ⟨e0, e1, e2, e3, e4, e5, e6, e7, e8⟩ := idx t
  blk_simp
  rw [after0_8, outs]
  refine (square_at ..).trans ?_
  rw [parts_at m c t _ (((View.whole main_v0_3).slice (win0_8.rect t)).emb y)]
  · generalize grad _ _ _ = g
    blk_point [iblk, V, e4, e8]
  all_goals blk_point [e8]

section Ref

open Cert.FfnConvAdamRefIdeal.Read

variable (x0 x1 : Vec Ideal S8x3x704 .f32) (x2 x3 x4 : Vec Ideal S2x3x704 .f32)

/-- The reference's gradient. -/
theorem ref_grad : val_main_v4 (F := Ideal) x0 x1 = grad x0 x1 := by
  funext i
  rw [← val_main_v4_eq]
  unfold grad
  pointwise
  simp only [Nat.lt_one_iff, dite_eq_ite]

/-- The reference's change of the weight. -/
theorem ref_delta : val_main_v28 (F := Ideal) x0 x1 x2 x3 x4 = fun i => AdamStep.delta (x2 i) (grad x0 x1 i) (x3 i) (x4 i) := by
  rw [← ref_grad]
  simp only [val_main_cst_1, val_main_v5, val_main_v6, val_main_cst_2, val_main_v7, val_main_v8, val_main_v9, val_main_cst_3, val_main_v10, val_main_v11, val_main_v12, val_main_cst_4, val_main_v13, val_main_v14, val_main_v15, val_main_cst_5, val_main_v16, val_main_v17, val_main_cst_6, val_main_v18, val_main_v19, val_main_v20, val_main_cst_7, val_main_v21, val_main_v22, val_main_v23, val_main_cst_8, val_main_v24, val_main_v25, val_main_v26, val_main_cst_9, val_main_v27, val_main_v28]
  generalize val_main_v4 (F := Ideal) x0 x1 = g
  funext i
  unfold AdamStep.delta AdamStep.mean AdamStep.square
  pointwise

/-- The reference's first moment. -/
theorem ref_mean : val_main_v9 (F := Ideal) x0 x1 x3 = fun i => AdamStep.mean (x3 i) (grad x0 x1 i) := by
  rw [← ref_grad]
  simp only [val_main_cst_1, val_main_v5, val_main_v6, val_main_cst_2, val_main_v7, val_main_v8, val_main_v9]
  generalize val_main_v4 (F := Ideal) x0 x1 = g
  funext i
  unfold AdamStep.mean
  pointwise

/-- The reference's second moment. -/
theorem ref_square : val_main_v15 (F := Ideal) x0 x1 x4 = fun i => AdamStep.square (x4 i) (grad x0 x1 i) := by
  rw [← ref_grad]
  simp only [val_main_cst_3, val_main_v10, val_main_v11, val_main_v12, val_main_cst_4, val_main_v13, val_main_v14, val_main_v15]
  generalize val_main_v4 (F := Ideal) x0 x1 = g
  funext i
  unfold AdamStep.square
  pointwise

end Ref

/-- The kernel and the reference compute the same four results over the extended reals. -/
theorem algebraic : Cert.algebraic_FfnConvAdamIdeal_FfnConvAdamRefIdeal := by
  pair_intro
  · run_from Cert.FfnConvAdamIdeal.Value.run_blocks m g
  · run_from Cert.FfnConvAdamRefIdeal.Value.run m' g'
    · exact (final5 m c).symm ▸ ref_grad _ _
    · exact (final6 m c).symm ▸ ref_delta _ _ _ _ _
    · exact (final7 m c).symm ▸ ref_mean _ _ _
    · exact (final8 m c).symm ▸ ref_square _ _ _

/-- The reference ends with its arguments unchanged and its counters at zero. -/
theorem ref_frame : Cert.quiescent_FfnConvAdamRefIdeal := fun m ρ _ =>
  (θ_run Cert.FfnConvAdamRefIdeal.defs _ _).mono
    (fun r h => ⟨fun c => (h c).2.2.2.2, Idealize.ShloMosaic.sem_eq_zero_of_no_sems (by decide) r.2⟩)
    (Cert.FfnConvAdamRefIdeal.Value.run m ρ)

end Cert.Proof.FfnConvAdam

end
-- ==== Proof.RepAdam.lean ====
/- The optimiser's step on the replicated weights, packed in rows of 1024: each entry takes one AdamW step. -/
module

public import proofs.«01_k».proof.Defs
public import proofs.«01_k».proof.Proof.AdamStep
public import proofs.«01_k».proof.Proof.Gen.RepAdamIdeal.Value
public import proofs.«01_k».proof.Proof.Gen.RepAdamRefIdeal.Read
public import Idealize.ShloMosaic.Lib.Pipeline.ValueKit
public import Idealize.ShloMosaic.Lib.Claim
public import Idealize.ShloMosaic.Lib.Pointwise

@[expose] public section

set_option maxRecDepth 16384

noncomputable section

namespace Cert.Proof.RepAdam

open Cert.RepAdamIdeal Cert.RepAdamIdeal.Gen Cert.RepAdamIdeal.Value Idealize.ShloMosaic Idealize.ShloMosaic.TcCoe Idealize.SL.Sem
open Idealize.ShloMosaic.Pipeline (Dat)

variable (m : (ℓ : Loc nD τ sig) → Buf (Elt Ideal) ℓ)

/-- The one block of every window is the whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

theorem final4 (c : Dev nD) : (dats m 0 c).arrAt 4 cfg0.N
    = fun i => AdamStep.delta (m ((c : Thread nD τ).loc main_arg1) i) (m ((c : Thread nD τ).loc main_arg0) i) (m ((c : Thread nD τ).loc main_arg2) i) (m ((c : Thread nD τ).loc main_arg3) i) := by
  refine (dats m 0 c).arrAt_eq_of_covers 4 _ (by decide +kernel) fun t hf y => ?_
  obtain ⟨e0, e1, e2, e3, e4, e5, e6⟩ := idx t
  blk_simp
  rw [after0_4]
  frame_out
  unfold k0_pay3 k0_pay1 k0_pay2 AdamStep.delta AdamStep.mean AdamStep.square
  pointwise
  blk_point [iblk, V, e0, e1, e2, e3, e4]

theorem final5 (c : Dev nD) : (dats m 0 c).arrAt 5 cfg0.N
    = fun i => AdamStep.mean (m ((c : Thread nD τ).loc main_arg2) i) (m ((c : Thread nD τ).loc main_arg0) i) := by
  refine (dats m 0 c).arrAt_eq_of_covers 5 _ (by decide +kernel) fun t hf y => ?_
  obtain ⟨e0, e1, e2, e3, e4, e5, e6⟩ := idx t
  blk_simp
  rw [after0_5]
  frame_out
  unfold k0_pay1 AdamStep.mean
  pointwise
  blk_point [iblk, V, e0, e1, e2, e3, e5]

theorem final6 (c : Dev nD) : (dats m 0 c).arrAt 6 cfg0.N
    = fun i => AdamStep.square (m ((c : Thread nD τ).loc main_arg3) i) (m ((c : Thread nD τ).loc main_arg0) i) := by
  refine (dats m 0 c).arrAt_eq_of_covers 6 _ (by decide +kernel) fun t hf y => ?_
  obtain ⟨e0, e1, e2, e3, e4, e5, e6⟩ := idx t
  blk_simp
  rw [after0_6]
  frame_out
  unfold k0_pay2 AdamStep.square
  pointwise
  blk_point [iblk, V, e0, e1, e2, e3, e6]

/-- The reference's change of the weight. -/
theorem ref_delta (g w x y : Vec Ideal S192x1024 .f32) : Cert.RepAdamRefIdeal.Read.val_main_v23 (F := Ideal) g w x y
    = fun i => AdamStep.delta (w i) (g i) (x i) (y i) := by
  funext i
  rw [← Cert.RepAdamRefIdeal.Read.val_main_v23_eq]
  unfold AdamStep.delta AdamStep.mean AdamStep.square
  pointwise

/-- The reference's first moment. -/
theorem ref_mean (g x : Vec Ideal S192x1024 .f32) : Cert.RepAdamRefIdeal.Read.val_main_v4 (F := Ideal) g x
    = fun i => AdamStep.mean (x i) (g i) := by
  funext i
  rw [← Cert.RepAdamRefIdeal.Read.val_main_v4_eq]
  unfold AdamStep.mean
  pointwise

/-- The reference's second moment. -/
theorem ref_square (g x : Vec Ideal S192x1024 .f32) : Cert.RepAdamRefIdeal.Read.val_main_v10 (F := Ideal) g x
    = fun i => AdamStep.square (x i) (g i) := by
  funext i
  rw [← Cert.RepAdamRefIdeal.Read.val_main_v10_eq]
  unfold AdamStep.square
  pointwise

/-- The kernel and the reference compute the same three results over the extended reals. -/
theorem algebraic : Cert.algebraic_RepAdamIdeal_RepAdamRefIdeal := by
  pair_intro
  · run_from Cert.RepAdamIdeal.Value.run_blocks m g
  · run_from Cert.RepAdamRefIdeal.Value.run m' g'
    · exact (final4 m c).symm ▸ ref_delta _ _ _ _
    · exact (final5 m c).symm ▸ ref_mean _ _
    · exact (final6 m c).symm ▸ ref_square _ _

/-- The reference ends with its arguments unchanged and its counters at zero. -/
theorem ref_frame : Cert.quiescent_RepAdamRefIdeal := fun m ρ _ =>
  (θ_run Cert.RepAdamRefIdeal.defs _ _).mono
    (fun r h => ⟨fun c => (h c).2.2.2, Idealize.ShloMosaic.sem_eq_zero_of_no_sems (by decide) r.2⟩)
    (Cert.RepAdamRefIdeal.Value.run m ρ)

end Cert.Proof.RepAdam

end
-- ==== Proof.RepSum.lean ====
/- The sum of the eight devices' parts of the replicated weights' gradients. -/
module

public import proofs.«01_k».proof.Defs
public import proofs.«01_k».proof.Proof.Gen.RepSumIdeal.Value
public import proofs.«01_k».proof.Proof.Gen.RepSumRefIdeal.Read
public import Idealize.ShloMosaic.Lib.Pipeline.ValueKit
public import Idealize.ShloMosaic.Lib.Claim
public import Idealize.ShloMosaic.Lib.Pointwise

@[expose] public section

set_option maxRecDepth 16384

noncomputable section

namespace Cert.Proof.RepSum

open Cert.RepSumIdeal Cert.RepSumIdeal.Gen Cert.RepSumIdeal.Value Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0, 0, 0] ∧ win0_1.index t = ![0, 0] :=
  (by decide +kernel : ∀ t : Fin grid0.N, _)

/-- The sum of the eight parts. -/
def total (x : Vec Ideal S8x24x1024 .f32) : Vec Ideal S24x1024 .f32 := fun i => ∑ s : Fin 8, x (ix3 s (i 0) (i 1))

/-- The body's sum of the eight parts of its block. -/
theorem sum_at (x : Vec Ideal S8x24x1024 .f32) (j : S24x1024.Idx) : k0_pay1
    (View.ld x (Rect.unit ![0, 0, 0] ![1, 24, 1024] inb_S8x24x1024_S1x24x1024_0_0_0))
    (View.ld x (Rect.unit ![1, 0, 0] ![1, 24, 1024] inb_S8x24x1024_S1x24x1024_1_0_0))
    (View.ld x (Rect.unit ![2, 0, 0] ![1, 24, 1024] inb_S8x24x1024_S1x24x1024_2_0_0))
    (View.ld x (Rect.unit ![3, 0, 0] ![1, 24, 1024] inb_S8x24x1024_S1x24x1024_3_0_0))
    (View.ld x (Rect.unit ![4, 0, 0] ![1, 24, 1024] inb_S8x24x1024_S1x24x1024_4_0_0))
    (View.ld x (Rect.unit ![5, 0, 0] ![1, 24, 1024] inb_S8x24x1024_S1x24x1024_5_0_0))
    (View.ld x (Rect.unit ![6, 0, 0] ![1, 24, 1024] inb_S8x24x1024_S1x24x1024_6_0_0))
    (View.ld x (Rect.unit ![7, 0, 0] ![1, 24, 1024] inb_S8x24x1024_S1x24x1024_7_0_0))
    j = ∑ s : Fin 8, x (ix3 s (j 0) (j 1)) := by
  unfold k0_pay1
  pointwise
  rw [Fin.sum_univ_eight]

theorem final (c : Dev nD) : (dats m 0 c).arrAt 1 cfg0.N = total (m ((c : Thread nD τ).loc main_arg0)) := by
  refine (dats m 0 c).arrAt_eq_of_covers 1 _ (by decide +kernel) fun t hf y => ?_
  obtain ⟨e0, e1⟩ := idx t
  blk_simp
  rw [after0_1]
  frame_out
  refine (sum_at _ y).trans (Finset.sum_congr rfl fun s _ => ?_)
  blk_point [iblk, V, e0, e1]

/-- The reference's sum. -/
theorem ref (x : Vec Ideal S8x24x1024 .f32) : Cert.RepSumRefIdeal.Read.val_main_v0 (F := Ideal) x = total x := by
  funext i
  rw [← Cert.RepSumRefIdeal.Read.val_main_v0_eq]
  unfold total
  pointwise

set_option maxHeartbeats 2000000 in
/-- The kernel and the reference compute the same sum over the extended reals. -/
theorem algebraic : Cert.algebraic_RepSumIdeal_RepSumRefIdeal := by
  pair_intro
  · run_from Cert.RepSumIdeal.Value.run_blocks m g
  · run_from Cert.RepSumRefIdeal.Value.run m' g'
    exact (final m c).symm ▸ ref _

/-- The reference ends with its arguments unchanged and its counters at zero. -/
theorem ref_frame : Cert.quiescent_RepSumRefIdeal := fun m ρ _ =>
  (θ_run Cert.RepSumRefIdeal.defs _ _).mono
    (fun r h => ⟨fun c => (h c).2, Idealize.ShloMosaic.sem_eq_zero_of_no_sems (by decide) r.2⟩)
    (Cert.RepSumRefIdeal.Value.run m ρ)

end Cert.Proof.RepSum

end
-- ==== Proof.Norm.Row.lean ====
/- The derivative of the root-mean-square norm on one row of 1024 numbers, over the extended reals: the kernel's form, with the
   normalised row, and the chain rule's form, with the derivative of the inverse root, agree on finite rows (`input_row`). -/
module

public import Idealize.ShloMosaic.Lib.Pointwise
public import Idealize.ShloMosaic.Lib.IdealHost

@[expose] public section

noncomputable section

namespace Cert.Proof.Norm

open Idealize.ShloMosaic

/-- The row's length as a float word. -/
theorem length_word : Ideal.ofBits .f32 0x44800000#32 = ((1024 : ℝ) : EReal) := by
  simp [Ideal.ofBits, Ideal.ieee, -EReal.coe_mul]; norm_num

/-- The norm's small constant is a positive real number. -/
theorem eps_word : ∃ e : ℝ, 0 < e ∧ Ideal.ofBits .f32 0x358637BD#32 = (e : EReal) := by
  refine ⟨(2 ^ 23 + 407485 : ℕ) * (2 : ℝ) ^ (-43 : ℤ), by positivity, ?_⟩
  simp [Ideal.ofBits, Ideal.ieee, -EReal.coe_mul]

/-- One half, as a float word. -/
theorem half_word : Ideal.ofBits .f32 0x3F000000#32 = ((1 / 2 : ℝ) : EReal) := by
  simp [Ideal.ofBits, Ideal.ieee, -EReal.coe_mul]; norm_num

/-- Minus one half, as a float word. -/
theorem neg_half_word : Ideal.ofBits .f32 0xBF000000#32 = ((-(1 / 2) : ℝ) : EReal) := by
  simp [Ideal.ofBits, Ideal.ieee, -EReal.coe_mul, -EReal.coe_neg]; norm_num

/-- A row's inverse root of the mean square plus the small constant. -/
def scale (x : Fin 1024 → EReal) : EReal :=
  Ideal.rsqrt (Ideal.div (∑ k, x k * x k) (Ideal.ofBits .f32 0x44800000#32) + Ideal.ofBits .f32 0x358637BD#32)

/-- A finite sum of real numbers, as extended reals. -/
theorem coe_sum {ι : Type*} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- One half times a sum is the sum of the halves, whatever the addends. -/
theorem half_sum {ι : Type*} (s : Finset ι) (f : ι → EReal) :
    ((1 / 2 : ℝ) : EReal) * ∑ i ∈ s, f i = ∑ i ∈ s, ((1 / 2 : ℝ) : EReal) * f i := by
  classical
  induction s using Finset.induction_on with
  | empty => simp
  | insert a s h ih =>
    rw [Finset.sum_insert h, Finset.sum_insert h, ← ih]
    exact EReal.left_distrib_of_nonneg_of_ne_top (by exact_mod_cast (by norm_num : (0 : ℝ) ≤ 1 / 2)) (EReal.coe_ne_top _) _ _

/-- The inverse root of a row's mean square plus a positive constant. -/
theorem scale_real (x : Fin 1024 → ℝ) {e : ℝ} (he : 0 < e) :
    ∃ r v : ℝ, 0 < v ∧ r * r = 1 / v
      ∧ Ideal.div (∑ i, (x i : EReal) * (x i : EReal)) ((1024 : ℝ) : EReal) + (e : EReal) = (v : EReal)
      ∧ Ideal.rsqrt (v : EReal) = (r : EReal) := by
  have hv : 0 < (∑ i, x i * x i) * (1 / 1024) + e := by
    have : 0 ≤ ∑ i, x i * x i := Finset.sum_nonneg fun i _ => mul_self_nonneg _
    positivity
  refine ⟨(Real.sqrt ((∑ i, x i * x i) * (1 / 1024) + e))⁻¹, _, hv, ?_, ?_, ?_⟩
  · rw [← mul_inv, Real.mul_self_sqrt hv.le]; simp only [one_div]
  · rw [Ideal.div_coe (by norm_num)]
    simp only [← EReal.coe_mul, coe_sum, ← EReal.coe_add]
  · rw [Ideal.rsqrt_coe, if_neg hv.not_gt, if_neg hv.ne']

/-- The gradient of one entry of a finite row: the kernel's form and the chain rule's. -/
theorem input_row (x n : Fin 1024 → ℝ) (g : EReal) (k : Fin 1024) {e : ℝ} (he : 0 < e) :
    let v := Ideal.div (∑ i, (x i : EReal) * (x i : EReal)) ((1024 : ℝ) : EReal) + (e : EReal)
    let r := Ideal.rsqrt v
    let q := Ideal.div ((∑ i, (x i : EReal) * (n i : EReal)) * (((-(1 / 2) : ℝ) : EReal) * Ideal.div r v)) ((1024 : ℝ) : EReal)
    g + r * ((n k : EReal) - (x k : EReal) * r
        * Ideal.div (∑ i, (n i : EReal) * ((x i : EReal) * r)) ((1024 : ℝ) : EReal))
      = g + ((n k : EReal) * r + (x k : EReal) * q + q * (x k : EReal)) := by
  obtain ⟨r, v, hv, hr, ev, er⟩ := scale_real x he
  have h1024 : (1024 : ℝ) ≠ 0 := by norm_num
  intro v' r' q'
  have e1 : v' = (v : EReal) := ev
  have e2 : r' = (r : EReal) := (congrArg Ideal.rsqrt e1).trans er
  simp only [q', e1, e2, Ideal.div_coe h1024, Ideal.div_coe hv.ne']
  simp only [← EReal.coe_mul, coe_sum, ← EReal.coe_add, ← EReal.coe_sub]
  congr 2
  have e3 : ∑ i, n i * (x i * r) = (∑ i, x i * n i) * r := by
    rw [Finset.sum_mul]; exact Finset.sum_congr rfl fun i _ => by ring
  rw [e3]
  generalize ∑ i, x i * n i = s
  have : r * (1 / v) = r * r * r := by rw [← hr]; ring
  rw [this]
  ring

end Cert.Proof.Norm

end
-- ==== Proof.Norm.Accumulate.lean ====
/- A result that every grid point adds to: the first point stores its addend, each later one adds its own. After sixteen points of
   512 rows each it is the sum over all 8192 rows (`sixteen_blocks_rows`). -/
module

public import Idealize.ShloMosaic.Lib.Pipeline.ValueKit
public import Mathlib.Algebra.BigOperators.Fin

@[expose] public section

namespace Cert.Proof.Norm

open scoped BigOperators

variable {M ι : Type*} [AddCommMonoid M] {N : ℕ}

/-- What the points up to `n` leave: the sum of their addends. -/
theorem sum_points (S : ∀ n, n < N → ι → M) (P : Fin N → ι → M) (hA : ∀ (h : 0 < N) y, S 0 h y = P ⟨0, h⟩ y)
    (hB : ∀ n (h : n + 1 < N) y, S (n + 1) h y = S n (Nat.lt_of_succ_lt h) y + P ⟨n + 1, h⟩ y) (y : ι) :
    ∀ n (h : n < N), S n h y = ∑ s : Fin (n + 1), P ⟨s.val, by omega⟩ y
  | 0, h => by rw [hA]; simp
  | n + 1, h => by
    rw [hB, sum_points S P hA hB y n, Fin.sum_univ_castSucc (n := n + 1)]
    rfl

/-- The last of sixteen points, each with a sum over the 512 rows of its block: the sum over all rows. -/
theorem sixteen_blocks_rows (S : ∀ n, n < N → ι → M) (P : Fin N → ι → Fin 512 → M)
    (hA : ∀ (h : 0 < N) y, S 0 h y = ∑ k, P ⟨0, h⟩ y k)
    (hB : ∀ n (h : n + 1 < N) y, S (n + 1) h y = S n (Nat.lt_of_succ_lt h) y + ∑ k, P ⟨n + 1, h⟩ y k)
    (t : Fin N) (ht : t.val = 15) (y : ι) (f : Fin 8192 → M)
    (hf : ∀ (s : Fin 16) (hs : s.val < N) (k : Fin 512) (hl : s.val * 512 + k.val < 8192),
      P ⟨s.val, hs⟩ y k = f ⟨s.val * 512 + k.val, hl⟩) :
    S t.val t.isLt y = ∑ l : Fin 8192, f l := by
  obtain ⟨n, hn⟩ := t
  obtain rfl : n = 15 := ht
  exact (sum_points S (fun t y => ∑ k, P t y k) hA hB y 15 hn).trans
    (Fin.sum_mul_add_congr fun s k hl => hf s (by omega) k hl)

end Cert.Proof.Norm
-- ==== Proof.Norm.Finite.lean ====
/- What the norm's precondition says: the rows, the weight and the incoming gradient hold real numbers. -/
module

public import proofs.«01_k».proof.Defs
public import proofs.«01_k».proof.Proof.Gen.Pre_rms_finite
public import Idealize.ShloMosaic.Lib.Pipeline.ValueKit

@[expose] public section

noncomputable section

namespace Cert.Proof.Norm

open Idealize.ShloMosaic Cert.Pre_rms_finite

/-- The word of the positive infinity. -/
theorem inf_word : Ideal.ofBits .f32 0x7F800000#32 = ⊤ := by
  simp [Ideal.ofBits, Ideal.ieee]

theorem and_one : ∀ a b : BitVec 1, a &&& b = 1#1 → a = 1#1 ∧ b = 1#1 := by decide

/-- An extended real below the infinity in absolute value is a real number. -/
theorem real_of_cmp (a : EReal) (h : Ideal.cmp .olt (max a (-a)) (Ideal.ofBits .f32 0x7F800000#32) = 1#1) :
    ∃ r : ℝ, a = (r : EReal) := by
  rw [inf_word] at h
  induction a with
  | bot => simp [Ideal.cmp] at h
  | top => simp [Ideal.cmp] at h
  | coe r => exact ⟨r, rfl⟩

/-- A one-row array read at a row's column. -/
theorem row_at {α : Type} (h : S1x1024.BroadcastsInDim S8192x1024 (![0, 1] : Fin 2 → Fin S8192x1024.rank)) (v : S1x1024.Idx → α)
    (j : S1x1024.Idx) : broadcastInDim S8192x1024 ![0, 1] h v (ix2 0 (j 1)) = v j := by
  unfold broadcastInDim
  refine congrArg v (funext fun a => ?_)
  match a with
  | 0 => exact Subsingleton.elim (α := Fin 1) _ _
  | 1 => rfl

theorem finite (x : Vec Ideal S8192x1024 .f32) (w : Vec Ideal S1x1024 .f32) (d g : Vec Ideal S8192x1024 .f32)
    (h : Cert.Pre_rms_finite.fn (F := Ideal) x w d g = fun _ => 1#1) :
    (∀ i, ∃ r : ℝ, x i = (r : EReal)) ∧ (∀ i, ∃ r : ℝ, w i = (r : EReal)) ∧ ∀ i, ∃ r : ℝ, d i = (r : EReal) := by
  have at_ (i : S8192x1024.Idx) := and_one _ _ (congrFun h i)
  refine ⟨fun i => real_of_cmp _ (and_one _ _ (at_ i).1).1, fun j => ?_, fun i => real_of_cmp _ (at_ i).2⟩
  exact real_of_cmp _ ((row_at _ _ j).symm.trans (and_one _ _ (at_ (ix2 0 (j 1))).1).2)

end Cert.Proof.Norm

end
-- ==== Proof.Norm.Reference.lean ====
/- The reference's gradients of the root-mean-square norm, and the kernel's formula of them: equal where the arguments are finite. -/
module

public import proofs.«01_k».proof.Defs
public import proofs.«01_k».proof.Proof.Norm.Row
public import proofs.«01_k».proof.Proof.Norm.Finite
public import proofs.«01_k».proof.Proof.Gen.RmsBwdRefIdeal.Read
public import Idealize.ShloMosaic.Lib.Pipeline.ValueKit

@[expose] public section

noncomputable section

namespace Cert.Proof.RmsBwd

open Idealize.ShloMosaic Cert.RmsBwdRefIdeal

/-- What the kernel computes of an entry of the rows' gradient: `x` the row, `w` the weight, `d` the incoming gradient of the
    row, `g` the gradient it is added to. -/
def entry (x w d : Fin 1024 → EReal) (g : EReal) (k : Fin 1024) : EReal :=
  g + Norm.scale x * (d k * w k - x k * Norm.scale x
    * Ideal.div (∑ i, d i * w i * (x i * Norm.scale x)) (Ideal.ofBits .f32 0x44800000#32))

/-- The same by the chain rule. -/
def entryChain (x w d : Fin 1024 → EReal) (g : EReal) (k : Fin 1024) : EReal :=
  let v := Ideal.div (∑ k, x k * x k) (Ideal.ofBits .f32 0x44800000#32) + Ideal.ofBits .f32 0x358637BD#32
  let q := Ideal.div ((∑ i, x i * (d i * w i)) * (Ideal.ofBits .f32 0xBF000000#32 * Ideal.div (Ideal.rsqrt v) v))
    (Ideal.ofBits .f32 0x44800000#32)
  g + (d k * w k * Ideal.rsqrt v + x k * q + q * x k)

theorem entry_eq (x w d : Fin 1024 → EReal) (g : EReal) (k : Fin 1024) (hx : ∀ i, ∃ r : ℝ, x i = (r : EReal))
    (hw : ∀ i, ∃ r : ℝ, w i = (r : EReal)) (hd : ∀ i, ∃ r : ℝ, d i = (r : EReal)) : entry x w d g k = entryChain x w d g k := by
  choose x' ex using hx
  choose w' ew using hw
  choose d' ed using hd
  obtain ⟨e, he, ee⟩ := Norm.eps_word
  have := Norm.input_row x' (fun i => d' i * w' i) g k he
  simp only [EReal.coe_mul] at this
  unfold entry entryChain Norm.scale
  simp only [ex, ew, ed, Norm.length_word, Norm.neg_half_word, ee]
  exact this

/-- The gradient of the rows. -/
def dx (x : Vec Ideal S8192x1024 .f32) (w : Vec Ideal S1x1024 .f32) (d g : Vec Ideal S8192x1024 .f32) (i : S8192x1024.Idx) : EReal :=
  entry (fun k => x (ix2 (i 0) k)) (fun k => w (ix2 0 k)) (fun k => d (ix2 (i 0) k)) (g i) (i 1)

/-- One row's addend of the weight's gradient. -/
def rowTerm (x d : Fin 1024 → EReal) (k : Fin 1024) : EReal := d k * (x k * Norm.scale x)

/-- The gradient of the weight. -/
def dw (x d : Vec Ideal S8192x1024 .f32) : Vec Ideal S1x1024 .f32 := fun i =>
  ∑ l : Fin 8192, rowTerm (fun k => x (ix2 l k)) (fun k => d (ix2 l k)) (i 1)

section Ref

open Cert.RmsBwdRefIdeal.Read

variable (x : Vec Ideal S8192x1024 .f32) (w : Vec Ideal S1x1024 .f32) (d g : Vec Ideal S8192x1024 .f32)

/-- The reference's gradient of the rows. -/
theorem ref_chain (i : S8192x1024.Idx) : val_main_v34 (F := Ideal) x w d g i
    = entryChain (fun k => x (ix2 (i 0) k)) (fun k => w (ix2 0 k)) (fun k => d (ix2 (i 0) k)) (g i) (i 1) := by
  unfold entryChain
  rw [← val_main_v34_eq]
  pointwise
  have one (e : EReal) : ∑ _k : Fin 1, e = e := by simp
  exact congrArg₂ (· + ·) rfl (congrArg₂ (· + ·) (congrArg₂ (· + ·) rfl (congrArg₂ (· * ·) rfl (one _)))
    (congrArg₂ (· * ·) (one _) rfl))

/-- The reference's gradient of the weight. -/
theorem ref_dw : val_main_v17 (F := Ideal) x d = dw x d := by
  funext i
  unfold dw rowTerm Norm.scale
  rw [← val_main_v17_eq]
  pointwise
  exact Finset.sum_congr rfl fun k _ => mul_comm _ _

variable (hx : ∀ i, ∃ r : ℝ, x i = (r : EReal)) (hw : ∀ i, ∃ r : ℝ, w i = (r : EReal)) (hd : ∀ i, ∃ r : ℝ, d i = (r : EReal))
include hx hw hd

theorem ref_dx : val_main_v34 (F := Ideal) x w d g = dx x w d g := by
  funext i
  exact (ref_chain x w d g i).trans (entry_eq _ _ _ _ _ (fun _ => hx _) (fun _ => hw _) (fun _ => hd _)).symm

theorem ref_dxb : val_main_v35 (F := Ideal) x w d g = dx x w d g := by
  rw [← ref_dx x w d g hx hw hd]
  rfl

end Ref

end Cert.Proof.RmsBwd

end
-- ==== Proof.Norm.Kernel.lean ====
/- The gradient of the root-mean-square norm. The kernel works with the normalised row and adds up the weight's gradient over sixteen
   blocks of rows; the reference is the derivative of the norm's formula. They agree where the rows, the weight and the incoming
   gradient are finite. -/
module

public import proofs.«01_k».proof.Defs
public import proofs.«01_k».proof.Proof.Norm.Row
public import proofs.«01_k».proof.Proof.Norm.Accumulate
public import proofs.«01_k».proof.Proof.Gen.RmsBwdIdeal.Value
public import proofs.«01_k».proof.Proof.Gen.RmsBwdRefIdeal.Read
public import proofs.«01_k».proof.Proof.Norm.Reference
public import Idealize.ShloMosaic.Lib.Pipeline.ValueKit
public import Idealize.ShloMosaic.Lib.Claim
public import Idealize.ShloMosaic.Lib.Pointwise

@[expose] public section

set_option maxRecDepth 16384

noncomputable section

namespace Cert.Proof.RmsBwd

open Cert.RmsBwdIdeal Cert.RmsBwdIdeal.Gen Cert.RmsBwdIdeal.Value Idealize.ShloMosaic Idealize.ShloMosaic.TcCoe Idealize.SL.Sem
open Idealize.ShloMosaic.Pipeline (Dat)

variable (m : (ℓ : Loc nD τ sig) → Buf (Elt Ideal) ℓ)

/-- The blocks of rows advance with the grid point; the weight and its gradient are one block. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0] :=
  (by decide +kernel : ∀ t : Fin grid0.N, _)

/-- A point's addend of the weight's gradient. -/
def part (c : Dev nD) (t : Fin cfg0.N) (y : S1x1024.Idx) (r : Fin 512) : Elt Ideal .f32 :=
  rowTerm (fun k => iblk m c 0 t (ix2 r k)) (fun k => iblk m c 2 t (ix2 r k)) (y 1)

section Point

variable (x d g : Vec Ideal S512x1024 .f32) (w : Vec Ideal S1x1024 .f32)

/-- The body's gradient of a block's rows. -/
theorem block_dx (j : S512x1024.Idx) : k0_pay4 x d w g j
    = entry (fun k => x (ix2 (j 0) k)) (fun k => w (ix2 0 k)) (fun k => d (ix2 (j 0) k)) (g j) (j 1) := by
  unfold entry Norm.scale k0_pay4 k0_pay3 k0_pay2
  pointwise

/-- The body's sum of a block's rows for the weight's gradient. -/
theorem block_dw (y : S1x1024.Idx) : k0_pay6 x d y
    = ∑ r : Fin 512, rowTerm (fun k => x (ix2 r k)) (fun k => d (ix2 r k)) (y 1) := by
  unfold rowTerm Norm.scale k0_pay6 k0_pay3 k0_pay2
  pointwise

end Point

/-- What every point leaves in the rows' two results. -/
theorem rows (c : Dev nD) (t : Fin cfg0.N) :
    (outsAt0 m c t.val t.isLt).1 = k0_pay4 (iblk m c 0 t) (iblk m c 2 t) (iblk m c 1 t) (iblk m c 3 t)
    ∧ (outsAt0 m c t.val t.isLt).2.1 = k0_pay5 (iblk m c 0 t) (iblk m c 2 t) (iblk m c 1 t) (iblk m c 3 t) := by
  have ht : t.val < 16 := t.isLt
  by_cases h : t.val = 0
  · rw [outsAt0_A m c t (by omega) (by omega)]
    constructor <;> frame_out
  · rw [outsAt0_B m c t (by omega) (by omega)]
    constructor <;> frame_out

theorem first (c : Dev nD) (h : 0 < cfg0.N) (y : S1x1024.Idx) : (outsAt0 m c 0 h).2.2 y = ∑ r, part m c ⟨0, h⟩ y r := by
  rw [outsAt0_A m c ⟨0, h⟩ rfl (by dsimp only; omega)]
  frame_out
  exact block_dw ..

theorem next (c : Dev nD) (n : ℕ) (h : n + 1 < cfg0.N) (y : S1x1024.Idx) :
    (outsAt0 m c (n + 1) h).2.2 y = (outsAt0 m c n (Nat.lt_of_succ_lt h)).2.2 y + ∑ r, part m c ⟨n + 1, h⟩ y r := by
  have hN : n + 1 < 16 := h
  rw [outsAt0_B m c ⟨n + 1, h⟩ (by dsimp only; omega) (by dsimp only; omega)]
  show _ = (outsAt0 m c (n + 1 - 1) _).2.2 y + _
  generalize outsAt0 m c _ _ = p
  frame_out
  unfold k0_pay1
  refine Eq.trans ?_ (congrArg (p.2.2 y + ·) (block_dw (iblk m c 0 ⟨n + 1, h⟩) (iblk m c 2 ⟨n + 1, h⟩) y))
  generalize k0_pay6 (F := Ideal) (iblk m c 0 ⟨n + 1, h⟩) (iblk m c 2 ⟨n + 1, h⟩) = b
  pointwise

/-- A block of window 4 holds whole rows. -/
theorem column4 (t : Fin cfg0.N) (y : ((cfg0.win 4).xblock (cfg0.grid.coords t)).Idx) : (win0_4.blk t).view.emb y 1 = y 1 := by
  obtain ⟨-, -, -, -, e4, e5, e6⟩ := idx t
  apply Fin.ext
  blk_simp [e4]
  first | done | omega | simp

/-- A block of window 5 holds whole rows. -/
theorem column5 (t : Fin cfg0.N) (y : ((cfg0.win 5).xblock (cfg0.grid.coords t)).Idx) : (win0_5.blk t).view.emb y 1 = y 1 := by
  obtain ⟨-, -, -, -, e4, e5, e6⟩ := idx t
  apply Fin.ext
  blk_simp [e5]
  first | done | omega | simp

/-- A block of window 6 holds whole rows. -/
theorem column6 (t : Fin cfg0.N) (y : ((cfg0.win 6).xblock (cfg0.grid.coords t)).Idx) : (win0_6.blk t).view.emb y 1 = y 1 := by
  obtain ⟨-, -, -, -, e4, e5, e6⟩ := idx t
  apply Fin.ext
  blk_simp [e6]
  first | done | omega | simp

theorem final4 (c : Dev nD) : (dats m 0 c).arrAt 4 cfg0.N
    = dx (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  obtain ⟨e0, e1, e2, e3, e4, e5, e6⟩ := idx t
  blk_simp
  rw [after0_4, (rows m c t).1]
  refine (block_dx ..).trans ?_
  unfold dx
  congr 1
  · funext k; blk_point [iblk, V, e0, e4]
  · funext k; blk_point [iblk, V, e1]
  · funext k; blk_point [iblk, V, e2, e4]
  · exact (column4 t y).symm

theorem final5 (c : Dev nD) : (dats m 0 c).arrAt 5 cfg0.N
    = dx (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  obtain ⟨e0, e1, e2, e3, e4, e5, e6⟩ := idx t
  blk_simp
  rw [after0_5, (rows m c t).2]
  refine (block_dx ..).trans ?_
  unfold dx
  congr 1
  · funext k; blk_point [iblk, V, e0, e5]
  · funext k; blk_point [iblk, V, e1]
  · funext k; blk_point [iblk, V, e2, e5]
  · exact (column5 t y).symm

theorem final6 (c : Dev nD) : (dats m 0 c).arrAt 6 cfg0.N
    = dw (m ((c : Thread nD τ).loc main_arg0)) (m ((c : Thread nD τ).loc main_arg2)) := by
  refine (dats m 0 c).arrAt_eq_of_covers 6 _ (by decide +kernel) fun t hf y => ?_
  have h15 : t.val = 15 := by have := (flush0_6 t).mp hf; have : t.val < 16 := t.isLt; omega
  obtain ⟨-, -, -, -, -, -, e6⟩ := idx t
  blk_simp
  rw [after0_6]
  refine Norm.sixteen_blocks_rows (fun n h => (outsAt0 m c n h).2.2) (part m c) (first m c) (next m c) t h15 _ _ fun s hs k hl => ?_
  obtain ⟨e0, e1, e2, -⟩ := idx ⟨s.val, hs⟩
  unfold part
  congr 1
  · funext j; blk_point [iblk, V, e0]
  · funext j; blk_point [iblk, V, e2]
  · exact (column6 t y).symm

end Cert.Proof.RmsBwd

end
-- ==== Proof.RmsBwd.lean ====
/- The claim of the norm's gradient, from the kernel's arrays and the reference's. -/
module

public import proofs.«01_k».proof.Defs
public import proofs.«01_k».proof.Proof.Norm.Kernel
public import proofs.«01_k».proof.Proof.Norm.Accumulate
public import proofs.«01_k».proof.Proof.Gen.RmsBwdIdeal.Value
public import proofs.«01_k».proof.Proof.Gen.RmsBwdRefIdeal.Read
public import proofs.«01_k».proof.Proof.Norm.Reference
public import Idealize.ShloMosaic.Lib.Pipeline.ValueKit
public import Idealize.ShloMosaic.Lib.Claim
public import Idealize.ShloMosaic.Lib.Pointwise

@[expose] public section

set_option maxRecDepth 16384

noncomputable section

namespace Cert.Proof.RmsBwd

open Cert.RmsBwdIdeal Cert.RmsBwdIdeal.Gen Cert.RmsBwdIdeal.Value Idealize.ShloMosaic Idealize.ShloMosaic.TcCoe Idealize.SL.Sem
open Idealize.ShloMosaic.Pipeline (Dat)

variable (m : (ℓ : Loc nD τ sig) → Buf (Elt Ideal) ℓ)

/-- The kernel and the reference compute the same gradients over the extended reals, of finite rows, weights and incoming gradients. -/
theorem algebraic : Cert.algebraic_RmsBwdIdeal_RmsBwdRefIdeal_pre_rms_finite := by
  pair_intro
  · run_from Cert.RmsBwdIdeal.Value.run_blocks m g
  · refine (θ_run Cert.RmsBwdRefIdeal.defs _ _).mono (fun r h c => ?_) (Cert.RmsBwdRefIdeal.Value.run m' g')
    obtain ⟨h0, h1, h2, ha⟩ := h c
    obtain ⟨a0, a1, a2, a3⟩ := hagree c
    obtain ⟨fx, fw, fd⟩ := Norm.finite _ _ _ _ (hpre c)
    refine ⟨h0.trans ?_, h1.trans ?_, h2.trans ?_, ha⟩
    · refine (Cert.RmsBwdRefIdeal.Read.val_main_v34_eq _ _ _ _).trans ?_
      rw [a0, a1, a2, a3]
      exact (ref_dx _ _ _ _ fx fw fd).trans (final4 m c).symm
    · refine (Cert.RmsBwdRefIdeal.Read.val_main_v35_eq _ _ _ _).trans ?_
      rw [a0, a1, a2, a3]
      exact (ref_dxb _ _ _ _ fx fw fd).trans (final5 m c).symm
    · refine (Cert.RmsBwdRefIdeal.Read.val_main_v17_eq _ _).trans ?_
      rw [a0, a2]
      exact (ref_dw _ _).trans (final6 m c).symm

/-- The reference ends with its arguments unchanged and its counters at zero. -/
theorem ref_frame : Cert.quiescent_RmsBwdRefIdeal := fun m ρ _ =>
  (θ_run Cert.RmsBwdRefIdeal.defs _ _).mono
    (fun r h => ⟨fun c => (h c).2.2.2, Idealize.ShloMosaic.sem_eq_zero_of_no_sems (by decide) r.2⟩)
    (Cert.RmsBwdRefIdeal.Value.run m ρ)

theorem ref_frame_pre : Cert.quiescent_RmsBwdRefIdeal_pre_rms_finite := fun m ρ _ => ref_frame m ρ trivial

end Cert.Proof.RmsBwd

end
-- ==== Proof.Loss.lean ====
/- The loss head's loss: half the sum over all rows of the mean squared error of the normalised row. The kernel adds up sixteen
   blocks of rows, each with its own factor of one half; the reference halves one sum. -/
module

public import proofs.«01_k».proof.Defs
public import proofs.«01_k».proof.Proof.Norm.Row
public import proofs.«01_k».proof.Proof.Norm.Accumulate
public import proofs.«01_k».proof.Proof.Gen.LossIdeal.Value
public import proofs.«01_k».proof.Proof.Gen.LossRefIdeal.Read
public import Idealize.ShloMosaic.Lib.Pipeline.ValueKit
public import Idealize.ShloMosaic.Lib.Claim
public import Idealize.ShloMosaic.Lib.Pointwise

@[expose] public section

set_option maxRecDepth 16384

noncomputable section

namespace Cert.Proof.Loss

open Cert.LossIdeal Cert.LossIdeal.Gen Cert.LossIdeal.Value Idealize.ShloMosaic Idealize.ShloMosaic.TcCoe Idealize.SL.Sem
open Idealize.ShloMosaic.Pipeline (Dat)

variable (m : (ℓ : Loc nD τ sig) → Buf (Elt Ideal) ℓ)

/-- The rows' and the targets' blocks advance with the grid point; the weight and the loss are one block. -/
theorem idx : ∀ t : Fin cfg0.N, win0_0.index t = ![t.val, 0] ∧ win0_1.index t = ![0, 0] ∧ win0_2.index t = ![t.val, 0]
    ∧ win0_3.index t = ![0, 0] :=
  (by decide +kernel : ∀ t : Fin grid0.N, _)

/-- The mean squared error of one row. -/
def rowError (x w t : Fin 1024 → EReal) : EReal :=
  Ideal.div (∑ k, (x k * Norm.scale x * w k - t k) * (x k * Norm.scale x * w k - t k)) (Ideal.ofBits .f32 0x44800000#32)

/-- One half of a row's mean squared error. -/
def rowLoss (x w t : Fin 1024 → EReal) : EReal := ((1 / 2 : ℝ) : EReal) * rowError x w t

/-- A point's addend of the loss: one for each row of its block. -/
def part (c : Dev nD) (t : Fin cfg0.N) (_ : S8x128.Idx) (r : Fin 512) : Elt Ideal .f32 :=
  rowLoss (fun k => iblk m c 0 t (ix2 r k)) (fun k => iblk m c 1 t (ix2 0 k)) (fun k => iblk m c 2 t (ix2 r k))

/-- The body's loss of a block of rows. -/
theorem block_loss (x : Vec Ideal S512x1024 .f32) (w : Vec Ideal S1x1024 .f32) (t : Vec Ideal S512x1024 .f32) (y : S8x128.Idx) :
    k0_pay4 (k0_pay9 x w t) y
      = ∑ r : Fin 512, rowLoss (fun k => x (ix2 r k)) (fun k => w (ix2 0 k)) (fun k => t (ix2 r k)) := by
  unfold rowLoss rowError Norm.scale
  rw [← Norm.half_sum, ← Norm.half_word]
  unfold k0_pay4 k0_pay9 k0_pay8 k0_pay7 k0_pay6
  pointwise

theorem first (c : Dev nD) (h : 0 < cfg0.N) (y : S8x128.Idx) : (outsAt0 m c 0 h).1 y = ∑ r, part m c ⟨0, h⟩ y r := by
  rw [outsAt0_A m c ⟨0, h⟩ rfl (by dsimp only; omega) rfl (by dsimp only; omega)]
  frame_out
  exact block_loss ..

theorem next (c : Dev nD) (n : ℕ) (h : n + 1 < cfg0.N) (y : S8x128.Idx) :
    (outsAt0 m c (n + 1) h).1 y = (outsAt0 m c n (Nat.lt_of_succ_lt h)).1 y + ∑ r, part m c ⟨n + 1, h⟩ y r := by
  have hN : n + 1 < 16 := h
  rw [outsAt0_B m c ⟨n + 1, h⟩ (by dsimp only; omega) (by dsimp only; omega) (by dsimp only; omega) (by dsimp only; omega)]
  show _ = (outsAt0 m c (n + 1 - 1) _).1 y + _
  generalize outsAt0 m c _ _ = p
  frame_out
  unfold k0_pay5
  refine Eq.trans ?_ (congrArg (p.1 y + ·) (block_loss (iblk m c 0 ⟨n + 1, h⟩) (iblk m c 1 ⟨n + 1, h⟩) (iblk m c 2 ⟨n + 1, h⟩) y))
  generalize k0_pay4 _ = b
  pointwise

/-- The loss, at every entry of the result's block. -/
def loss (x : Vec Ideal S8192x1024 .f32) (w : Vec Ideal S1x1024 .f32) (t : Vec Ideal S8192x1024 .f32) : Vec Ideal S8x128 .f32 := fun _ =>
  ∑ l : Fin 8192, rowLoss (fun k => x (ix2 l k)) (fun k => w (ix2 0 k)) (fun k => t (ix2 l k))

theorem final (c : Dev nD) : (dats m 0 c).arrAt 3 cfg0.N
    = loss (m ((c : Thread nD τ).loc main_arg0)) (m ((c : Thread nD τ).loc main_arg1)) (m ((c : Thread nD τ).loc main_arg2)) := by
  refine (dats m 0 c).arrAt_eq_of_covers 3 _ (by decide +kernel) fun t hf y => ?_
  have h15 : t.val = 15 := by have := (flush0_3 t).mp hf; have : t.val < 16 := t.isLt; omega
  blk_simp
  rw [after0_3]
  refine Norm.sixteen_blocks_rows (fun n h => (outsAt0 m c n h).1) (part m c) (first m c) (next m c) t h15 _ _ fun s hs k hl => ?_
  obtain ⟨e0, e1, e2, -⟩ := idx ⟨s.val, hs⟩
  unfold part
  congr 1
  · funext j; blk_point [iblk, V, e0]
  · funext j; blk_point [iblk, V, e1]
  · funext j; blk_point [iblk, V, e2]

/-- The reference's loss. -/
theorem ref (x : Vec Ideal S8192x1024 .f32) (w : Vec Ideal S1x1024 .f32) (t : Vec Ideal S8192x1024 .f32) :
    Cert.LossRefIdeal.Read.val_main_v19 (F := Ideal) x w t = loss x w t := by
  funext i
  unfold loss rowLoss rowError Norm.scale
  rw [← Norm.half_sum, ← Norm.half_word]
  rw [← Cert.LossRefIdeal.Read.val_main_v19_eq]
  pointwise

/-- The kernel and the reference compute the same loss over the extended reals. -/
theorem algebraic : Cert.algebraic_LossIdeal_LossRefIdeal := by
  pair_intro
  · run_from Cert.LossIdeal.Value.run_blocks m g
  · run_from Cert.LossRefIdeal.Value.run m' g'
    exact (final m c).symm ▸ ref _ _ _

/-- The reference ends with its arguments unchanged and its counters at zero. -/
theorem ref_frame : Cert.quiescent_LossRefIdeal := fun m ρ _ =>
  (θ_run Cert.LossRefIdeal.defs _ _).mono
    (fun r h => ⟨fun c => (h c).2, Idealize.ShloMosaic.sem_eq_zero_of_no_sems (by decide) r.2⟩)
    (Cert.LossRefIdeal.Value.run m ρ)

end Cert.Proof.Loss

end
-- ==== Proof.RmsFwd.lean ====
/- The root-mean-square norm of the rows, a block of 512 rows to a grid point, against the same norm of the whole array. -/
module

public import proofs.«01_k».proof.Defs
public import proofs.«01_k».proof.Proof.Norm.Row
public import proofs.«01_k».proof.Proof.Gen.RmsFwdIdeal.Value
public import proofs.«01_k».proof.Proof.Gen.RmsFwdRefIdeal.Read
public import Idealize.ShloMosaic.Lib.Pipeline.ValueKit
public import Idealize.ShloMosaic.Lib.Claim
public import Idealize.ShloMosaic.Lib.Pointwise

@[expose] public section

set_option maxRecDepth 16384

noncomputable section

namespace Cert.Proof.RmsFwd

open Cert.RmsFwdIdeal Cert.RmsFwdIdeal.Gen Cert.RmsFwdIdeal.Value Idealize.ShloMosaic Idealize.ShloMosaic.TcCoe Idealize.SL.Sem
open Idealize.ShloMosaic.Pipeline (Dat)

variable (m : (ℓ : Loc nD τ sig) → Buf (Elt Ideal) ℓ)

/-- The rows' blocks advance with the grid point; the weight is one block. -/
theorem idx : ∀ t : Fin cfg0.N, win0_0.index t = ![t.val, 0] ∧ win0_1.index t = ![0, 0] ∧ win0_2.index t = ![t.val, 0] :=
  (by decide +kernel : ∀ t : Fin grid0.N, _)

/-- The normalised rows. -/
def norm (x : Vec Ideal S8192x1024 .f32) (w : Vec Ideal S1x1024 .f32) : Vec Ideal S8192x1024 .bf16 := fun i =>
  x i * Norm.scale (fun k => x (ix2 (i 0) k)) * w (ix2 0 (i 1))

theorem final (c : Dev nD) : (dats m 0 c).arrAt 2 cfg0.N
    = norm (m ((c : Thread nD τ).loc main_arg0)) (m ((c : Thread nD τ).loc main_arg1)) := by
  refine (dats m 0 c).arrAt_eq_of_covers 2 _ (by decide +kernel) fun t hf y => ?_
  obtain ⟨e0, e1, e2⟩ := idx t
  blk_simp
  rw [after0_2]
  frame_out
  unfold norm Norm.scale
  unfold k0_pay1
  pointwise
  blk_point [iblk, V, e0, e1, e2]

/-- The reference's normalised rows. -/
theorem ref (x : Vec Ideal S8192x1024 .f32) (w : Vec Ideal S1x1024 .f32) :
    Cert.RmsFwdRefIdeal.Read.val_main_v12 (F := Ideal) x w = norm x w := by
  funext i
  unfold norm Norm.scale
  rw [← Cert.RmsFwdRefIdeal.Read.val_main_v12_eq]
  pointwise

/-- The kernel and the reference compute the same norm over the extended reals. -/
theorem algebraic : Cert.algebraic_RmsFwdIdeal_RmsFwdRefIdeal := by
  pair_intro
  · run_from Cert.RmsFwdIdeal.Value.run_blocks m g
  · run_from Cert.RmsFwdRefIdeal.Value.run m' g'
    exact (final m c).symm ▸ ref _ _

/-- The reference ends with its arguments unchanged and its counters at zero. -/
theorem ref_frame : Cert.quiescent_RmsFwdRefIdeal := fun m ρ _ =>
  (θ_run Cert.RmsFwdRefIdeal.defs _ _).mono
    (fun r h => ⟨fun c => (h c).2, Idealize.ShloMosaic.sem_eq_zero_of_no_sems (by decide) r.2⟩)
    (Cert.RmsFwdRefIdeal.Value.run m ρ)

end Cert.Proof.RmsFwd

end
-- ==== Proof.AttnBwd.RunA.lean ====
module

public import proofs.«01_k».proof.Defs
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Frame

@[expose] public section

set_option maxRecDepth 16384

noncomputable section

namespace AttnBwd

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords)
  (arg2 : Memref sig .tc .vmem S8192x128 .bf16) (harg2 : arg2.IsWhole)
  (arg3 : Memref sig .tc .vmem S512x128 .bf16) (harg3 : arg3.IsWhole)
  (arg4 : Memref sig .tc .vmem S512x128 .bf16) (harg4 : arg4.IsWhole)
  (arg5 : Memref sig .tc .vmem S8192x128 .bf16) (harg5 : arg5.IsWhole)
  (arg6 : Memref sig .tc .vmem S8192x128 .bf16) (harg6 : arg6.IsWhole)
  (arg7 : Memref sig .tc .vmem S2x1x8192 .f32) (harg7 : arg7.IsWhole)
  (arg8 : Memref sig .tc .vmem S8192x128 .f32) (harg8 : arg8.IsWhole)
  (arg9 : Memref sig .tc .vmem S8192x128 .bf16) (harg9 : arg9.IsWhole)
  (arg10 : Memref sig .tc .vmem S512x128 .bf16) (harg10 : arg10.IsWhole)
  (arg11 : Memref sig .tc .vmem S512x128 .bf16) (harg11 : arg11.IsWhole)
  (arg12 : Memref sig .tc .vmem S1x8192x128 .f32) (harg12 : arg12.IsWhole)
  (arg13 : Memref sig .tc .vmem S1x512x128 .f32) (harg13 : arg13.IsWhole)
  (arg14 : Memref sig .tc .vmem S2x8192x128 .bf16) (harg14 : arg14.IsWhole)
  (arg15 : Memref sig .tc .vmem S2x1x8192 .f32) (harg15 : arg15.IsWhole)
  (arg16 : Memref sig .tc .vmem S2x128x8192 .f32) (harg16 : arg16.IsWhole)
  (arg17 : Memref sig .tc .vmem S2x512x128 .f32) (harg17 : arg17.IsWhole)
  (arg18 : Memref sig .tc .vmem S2x512x128 .f32) (harg18 : arg18.IsWhole)

/-- The buffers the body works on, each whole at given contents: seven input blocks, five output
    blocks, five scratch buffers. -/
abbrev Res (g2 : BufTy.Contents (Elt F) arg2.view.ty) (g3 : BufTy.Contents (Elt F) arg3.view.ty) (g4 : BufTy.Contents (Elt F) arg4.view.ty) (g5 : BufTy.Contents (Elt F) arg5.view.ty) (g6 : BufTy.Contents (Elt F) arg6.view.ty) (g7 : BufTy.Contents (Elt F) arg7.view.ty) (g8 : BufTy.Contents (Elt F) arg8.view.ty) (g9 : BufTy.Contents (Elt F) arg9.view.ty) (g10 : BufTy.Contents (Elt F) arg10.view.ty) (g11 : BufTy.Contents (Elt F) arg11.view.ty) (g12 : BufTy.Contents (Elt F) arg12.view.ty) (g13 : BufTy.Contents (Elt F) arg13.view.ty) (g14 : BufTy.Contents (Elt F) arg14.view.ty) (g15 : BufTy.Contents (Elt F) arg15.view.ty) (g16 : BufTy.Contents (Elt F) arg16.view.ty) (g17 : BufTy.Contents (Elt F) arg17.view.ty) (g18 : BufTy.Contents (Elt F) arg18.view.ty) : sProp 𝕄 :=
  iprop((arg2.view.loc (c : Thread nD τ) ↦[arg2.view.set]{fullShare} g2) ∗ (arg3.view.loc (c : Thread nD τ) ↦[arg3.view.set]{fullShare} g3) ∗ (arg4.view.loc (c : Thread nD τ) ↦[arg4.view.set]{fullShare} g4) ∗ (arg5.view.loc (c : Thread nD τ) ↦[arg5.view.set]{fullShare} g5) ∗ (arg6.view.loc (c : Thread nD τ) ↦[arg6.view.set]{fullShare} g6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17) ∗ (arg18.view.loc (c : Thread nD τ) ↦[arg18.view.set]{fullShare} g18))

variable (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty)

set_option maxHeartbeats 4000000 in
/-- What the body leaves in the buffers it stores into: case A. -/
@[irreducible] def runA (hc1 : k0_cond1 i = 1#1) (hc2 : ¬k0_cond2 i = 1#1) :
    Σ' (g10 : BufTy.Contents (Elt F) arg10.view.ty) (g11 : BufTy.Contents (Elt F) arg11.view.ty) (g13 : BufTy.Contents (Elt F) arg13.view.ty) (g14 : BufTy.Contents (Elt F) arg14.view.ty) (g15 : BufTy.Contents (Elt F) arg15.view.ty) (g16 : BufTy.Contents (Elt F) arg16.view.ty) (g17 : BufTy.Contents (Elt F) arg17.view.ty), { g18 : BufTy.Contents (Elt F) arg18.view.ty //
      ∀ (E : Set ℕ),
        Res c arg2 arg3 arg4 arg5 arg6 arg7 arg8 arg9 arg10 arg11 arg12 arg13 arg14 arg15 arg16 arg17 arg18 f2 f3 f4 f5 f6 f7 f8 f9 f10 f11 f12 f13 f14 f15 f16 f17 f18
        ⊢ wp frame (wpE (defs₀ (F := F)) Variants.none (c : Thread nD τ) none) E
            (cc0_l0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
            (fun _ => Res c arg2 arg3 arg4 arg5 arg6 arg7 arg8 arg9 arg10 arg11 arg12 arg13 arg14 arg15 arg16 arg17 arg18
              f2 f3 f4 f5 f6 f7 f8 f9 g10 g11 f12 g13 g14 g15 g16 g17 g18) } := by
  refine ⟨?_, ?_, ?_, ?_, ?_, ?_, ?_, ?_, fun E => ?run⟩
  case run =>
    simp only [cc0_l0_attn_bwd_eq_skeleton]
    unfold cc0_l0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    iintro ⟨H2, H3, H4, H5, H6, H7, H8, H9, H10, H11, H12, H13, H14, H15, H16, H17, H18⟩
    sl_exec (disch := first | sl_exact hc1 | sl_exact hc2)
    sl_step
    sl_close

end AttnBwd

end
-- ==== Proof.AttnBwd.RunB.lean ====
module

public import proofs.«01_k».proof.Defs
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Frame
public import proofs.«01_k».proof.Proof.AttnBwd.RunA

@[expose] public section

set_option maxRecDepth 16384

noncomputable section

namespace AttnBwd

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords)
  (arg2 : Memref sig .tc .vmem S8192x128 .bf16) (harg2 : arg2.IsWhole)
  (arg3 : Memref sig .tc .vmem S512x128 .bf16) (harg3 : arg3.IsWhole)
  (arg4 : Memref sig .tc .vmem S512x128 .bf16) (harg4 : arg4.IsWhole)
  (arg5 : Memref sig .tc .vmem S8192x128 .bf16) (harg5 : arg5.IsWhole)
  (arg6 : Memref sig .tc .vmem S8192x128 .bf16) (harg6 : arg6.IsWhole)
  (arg7 : Memref sig .tc .vmem S2x1x8192 .f32) (harg7 : arg7.IsWhole)
  (arg8 : Memref sig .tc .vmem S8192x128 .f32) (harg8 : arg8.IsWhole)
  (arg9 : Memref sig .tc .vmem S8192x128 .bf16) (harg9 : arg9.IsWhole)
  (arg10 : Memref sig .tc .vmem S512x128 .bf16) (harg10 : arg10.IsWhole)
  (arg11 : Memref sig .tc .vmem S512x128 .bf16) (harg11 : arg11.IsWhole)
  (arg12 : Memref sig .tc .vmem S1x8192x128 .f32) (harg12 : arg12.IsWhole)
  (arg13 : Memref sig .tc .vmem S1x512x128 .f32) (harg13 : arg13.IsWhole)
  (arg14 : Memref sig .tc .vmem S2x8192x128 .bf16) (harg14 : arg14.IsWhole)
  (arg15 : Memref sig .tc .vmem S2x1x8192 .f32) (harg15 : arg15.IsWhole)
  (arg16 : Memref sig .tc .vmem S2x128x8192 .f32) (harg16 : arg16.IsWhole)
  (arg17 : Memref sig .tc .vmem S2x512x128 .f32) (harg17 : arg17.IsWhole)
  (arg18 : Memref sig .tc .vmem S2x512x128 .f32) (harg18 : arg18.IsWhole)

variable (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty)

set_option maxHeartbeats 4000000 in
/-- What the body leaves in the buffers it stores into: case B. -/
@[irreducible] def runB (hc1 : ¬k0_cond1 i = 1#1) (hc2 : ¬k0_cond2 i = 1#1) :
    Σ' (g10 : BufTy.Contents (Elt F) arg10.view.ty) (g11 : BufTy.Contents (Elt F) arg11.view.ty) (g13 : BufTy.Contents (Elt F) arg13.view.ty) (g16 : BufTy.Contents (Elt F) arg16.view.ty) (g17 : BufTy.Contents (Elt F) arg17.view.ty), { g18 : BufTy.Contents (Elt F) arg18.view.ty //
      ∀ (E : Set ℕ),
        Res c arg2 arg3 arg4 arg5 arg6 arg7 arg8 arg9 arg10 arg11 arg12 arg13 arg14 arg15 arg16 arg17 arg18 f2 f3 f4 f5 f6 f7 f8 f9 f10 f11 f12 f13 f14 f15 f16 f17 f18
        ⊢ wp frame (wpE (defs₀ (F := F)) Variants.none (c : Thread nD τ) none) E
            (cc0_l0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
            (fun _ => Res c arg2 arg3 arg4 arg5 arg6 arg7 arg8 arg9 arg10 arg11 arg12 arg13 arg14 arg15 arg16 arg17 arg18
              f2 f3 f4 f5 f6 f7 f8 f9 g10 g11 f12 g13 f14 f15 g16 g17 g18) } := by
  refine ⟨?_, ?_, ?_, ?_, ?_, ?_, fun E => ?run⟩
  case run =>
    simp only [cc0_l0_attn_bwd_eq_skeleton]
    unfold cc0_l0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    iintro ⟨H2, H3, H4, H5, H6, H7, H8, H9, H10, H11, H12, H13, H14, H15, H16, H17, H18⟩
    sl_exec (disch := first | sl_exact hc1 | sl_exact hc2)
    sl_step
    sl_close

end AttnBwd

end
-- ==== Proof.AttnBwd.RunC.lean ====
module

public import proofs.«01_k».proof.Defs
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Frame
public import proofs.«01_k».proof.Proof.AttnBwd.RunB

@[expose] public section

set_option maxRecDepth 16384

noncomputable section

namespace AttnBwd

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords)
  (arg2 : Memref sig .tc .vmem S8192x128 .bf16) (harg2 : arg2.IsWhole)
  (arg3 : Memref sig .tc .vmem S512x128 .bf16) (harg3 : arg3.IsWhole)
  (arg4 : Memref sig .tc .vmem S512x128 .bf16) (harg4 : arg4.IsWhole)
  (arg5 : Memref sig .tc .vmem S8192x128 .bf16) (harg5 : arg5.IsWhole)
  (arg6 : Memref sig .tc .vmem S8192x128 .bf16) (harg6 : arg6.IsWhole)
  (arg7 : Memref sig .tc .vmem S2x1x8192 .f32) (harg7 : arg7.IsWhole)
  (arg8 : Memref sig .tc .vmem S8192x128 .f32) (harg8 : arg8.IsWhole)
  (arg9 : Memref sig .tc .vmem S8192x128 .bf16) (harg9 : arg9.IsWhole)
  (arg10 : Memref sig .tc .vmem S512x128 .bf16) (harg10 : arg10.IsWhole)
  (arg11 : Memref sig .tc .vmem S512x128 .bf16) (harg11 : arg11.IsWhole)
  (arg12 : Memref sig .tc .vmem S1x8192x128 .f32) (harg12 : arg12.IsWhole)
  (arg13 : Memref sig .tc .vmem S1x512x128 .f32) (harg13 : arg13.IsWhole)
  (arg14 : Memref sig .tc .vmem S2x8192x128 .bf16) (harg14 : arg14.IsWhole)
  (arg15 : Memref sig .tc .vmem S2x1x8192 .f32) (harg15 : arg15.IsWhole)
  (arg16 : Memref sig .tc .vmem S2x128x8192 .f32) (harg16 : arg16.IsWhole)
  (arg17 : Memref sig .tc .vmem S2x512x128 .f32) (harg17 : arg17.IsWhole)
  (arg18 : Memref sig .tc .vmem S2x512x128 .f32) (harg18 : arg18.IsWhole)

variable (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty)

set_option maxHeartbeats 4000000 in
/-- What the body leaves in the buffers it stores into: case C. -/
@[irreducible] def runC (hc1 : ¬k0_cond1 i = 1#1) (hc2 : k0_cond2 i = 1#1) :
    Σ' (g9 : BufTy.Contents (Elt F) arg9.view.ty) (g10 : BufTy.Contents (Elt F) arg10.view.ty) (g11 : BufTy.Contents (Elt F) arg11.view.ty) (g12 : BufTy.Contents (Elt F) arg12.view.ty) (g13 : BufTy.Contents (Elt F) arg13.view.ty) (g16 : BufTy.Contents (Elt F) arg16.view.ty) (g17 : BufTy.Contents (Elt F) arg17.view.ty), { g18 : BufTy.Contents (Elt F) arg18.view.ty //
      ∀ (E : Set ℕ),
        Res c arg2 arg3 arg4 arg5 arg6 arg7 arg8 arg9 arg10 arg11 arg12 arg13 arg14 arg15 arg16 arg17 arg18 f2 f3 f4 f5 f6 f7 f8 f9 f10 f11 f12 f13 f14 f15 f16 f17 f18
        ⊢ wp frame (wpE (defs₀ (F := F)) Variants.none (c : Thread nD τ) none) E
            (cc0_l0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
            (fun _ => Res c arg2 arg3 arg4 arg5 arg6 arg7 arg8 arg9 arg10 arg11 arg12 arg13 arg14 arg15 arg16 arg17 arg18
              f2 f3 f4 f5 f6 f7 f8 g9 g10 g11 g12 g13 f14 f15 g16 g17 g18) } := by
  refine ⟨?_, ?_, ?_, ?_, ?_, ?_, ?_, ?_, fun E => ?run⟩
  case run =>
    simp only [cc0_l0_attn_bwd_eq_skeleton]
    unfold cc0_l0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    iintro ⟨H2, H3, H4, H5, H6, H7, H8, H9, H10, H11, H12, H13, H14, H15, H16, H17, H18⟩
    sl_exec (disch := first | sl_exact hc1 | sl_exact hc2)
    sl_step
    sl_close

end AttnBwd

end
-- ==== Proof.AttnBwd.Point.lean ====
/- One point of the attention's backward grid: the contents of its buffers before and after, in each of the three cases. -/
module

public import proofs.«01_k».proof.Defs
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Frame
public import proofs.«01_k».proof.Proof.AttnBwd.RunC
public import Idealize.ShloMosaic.Lib.Pipeline.ArrRel

@[expose] public section

set_option maxRecDepth 16384

noncomputable section

namespace AttnBwd

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [Named F]

local notation "𝕄" => MT nD τ sig Unit (Elt F) ℕ (UR sig nD τ) ℕ

/-- The seventeen buffers the body is handed. -/
structure Bufs where
  b2 : Memref sig .tc .vmem S8192x128 .bf16
  b3 : Memref sig .tc .vmem S512x128 .bf16
  b4 : Memref sig .tc .vmem S512x128 .bf16
  b5 : Memref sig .tc .vmem S8192x128 .bf16
  b6 : Memref sig .tc .vmem S8192x128 .bf16
  b7 : Memref sig .tc .vmem S2x1x8192 .f32
  b8 : Memref sig .tc .vmem S8192x128 .f32
  b9 : Memref sig .tc .vmem S8192x128 .bf16
  b10 : Memref sig .tc .vmem S512x128 .bf16
  b11 : Memref sig .tc .vmem S512x128 .bf16
  b12 : Memref sig .tc .vmem S1x8192x128 .f32
  b13 : Memref sig .tc .vmem S1x512x128 .f32
  b14 : Memref sig .tc .vmem S2x8192x128 .bf16
  b15 : Memref sig .tc .vmem S2x1x8192 .f32
  b16 : Memref sig .tc .vmem S2x128x8192 .f32
  b17 : Memref sig .tc .vmem S2x512x128 .f32
  b18 : Memref sig .tc .vmem S2x512x128 .f32
  w2 : b2.IsWhole
  w3 : b3.IsWhole
  w4 : b4.IsWhole
  w5 : b5.IsWhole
  w6 : b6.IsWhole
  w7 : b7.IsWhole
  w8 : b8.IsWhole
  w9 : b9.IsWhole
  w10 : b10.IsWhole
  w11 : b11.IsWhole
  w12 : b12.IsWhole
  w13 : b13.IsWhole
  w14 : b14.IsWhole
  w15 : b15.IsWhole
  w16 : b16.IsWhole
  w17 : b17.IsWhole
  w18 : b18.IsWhole

variable (F) in
/-- What those buffers hold. -/
structure Conts (M : Bufs) where
  c2 : BufTy.Contents (Elt F) M.b2.view.ty
  c3 : BufTy.Contents (Elt F) M.b3.view.ty
  c4 : BufTy.Contents (Elt F) M.b4.view.ty
  c5 : BufTy.Contents (Elt F) M.b5.view.ty
  c6 : BufTy.Contents (Elt F) M.b6.view.ty
  c7 : BufTy.Contents (Elt F) M.b7.view.ty
  c8 : BufTy.Contents (Elt F) M.b8.view.ty
  c9 : BufTy.Contents (Elt F) M.b9.view.ty
  c10 : BufTy.Contents (Elt F) M.b10.view.ty
  c11 : BufTy.Contents (Elt F) M.b11.view.ty
  c12 : BufTy.Contents (Elt F) M.b12.view.ty
  c13 : BufTy.Contents (Elt F) M.b13.view.ty
  c14 : BufTy.Contents (Elt F) M.b14.view.ty
  c15 : BufTy.Contents (Elt F) M.b15.view.ty
  c16 : BufTy.Contents (Elt F) M.b16.view.ty
  c17 : BufTy.Contents (Elt F) M.b17.view.ty
  c18 : BufTy.Contents (Elt F) M.b18.view.ty

variable (c : Dev nD) (i : grid0.Coords) (M : Bufs) (f : Conts F M)

/-- The buffers at their contents. -/
abbrev Held : sProp 𝕄 := Res c M.b2 M.b3 M.b4 M.b5 M.b6 M.b7 M.b8 M.b9 M.b10 M.b11 M.b12 M.b13 M.b14 M.b15 M.b16 M.b17 M.b18 f.c2 f.c3 f.c4 f.c5 f.c6 f.c7 f.c8 f.c9 f.c10 f.c11 f.c12 f.c13 f.c14 f.c15 f.c16 f.c17 f.c18

/-- The body on the buffers `M`. -/
abbrev bodyOn : Prog (TpuEff nD τ sig (Elt F) Λ₀ .tc) PUnit :=
  cc0_l0_attn_bwd (F := F) i M.b2 M.w2 M.b3 M.w3 M.b4 M.w4 M.b5 M.w5 M.b6 M.w6 M.b7 M.w7 M.b8 M.w8 M.b9 M.w9 M.b10 M.w10 M.b11 M.w11 M.b12 M.w12 M.b13 M.w13 M.b14 M.w14 M.b15 M.w15 M.b16 M.w16 M.b17 M.w17 M.b18 M.w18

/-- What the body leaves at the first key block. -/
def outA (h1 : k0_cond1 i = 1#1) (h2 : ¬k0_cond2 i = 1#1) : Conts F M :=
  let run := runA c i M.b2 M.w2 M.b3 M.w3 M.b4 M.w4 M.b5 M.w5 M.b6 M.w6 M.b7 M.w7 M.b8 M.w8 M.b9 M.w9 M.b10 M.w10 M.b11 M.w11 M.b12 M.w12 M.b13 M.w13 M.b14 M.w14 M.b15 M.w15 M.b16 M.w16 M.b17 M.w17 M.b18 M.w18 f.c2 f.c3 f.c4 f.c5 f.c6 f.c7 f.c8 f.c9 f.c10 f.c11 f.c12 f.c13 f.c14 f.c15 f.c16 f.c17 f.c18 h1 h2
  { f with c10 := run.1, c11 := run.2.1, c13 := run.2.2.1, c14 := run.2.2.2.1, c15 := run.2.2.2.2.1, c16 := run.2.2.2.2.2.1, c17 := run.2.2.2.2.2.2.1, c18 := run.2.2.2.2.2.2.2.1 }

theorem soundA (h1 : k0_cond1 i = 1#1) (h2 : ¬k0_cond2 i = 1#1) (E : Set ℕ) :
    Held c M f ⊢ wp frame (wpE (defs₀ (F := F)) Variants.none (c : Thread nD τ) none) E (bodyOn i M)
      (fun _ => Held c M (outA c i M f h1 h2)) :=
  (runA c i M.b2 M.w2 M.b3 M.w3 M.b4 M.w4 M.b5 M.w5 M.b6 M.w6 M.b7 M.w7 M.b8 M.w8 M.b9 M.w9 M.b10 M.w10 M.b11 M.w11 M.b12 M.w12 M.b13 M.w13 M.b14 M.w14 M.b15 M.w15 M.b16 M.w16 M.b17 M.w17 M.b18 M.w18 f.c2 f.c3 f.c4 f.c5 f.c6 f.c7 f.c8 f.c9 f.c10 f.c11 f.c12 f.c13 f.c14 f.c15 f.c16 f.c17 f.c18 h1 h2).2.2.2.2.2.2.2.2 E

/-- What the body leaves at a key block between. -/
def outB (h1 : ¬k0_cond1 i = 1#1) (h2 : ¬k0_cond2 i = 1#1) : Conts F M :=
  let run := runB c i M.b2 M.w2 M.b3 M.w3 M.b4 M.w4 M.b5 M.w5 M.b6 M.w6 M.b7 M.w7 M.b8 M.w8 M.b9 M.w9 M.b10 M.w10 M.b11 M.w11 M.b12 M.w12 M.b13 M.w13 M.b14 M.w14 M.b15 M.w15 M.b16 M.w16 M.b17 M.w17 M.b18 M.w18 f.c2 f.c3 f.c4 f.c5 f.c6 f.c7 f.c8 f.c9 f.c10 f.c11 f.c12 f.c13 f.c14 f.c15 f.c16 f.c17 f.c18 h1 h2
  { f with c10 := run.1, c11 := run.2.1, c13 := run.2.2.1, c16 := run.2.2.2.1, c17 := run.2.2.2.2.1, c18 := run.2.2.2.2.2.1 }

theorem soundB (h1 : ¬k0_cond1 i = 1#1) (h2 : ¬k0_cond2 i = 1#1) (E : Set ℕ) :
    Held c M f ⊢ wp frame (wpE (defs₀ (F := F)) Variants.none (c : Thread nD τ) none) E (bodyOn i M)
      (fun _ => Held c M (outB c i M f h1 h2)) :=
  (runB c i M.b2 M.w2 M.b3 M.w3 M.b4 M.w4 M.b5 M.w5 M.b6 M.w6 M.b7 M.w7 M.b8 M.w8 M.b9 M.w9 M.b10 M.w10 M.b11 M.w11 M.b12 M.w12 M.b13 M.w13 M.b14 M.w14 M.b15 M.w15 M.b16 M.w16 M.b17 M.w17 M.b18 M.w18 f.c2 f.c3 f.c4 f.c5 f.c6 f.c7 f.c8 f.c9 f.c10 f.c11 f.c12 f.c13 f.c14 f.c15 f.c16 f.c17 f.c18 h1 h2).2.2.2.2.2.2 E

/-- What the body leaves at the last key block. -/
def outC (h1 : ¬k0_cond1 i = 1#1) (h2 : k0_cond2 i = 1#1) : Conts F M :=
  let run := runC c i M.b2 M.w2 M.b3 M.w3 M.b4 M.w4 M.b5 M.w5 M.b6 M.w6 M.b7 M.w7 M.b8 M.w8 M.b9 M.w9 M.b10 M.w10 M.b11 M.w11 M.b12 M.w12 M.b13 M.w13 M.b14 M.w14 M.b15 M.w15 M.b16 M.w16 M.b17 M.w17 M.b18 M.w18 f.c2 f.c3 f.c4 f.c5 f.c6 f.c7 f.c8 f.c9 f.c10 f.c11 f.c12 f.c13 f.c14 f.c15 f.c16 f.c17 f.c18 h1 h2
  { f with c9 := run.1, c10 := run.2.1, c11 := run.2.2.1, c12 := run.2.2.2.1, c13 := run.2.2.2.2.1, c16 := run.2.2.2.2.2.1, c17 := run.2.2.2.2.2.2.1, c18 := run.2.2.2.2.2.2.2.1 }

theorem soundC (h1 : ¬k0_cond1 i = 1#1) (h2 : k0_cond2 i = 1#1) (E : Set ℕ) :
    Held c M f ⊢ wp frame (wpE (defs₀ (F := F)) Variants.none (c : Thread nD τ) none) E (bodyOn i M)
      (fun _ => Held c M (outC c i M f h1 h2)) :=
  (runC c i M.b2 M.w2 M.b3 M.w3 M.b4 M.w4 M.b5 M.w5 M.b6 M.w6 M.b7 M.w7 M.b8 M.w8 M.b9 M.w9 M.b10 M.w10 M.b11 M.w11 M.b12 M.w12 M.b13 M.w13 M.b14 M.w14 M.b15 M.w15 M.b16 M.w16 M.b17 M.w17 M.b18 M.w18 f.c2 f.c3 f.c4 f.c5 f.c6 f.c7 f.c8 f.c9 f.c10 f.c11 f.c12 f.c13 f.c14 f.c15 f.c16 f.c17 f.c18 h1 h2).2.2.2.2.2.2.2.2 E

/-- What the body leaves, at any point of the grid. (No point is the first and the last key block.) -/
@[irreducible] def out : Conts F M :=
  if h1 : k0_cond1 i = 1#1 then
    if h2 : k0_cond2 i = 1#1 then f else outA c i M f h1 h2
  else if h2 : k0_cond2 i = 1#1 then outC c i M f h1 h2 else outB c i M f h1 h2

/-- The body at any point leaves the buffers at `out`. -/
theorem sound (hd : k0_cond1 i = 1#1 → ¬k0_cond2 i = 1#1) (E : Set ℕ) :
    Held c M f ⊢ wp frame (wpE (defs₀ (F := F)) Variants.none (c : Thread nD τ) none) E (bodyOn i M)
      (fun _ => Held c M (out c i M f)) := by
  unfold out
  by_cases h1 : k0_cond1 i = 1#1
  · rw [dif_pos h1, dif_neg (hd h1)]; exact soundA c i M f h1 (hd h1) E
  · rw [dif_neg h1]
    by_cases h2 : k0_cond2 i = 1#1
    · rw [dif_pos h2]; exact soundC c i M f h1 h2 E
    · rw [dif_neg h2]; exact soundB c i M f h1 h2 E

/-- The input blocks are left as they were. -/
theorem out_inputs : (out c i M f).c2 = f.c2 ∧ (out c i M f).c3 = f.c3 ∧ (out c i M f).c4 = f.c4 ∧ (out c i M f).c5 = f.c5 ∧ (out c i M f).c6 = f.c6 ∧ (out c i M f).c7 = f.c7 ∧ (out c i M f).c8 = f.c8 := by
  unfold out
  split_ifs <;> exact ⟨rfl, rfl, rfl, rfl, rfl, rfl, rfl⟩

theorem first_iff (t : Fin grid0.N) : k0_cond1 (grid0.coords t) = 1#1 ↔ t.val % 16 = 0 := by
  have ht : t.val < 64 := Nat.lt_of_lt_of_eq t.isLt N_0
  have e1 : (grid0.coords t 1).val = t.val / 1 % 16 := Pipeline.Grid.coords_val t 1 (by decide) rfl
  simp only [k0_cond1, e1]
  word_cmp

theorem last_iff (t : Fin grid0.N) : k0_cond2 (grid0.coords t) = 1#1 ↔ t.val % 16 = 15 := by
  have ht : t.val < 64 := Nat.lt_of_lt_of_eq t.isLt N_0
  have e1 : (grid0.coords t 1).val = t.val / 1 % 16 := Pipeline.Grid.coords_val t 1 (by decide) rfl
  simp only [k0_cond2, e1]
  word_cmp

/-- The buffers of point `t`: each window's current staging buffer and the five scratch buffers. -/
def bufs (t : Fin cfg0.N) : Bufs where
  b2 := win0_0.stage (cfg0.slots t 0)
  w2 := hstage0_0 ((cfg0.slots t 0).cast nbuf0_0)
  b3 := win0_1.stage (cfg0.slots t 1)
  w3 := hstage0_1 ((cfg0.slots t 1).cast nbuf0_1)
  b4 := win0_2.stage (cfg0.slots t 2)
  w4 := hstage0_2 ((cfg0.slots t 2).cast nbuf0_2)
  b5 := win0_3.stage (cfg0.slots t 3)
  w5 := hstage0_3 ((cfg0.slots t 3).cast nbuf0_3)
  b6 := win0_4.stage (cfg0.slots t 4)
  w6 := hstage0_4 ((cfg0.slots t 4).cast nbuf0_4)
  b7 := win0_5.stage (cfg0.slots t 5)
  w7 := hstage0_5 ((cfg0.slots t 5).cast nbuf0_5)
  b8 := win0_6.stage (cfg0.slots t 6)
  w8 := hstage0_6 ((cfg0.slots t 6).cast nbuf0_6)
  b9 := win0_7.stage (cfg0.slots t 7)
  w9 := hstage0_7 ((cfg0.slots t 7).cast nbuf0_7)
  b10 := win0_8.stage (cfg0.slots t 8)
  w10 := hstage0_8 ((cfg0.slots t 8).cast nbuf0_8)
  b11 := win0_9.stage (cfg0.slots t 9)
  w11 := hstage0_9 ((cfg0.slots t 9).cast nbuf0_9)
  b12 := win0_10.stage (cfg0.slots t 10)
  w12 := hstage0_10 ((cfg0.slots t 10).cast nbuf0_10)
  b13 := win0_11.stage (cfg0.slots t 11)
  w13 := hstage0_11 ((cfg0.slots t 11).cast nbuf0_11)
  b14 := Memref.whole cc0_scratch0
  w14 := Memref.isWhole_whole _
  b15 := Memref.whole cc0_scratch1
  w15 := Memref.isWhole_whole _
  b16 := Memref.whole cc0_scratch2
  w16 := Memref.isWhole_whole _
  b17 := Memref.whole cc0_scratch3
  w17 := Memref.isWhole_whole _
  b18 := Memref.whole cc0_scratch4
  w18 := Memref.isWhole_whole _

/-- What is claimed of a run: of the scratch before each point, of what each output's block is left
    at. -/
structure Spec (F : FTy → Type) where
  S : ℕ → Vec F S2x8192x128 .bf16 → Vec F S2x1x8192 .f32 → Vec F S2x128x8192 .f32 → Prop
  O9 : Fin grid0.N → Vec F S8192x128 .bf16 → Prop
  O10 : Fin grid0.N → Vec F S512x128 .bf16 → Prop
  O11 : Fin grid0.N → Vec F S512x128 .bf16 → Prop
  O12 : Fin grid0.N → Vec F S1x8192x128 .f32 → Prop
  O13 : Fin grid0.N → Vec F S1x512x128 .f32 → Prop

variable (m : (ℓ : Loc nD τ sig) → Buf (Elt F) ℓ) (ρ : Dev nD → PrngReg)

/-- The inputs hold their blocks of point `t`. -/
structure Ins (t : Fin cfg0.N) (M : Bufs) (f : Conts F M) : Prop where
  i2 : M.b2.view.read (Elt F) f.c2 = iblk m c 0 t
  i3 : M.b3.view.read (Elt F) f.c3 = iblk m c 1 t
  i4 : M.b4.view.read (Elt F) f.c4 = iblk m c 2 t
  i5 : M.b5.view.read (Elt F) f.c5 = iblk m c 3 t
  i6 : M.b6.view.read (Elt F) f.c6 = iblk m c 4 t
  i7 : M.b7.view.read (Elt F) f.c7 = iblk m c 5 t
  i8 : M.b8.view.read (Elt F) f.c8 = iblk m c 6 t

/-- What the point leaves is as claimed. -/
structure Outs (P : Spec F) (t : Fin cfg0.N) (M : Bufs) (g : Conts F M) : Prop where
  s : P.S (t.val + 1) (M.b14.view.read (Elt F) g.c14) (M.b15.view.read (Elt F) g.c15) (M.b16.view.read (Elt F) g.c16)
  o9 : P.O9 t (M.b9.view.read (Elt F) g.c9)
  o10 : P.O10 t (M.b10.view.read (Elt F) g.c10)
  o11 : P.O11 t (M.b11.view.read (Elt F) g.c11)
  o12 : P.O12 t (M.b12.view.read (Elt F) g.c12)
  o13 : P.O13 t (M.b13.view.read (Elt F) g.c13)

/-- The claim holds of every point, given it of the point before. -/
structure Holds (P : Spec F) : Prop where
  start : ∀ x y z, P.S 0 x y z
  step : ∀ (t : Fin cfg0.N) (M : Bufs) (f : Conts F M), Ins c m t M f →
    P.S t.val (M.b14.view.read (Elt F) f.c14) (M.b15.view.read (Elt F) f.c15) (M.b16.view.read (Elt F) f.c16) →
    Outs P t M (out c (grid0.coords t) M f)

variable (P : Dev nD → Spec F)

/-- The scratch before point `n`. -/
def Phi (n : ℕ) : sProp 𝕄 :=
  iprop(((∃ x y z, ⌜(P c).S n x y z⌝ ∗ owns (c : Thread nD τ) (Memref.whole cc0_scratch0) fullShare x
      ∗ owns (c : Thread nD τ) (Memref.whole cc0_scratch1) fullShare y ∗ owns (c : Thread nD τ) (Memref.whole cc0_scratch2) fullShare z)
    ∗ (∃ d, owns (c : Thread nD τ) (Memref.whole cc0_scratch3) fullShare d)
    ∗ (∃ d, owns (c : Thread nD τ) (Memref.whole cc0_scratch4) fullShare d)) ∗ (∃ r, prngReg c r))

theorem ΦA_eq : (Pipeline.ΦA spec0 c : sProp 𝕄)
    = iprop(((∃ d, owns (c : Thread nD τ) (Memref.whole cc0_scratch0) fullShare d)
      ∗ (∃ d, owns (c : Thread nD τ) (Memref.whole cc0_scratch1) fullShare d)
      ∗ (∃ d, owns (c : Thread nD τ) (Memref.whole cc0_scratch2) fullShare d)
      ∗ (∃ d, owns (c : Thread nD τ) (Memref.whole cc0_scratch3) fullShare d)
      ∗ (∃ d, owns (c : Thread nD τ) (Memref.whole cc0_scratch4) fullShare d)) ∗ (∃ r, prngReg c r)) := by
  unfold Pipeline.ΦA; rw [scopedRest0_eq]; simp only [owns_whole]; try rfl

/-- The relational proof data: inputs left as found, outputs as claimed. -/
def rdat : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = Y
    | ⟨7, _⟩ => (P c).O9 t X
    | ⟨8, _⟩ => (P c).O10 t X
    | ⟨9, _⟩ => (P c).O11 t X
    | ⟨10, _⟩ => (P c).O12 t X
    | ⟨11, _⟩ => (P c).O13 t X
  Φ t := Phi c P t.val
  q w := Pipeline.shareOf spec0 w
  owed _ := 0

theorem A_eq (w : Fin cfg0.W) : (rdat c m P).A w = V m c (Pipeline.arrRef spec0 w) := by
  dsimp only [rdat]

theorem finds0 {t : Fin cfg0.N} {Y} (h : (rdat c m P).Finds 0 t Y) : Y = iblk m c 0 t := by
  obtain ⟨d, rfl⟩ := (rdat c m P).finds_in_eq_fetched 0 rfl (fun _ _ _ => rfl) (fun _ _ _ e => e) t Y h
  unfold RDat.fetched RDat.blockOf iblk; rw [A_eq]; rfl
theorem finds1 {t : Fin cfg0.N} {Y} (h : (rdat c m P).Finds 1 t Y) : Y = iblk m c 1 t := by
  obtain ⟨d, rfl⟩ := (rdat c m P).finds_in_eq_fetched 1 rfl (fun _ _ _ => rfl) (fun _ _ _ e => e) t Y h
  unfold RDat.fetched RDat.blockOf iblk; rw [A_eq]; rfl
theorem finds2 {t : Fin cfg0.N} {Y} (h : (rdat c m P).Finds 2 t Y) : Y = iblk m c 2 t := by
  obtain ⟨d, rfl⟩ := (rdat c m P).finds_in_eq_fetched 2 rfl (fun _ _ _ => rfl) (fun _ _ _ e => e) t Y h
  unfold RDat.fetched RDat.blockOf iblk; rw [A_eq]; rfl
theorem finds3 {t : Fin cfg0.N} {Y} (h : (rdat c m P).Finds 3 t Y) : Y = iblk m c 3 t := by
  obtain ⟨d, rfl⟩ := (rdat c m P).finds_in_eq_fetched 3 rfl (fun _ _ _ => rfl) (fun _ _ _ e => e) t Y h
  unfold RDat.fetched RDat.blockOf iblk; rw [A_eq]; rfl
theorem finds4 {t : Fin cfg0.N} {Y} (h : (rdat c m P).Finds 4 t Y) : Y = iblk m c 4 t := by
  obtain ⟨d, rfl⟩ := (rdat c m P).finds_in_eq_fetched 4 rfl (fun _ _ _ => rfl) (fun _ _ _ e => e) t Y h
  unfold RDat.fetched RDat.blockOf iblk; rw [A_eq]; rfl
theorem finds5 {t : Fin cfg0.N} {Y} (h : (rdat c m P).Finds 5 t Y) : Y = iblk m c 5 t := by
  obtain ⟨d, rfl⟩ := (rdat c m P).finds_in_eq_fetched 5 rfl (fun _ _ _ => rfl) (fun _ _ _ e => e) t Y h
  unfold RDat.fetched RDat.blockOf iblk; rw [A_eq]; rfl
theorem finds6 {t : Fin cfg0.N} {Y} (h : (rdat c m P).Finds 6 t Y) : Y = iblk m c 6 t := by
  obtain ⟨d, rfl⟩ := (rdat c m P).finds_in_eq_fetched 6 rfl (fun _ _ _ => rfl) (fun _ _ _ e => e) t Y h
  unfold RDat.fetched RDat.blockOf iblk; rw [A_eq]; rfl

set_option maxHeartbeats 4000000 in
/-- The body's triple at any point. -/
theorem obligation (hP : Holds c m (P c)) :
    (rdat c m P).BodyObligation (defs₀ (F := F)) Variants.none () Set.univ := fun t Y hY => by
  rw [bigSep_W0, bigSep_W0]
  have e0 := finds0 c m P (hY 0)
  have e1 := finds1 c m P (hY 1)
  have e2 := finds2 c m P (hY 2)
  have e3 := finds3 c m P (hY 3)
  have e4 := finds4 c m P (hY 4)
  have e5 := finds5 c m P (hY 5)
  have e6 := finds6 c m P (hY 6)
  have hd : k0_cond1 (grid0.coords t) = 1#1 → ¬k0_cond2 (grid0.coords t) = 1#1 := fun a b => by
    have := (first_iff t).mp a; have := (last_iff t).mp b; omega
  have hΦ : (rdat c m P).Φ t.castSucc = Phi c P t.val := rfl
  have hΦ' : (rdat c m P).Φ t.succ = Phi c P (t.val + 1) := rfl
  have ho : (rdat c m P).owesAt () t.succ = (rdat c m P).owesAt () t.castSucc := rfl
  rw [hΦ, hΦ', ho]
  unfold Phi owns
  iintro ⟨⟨⟨⟨%x, %y, %z, %hS, ⟨%f14, %r14, H14⟩, ⟨%f15, %r15, H15⟩, ⟨%f16, %r16, H16⟩⟩, ⟨%d17, %f17, -, H17⟩, ⟨%d18, %f18, -, H18⟩⟩, Hg⟩, Ho, ⟨%f2, %r2, H2⟩, ⟨%f3, %r3, H3⟩, ⟨%f4, %r4, H4⟩, ⟨%f5, %r5, H5⟩, ⟨%f6, %r6, H6⟩, ⟨%f7, %r7, H7⟩, ⟨%f8, %r8, H8⟩, ⟨%f9, %r9, H9⟩, ⟨%f10, %r10, H10⟩, ⟨%f11, %r11, H11⟩, ⟨%f12, %r12, H12⟩, ⟨%f13, %r13, H13⟩⟩
  obtain ⟨f, hf⟩ : ∃ f : Conts F (bufs t), f = { c2 := f2, c3 := f3, c4 := f4, c5 := f5, c6 := f6, c7 := f7, c8 := f8, c9 := f9, c10 := f10, c11 := f11, c12 := f12, c13 := f13, c14 := f14, c15 := f15, c16 := f16, c17 := f17, c18 := f18 } := ⟨_, rfl⟩
  have hI : Ins c m t (bufs t) f := by
    subst hf; exact ⟨r2.trans e0, r3.trans e1, r4.trans e2, r5.trans e3, r6.trans e4, r7.trans e5, r8.trans e6⟩
  have hO : Outs (P c) t (bufs t) (out c (grid0.coords t) (bufs t) f) := (hP.step t (bufs t) f hI (by
    subst hf; subst r14; subst r15; subst r16; exact hS))
  obtain ⟨o2, o3, o4, o5, o6, o7, o8⟩ := out_inputs c (grid0.coords t) (bufs t) f
  iapply (wp_wand_r frame (wpE (defs₀ (F := F)) Variants.none (c : Thread nD τ) none) Set.univ)
  isplitl [H2 H3 H4 H5 H6 H7 H8 H9 H10 H11 H12 H13 H14 H15 H16 H17 H18]
  · iapply (sound c (grid0.coords t) (bufs t) f hd Set.univ)
    subst hf
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  · iintro %_ ⟨H2, H3, H4, H5, H6, H7, H8, H9, H10, H11, H12, H13, H14, H15, H16, H17, H18⟩
    isplitl [H14 H15 H16 H17 H18 Hg]
    · isplitl [H14 H15 H16 H17 H18]
      · isplitl [H14 H15 H16]
        · iexists _, _, _
          isplitr; · ipureintro; exact hO.s
          isplitl [H14]; · iexists _; isplitr; swap; · iexact H14
                           ipureintro; rfl
          isplitl [H15]; · iexists _; isplitr; swap; · iexact H15
                           ipureintro; rfl
          iexists _; isplitr; swap; · iexact H16
          ipureintro; rfl
        isplitl [H17]; · iexists _, _; isplitr; swap; · iexact H17
                         ipureintro; rfl
        iexists _, _; isplitr; swap; · iexact H18
        ipureintro; rfl
      iexact Hg
    isplitl [Ho]; · iexact Ho
    isplitl [H2]
    · iexists _; isplitr; · ipureintro; exact rfl
      iexists _; isplitr; swap; · iexact H2
      ipureintro; rw [o2]; subst hf; exact r2
    isplitl [H3]
    · iexists _; isplitr; · ipureintro; exact rfl
      iexists _; isplitr; swap; · iexact H3
      ipureintro; rw [o3]; subst hf; exact r3
    isplitl [H4]
    · iexists _; isplitr; · ipureintro; exact rfl
      iexists _; isplitr; swap; · iexact H4
      ipureintro; rw [o4]; subst hf; exact r4
    isplitl [H5]
    · iexists _; isplitr; · ipureintro; exact rfl
      iexists _; isplitr; swap; · iexact H5
      ipureintro; rw [o5]; subst hf; exact r5
    isplitl [H6]
    · iexists _; isplitr; · ipureintro; exact rfl
      iexists _; isplitr; swap; · iexact H6
      ipureintro; rw [o6]; subst hf; exact r6
    isplitl [H7]
    · iexists _; isplitr; · ipureintro; exact rfl
      iexists _; isplitr; swap; · iexact H7
      ipureintro; rw [o7]; subst hf; exact r7
    isplitl [H8]
    · iexists _; isplitr; · ipureintro; exact rfl
      iexists _; isplitr; swap; · iexact H8
      ipureintro; rw [o8]; subst hf; exact r8
    isplitl [H9]
    · iexists _; isplitr; · ipureintro; exact hO.o9
      iexists _; isplitr; swap; · iexact H9
      ipureintro; rfl
    isplitl [H10]
    · iexists _; isplitr; · ipureintro; exact hO.o10
      iexists _; isplitr; swap; · iexact H10
      ipureintro; rfl
    isplitl [H11]
    · iexists _; isplitr; · ipureintro; exact hO.o11
      iexists _; isplitr; swap; · iexact H11
      ipureintro; rfl
    isplitl [H12]
    · iexists _; isplitr; · ipureintro; exact hO.o12
      iexists _; isplitr; swap; · iexact H12
      ipureintro; rfl
    iexists _; isplitr; · ipureintro; exact hO.o13
    iexists _; isplitr; swap; · iexact H13
    ipureintro; rfl

theorem hin (hP : Holds c m (P c)) : Pipeline.ΦA spec0 c ⊢ (rdat c m P).Φ 0 := by
  rw [ΦA_eq, show (rdat c m P).Φ 0 = Phi c P 0 from rfl]
  unfold Phi
  iintro ⟨⟨⟨%x, Hx⟩, ⟨%y, Hy⟩, ⟨%z, Hz⟩, H3, H4⟩, Hg⟩
  isplitl [Hx Hy Hz H3 H4]
  · isplitl [Hx Hy Hz]
    · iexists x, y, z
      isplitr; · ipureintro; exact hP.start x y z
      isplitl [Hx]; · iexact Hx
      isplitl [Hy]; · iexact Hy
      iexact Hz
    isplitl [H3]; · iexact H3
    iexact H4
  iexact Hg

theorem hout : (rdat c m P).Φ (Fin.last cfg0.N) ⊢ Pipeline.ΦA spec0 c := by
  rw [ΦA_eq, show (rdat c m P).Φ (Fin.last cfg0.N) = Phi c P cfg0.N from rfl]
  unfold Phi
  iintro ⟨⟨⟨%x, %y, %z, -, Hx, Hy, Hz⟩, H3, H4⟩, Hg⟩
  isplitl [Hx Hy Hz H3 H4]
  · isplitl [Hx]; · iexists _; iexact Hx
    isplitl [Hy]; · iexists _; iexact Hy
    isplitl [Hz]; · iexists _; iexact Hz
    isplitl [H3]; · iexact H3
    iexact H4
  iexact Hg

set_option backward.isDefEq.respectTransparency.types false in
/-- Every run ends with the arrays as the claim has them, and every counter at zero. -/
theorem run_of (hP : ∀ c, Holds c m (P c)) : θ_run defs (onTc (τ := τ) (main (F := F))) (s₀ m ρ)
    (fun r => RDat.FramePost (cfgs 0) (fun c => rdat c m P) (V m) r ∧ r.2.sem = fun _ => 0) :=
  RDat.θ_run_frame_track_shared (Q' := _) cfgs (0 : Fin 1) launch₀0 defs₀ Variants.none (fun c => rdat c m P) m ρ main
    (hbody := fun c => obligation c m P (hP c)) (hq := fun _ _ _ => rfl) (howed := fun _ _ => rfl) (V := V m)
    (hmain := hmain m Variants.none) (hA := fun c => A_eq c m P) (hin := fun c => hin c m P (hP c)) (hout := fun c => hout c m P)

end AttnBwd

end
-- ==== Proof.AttnBwd.Frame.lean ====
/- The frame of the backward call of the attention, for any floats, read at the kernel and at its ideal program. -/
module

public import proofs.«01_k».proof.Proof.AttnBwd.Point
public import proofs.«01_k».proof.Proof.Gen.Attn.Skeleton

@[expose] public section

noncomputable section

namespace AttnBwd

open Cert.AttnIdeal Cert.AttnIdeal.Gen
open Idealize.ShloMosaic Idealize.ShloMosaic.TcCoe
open Idealize.SL Idealize.SL.Sem
open Idealize.ShloMosaic.Pipeline (RDat)

variable {F : FTy → Type} [FloatOps F] [Named F]

/-- The claim that says nothing of any buffer. -/
def nothing : Spec F := ⟨fun _ _ _ _ => True, fun _ _ => True, fun _ _ => True, fun _ _ => True, fun _ _ => True, fun _ _ => True⟩

variable (m : (ℓ : Loc nD τ sig) → Buf (Elt F) ℓ) (ρ : Dev nD → PrngReg)

theorem nothing_holds (c : Dev nD) : Holds c m (nothing (F := F)) :=
  ⟨fun _ _ _ => trivial, fun _ _ _ _ _ => ⟨trivial, trivial, trivial, trivial, trivial, trivial⟩⟩

/-- What the launch leaves in the argument arrays, from any run of relational data over them. -/
theorem args_of {P : Dev nD → Spec F} {r : PUnit × MemSt nD τ sig (Elt F)}
    (h : RDat.FramePost (cfgs 0) (fun c => rdat c m P) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(RDat.FramePost.arr_in h c 2 rfl).trans ((A_eq c m P 2).trans (V_main_arg0 m c)),
    (RDat.FramePost.arr_in h c 4 rfl).trans ((A_eq c m P 4).trans (V_main_arg1 m c)),
    (RDat.FramePost.arr_in h c 6 rfl).trans ((A_eq c m P 6).trans (V_main_arg2 m c))⟩

/-- The frame, over any floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => args_of m h.1 c, h.2⟩)
    (run_of m ρ (fun _ => nothing) fun c => nothing_holds m c)

theorem frame_ideal : Cert.quiescent_AttnIdeal := fun m ρ _ => frame m ρ

/-- At words a named constant is its word: so read, the program with the named constant is the
    kernel as printed. -/
local instance : Named Bits where
  named _ _ _ bits := FloatOps.ofBits (F := Bits) _ bits

set_option maxRecDepth 65536 in
set_option maxHeartbeats 4000000 in
theorem body_eq : Cert.Attn.cc0_l0_attn_bwd (F := Bits) = Cert.AttnIdeal.cc0_l0_attn_bwd (F := Bits) := rfl

set_option maxRecDepth 65536 in
set_option maxHeartbeats 4000000 in
theorem main_eq : Cert.Attn.main (F := Bits) = Cert.AttnIdeal.main (F := Bits) := rfl

set_option maxRecDepth 65536 in
set_option maxHeartbeats 4000000 in
theorem defs₀_eq : Cert.Attn.defs₀ (F := Bits) = Cert.AttnIdeal.defs₀ (F := Bits) := by
  unfold Cert.Attn.defs₀ Cert.AttnIdeal.defs₀
  congr 1
  funext i a
  match i, a with
  | 0, (t, s) =>
    dsimp only
    rw [body_eq]
    rfl

set_option maxRecDepth 65536 in
set_option maxHeartbeats 4000000 in
theorem defs_eq : Cert.Attn.defs (F := Bits) = Cert.AttnIdeal.defs (F := Bits) := by
  unfold Cert.Attn.defs Cert.AttnIdeal.defs
  rw [defs₀_eq]
  rfl

set_option maxRecDepth 65536 in
set_option maxHeartbeats 4000000 in
theorem frame_kernel : Cert.quiescent_Attn := fun m ρ _ => by
  rw [defs_eq, main_eq]
  exact frame (F := Bits) m ρ

end AttnBwd

end
-- ==== Proof.AttnBwd.Ref.lean ====
/- The reference of the attention's gradient runs; and the constant that masks a logit is minus infinity in the ideal program. -/
module

public import proofs.«01_k».proof.Defs
public import proofs.«01_k».proof.Proof.Gen.AttnRefIdeal.Run
public import Idealize.ShloMosaic.Lib.Claim

@[expose] public section

noncomputable section

namespace AttnBwd

open Idealize.ShloMosaic Idealize.SL.Sem

/-- The reference ends with its arguments unchanged and its counters at zero. -/
theorem ref_frame : Cert.quiescent_AttnRefIdeal := fun m ρ _ =>
  (θ_run Cert.AttnRefIdeal.defs _ _).mono
    (fun r h => ⟨fun c => (h c).2.2.2.2.2, Idealize.ShloMosaic.sem_eq_zero_of_no_sems (by decide) r.2⟩)
    (Cert.AttnRefIdeal.Value.run m ρ)

/-- The mask's constant is read as minus infinity. -/
theorem mask : Cert.preserves_Attn_AttnIdeal :=
  IdealRules.named_const.statement Cert.AttnIdeal.κ "mask" .f32 0xF149F2CA#32 ⊥ rfl

end AttnBwd

end
-- ==== Proof.lean ====
/- The proof of the claim: every program's stated facts, the frames of the kernels, of their ideal programs and of their
   references, and for each pair the equation of the two over the extended reals. -/
module

public import proofs.«01_k».proof.Defs
public import proofs.«01_k».proof.Proof.Gen.Dx
public import proofs.«01_k».proof.Proof.Gen.DxIdeal
public import proofs.«01_k».proof.Proof.Gen.DxRefIdeal
public import proofs.«01_k».proof.Proof.Gen.Dx.Frame
public import proofs.«01_k».proof.Proof.Gen.DxIdeal.Frame
public import proofs.«01_k».proof.Proof.Gen.DxRefIdeal.Read
public import proofs.«01_k».proof.Proof.Dx
public import proofs.«01_k».proof.Proof.Gen.Fwd
public import proofs.«01_k».proof.Proof.Gen.FwdIdeal
public import proofs.«01_k».proof.Proof.Gen.FwdRefIdeal
public import proofs.«01_k».proof.Proof.Gen.Fwd.Frame
public import proofs.«01_k».proof.Proof.Gen.FwdIdeal.Frame
public import proofs.«01_k».proof.Proof.Gen.FwdRefIdeal.Read
public import proofs.«01_k».proof.Proof.Fwd
public import proofs.«01_k».proof.Proof.Gen.UpDw
public import proofs.«01_k».proof.Proof.Gen.UpDwIdeal
public import proofs.«01_k».proof.Proof.Gen.UpDwRefIdeal
public import proofs.«01_k».proof.Proof.Gen.UpDw.Frame
public import proofs.«01_k».proof.Proof.Gen.UpDwIdeal.Frame
public import proofs.«01_k».proof.Proof.Gen.UpDwRefIdeal.Read
public import proofs.«01_k».proof.Proof.Gen.UpDwIdeal.Value
public import proofs.«01_k».proof.Proof.UpDw
public import proofs.«01_k».proof.Proof.Gen.DownDw
public import proofs.«01_k».proof.Proof.Gen.DownDwIdeal
public import proofs.«01_k».proof.Proof.Gen.DownDwRefIdeal
public import proofs.«01_k».proof.Proof.Gen.DownDw.Frame
public import proofs.«01_k».proof.Proof.Gen.DownDwIdeal.Frame
public import proofs.«01_k».proof.Proof.Gen.DownDwRefIdeal.Read
public import proofs.«01_k».proof.Proof.Gen.DownDwIdeal.Value
public import proofs.«01_k».proof.Proof.DownDw
public import proofs.«01_k».proof.Proof.Gen.OutDw
public import proofs.«01_k».proof.Proof.Gen.OutDwIdeal
public import proofs.«01_k».proof.Proof.Gen.OutDwRefIdeal
public import proofs.«01_k».proof.Proof.Gen.OutDw.Frame
public import proofs.«01_k».proof.Proof.Gen.OutDwIdeal.Frame
public import proofs.«01_k».proof.Proof.Gen.OutDwRefIdeal.Read
public import proofs.«01_k».proof.Proof.Gen.OutDwIdeal.Value
public import proofs.«01_k».proof.Proof.OutDw
public import proofs.«01_k».proof.Proof.Gen.PoolDw
public import proofs.«01_k».proof.Proof.Gen.PoolDwIdeal
public import proofs.«01_k».proof.Proof.Gen.PoolDwRefIdeal
public import proofs.«01_k».proof.Proof.Gen.PoolDw.Frame
public import proofs.«01_k».proof.Proof.Gen.PoolDwIdeal.Frame
public import proofs.«01_k».proof.Proof.Gen.PoolDwRefIdeal.Read
public import proofs.«01_k».proof.Proof.Gen.PoolDwIdeal.Value
public import proofs.«01_k».proof.Proof.PoolDw
public import proofs.«01_k».proof.Proof.Gen.QkvDw
public import proofs.«01_k».proof.Proof.Gen.QkvDwIdeal
public import proofs.«01_k».proof.Proof.Gen.QkvDwRefIdeal
public import proofs.«01_k».proof.Proof.Gen.QkvDw.Frame
public import proofs.«01_k».proof.Proof.Gen.QkvDwIdeal.Frame
public import proofs.«01_k».proof.Proof.Gen.QkvDwRefIdeal.Read
public import proofs.«01_k».proof.Proof.Gen.QkvDwIdeal.Value
public import proofs.«01_k».proof.Proof.QkvDw
public import proofs.«01_k».proof.Proof.Gen.RestDw
public import proofs.«01_k».proof.Proof.Gen.RestDwIdeal
public import proofs.«01_k».proof.Proof.Gen.RestDwRefIdeal
public import proofs.«01_k».proof.Proof.Gen.RestDw.Frame
public import proofs.«01_k».proof.Proof.Gen.RestDwIdeal.Frame
public import proofs.«01_k».proof.Proof.Gen.RestDwRefIdeal.Read
public import proofs.«01_k».proof.Proof.Gen.RestDwIdeal.Value
public import proofs.«01_k».proof.Proof.RestDw
public import proofs.«01_k».proof.Proof.Gen.Merge
public import proofs.«01_k».proof.Proof.Gen.MergeIdeal
public import proofs.«01_k».proof.Proof.Gen.MergeRefIdeal
public import proofs.«01_k».proof.Proof.Gen.Merge.Frame
public import proofs.«01_k».proof.Proof.Gen.MergeIdeal.Frame
public import proofs.«01_k».proof.Proof.Gen.MergeRefIdeal.Read
public import proofs.«01_k».proof.Proof.Gen.MergeIdeal.Value
public import proofs.«01_k».proof.Proof.MergeValue
public import proofs.«01_k».proof.Proof.Gen.InAdam
public import proofs.«01_k».proof.Proof.Gen.InAdamIdeal
public import proofs.«01_k».proof.Proof.Gen.InAdamRefIdeal
public import proofs.«01_k».proof.Proof.Gen.InAdam.Frame
public import proofs.«01_k».proof.Proof.Gen.InAdamIdeal.Frame
public import proofs.«01_k».proof.Proof.Gen.InAdamRefIdeal.Read
public import proofs.«01_k».proof.Proof.Gen.InAdamIdeal.Value
public import proofs.«01_k».proof.Proof.InAdam
public import proofs.«01_k».proof.Proof.Gen.UpAdam
public import proofs.«01_k».proof.Proof.Gen.UpAdamIdeal
public import proofs.«01_k».proof.Proof.Gen.UpAdamRefIdeal
public import proofs.«01_k».proof.Proof.Gen.UpAdam.Frame
public import proofs.«01_k».proof.Proof.Gen.UpAdamIdeal.Frame
public import proofs.«01_k».proof.Proof.Gen.UpAdamRefIdeal.Read
public import proofs.«01_k».proof.Proof.Gen.UpAdamIdeal.Value
public import proofs.«01_k».proof.Proof.UpAdam
public import proofs.«01_k».proof.Proof.Gen.PoolAdam
public import proofs.«01_k».proof.Proof.Gen.PoolAdamIdeal
public import proofs.«01_k».proof.Proof.Gen.PoolAdamRefIdeal
public import proofs.«01_k».proof.Proof.Gen.PoolAdam.Frame
public import proofs.«01_k».proof.Proof.Gen.PoolAdamIdeal.Frame
public import proofs.«01_k».proof.Proof.Gen.PoolAdamRefIdeal.Read
public import proofs.«01_k».proof.Proof.Gen.PoolAdamIdeal.Value
public import proofs.«01_k».proof.Proof.PoolAdam
public import proofs.«01_k».proof.Proof.Gen.OutAdam
public import proofs.«01_k».proof.Proof.Gen.OutAdamIdeal
public import proofs.«01_k».proof.Proof.Gen.OutAdamRefIdeal
public import proofs.«01_k».proof.Proof.Gen.OutAdam.Frame
public import proofs.«01_k».proof.Proof.Gen.OutAdamIdeal.Frame
public import proofs.«01_k».proof.Proof.Gen.OutAdamRefIdeal.Read
public import proofs.«01_k».proof.Proof.Gen.OutAdamIdeal.Value
public import proofs.«01_k».proof.Proof.OutAdam
public import proofs.«01_k».proof.Proof.Gen.DownAdam
public import proofs.«01_k».proof.Proof.Gen.DownAdamIdeal
public import proofs.«01_k».proof.Proof.Gen.DownAdamRefIdeal
public import proofs.«01_k».proof.Proof.Gen.DownAdam.Frame
public import proofs.«01_k».proof.Proof.Gen.DownAdamIdeal.Frame
public import proofs.«01_k».proof.Proof.Gen.DownAdamRefIdeal.Read
public import proofs.«01_k».proof.Proof.Gen.DownAdamIdeal.Value
public import proofs.«01_k».proof.Proof.DownAdam
public import proofs.«01_k».proof.Proof.Gen.SsdConvAdam
public import proofs.«01_k».proof.Proof.Gen.SsdConvAdamIdeal
public import proofs.«01_k».proof.Proof.Gen.SsdConvAdamRefIdeal
public import proofs.«01_k».proof.Proof.Gen.SsdConvAdam.Frame
public import proofs.«01_k».proof.Proof.Gen.SsdConvAdamIdeal.Frame
public import proofs.«01_k».proof.Proof.Gen.SsdConvAdamRefIdeal.Read
public import proofs.«01_k».proof.Proof.Gen.SsdConvAdamIdeal.Value
public import proofs.«01_k».proof.Proof.SsdConvAdam
public import proofs.«01_k».proof.Proof.Gen.FfnConvAdam
public import proofs.«01_k».proof.Proof.Gen.FfnConvAdamIdeal
public import proofs.«01_k».proof.Proof.Gen.FfnConvAdamRefIdeal
public import proofs.«01_k».proof.Proof.Gen.FfnConvAdam.Frame
public import proofs.«01_k».proof.Proof.Gen.FfnConvAdamIdeal.Frame
public import proofs.«01_k».proof.Proof.Gen.FfnConvAdamRefIdeal.Read
public import proofs.«01_k».proof.Proof.Gen.FfnConvAdamIdeal.Value
public import proofs.«01_k».proof.Proof.FfnConvAdam
public import proofs.«01_k».proof.Proof.Gen.RepAdam
public import proofs.«01_k».proof.Proof.Gen.RepAdamIdeal
public import proofs.«01_k».proof.Proof.Gen.RepAdamRefIdeal
public import proofs.«01_k».proof.Proof.Gen.RepAdam.Frame
public import proofs.«01_k».proof.Proof.Gen.RepAdamIdeal.Frame
public import proofs.«01_k».proof.Proof.Gen.RepAdamRefIdeal.Read
public import proofs.«01_k».proof.Proof.Gen.RepAdamIdeal.Value
public import proofs.«01_k».proof.Proof.RepAdam
public import proofs.«01_k».proof.Proof.Gen.RepSum
public import proofs.«01_k».proof.Proof.Gen.RepSumIdeal
public import proofs.«01_k».proof.Proof.Gen.RepSumRefIdeal
public import proofs.«01_k».proof.Proof.Gen.RepSum.Frame
public import proofs.«01_k».proof.Proof.Gen.RepSumIdeal.Frame
public import proofs.«01_k».proof.Proof.Gen.RepSumRefIdeal.Read
public import proofs.«01_k».proof.Proof.Gen.RepSumIdeal.Value
public import proofs.«01_k».proof.Proof.RepSum
public import proofs.«01_k».proof.Proof.Gen.RmsBwd
public import proofs.«01_k».proof.Proof.Gen.RmsBwdIdeal
public import proofs.«01_k».proof.Proof.Gen.RmsBwdRefIdeal
public import proofs.«01_k».proof.Proof.Gen.RmsBwd.Frame
public import proofs.«01_k».proof.Proof.Gen.RmsBwdIdeal.Frame
public import proofs.«01_k».proof.Proof.Gen.RmsBwdRefIdeal.Read
public import proofs.«01_k».proof.Proof.Gen.RmsBwdIdeal.Value
public import proofs.«01_k».proof.Proof.RmsBwd
public import proofs.«01_k».proof.Proof.Gen.Pre_rms_finite
public import proofs.«01_k».proof.Proof.Gen.Loss
public import proofs.«01_k».proof.Proof.Gen.LossIdeal
public import proofs.«01_k».proof.Proof.Gen.LossRefIdeal
public import proofs.«01_k».proof.Proof.Gen.Loss.Frame
public import proofs.«01_k».proof.Proof.Gen.LossIdeal.Frame
public import proofs.«01_k».proof.Proof.Gen.LossRefIdeal.Read
public import proofs.«01_k».proof.Proof.Gen.LossIdeal.Value
public import proofs.«01_k».proof.Proof.Loss
public import proofs.«01_k».proof.Proof.Gen.RmsFwd
public import proofs.«01_k».proof.Proof.Gen.RmsFwdIdeal
public import proofs.«01_k».proof.Proof.Gen.RmsFwdRefIdeal
public import proofs.«01_k».proof.Proof.Gen.RmsFwd.Frame
public import proofs.«01_k».proof.Proof.Gen.RmsFwdIdeal.Frame
public import proofs.«01_k».proof.Proof.Gen.RmsFwdRefIdeal.Read
public import proofs.«01_k».proof.Proof.Gen.RmsFwdIdeal.Value
public import proofs.«01_k».proof.Proof.RmsFwd
public import proofs.«01_k».proof.Proof.Gen.Attn
public import proofs.«01_k».proof.Proof.Gen.AttnIdeal
public import proofs.«01_k».proof.Proof.Gen.AttnRefIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Frame
public import proofs.«01_k».proof.Proof.Gen.Attn.Skeleton
public import proofs.«01_k».proof.Proof.Gen.AttnRefIdeal.Run
public import proofs.«01_k».proof.Proof.AttnBwd.Frame
public import proofs.«01_k».proof.Proof.AttnBwd.Ref
public import Idealize.ShloMosaic.Lib.Claim
public import Idealize.ShloMosaic.Adequacy
public import Idealize.ShloMosaic.Init

@[expose] public section

noncomputable section

namespace Cert.Proof

open Idealize.ShloMosaic Idealize.SL.Sem

/-- The reference of the merge leaves its arguments unchanged, and it declares no semaphore. -/
theorem merge_ref_frame : Cert.quiescent_MergeRefIdeal := fun m ρ _ =>
  (θ_run Cert.MergeRefIdeal.defs _ _).mono
    (fun r h => ⟨fun c => (h c).2.2.2.2, Idealize.ShloMosaic.sem_eq_zero_of_no_sems (by decide) r.2⟩)
    (Cert.MergeRefIdeal.Value.run m ρ)

theorem claim : Cert.Claim := ⟨
  Cert.Dx.Gen.facts, Cert.DxIdeal.Gen.facts, Cert.DxRefIdeal.Gen.facts,
  Cert.Fwd.Gen.facts, Cert.FwdIdeal.Gen.facts, Cert.FwdRefIdeal.Gen.facts,
  Cert.UpDw.Gen.facts, Cert.UpDwIdeal.Gen.facts, Cert.UpDwRefIdeal.Gen.facts,
  Cert.DownDw.Gen.facts, Cert.DownDwIdeal.Gen.facts, Cert.DownDwRefIdeal.Gen.facts,
  Cert.OutDw.Gen.facts, Cert.OutDwIdeal.Gen.facts, Cert.OutDwRefIdeal.Gen.facts,
  Cert.PoolDw.Gen.facts, Cert.PoolDwIdeal.Gen.facts, Cert.PoolDwRefIdeal.Gen.facts,
  Cert.QkvDw.Gen.facts, Cert.QkvDwIdeal.Gen.facts, Cert.QkvDwRefIdeal.Gen.facts,
  Cert.RestDw.Gen.facts, Cert.RestDwIdeal.Gen.facts, Cert.RestDwRefIdeal.Gen.facts,
  Cert.Merge.Gen.facts, Cert.MergeIdeal.Gen.facts, Cert.MergeRefIdeal.Gen.facts,
  Cert.InAdam.Gen.facts, Cert.InAdamIdeal.Gen.facts, Cert.InAdamRefIdeal.Gen.facts,
  Cert.UpAdam.Gen.facts, Cert.UpAdamIdeal.Gen.facts, Cert.UpAdamRefIdeal.Gen.facts,
  Cert.PoolAdam.Gen.facts, Cert.PoolAdamIdeal.Gen.facts, Cert.PoolAdamRefIdeal.Gen.facts,
  Cert.OutAdam.Gen.facts, Cert.OutAdamIdeal.Gen.facts, Cert.OutAdamRefIdeal.Gen.facts,
  Cert.DownAdam.Gen.facts, Cert.DownAdamIdeal.Gen.facts, Cert.DownAdamRefIdeal.Gen.facts,
  Cert.SsdConvAdam.Gen.facts, Cert.SsdConvAdamIdeal.Gen.facts, Cert.SsdConvAdamRefIdeal.Gen.facts,
  Cert.FfnConvAdam.Gen.facts, Cert.FfnConvAdamIdeal.Gen.facts, Cert.FfnConvAdamRefIdeal.Gen.facts,
  Cert.RepAdam.Gen.facts, Cert.RepAdamIdeal.Gen.facts, Cert.RepAdamRefIdeal.Gen.facts,
  Cert.RepSum.Gen.facts, Cert.RepSumIdeal.Gen.facts, Cert.RepSumRefIdeal.Gen.facts,
  Cert.RmsBwd.Gen.facts, Cert.RmsBwdIdeal.Gen.facts, Cert.RmsBwdRefIdeal.Gen.facts,
  Cert.Loss.Gen.facts, Cert.LossIdeal.Gen.facts, Cert.LossRefIdeal.Gen.facts,
  Cert.RmsFwd.Gen.facts, Cert.RmsFwdIdeal.Gen.facts, Cert.RmsFwdRefIdeal.Gen.facts,
  Cert.Attn.Gen.facts, Cert.AttnIdeal.Gen.facts, Cert.AttnRefIdeal.Gen.facts,
  Cert.Pre_rms_finite.Gen.facts,
  fun m ρ _ => Cert.Dx.Gen.frame m ρ, fun m ρ _ => Cert.DxIdeal.Gen.frame m ρ, Dx.ref_frame,
  fun m ρ _ => Cert.Fwd.Gen.frame m ρ, fun m ρ _ => Cert.FwdIdeal.Gen.frame m ρ, Fwd.ref_frame,
  fun m ρ _ => Cert.UpDw.Gen.frame m ρ, fun m ρ _ => Cert.UpDwIdeal.Gen.frame m ρ, UpDw.ref_frame,
  fun m ρ _ => Cert.DownDw.Gen.frame m ρ, fun m ρ _ => Cert.DownDwIdeal.Gen.frame m ρ, DownDw.ref_frame,
  fun m ρ _ => Cert.OutDw.Gen.frame m ρ, fun m ρ _ => Cert.OutDwIdeal.Gen.frame m ρ, OutDw.ref_frame,
  fun m ρ _ => Cert.PoolDw.Gen.frame m ρ, fun m ρ _ => Cert.PoolDwIdeal.Gen.frame m ρ, PoolDw.ref_frame,
  fun m ρ _ => Cert.QkvDw.Gen.frame m ρ, fun m ρ _ => Cert.QkvDwIdeal.Gen.frame m ρ, QkvDw.ref_frame,
  fun m ρ _ => Cert.RestDw.Gen.frame m ρ, fun m ρ _ => Cert.RestDwIdeal.Gen.frame m ρ, RestDw.ref_frame,
  fun m ρ _ => Cert.Merge.Gen.frame m ρ, fun m ρ _ => Cert.MergeIdeal.Gen.frame m ρ, merge_ref_frame,
  fun m ρ _ => Cert.InAdam.Gen.frame m ρ, fun m ρ _ => Cert.InAdamIdeal.Gen.frame m ρ, InAdam.ref_frame,
  fun m ρ _ => Cert.UpAdam.Gen.frame m ρ, fun m ρ _ => Cert.UpAdamIdeal.Gen.frame m ρ, UpAdam.ref_frame,
  fun m ρ _ => Cert.PoolAdam.Gen.frame m ρ, fun m ρ _ => Cert.PoolAdamIdeal.Gen.frame m ρ, PoolAdam.ref_frame,
  fun m ρ _ => Cert.OutAdam.Gen.frame m ρ, fun m ρ _ => Cert.OutAdamIdeal.Gen.frame m ρ, OutAdam.ref_frame,
  fun m ρ _ => Cert.DownAdam.Gen.frame m ρ, fun m ρ _ => Cert.DownAdamIdeal.Gen.frame m ρ, DownAdam.ref_frame,
  fun m ρ _ => Cert.SsdConvAdam.Gen.frame m ρ, fun m ρ _ => Cert.SsdConvAdamIdeal.Gen.frame m ρ, SsdConvAdam.ref_frame,
  fun m ρ _ => Cert.FfnConvAdam.Gen.frame m ρ, fun m ρ _ => Cert.FfnConvAdamIdeal.Gen.frame m ρ, FfnConvAdam.ref_frame,
  fun m ρ _ => Cert.RepAdam.Gen.frame m ρ, fun m ρ _ => Cert.RepAdamIdeal.Gen.frame m ρ, RepAdam.ref_frame,
  fun m ρ _ => Cert.RepSum.Gen.frame m ρ, fun m ρ _ => Cert.RepSumIdeal.Gen.frame m ρ, RepSum.ref_frame,
  fun m ρ _ => Cert.RmsBwd.Gen.frame m ρ, fun m ρ _ => Cert.RmsBwdIdeal.Gen.frame m ρ, fun m ρ _ => Cert.RmsBwdIdeal.Gen.frame m ρ,
  RmsBwd.ref_frame, RmsBwd.ref_frame_pre, fun m ρ _ => Cert.Loss.Gen.frame m ρ,
  fun m ρ _ => Cert.LossIdeal.Gen.frame m ρ, Loss.ref_frame, fun m ρ _ => Cert.RmsFwd.Gen.frame m ρ,
  fun m ρ _ => Cert.RmsFwdIdeal.Gen.frame m ρ, RmsFwd.ref_frame, AttnBwd.frame_kernel,
  AttnBwd.frame_ideal, AttnBwd.ref_frame,
  trivial, Dx.algebraic, trivial, Fwd.algebraic, trivial, UpDw.algebraic, trivial, DownDw.algebraic, trivial, OutDw.algebraic, trivial, PoolDw.algebraic, trivial, QkvDw.algebraic, trivial, RestDw.algebraic, trivial, MergeValue.algebraic, trivial, InAdam.algebraic, trivial, UpAdam.algebraic, trivial, PoolAdam.algebraic, trivial, OutAdam.algebraic, trivial, DownAdam.algebraic, trivial, SsdConvAdam.algebraic, trivial, FfnConvAdam.algebraic, trivial, RepAdam.algebraic, trivial, RepSum.algebraic, trivial, RmsBwd.algebraic, trivial, Loss.algebraic, trivial, RmsFwd.algebraic, AttnBwd.mask⟩

end Cert.Proof

end
